-- ==== Defs.lean ====
def Pre_Moe [hPre_blocks_in_range : Cert.Pre_blocks_in_range.Facts] (m : (ℓ : Loc Cert.Moe.nD Cert.Moe.τ Cert.Moe.sig) → Buf (Elt Bits) ℓ) : Prop :=
  ∀ c : Dev Cert.Moe.nD,
    (Cert.Pre_blocks_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4))) = (fun _ => 1#1)

def Pre_MoeIdeal [hPre_blocks_in_range : Cert.Pre_blocks_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_blocks_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4))) = (fun _ => 1#1)

def Pre_MoeRefIdeal [hPre_blocks_in_range : Cert.Pre_blocks_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_blocks_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4))) = (fun _ => 1#1)

def Pre_LruIn (m : (ℓ : Loc Cert.LruIn.nD Cert.LruIn.τ Cert.LruIn.sig) → Buf (Elt Bits) ℓ) : Prop :=
  True

def Pre_LruInIdeal (m : (ℓ : Loc Cert.LruInIdeal.nD Cert.LruInIdeal.τ Cert.LruInIdeal.sig) → Buf (Elt Ideal) ℓ) : Prop :=
  True

def Pre_LruInRefIdeal (m : (ℓ : Loc Cert.LruInRefIdeal.nD Cert.LruInRefIdeal.τ Cert.LruInRefIdeal.sig) → Buf (Elt Ideal) ℓ) : Prop :=
  True

def Pre_DnIn (m : (ℓ : Loc Cert.DnIn.nD Cert.DnIn.τ Cert.DnIn.sig) → Buf (Elt Bits) ℓ) : Prop :=
  True

def Pre_DnInIdeal (m : (ℓ : Loc Cert.DnInIdeal.nD Cert.DnInIdeal.τ Cert.DnInIdeal.sig) → Buf (Elt Ideal) ℓ) : Prop :=
  True

def Pre_DnInRefIdeal (m : (ℓ : Loc Cert.DnInRefIdeal.nD Cert.DnInRefIdeal.τ Cert.DnInRefIdeal.sig) → Buf (Elt Ideal) ℓ) : Prop :=
  True

def Pre_RetIn (m : (ℓ : Loc Cert.RetIn.nD Cert.RetIn.τ Cert.RetIn.sig) → Buf (Elt Bits) ℓ) : Prop :=
  True

def Pre_RetInIdeal (m : (ℓ : Loc Cert.RetInIdeal.nD Cert.RetInIdeal.τ Cert.RetInIdeal.sig) → Buf (Elt Ideal) ℓ) : Prop :=
  True

def Pre_RetInRefIdeal (m : (ℓ : Loc Cert.RetInRefIdeal.nD Cert.RetInRefIdeal.τ Cert.RetInRefIdeal.sig) → Buf (Elt Ideal) ℓ) : Prop :=
  True

def Pre_AttIn (m : (ℓ : Loc Cert.AttIn.nD Cert.AttIn.τ Cert.AttIn.sig) → Buf (Elt Bits) ℓ) : Prop :=
  True

def Pre_AttInIdeal (m : (ℓ : Loc Cert.AttInIdeal.nD Cert.AttInIdeal.τ Cert.AttInIdeal.sig) → Buf (Elt Ideal) ℓ) : Prop :=
  True

def Pre_AttInRefIdeal (m : (ℓ : Loc Cert.AttInRefIdeal.nD Cert.AttInRefIdeal.τ Cert.AttInRefIdeal.sig) → Buf (Elt Ideal) ℓ) : Prop :=
  True

def Pre_LruOut (m : (ℓ : Loc Cert.LruOut.nD Cert.LruOut.τ Cert.LruOut.sig) → Buf (Elt Bits) ℓ) : Prop :=
  True

def Pre_LruOutIdeal (m : (ℓ : Loc Cert.LruOutIdeal.nD Cert.LruOutIdeal.τ Cert.LruOutIdeal.sig) → Buf (Elt Ideal) ℓ) : Prop :=
  True

def Pre_LruOutRefIdeal (m : (ℓ : Loc Cert.LruOutRefIdeal.nD Cert.LruOutRefIdeal.τ Cert.LruOutRefIdeal.sig) → Buf (Elt Ideal) ℓ) : Prop :=
  True

def Pre_DnOut (m : (ℓ : Loc Cert.DnOut.nD Cert.DnOut.τ Cert.DnOut.sig) → Buf (Elt Bits) ℓ) : Prop :=
  True

def Pre_DnOutIdeal (m : (ℓ : Loc Cert.DnOutIdeal.nD Cert.DnOutIdeal.τ Cert.DnOutIdeal.sig) → Buf (Elt Ideal) ℓ) : Prop :=
  True

def Pre_DnOutRefIdeal (m : (ℓ : Loc Cert.DnOutRefIdeal.nD Cert.DnOutRefIdeal.τ Cert.DnOutRefIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutRefIdeal (m : (ℓ : Loc Cert.RetOutRefIdeal.nD Cert.RetOutRefIdeal.τ Cert.RetOutRefIdeal.sig) → Buf (Elt Ideal) ℓ) : Prop :=
  True

def Pre_AttOut (m : (ℓ : Loc Cert.AttOut.nD Cert.AttOut.τ Cert.AttOut.sig) → Buf (Elt Bits) ℓ) : Prop :=
  True

def Pre_AttOutIdeal (m : (ℓ : Loc Cert.AttOutIdeal.nD Cert.AttOutIdeal.τ Cert.AttOutIdeal.sig) → Buf (Elt Ideal) ℓ) : Prop :=
  True

def Pre_AttOutRefIdeal (m : (ℓ : Loc Cert.AttOutRefIdeal.nD Cert.AttOutRefIdeal.τ Cert.AttOutRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def quiescent_Moe [hMoe : Cert.Moe.Facts] [hPre_blocks_in_range : Cert.Pre_blocks_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4))
      ∧ r.2.sem = fun _ => 0)

def quiescent_MoeIdeal [hMoeIdeal : Cert.MoeIdeal.Facts] [hPre_blocks_in_range : Cert.Pre_blocks_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ r.2.sem = fun _ => 0)

def quiescent_MoeRefIdeal [hMoeRefIdeal : Cert.MoeRefIdeal.Facts] [hPre_blocks_in_range : Cert.Pre_blocks_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4))
      ∧ r.2.sem = fun _ => 0)

def quiescent_LruIn [hLruIn : Cert.LruIn.Facts] : Prop :=
  ∀ (m : (ℓ : Loc Cert.LruIn.nD Cert.LruIn.τ Cert.LruIn.sig) → Buf (Elt Bits) ℓ) (g : Dev Cert.LruIn.nD → PrngReg), Pre_LruIn m →
    θ_run (Cert.LruIn.defs (F := Bits)) (onTc (τ := Cert.LruIn.τ) (Cert.LruIn.main (F := Bits))) ⟨m, fun _ => 0, g⟩ (fun r => (∀ c : Dev Cert.LruIn.nD,
      r.2.mem ((c.tc : Thread Cert.LruIn.nD Cert.LruIn.τ).loc Cert.LruIn.main_arg0) = m ((c.tc : Thread Cert.LruIn.nD Cert.LruIn.τ).loc Cert.LruIn.main_arg0)
      ∧ r.2.mem ((c.tc : Thread Cert.LruIn.nD Cert.LruIn.τ).loc Cert.LruIn.main_arg1) = m ((c.tc : Thread Cert.LruIn.nD Cert.LruIn.τ).loc Cert.LruIn.main_arg1))
      ∧ r.2.sem = fun _ => 0)

def quiescent_LruInIdeal [hLruInIdeal : Cert.LruInIdeal.Facts] : Prop :=
  ∀ (m : (ℓ : Loc Cert.LruInIdeal.nD Cert.LruInIdeal.τ Cert.LruInIdeal.sig) → Buf (Elt Ideal) ℓ) (g : Dev Cert.LruInIdeal.nD → PrngReg), Pre_LruInIdeal m →
    θ_run (Cert.LruInIdeal.defs (F := Ideal)) (onTc (τ := Cert.LruInIdeal.τ) (Cert.LruInIdeal.main (F := Ideal))) ⟨m, fun _ => 0, g⟩ (fun r => (∀ c : Dev Cert.LruInIdeal.nD,
      r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
      ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ r.2.sem = fun _ => 0)

def quiescent_LruInRefIdeal [hLruInRefIdeal : Cert.LruInRefIdeal.Facts] : Prop :=
  ∀ (m : (ℓ : Loc Cert.LruInRefIdeal.nD Cert.LruInRefIdeal.τ Cert.LruInRefIdeal.sig) → Buf (Elt Ideal) ℓ) (g : Dev Cert.LruInRefIdeal.nD → PrngReg), Pre_LruInRefIdeal m →
    θ_run (Cert.LruInRefIdeal.defs (F := Ideal)) (onTc (τ := Cert.LruInRefIdeal.τ) (Cert.LruInRefIdeal.main (F := Ideal))) ⟨m, fun _ => 0, g⟩ (fun r => (∀ c : Dev Cert.LruInRefIdeal.nD,
      r.2.mem ((c.tc : Thread Cert.LruInRefIdeal.nD Cert.LruInRefIdeal.τ).loc Cert.LruInRefIdeal.main_arg0) = m ((c.tc : Thread Cert.LruInRefIdeal.nD Cert.LruInRefIdeal.τ).loc Cert.LruInRefIdeal.main_arg0)
      ∧ r.2.mem ((c.tc : Thread Cert.LruInRefIdeal.nD Cert.LruInRefIdeal.τ).loc Cert.LruInRefIdeal.main_arg1) = m ((c.tc : Thread Cert.LruInRefIdeal.nD Cert.LruInRefIdeal.τ).loc Cert.LruInRefIdeal.main_arg1))
      ∧ r.2.sem = fun _ => 0)

def quiescent_DnIn [hDnIn : Cert.DnIn.Facts] : Prop :=
  ∀ (m : (ℓ : Loc Cert.DnIn.nD Cert.DnIn.τ Cert.DnIn.sig) → Buf (Elt Bits) ℓ) (g : Dev Cert.DnIn.nD → PrngReg), Pre_DnIn m →
    θ_run (Cert.DnIn.defs (F := Bits)) (onTc (τ := Cert.DnIn.τ) (Cert.DnIn.main (F := Bits))) ⟨m, fun _ => 0, g⟩ (fun r => (∀ c : Dev Cert.DnIn.nD,
      r.2.mem ((c.tc : Thread Cert.DnIn.nD Cert.DnIn.τ).loc Cert.DnIn.main_arg0) = m ((c.tc : Thread Cert.DnIn.nD Cert.DnIn.τ).loc Cert.DnIn.main_arg0)
      ∧ r.2.mem ((c.tc : Thread Cert.DnIn.nD Cert.DnIn.τ).loc Cert.DnIn.main_arg1) = m ((c.tc : Thread Cert.DnIn.nD Cert.DnIn.τ).loc Cert.DnIn.main_arg1))
      ∧ r.2.sem = fun _ => 0)

def quiescent_DnInIdeal [hDnInIdeal : Cert.DnInIdeal.Facts] : Prop :=
  ∀ (m : (ℓ : Loc Cert.DnInIdeal.nD Cert.DnInIdeal.τ Cert.DnInIdeal.sig) → Buf (Elt Ideal) ℓ) (g : Dev Cert.DnInIdeal.nD → PrngReg), Pre_DnInIdeal m →
    θ_run (Cert.DnInIdeal.defs (F := Ideal)) (onTc (τ := Cert.DnInIdeal.τ) (Cert.DnInIdeal.main (F := Ideal))) ⟨m, fun _ => 0, g⟩ (fun r => (∀ c : Dev Cert.DnInIdeal.nD,
      r.2.mem ((c.tc : Thread Cert.DnInIdeal.nD Cert.DnInIdeal.τ).loc Cert.DnInIdeal.main_arg0) = m ((c.tc : Thread Cert.DnInIdeal.nD Cert.DnInIdeal.τ).loc Cert.DnInIdeal.main_arg0)
      ∧ r.2.mem ((c.tc : Thread Cert.DnInIdeal.nD Cert.DnInIdeal.τ).loc Cert.DnInIdeal.main_arg1) = m ((c.tc : Thread Cert.DnInIdeal.nD Cert.DnInIdeal.τ).loc Cert.DnInIdeal.main_arg1))
      ∧ r.2.sem = fun _ => 0)

def quiescent_DnInRefIdeal [hDnInRefIdeal : Cert.DnInRefIdeal.Facts] : Prop :=
  ∀ (m : (ℓ : Loc Cert.DnInRefIdeal.nD Cert.DnInRefIdeal.τ Cert.DnInRefIdeal.sig) → Buf (Elt Ideal) ℓ) (g : Dev Cert.DnInRefIdeal.nD → PrngReg), Pre_DnInRefIdeal m →
    θ_run (Cert.DnInRefIdeal.defs (F := Ideal)) (onTc (τ := Cert.DnInRefIdeal.τ) (Cert.DnInRefIdeal.main (F := Ideal))) ⟨m, fun _ => 0, g⟩ (fun r => (∀ c : Dev Cert.DnInRefIdeal.nD,
      r.2.mem ((c.tc : Thread Cert.DnInRefIdeal.nD Cert.DnInRefIdeal.τ).loc Cert.DnInRefIdeal.main_arg0) = m ((c.tc : Thread Cert.DnInRefIdeal.nD Cert.DnInRefIdeal.τ).loc Cert.DnInRefIdeal.main_arg0)
      ∧ r.2.mem ((c.tc : Thread Cert.DnInRefIdeal.nD Cert.DnInRefIdeal.τ).loc Cert.DnInRefIdeal.main_arg1) = m ((c.tc : Thread Cert.DnInRefIdeal.nD Cert.DnInRefIdeal.τ).loc Cert.DnInRefIdeal.main_arg1))
      ∧ r.2.sem = fun _ => 0)

def quiescent_RetIn [hRetIn : Cert.RetIn.Facts] : Prop :=
  ∀ (m : (ℓ : Loc Cert.RetIn.nD Cert.RetIn.τ Cert.RetIn.sig) → Buf (Elt Bits) ℓ) (g : Dev Cert.RetIn.nD → PrngReg), Pre_RetIn m →
    θ_run (Cert.RetIn.defs (F := Bits)) (onTc (τ := Cert.RetIn.τ) (Cert.RetIn.main (F := Bits))) ⟨m, fun _ => 0, g⟩ (fun r => (∀ c : Dev Cert.RetIn.nD,
      r.2.mem ((c.tc : Thread Cert.RetIn.nD Cert.RetIn.τ).loc Cert.RetIn.main_arg0) = m ((c.tc : Thread Cert.RetIn.nD Cert.RetIn.τ).loc Cert.RetIn.main_arg0)
      ∧ r.2.mem ((c.tc : Thread Cert.RetIn.nD Cert.RetIn.τ).loc Cert.RetIn.main_arg1) = m ((c.tc : Thread Cert.RetIn.nD Cert.RetIn.τ).loc Cert.RetIn.main_arg1))
      ∧ r.2.sem = fun _ => 0)

def quiescent_RetInIdeal [hRetInIdeal : Cert.RetInIdeal.Facts] : Prop :=
  ∀ (m : (ℓ : Loc Cert.RetInIdeal.nD Cert.RetInIdeal.τ Cert.RetInIdeal.sig) → Buf (Elt Ideal) ℓ) (g : Dev Cert.RetInIdeal.nD → PrngReg), Pre_RetInIdeal m →
    θ_run (Cert.RetInIdeal.defs (F := Ideal)) (onTc (τ := Cert.RetInIdeal.τ) (Cert.RetInIdeal.main (F := Ideal))) ⟨m, fun _ => 0, g⟩ (fun r => (∀ c : Dev Cert.RetInIdeal.nD,
      r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
      ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1))
      ∧ r.2.sem = fun _ => 0)

def quiescent_RetInRefIdeal [hRetInRefIdeal : Cert.RetInRefIdeal.Facts] : Prop :=
  ∀ (m : (ℓ : Loc Cert.RetInRefIdeal.nD Cert.RetInRefIdeal.τ Cert.RetInRefIdeal.sig) → Buf (Elt Ideal) ℓ) (g : Dev Cert.RetInRefIdeal.nD → PrngReg), Pre_RetInRefIdeal m →
    θ_run (Cert.RetInRefIdeal.defs (F := Ideal)) (onTc (τ := Cert.RetInRefIdeal.τ) (Cert.RetInRefIdeal.main (F := Ideal))) ⟨m, fun _ => 0, g⟩ (fun r => (∀ c : Dev Cert.RetInRefIdeal.nD,
      r.2.mem ((c.tc : Thread Cert.RetInRefIdeal.nD Cert.RetInRefIdeal.τ).loc Cert.RetInRefIdeal.main_arg0) = m ((c.tc : Thread Cert.RetInRefIdeal.nD Cert.RetInRefIdeal.τ).loc Cert.RetInRefIdeal.main_arg0)
      ∧ r.2.mem ((c.tc : Thread Cert.RetInRefIdeal.nD Cert.RetInRefIdeal.τ).loc Cert.RetInRefIdeal.main_arg1) = m ((c.tc : Thread Cert.RetInRefIdeal.nD Cert.RetInRefIdeal.τ).loc Cert.RetInRefIdeal.main_arg1))
      ∧ r.2.sem = fun _ => 0)

def quiescent_AttIn [hAttIn : Cert.AttIn.Facts] : Prop :=
  ∀ (m : (ℓ : Loc Cert.AttIn.nD Cert.AttIn.τ Cert.AttIn.sig) → Buf (Elt Bits) ℓ) (g : Dev Cert.AttIn.nD → PrngReg), Pre_AttIn m →
    θ_run (Cert.AttIn.defs (F := Bits)) (onTc (τ := Cert.AttIn.τ) (Cert.AttIn.main (F := Bits))) ⟨m, fun _ => 0, g⟩ (fun r => (∀ c : Dev Cert.AttIn.nD,
      r.2.mem ((c.tc : Thread Cert.AttIn.nD Cert.AttIn.τ).loc Cert.AttIn.main_arg0) = m ((c.tc : Thread Cert.AttIn.nD Cert.AttIn.τ).loc Cert.AttIn.main_arg0)
      ∧ r.2.mem ((c.tc : Thread Cert.AttIn.nD Cert.AttIn.τ).loc Cert.AttIn.main_arg1) = m ((c.tc : Thread Cert.AttIn.nD Cert.AttIn.τ).loc Cert.AttIn.main_arg1))
      ∧ r.2.sem = fun _ => 0)

def quiescent_AttInIdeal [hAttInIdeal : Cert.AttInIdeal.Facts] : Prop :=
  ∀ (m : (ℓ : Loc Cert.AttInIdeal.nD Cert.AttInIdeal.τ Cert.AttInIdeal.sig) → Buf (Elt Ideal) ℓ) (g : Dev Cert.AttInIdeal.nD → PrngReg), Pre_AttInIdeal m →
    θ_run (Cert.AttInIdeal.defs (F := Ideal)) (onTc (τ := Cert.AttInIdeal.τ) (Cert.AttInIdeal.main (F := Ideal))) ⟨m, fun _ => 0, g⟩ (fun r => (∀ c : Dev Cert.AttInIdeal.nD,
      r.2.mem ((c.tc : Thread Cert.AttInIdeal.nD Cert.AttInIdeal.τ).loc Cert.AttInIdeal.main_arg0) = m ((c.tc : Thread Cert.AttInIdeal.nD Cert.AttInIdeal.τ).loc Cert.AttInIdeal.main_arg0)
      ∧ r.2.mem ((c.tc : Thread Cert.AttInIdeal.nD Cert.AttInIdeal.τ).loc Cert.AttInIdeal.main_arg1) = m ((c.tc : Thread Cert.AttInIdeal.nD Cert.AttInIdeal.τ).loc Cert.AttInIdeal.main_arg1))
      ∧ r.2.sem = fun _ => 0)

def quiescent_AttInRefIdeal [hAttInRefIdeal : Cert.AttInRefIdeal.Facts] : Prop :=
  ∀ (m : (ℓ : Loc Cert.AttInRefIdeal.nD Cert.AttInRefIdeal.τ Cert.AttInRefIdeal.sig) → Buf (Elt Ideal) ℓ) (g : Dev Cert.AttInRefIdeal.nD → PrngReg), Pre_AttInRefIdeal m →
    θ_run (Cert.AttInRefIdeal.defs (F := Ideal)) (onTc (τ := Cert.AttInRefIdeal.τ) (Cert.AttInRefIdeal.main (F := Ideal))) ⟨m, fun _ => 0, g⟩ (fun r => (∀ c : Dev Cert.AttInRefIdeal.nD,
      r.2.mem ((c.tc : Thread Cert.AttInRefIdeal.nD Cert.AttInRefIdeal.τ).loc Cert.AttInRefIdeal.main_arg0) = m ((c.tc : Thread Cert.AttInRefIdeal.nD Cert.AttInRefIdeal.τ).loc Cert.AttInRefIdeal.main_arg0)
      ∧ r.2.mem ((c.tc : Thread Cert.AttInRefIdeal.nD Cert.AttInRefIdeal.τ).loc Cert.AttInRefIdeal.main_arg1) = m ((c.tc : Thread Cert.AttInRefIdeal.nD Cert.AttInRefIdeal.τ).loc Cert.AttInRefIdeal.main_arg1))
      ∧ r.2.sem = fun _ => 0)

def quiescent_LruOut [hLruOut : Cert.LruOut.Facts] : Prop :=
  ∀ (m : (ℓ : Loc Cert.LruOut.nD Cert.LruOut.τ Cert.LruOut.sig) → Buf (Elt Bits) ℓ) (g : Dev Cert.LruOut.nD → PrngReg), Pre_LruOut m →
    θ_run (Cert.LruOut.defs (F := Bits)) (onTc (τ := Cert.LruOut.τ) (Cert.LruOut.main (F := Bits))) ⟨m, fun _ => 0, g⟩ (fun r => (∀ c : Dev Cert.LruOut.nD,
      r.2.mem ((c.tc : Thread Cert.LruOut.nD Cert.LruOut.τ).loc Cert.LruOut.main_arg0) = m ((c.tc : Thread Cert.LruOut.nD Cert.LruOut.τ).loc Cert.LruOut.main_arg0)
      ∧ r.2.mem ((c.tc : Thread Cert.LruOut.nD Cert.LruOut.τ).loc Cert.LruOut.main_arg1) = m ((c.tc : Thread Cert.LruOut.nD Cert.LruOut.τ).loc Cert.LruOut.main_arg1)
      ∧ r.2.mem ((c.tc : Thread Cert.LruOut.nD Cert.LruOut.τ).loc Cert.LruOut.main_arg2) = m ((c.tc : Thread Cert.LruOut.nD Cert.LruOut.τ).loc Cert.LruOut.main_arg2)
      ∧ r.2.mem ((c.tc : Thread Cert.LruOut.nD Cert.LruOut.τ).loc Cert.LruOut.main_arg3) = m ((c.tc : Thread Cert.LruOut.nD Cert.LruOut.τ).loc Cert.LruOut.main_arg3)
      ∧ r.2.mem ((c.tc : Thread Cert.LruOut.nD Cert.LruOut.τ).loc Cert.LruOut.main_arg4) = m ((c.tc : Thread Cert.LruOut.nD Cert.LruOut.τ).loc Cert.LruOut.main_arg4)
      ∧ r.2.mem ((c.tc : Thread Cert.LruOut.nD Cert.LruOut.τ).loc Cert.LruOut.main_arg5) = m ((c.tc : Thread Cert.LruOut.nD Cert.LruOut.τ).loc Cert.LruOut.main_arg5)
      ∧ r.2.mem ((c.tc : Thread Cert.LruOut.nD Cert.LruOut.τ).loc Cert.LruOut.main_arg6) = m ((c.tc : Thread Cert.LruOut.nD Cert.LruOut.τ).loc Cert.LruOut.main_arg6)
      ∧ r.2.mem ((c.tc : Thread Cert.LruOut.nD Cert.LruOut.τ).loc Cert.LruOut.main_arg7) = m ((c.tc : Thread Cert.LruOut.nD Cert.LruOut.τ).loc Cert.LruOut.main_arg7))
      ∧ r.2.sem = fun _ => 0)

def quiescent_LruOutIdeal [hLruOutIdeal : Cert.LruOutIdeal.Facts] : Prop :=
  ∀ (m : (ℓ : Loc Cert.LruOutIdeal.nD Cert.LruOutIdeal.τ Cert.LruOutIdeal.sig) → Buf (Elt Ideal) ℓ) (g : Dev Cert.LruOutIdeal.nD → PrngReg), Pre_LruOutIdeal m →
    θ_run (Cert.LruOutIdeal.defs (F := Ideal)) (onTc (τ := Cert.LruOutIdeal.τ) (Cert.LruOutIdeal.main (F := Ideal))) ⟨m, fun _ => 0, g⟩ (fun r => (∀ c : Dev Cert.LruOutIdeal.nD,
      r.2.mem ((c.tc : Thread Cert.LruOutIdeal.nD Cert.LruOutIdeal.τ).loc Cert.LruOutIdeal.main_arg0) = m ((c.tc : Thread Cert.LruOutIdeal.nD Cert.LruOutIdeal.τ).loc Cert.LruOutIdeal.main_arg0)
      ∧ r.2.mem ((c.tc : Thread Cert.LruOutIdeal.nD Cert.LruOutIdeal.τ).loc Cert.LruOutIdeal.main_arg1) = m ((c.tc : Thread Cert.LruOutIdeal.nD Cert.LruOutIdeal.τ).loc Cert.LruOutIdeal.main_arg1)
      ∧ r.2.mem ((c.tc : Thread Cert.LruOutIdeal.nD Cert.LruOutIdeal.τ).loc Cert.LruOutIdeal.main_arg2) = m ((c.tc : Thread Cert.LruOutIdeal.nD Cert.LruOutIdeal.τ).loc Cert.LruOutIdeal.main_arg2)
      ∧ r.2.mem ((c.tc : Thread Cert.LruOutIdeal.nD Cert.LruOutIdeal.τ).loc Cert.LruOutIdeal.main_arg3) = m ((c.tc : Thread Cert.LruOutIdeal.nD Cert.LruOutIdeal.τ).loc Cert.LruOutIdeal.main_arg3)
      ∧ r.2.mem ((c.tc : Thread Cert.LruOutIdeal.nD Cert.LruOutIdeal.τ).loc Cert.LruOutIdeal.main_arg4) = m ((c.tc : Thread Cert.LruOutIdeal.nD Cert.LruOutIdeal.τ).loc Cert.LruOutIdeal.main_arg4)
      ∧ r.2.mem ((c.tc : Thread Cert.LruOutIdeal.nD Cert.LruOutIdeal.τ).loc Cert.LruOutIdeal.main_arg5) = m ((c.tc : Thread Cert.LruOutIdeal.nD Cert.LruOutIdeal.τ).loc Cert.LruOutIdeal.main_arg5)
      ∧ r.2.mem ((c.tc : Thread Cert.LruOutIdeal.nD Cert.LruOutIdeal.τ).loc Cert.LruOutIdeal.main_arg6) = m ((c.tc : Thread Cert.LruOutIdeal.nD Cert.LruOutIdeal.τ).loc Cert.LruOutIdeal.main_arg6)
      ∧ r.2.mem ((c.tc : Thread Cert.LruOutIdeal.nD Cert.LruOutIdeal.τ).loc Cert.LruOutIdeal.main_arg7) = m ((c.tc : Thread Cert.LruOutIdeal.nD Cert.LruOutIdeal.τ).loc Cert.LruOutIdeal.main_arg7))
      ∧ r.2.sem = fun _ => 0)

def quiescent_LruOutRefIdeal [hLruOutRefIdeal : Cert.LruOutRefIdeal.Facts] : Prop :=
  ∀ (m : (ℓ : Loc Cert.LruOutRefIdeal.nD Cert.LruOutRefIdeal.τ Cert.LruOutRefIdeal.sig) → Buf (Elt Ideal) ℓ) (g : Dev Cert.LruOutRefIdeal.nD → PrngReg), Pre_LruOutRefIdeal m →
    θ_run (Cert.LruOutRefIdeal.defs (F := Ideal)) (onTc (τ := Cert.LruOutRefIdeal.τ) (Cert.LruOutRefIdeal.main (F := Ideal))) ⟨m, fun _ => 0, g⟩ (fun r => (∀ c : Dev Cert.LruOutRefIdeal.nD,
      r.2.mem ((c.tc : Thread Cert.LruOutRefIdeal.nD Cert.LruOutRefIdeal.τ).loc Cert.LruOutRefIdeal.main_arg0) = m ((c.tc : Thread Cert.LruOutRefIdeal.nD Cert.LruOutRefIdeal.τ).loc Cert.LruOutRefIdeal.main_arg0)
      ∧ r.2.mem ((c.tc : Thread Cert.LruOutRefIdeal.nD Cert.LruOutRefIdeal.τ).loc Cert.LruOutRefIdeal.main_arg1) = m ((c.tc : Thread Cert.LruOutRefIdeal.nD Cert.LruOutRefIdeal.τ).loc Cert.LruOutRefIdeal.main_arg1)
      ∧ r.2.mem ((c.tc : Thread Cert.LruOutRefIdeal.nD Cert.LruOutRefIdeal.τ).loc Cert.LruOutRefIdeal.main_arg2) = m ((c.tc : Thread Cert.LruOutRefIdeal.nD Cert.LruOutRefIdeal.τ).loc Cert.LruOutRefIdeal.main_arg2)
      ∧ r.2.mem ((c.tc : Thread Cert.LruOutRefIdeal.nD Cert.LruOutRefIdeal.τ).loc Cert.LruOutRefIdeal.main_arg3) = m ((c.tc : Thread Cert.LruOutRefIdeal.nD Cert.LruOutRefIdeal.τ).loc Cert.LruOutRefIdeal.main_arg3)
      ∧ r.2.mem ((c.tc : Thread Cert.LruOutRefIdeal.nD Cert.LruOutRefIdeal.τ).loc Cert.LruOutRefIdeal.main_arg4) = m ((c.tc : Thread Cert.LruOutRefIdeal.nD Cert.LruOutRefIdeal.τ).loc Cert.LruOutRefIdeal.main_arg4)
      ∧ r.2.mem ((c.tc : Thread Cert.LruOutRefIdeal.nD Cert.LruOutRefIdeal.τ).loc Cert.LruOutRefIdeal.main_arg5) = m ((c.tc : Thread Cert.LruOutRefIdeal.nD Cert.LruOutRefIdeal.τ).loc Cert.LruOutRefIdeal.main_arg5)
      ∧ r.2.mem ((c.tc : Thread Cert.LruOutRefIdeal.nD Cert.LruOutRefIdeal.τ).loc Cert.LruOutRefIdeal.main_arg6) = m ((c.tc : Thread Cert.LruOutRefIdeal.nD Cert.LruOutRefIdeal.τ).loc Cert.LruOutRefIdeal.main_arg6)
      ∧ r.2.mem ((c.tc : Thread Cert.LruOutRefIdeal.nD Cert.LruOutRefIdeal.τ).loc Cert.LruOutRefIdeal.main_arg7) = m ((c.tc : Thread Cert.LruOutRefIdeal.nD Cert.LruOutRefIdeal.τ).loc Cert.LruOutRefIdeal.main_arg7))
      ∧ r.2.sem = fun _ => 0)

def quiescent_DnOut [hDnOut : Cert.DnOut.Facts] : Prop :=
  ∀ (m : (ℓ : Loc Cert.DnOut.nD Cert.DnOut.τ Cert.DnOut.sig) → Buf (Elt Bits) ℓ) (g : Dev Cert.DnOut.nD → PrngReg), Pre_DnOut m →
    θ_run (Cert.DnOut.defs (F := Bits)) (onTc (τ := Cert.DnOut.τ) (Cert.DnOut.main (F := Bits))) ⟨m, fun _ => 0, g⟩ (fun r => (∀ c : Dev Cert.DnOut.nD,
      r.2.mem ((c.tc : Thread Cert.DnOut.nD Cert.DnOut.τ).loc Cert.DnOut.main_arg0) = m ((c.tc : Thread Cert.DnOut.nD Cert.DnOut.τ).loc Cert.DnOut.main_arg0)
      ∧ r.2.mem ((c.tc : Thread Cert.DnOut.nD Cert.DnOut.τ).loc Cert.DnOut.main_arg1) = m ((c.tc : Thread Cert.DnOut.nD Cert.DnOut.τ).loc Cert.DnOut.main_arg1)
      ∧ r.2.mem ((c.tc : Thread Cert.DnOut.nD Cert.DnOut.τ).loc Cert.DnOut.main_arg2) = m ((c.tc : Thread Cert.DnOut.nD Cert.DnOut.τ).loc Cert.DnOut.main_arg2)
      ∧ r.2.mem ((c.tc : Thread Cert.DnOut.nD Cert.DnOut.τ).loc Cert.DnOut.main_arg3) = m ((c.tc : Thread Cert.DnOut.nD Cert.DnOut.τ).loc Cert.DnOut.main_arg3)
      ∧ r.2.mem ((c.tc : Thread Cert.DnOut.nD Cert.DnOut.τ).loc Cert.DnOut.main_arg4) = m ((c.tc : Thread Cert.DnOut.nD Cert.DnOut.τ).loc Cert.DnOut.main_arg4)
      ∧ r.2.mem ((c.tc : Thread Cert.DnOut.nD Cert.DnOut.τ).loc Cert.DnOut.main_arg5) = m ((c.tc : Thread Cert.DnOut.nD Cert.DnOut.τ).loc Cert.DnOut.main_arg5)
      ∧ r.2.mem ((c.tc : Thread Cert.DnOut.nD Cert.DnOut.τ).loc Cert.DnOut.main_arg6) = m ((c.tc : Thread Cert.DnOut.nD Cert.DnOut.τ).loc Cert.DnOut.main_arg6)
      ∧ r.2.mem ((c.tc : Thread Cert.DnOut.nD Cert.DnOut.τ).loc Cert.DnOut.main_arg7) = m ((c.tc : Thread Cert.DnOut.nD Cert.DnOut.τ).loc Cert.DnOut.main_arg7)
      ∧ r.2.mem ((c.tc : Thread Cert.DnOut.nD Cert.DnOut.τ).loc Cert.DnOut.main_arg8) = m ((c.tc : Thread Cert.DnOut.nD Cert.DnOut.τ).loc Cert.DnOut.main_arg8))
      ∧ r.2.sem = fun _ => 0)

def quiescent_DnOutIdeal [hDnOutIdeal : Cert.DnOutIdeal.Facts] : Prop :=
  ∀ (m : (ℓ : Loc Cert.DnOutIdeal.nD Cert.DnOutIdeal.τ Cert.DnOutIdeal.sig) → Buf (Elt Ideal) ℓ) (g : Dev Cert.DnOutIdeal.nD → PrngReg), Pre_DnOutIdeal m →
    θ_run (Cert.DnOutIdeal.defs (F := Ideal)) (onTc (τ := Cert.DnOutIdeal.τ) (Cert.DnOutIdeal.main (F := Ideal))) ⟨m, fun _ => 0, g⟩ (fun r => (∀ c : Dev Cert.DnOutIdeal.nD,
      r.2.mem ((c.tc : Thread Cert.DnOutIdeal.nD Cert.DnOutIdeal.τ).loc Cert.DnOutIdeal.main_arg0) = m ((c.tc : Thread Cert.DnOutIdeal.nD Cert.DnOutIdeal.τ).loc Cert.DnOutIdeal.main_arg0)
      ∧ r.2.mem ((c.tc : Thread Cert.DnOutIdeal.nD Cert.DnOutIdeal.τ).loc Cert.DnOutIdeal.main_arg1) = m ((c.tc : Thread Cert.DnOutIdeal.nD Cert.DnOutIdeal.τ).loc Cert.DnOutIdeal.main_arg1)
      ∧ r.2.mem ((c.tc : Thread Cert.DnOutIdeal.nD Cert.DnOutIdeal.τ).loc Cert.DnOutIdeal.main_arg2) = m ((c.tc : Thread Cert.DnOutIdeal.nD Cert.DnOutIdeal.τ).loc Cert.DnOutIdeal.main_arg2)
      ∧ r.2.mem ((c.tc : Thread Cert.DnOutIdeal.nD Cert.DnOutIdeal.τ).loc Cert.DnOutIdeal.main_arg3) = m ((c.tc : Thread Cert.DnOutIdeal.nD Cert.DnOutIdeal.τ).loc Cert.DnOutIdeal.main_arg3)
      ∧ r.2.mem ((c.tc : Thread Cert.DnOutIdeal.nD Cert.DnOutIdeal.τ).loc Cert.DnOutIdeal.main_arg4) = m ((c.tc : Thread Cert.DnOutIdeal.nD Cert.DnOutIdeal.τ).loc Cert.DnOutIdeal.main_arg4)
      ∧ r.2.mem ((c.tc : Thread Cert.DnOutIdeal.nD Cert.DnOutIdeal.τ).loc Cert.DnOutIdeal.main_arg5) = m ((c.tc : Thread Cert.DnOutIdeal.nD Cert.DnOutIdeal.τ).loc Cert.DnOutIdeal.main_arg5)
      ∧ r.2.mem ((c.tc : Thread Cert.DnOutIdeal.nD Cert.DnOutIdeal.τ).loc Cert.DnOutIdeal.main_arg6) = m ((c.tc : Thread Cert.DnOutIdeal.nD Cert.DnOutIdeal.τ).loc Cert.DnOutIdeal.main_arg6)
      ∧ r.2.mem ((c.tc : Thread Cert.DnOutIdeal.nD Cert.DnOutIdeal.τ).loc Cert.DnOutIdeal.main_arg7) = m ((c.tc : Thread Cert.DnOutIdeal.nD Cert.DnOutIdeal.τ).loc Cert.DnOutIdeal.main_arg7)
      ∧ r.2.mem ((c.tc : Thread Cert.DnOutIdeal.nD Cert.DnOutIdeal.τ).loc Cert.DnOutIdeal.main_arg8) = m ((c.tc : Thread Cert.DnOutIdeal.nD Cert.DnOutIdeal.τ).loc Cert.DnOutIdeal.main_arg8))
      ∧ r.2.sem = fun _ => 0)

def quiescent_DnOutRefIdeal [hDnOutRefIdeal : Cert.DnOutRefIdeal.Facts] : Prop :=
  ∀ (m : (ℓ : Loc Cert.DnOutRefIdeal.nD Cert.DnOutRefIdeal.τ Cert.DnOutRefIdeal.sig) → Buf (Elt Ideal) ℓ) (g : Dev Cert.DnOutRefIdeal.nD → PrngReg), Pre_DnOutRefIdeal m →
    θ_run (Cert.DnOutRefIdeal.defs (F := Ideal)) (onTc (τ := Cert.DnOutRefIdeal.τ) (Cert.DnOutRefIdeal.main (F := Ideal))) ⟨m, fun _ => 0, g⟩ (fun r => (∀ c : Dev Cert.DnOutRefIdeal.nD,
      r.2.mem ((c.tc : Thread Cert.DnOutRefIdeal.nD Cert.DnOutRefIdeal.τ).loc Cert.DnOutRefIdeal.main_arg0) = m ((c.tc : Thread Cert.DnOutRefIdeal.nD Cert.DnOutRefIdeal.τ).loc Cert.DnOutRefIdeal.main_arg0)
      ∧ r.2.mem ((c.tc : Thread Cert.DnOutRefIdeal.nD Cert.DnOutRefIdeal.τ).loc Cert.DnOutRefIdeal.main_arg1) = m ((c.tc : Thread Cert.DnOutRefIdeal.nD Cert.DnOutRefIdeal.τ).loc Cert.DnOutRefIdeal.main_arg1)
      ∧ r.2.mem ((c.tc : Thread Cert.DnOutRefIdeal.nD Cert.DnOutRefIdeal.τ).loc Cert.DnOutRefIdeal.main_arg2) = m ((c.tc : Thread Cert.DnOutRefIdeal.nD Cert.DnOutRefIdeal.τ).loc Cert.DnOutRefIdeal.main_arg2)
      ∧ r.2.mem ((c.tc : Thread Cert.DnOutRefIdeal.nD Cert.DnOutRefIdeal.τ).loc Cert.DnOutRefIdeal.main_arg3) = m ((c.tc : Thread Cert.DnOutRefIdeal.nD Cert.DnOutRefIdeal.τ).loc Cert.DnOutRefIdeal.main_arg3)
      ∧ r.2.mem ((c.tc : Thread Cert.DnOutRefIdeal.nD Cert.DnOutRefIdeal.τ).loc Cert.DnOutRefIdeal.main_arg4) = m ((c.tc : Thread Cert.DnOutRefIdeal.nD Cert.DnOutRefIdeal.τ).loc Cert.DnOutRefIdeal.main_arg4)
      ∧ r.2.mem ((c.tc : Thread Cert.DnOutRefIdeal.nD Cert.DnOutRefIdeal.τ).loc Cert.DnOutRefIdeal.main_arg5) = m ((c.tc : Thread Cert.DnOutRefIdeal.nD Cert.DnOutRefIdeal.τ).loc Cert.DnOutRefIdeal.main_arg5)
      ∧ r.2.mem ((c.tc : Thread Cert.DnOutRefIdeal.nD Cert.DnOutRefIdeal.τ).loc Cert.DnOutRefIdeal.main_arg6) = m ((c.tc : Thread Cert.DnOutRefIdeal.nD Cert.DnOutRefIdeal.τ).loc Cert.DnOutRefIdeal.main_arg6)
      ∧ r.2.mem ((c.tc : Thread Cert.DnOutRefIdeal.nD Cert.DnOutRefIdeal.τ).loc Cert.DnOutRefIdeal.main_arg7) = m ((c.tc : Thread Cert.DnOutRefIdeal.nD Cert.DnOutRefIdeal.τ).loc Cert.DnOutRefIdeal.main_arg7)
      ∧ r.2.mem ((c.tc : Thread Cert.DnOutRefIdeal.nD Cert.DnOutRefIdeal.τ).loc Cert.DnOutRefIdeal.main_arg8) = m ((c.tc : Thread Cert.DnOutRefIdeal.nD Cert.DnOutRefIdeal.τ).loc Cert.DnOutRefIdeal.main_arg8))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2)
      ∧ r.2.mem ((c.tc : Thread Cert.RetOut.nD Cert.RetOut.τ).loc Cert.RetOut.main_arg3) = m ((c.tc : Thread Cert.RetOut.nD Cert.RetOut.τ).loc Cert.RetOut.main_arg3)
      ∧ r.2.mem ((c.tc : Thread Cert.RetOut.nD Cert.RetOut.τ).loc Cert.RetOut.main_arg4) = m ((c.tc : Thread Cert.RetOut.nD Cert.RetOut.τ).loc Cert.RetOut.main_arg4)
      ∧ r.2.mem ((c.tc : Thread Cert.RetOut.nD Cert.RetOut.τ).loc Cert.RetOut.main_arg5) = m ((c.tc : Thread Cert.RetOut.nD Cert.RetOut.τ).loc Cert.RetOut.main_arg5)
      ∧ r.2.mem ((c.tc : Thread Cert.RetOut.nD Cert.RetOut.τ).loc Cert.RetOut.main_arg6) = m ((c.tc : Thread Cert.RetOut.nD Cert.RetOut.τ).loc Cert.RetOut.main_arg6)
      ∧ r.2.mem ((c.tc : Thread Cert.RetOut.nD Cert.RetOut.τ).loc Cert.RetOut.main_arg7) = m ((c.tc : Thread Cert.RetOut.nD Cert.RetOut.τ).loc Cert.RetOut.main_arg7)
      ∧ r.2.mem ((c.tc : Thread Cert.RetOut.nD Cert.RetOut.τ).loc Cert.RetOut.main_arg8) = m ((c.tc : Thread Cert.RetOut.nD Cert.RetOut.τ).loc Cert.RetOut.main_arg8))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
      ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3)
      ∧ r.2.mem ((c.tc : Thread Cert.RetOutIdeal.nD Cert.RetOutIdeal.τ).loc Cert.RetOutIdeal.main_arg4) = m ((c.tc : Thread Cert.RetOutIdeal.nD Cert.RetOutIdeal.τ).loc Cert.RetOutIdeal.main_arg4)
      ∧ r.2.mem ((c.tc : Thread Cert.RetOutIdeal.nD Cert.RetOutIdeal.τ).loc Cert.RetOutIdeal.main_arg5) = m ((c.tc : Thread Cert.RetOutIdeal.nD Cert.RetOutIdeal.τ).loc Cert.RetOutIdeal.main_arg5)
      ∧ r.2.mem ((c.tc : Thread Cert.RetOutIdeal.nD Cert.RetOutIdeal.τ).loc Cert.RetOutIdeal.main_arg6) = m ((c.tc : Thread Cert.RetOutIdeal.nD Cert.RetOutIdeal.τ).loc Cert.RetOutIdeal.main_arg6)
      ∧ r.2.mem ((c.tc : Thread Cert.RetOutIdeal.nD Cert.RetOutIdeal.τ).loc Cert.RetOutIdeal.main_arg7) = m ((c.tc : Thread Cert.RetOutIdeal.nD Cert.RetOutIdeal.τ).loc Cert.RetOutIdeal.main_arg7)
      ∧ r.2.mem ((c.tc : Thread Cert.RetOutIdeal.nD Cert.RetOutIdeal.τ).loc Cert.RetOutIdeal.main_arg8) = m ((c.tc : Thread Cert.RetOutIdeal.nD Cert.RetOutIdeal.τ).loc Cert.RetOutIdeal.main_arg8))
      ∧ r.2.sem = fun _ => 0)

def quiescent_RetOutRefIdeal [hRetOutRefIdeal : Cert.RetOutRefIdeal.Facts] : Prop :=
  ∀ (m : (ℓ : Loc Cert.RetOutRefIdeal.nD Cert.RetOutRefIdeal.τ Cert.RetOutRefIdeal.sig) → Buf (Elt Ideal) ℓ) (g : Dev Cert.RetOutRefIdeal.nD → PrngReg), Pre_RetOutRefIdeal m →
    θ_run (Cert.RetOutRefIdeal.defs (F := Ideal)) (onTc (τ := Cert.RetOutRefIdeal.τ) (Cert.RetOutRefIdeal.main (F := Ideal))) ⟨m, fun _ => 0, g⟩ (fun r => (∀ c : Dev Cert.RetOutRefIdeal.nD,
      r.2.mem ((c.tc : Thread Cert.RetOutRefIdeal.nD Cert.RetOutRefIdeal.τ).loc Cert.RetOutRefIdeal.main_arg0) = m ((c.tc : Thread Cert.RetOutRefIdeal.nD Cert.RetOutRefIdeal.τ).loc Cert.RetOutRefIdeal.main_arg0)
      ∧ r.2.mem ((c.tc : Thread Cert.RetOutRefIdeal.nD Cert.RetOutRefIdeal.τ).loc Cert.RetOutRefIdeal.main_arg1) = m ((c.tc : Thread Cert.RetOutRefIdeal.nD Cert.RetOutRefIdeal.τ).loc Cert.RetOutRefIdeal.main_arg1)
      ∧ r.2.mem ((c.tc : Thread Cert.RetOutRefIdeal.nD Cert.RetOutRefIdeal.τ).loc Cert.RetOutRefIdeal.main_arg2) = m ((c.tc : Thread Cert.RetOutRefIdeal.nD Cert.RetOutRefIdeal.τ).loc Cert.RetOutRefIdeal.main_arg2)
      ∧ r.2.mem ((c.tc : Thread Cert.RetOutRefIdeal.nD Cert.RetOutRefIdeal.τ).loc Cert.RetOutRefIdeal.main_arg3) = m ((c.tc : Thread Cert.RetOutRefIdeal.nD Cert.RetOutRefIdeal.τ).loc Cert.RetOutRefIdeal.main_arg3)
      ∧ r.2.mem ((c.tc : Thread Cert.RetOutRefIdeal.nD Cert.RetOutRefIdeal.τ).loc Cert.RetOutRefIdeal.main_arg4) = m ((c.tc : Thread Cert.RetOutRefIdeal.nD Cert.RetOutRefIdeal.τ).loc Cert.RetOutRefIdeal.main_arg4)
      ∧ r.2.mem ((c.tc : Thread Cert.RetOutRefIdeal.nD Cert.RetOutRefIdeal.τ).loc Cert.RetOutRefIdeal.main_arg5) = m ((c.tc : Thread Cert.RetOutRefIdeal.nD Cert.RetOutRefIdeal.τ).loc Cert.RetOutRefIdeal.main_arg5)
      ∧ r.2.mem ((c.tc : Thread Cert.RetOutRefIdeal.nD Cert.RetOutRefIdeal.τ).loc Cert.RetOutRefIdeal.main_arg6) = m ((c.tc : Thread Cert.RetOutRefIdeal.nD Cert.RetOutRefIdeal.τ).loc Cert.RetOutRefIdeal.main_arg6)
      ∧ r.2.mem ((c.tc : Thread Cert.RetOutRefIdeal.nD Cert.RetOutRefIdeal.τ).loc Cert.RetOutRefIdeal.main_arg7) = m ((c.tc : Thread Cert.RetOutRefIdeal.nD Cert.RetOutRefIdeal.τ).loc Cert.RetOutRefIdeal.main_arg7)
      ∧ r.2.mem ((c.tc : Thread Cert.RetOutRefIdeal.nD Cert.RetOutRefIdeal.τ).loc Cert.RetOutRefIdeal.main_arg8) = m ((c.tc : Thread Cert.RetOutRefIdeal.nD Cert.RetOutRefIdeal.τ).loc Cert.RetOutRefIdeal.main_arg8))
      ∧ r.2.sem = fun _ => 0)

def quiescent_AttOut [hAttOut : Cert.AttOut.Facts] : Prop :=
  ∀ (m : (ℓ : Loc Cert.AttOut.nD Cert.AttOut.τ Cert.AttOut.sig) → Buf (Elt Bits) ℓ) (g : Dev Cert.AttOut.nD → PrngReg), Pre_AttOut m →
    θ_run (Cert.AttOut.defs (F := Bits)) (onTc (τ := Cert.AttOut.τ) (Cert.AttOut.main (F := Bits))) ⟨m, fun _ => 0, g⟩ (fun r => (∀ c : Dev Cert.AttOut.nD,
      r.2.mem ((c.tc : Thread Cert.AttOut.nD Cert.AttOut.τ).loc Cert.AttOut.main_arg0) = m ((c.tc : Thread Cert.AttOut.nD Cert.AttOut.τ).loc Cert.AttOut.main_arg0)
      ∧ r.2.mem ((c.tc : Thread Cert.AttOut.nD Cert.AttOut.τ).loc Cert.AttOut.main_arg1) = m ((c.tc : Thread Cert.AttOut.nD Cert.AttOut.τ).loc Cert.AttOut.main_arg1)
      ∧ r.2.mem ((c.tc : Thread Cert.AttOut.nD Cert.AttOut.τ).loc Cert.AttOut.main_arg2) = m ((c.tc : Thread Cert.AttOut.nD Cert.AttOut.τ).loc Cert.AttOut.main_arg2)
      ∧ r.2.mem ((c.tc : Thread Cert.AttOut.nD Cert.AttOut.τ).loc Cert.AttOut.main_arg3) = m ((c.tc : Thread Cert.AttOut.nD Cert.AttOut.τ).loc Cert.AttOut.main_arg3)
      ∧ r.2.mem ((c.tc : Thread Cert.AttOut.nD Cert.AttOut.τ).loc Cert.AttOut.main_arg4) = m ((c.tc : Thread Cert.AttOut.nD Cert.AttOut.τ).loc Cert.AttOut.main_arg4)
      ∧ r.2.mem ((c.tc : Thread Cert.AttOut.nD Cert.AttOut.τ).loc Cert.AttOut.main_arg5) = m ((c.tc : Thread Cert.AttOut.nD Cert.AttOut.τ).loc Cert.AttOut.main_arg5))
      ∧ r.2.sem = fun _ => 0)

def quiescent_AttOutIdeal [hAttOutIdeal : Cert.AttOutIdeal.Facts] : Prop :=
  ∀ (m : (ℓ : Loc Cert.AttOutIdeal.nD Cert.AttOutIdeal.τ Cert.AttOutIdeal.sig) → Buf (Elt Ideal) ℓ) (g : Dev Cert.AttOutIdeal.nD → PrngReg), Pre_AttOutIdeal m →
    θ_run (Cert.AttOutIdeal.defs (F := Ideal)) (onTc (τ := Cert.AttOutIdeal.τ) (Cert.AttOutIdeal.main (F := Ideal))) ⟨m, fun _ => 0, g⟩ (fun r => (∀ c : Dev Cert.AttOutIdeal.nD,
      r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
      ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
      ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2)
      ∧ r.2.mem ((c.tc : Thread Cert.AttOutIdeal.nD Cert.AttOutIdeal.τ).loc Cert.AttOutIdeal.main_arg3) = m ((c.tc : Thread Cert.AttOutIdeal.nD Cert.AttOutIdeal.τ).loc Cert.AttOutIdeal.main_arg3)
      ∧ r.2.mem ((c.tc : Thread Cert.AttOutIdeal.nD Cert.AttOutIdeal.τ).loc Cert.AttOutIdeal.main_arg4) = m ((c.tc : Thread Cert.AttOutIdeal.nD Cert.AttOutIdeal.τ).loc Cert.AttOutIdeal.main_arg4)
      ∧ r.2.mem ((c.tc : Thread Cert.AttOutIdeal.nD Cert.AttOutIdeal.τ).loc Cert.AttOutIdeal.main_arg5) = m ((c.tc : Thread Cert.AttOutIdeal.nD Cert.AttOutIdeal.τ).loc Cert.AttOutIdeal.main_arg5))
      ∧ r.2.sem = fun _ => 0)

def quiescent_AttOutRefIdeal [hAttOutRefIdeal : Cert.AttOutRefIdeal.Facts] : Prop :=
  ∀ (m : (ℓ : Loc Cert.AttOutRefIdeal.nD Cert.AttOutRefIdeal.τ Cert.AttOutRefIdeal.sig) → Buf (Elt Ideal) ℓ) (g : Dev Cert.AttOutRefIdeal.nD → PrngReg), Pre_AttOutRefIdeal m →
    θ_run (Cert.AttOutRefIdeal.defs (F := Ideal)) (onTc (τ := Cert.AttOutRefIdeal.τ) (Cert.AttOutRefIdeal.main (F := Ideal))) ⟨m, fun _ => 0, g⟩ (fun r => (∀ c : Dev Cert.AttOutRefIdeal.nD,
      r.2.mem ((c.tc : Thread Cert.AttOutRefIdeal.nD Cert.AttOutRefIdeal.τ).loc Cert.AttOutRefIdeal.main_arg0) = m ((c.tc : Thread Cert.AttOutRefIdeal.nD Cert.AttOutRefIdeal.τ).loc Cert.AttOutRefIdeal.main_arg0)
      ∧ r.2.mem ((c.tc : Thread Cert.AttOutRefIdeal.nD Cert.AttOutRefIdeal.τ).loc Cert.AttOutRefIdeal.main_arg1) = m ((c.tc : Thread Cert.AttOutRefIdeal.nD Cert.AttOutRefIdeal.τ).loc Cert.AttOutRefIdeal.main_arg1)
      ∧ r.2.mem ((c.tc : Thread Cert.AttOutRefIdeal.nD Cert.AttOutRefIdeal.τ).loc Cert.AttOutRefIdeal.main_arg2) = m ((c.tc : Thread Cert.AttOutRefIdeal.nD Cert.AttOutRefIdeal.τ).loc Cert.AttOutRefIdeal.main_arg2)
      ∧ r.2.mem ((c.tc : Thread Cert.AttOutRefIdeal.nD Cert.AttOutRefIdeal.τ).loc Cert.AttOutRefIdeal.main_arg3) = m ((c.tc : Thread Cert.AttOutRefIdeal.nD Cert.AttOutRefIdeal.τ).loc Cert.AttOutRefIdeal.main_arg3)
      ∧ r.2.mem ((c.tc : Thread Cert.AttOutRefIdeal.nD Cert.AttOutRefIdeal.τ).loc Cert.AttOutRefIdeal.main_arg4) = m ((c.tc : Thread Cert.AttOutRefIdeal.nD Cert.AttOutRefIdeal.τ).loc Cert.AttOutRefIdeal.main_arg4)
      ∧ r.2.mem ((c.tc : Thread Cert.AttOutRefIdeal.nD Cert.AttOutRefIdeal.τ).loc Cert.AttOutRefIdeal.main_arg5) = m ((c.tc : Thread Cert.AttOutRefIdeal.nD Cert.AttOutRefIdeal.τ).loc Cert.AttOutRefIdeal.main_arg5))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2)
      ∧ r.2.mem ((c.tc : Thread Cert.ResidRefIdeal.nD Cert.ResidRefIdeal.τ).loc Cert.ResidRefIdeal.main_arg3) = m ((c.tc : Thread Cert.ResidRefIdeal.nD Cert.ResidRefIdeal.τ).loc Cert.ResidRefIdeal.main_arg3))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] [hPre_blocks_in_range : Cert.Pre_blocks_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v64) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4))

def preserves_LruIn_LruInIdeal : Prop :=
  True

def algebraic_LruInIdeal_LruInRefIdeal [hLruInIdeal : Cert.LruInIdeal.Facts] [hLruInRefIdeal : Cert.LruInRefIdeal.Facts] : Prop :=
  ∀ (m : (ℓ : Loc Cert.LruInIdeal.nD Cert.LruInIdeal.τ Cert.LruInIdeal.sig) → Buf (Elt Ideal) ℓ) (g : Dev Cert.LruInIdeal.nD → PrngReg)
    (m' : (ℓ : Loc Cert.LruInRefIdeal.nD Cert.LruInRefIdeal.τ Cert.LruInRefIdeal.sig) → Buf (Elt Ideal) ℓ) (g' : Dev Cert.LruInRefIdeal.nD → PrngReg), Pre_LruInIdeal m →
    (∀ c : Dev Cert.LruInIdeal.nD,
      m' ((c.tc : Thread Cert.LruInRefIdeal.nD Cert.LruInRefIdeal.τ).loc Cert.LruInRefIdeal.main_arg0) = m ((c.tc : Thread Cert.LruInIdeal.nD Cert.LruInIdeal.τ).loc Cert.LruInIdeal.main_arg0)
      ∧ m' ((c.tc : Thread Cert.LruInRefIdeal.nD Cert.LruInRefIdeal.τ).loc Cert.LruInRefIdeal.main_arg1) = m ((c.tc : Thread Cert.LruInIdeal.nD Cert.LruInIdeal.τ).loc Cert.LruInIdeal.main_arg1)) →
    ∃ (v0 : (c : Dev Cert.LruInIdeal.nD) → Buf (Elt Ideal) ((c.tc : Thread Cert.LruInIdeal.nD Cert.LruInIdeal.τ).loc Cert.LruInIdeal.main_v0)),
      θ_run (Cert.LruInIdeal.defs (F := Ideal)) (onTc (τ := Cert.LruInIdeal.τ) (Cert.LruInIdeal.main (F := Ideal))) ⟨m, fun _ => 0, g⟩ (fun r => ∀ c : Dev Cert.LruInIdeal.nD,
          r.2.mem ((c.tc : Thread Cert.LruInIdeal.nD Cert.LruInIdeal.τ).loc Cert.LruInIdeal.main_v0) = v0 c
          ∧ r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
          ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ θ_run (Cert.LruInRefIdeal.defs (F := Ideal)) (onTc (τ := Cert.LruInRefIdeal.τ) (Cert.LruInRefIdeal.main (F := Ideal))) ⟨m', fun _ => 0, g'⟩ (fun r => ∀ c : Dev Cert.LruInRefIdeal.nD,
          r.2.mem ((c.tc : Thread Cert.LruInRefIdeal.nD Cert.LruInRefIdeal.τ).loc Cert.LruInRefIdeal.main_v2) = v0 c
          ∧ r.2.mem ((c.tc : Thread Cert.LruInRefIdeal.nD Cert.LruInRefIdeal.τ).loc Cert.LruInRefIdeal.main_arg0) = m' ((c.tc : Thread Cert.LruInRefIdeal.nD Cert.LruInRefIdeal.τ).loc Cert.LruInRefIdeal.main_arg0)
          ∧ r.2.mem ((c.tc : Thread Cert.LruInRefIdeal.nD Cert.LruInRefIdeal.τ).loc Cert.LruInRefIdeal.main_arg1) = m' ((c.tc : Thread Cert.LruInRefIdeal.nD Cert.LruInRefIdeal.τ).loc Cert.LruInRefIdeal.main_arg1))

def preserves_DnIn_DnInIdeal : Prop :=
  True

def algebraic_DnInIdeal_DnInRefIdeal [hDnInIdeal : Cert.DnInIdeal.Facts] [hDnInRefIdeal : Cert.DnInRefIdeal.Facts] : Prop :=
  ∀ (m : (ℓ : Loc Cert.DnInIdeal.nD Cert.DnInIdeal.τ Cert.DnInIdeal.sig) → Buf (Elt Ideal) ℓ) (g : Dev Cert.DnInIdeal.nD → PrngReg)
    (m' : (ℓ : Loc Cert.DnInRefIdeal.nD Cert.DnInRefIdeal.τ Cert.DnInRefIdeal.sig) → Buf (Elt Ideal) ℓ) (g' : Dev Cert.DnInRefIdeal.nD → PrngReg), Pre_DnInIdeal m →
    (∀ c : Dev Cert.DnInIdeal.nD,
      m' ((c.tc : Thread Cert.DnInRefIdeal.nD Cert.DnInRefIdeal.τ).loc Cert.DnInRefIdeal.main_arg0) = m ((c.tc : Thread Cert.DnInIdeal.nD Cert.DnInIdeal.τ).loc Cert.DnInIdeal.main_arg0)
      ∧ m' ((c.tc : Thread Cert.DnInRefIdeal.nD Cert.DnInRefIdeal.τ).loc Cert.DnInRefIdeal.main_arg1) = m ((c.tc : Thread Cert.DnInIdeal.nD Cert.DnInIdeal.τ).loc Cert.DnInIdeal.main_arg1)) →
    ∃ (v0 : (c : Dev Cert.DnInIdeal.nD) → Buf (Elt Ideal) ((c.tc : Thread Cert.DnInIdeal.nD Cert.DnInIdeal.τ).loc Cert.DnInIdeal.main_v0)),
      θ_run (Cert.DnInIdeal.defs (F := Ideal)) (onTc (τ := Cert.DnInIdeal.τ) (Cert.DnInIdeal.main (F := Ideal))) ⟨m, fun _ => 0, g⟩ (fun r => ∀ c : Dev Cert.DnInIdeal.nD,
          r.2.mem ((c.tc : Thread Cert.DnInIdeal.nD Cert.DnInIdeal.τ).loc Cert.DnInIdeal.main_v0) = v0 c
          ∧ r.2.mem ((c.tc : Thread Cert.DnInIdeal.nD Cert.DnInIdeal.τ).loc Cert.DnInIdeal.main_arg0) = m ((c.tc : Thread Cert.DnInIdeal.nD Cert.DnInIdeal.τ).loc Cert.DnInIdeal.main_arg0)
          ∧ r.2.mem ((c.tc : Thread Cert.DnInIdeal.nD Cert.DnInIdeal.τ).loc Cert.DnInIdeal.main_arg1) = m ((c.tc : Thread Cert.DnInIdeal.nD Cert.DnInIdeal.τ).loc Cert.DnInIdeal.main_arg1))
      ∧ θ_run (Cert.DnInRefIdeal.defs (F := Ideal)) (onTc (τ := Cert.DnInRefIdeal.τ) (Cert.DnInRefIdeal.main (F := Ideal))) ⟨m', fun _ => 0, g'⟩ (fun r => ∀ c : Dev Cert.DnInRefIdeal.nD,
          r.2.mem ((c.tc : Thread Cert.DnInRefIdeal.nD Cert.DnInRefIdeal.τ).loc Cert.DnInRefIdeal.main_v3) = v0 c
          ∧ r.2.mem ((c.tc : Thread Cert.DnInRefIdeal.nD Cert.DnInRefIdeal.τ).loc Cert.DnInRefIdeal.main_arg0) = m' ((c.tc : Thread Cert.DnInRefIdeal.nD Cert.DnInRefIdeal.τ).loc Cert.DnInRefIdeal.main_arg0)
          ∧ r.2.mem ((c.tc : Thread Cert.DnInRefIdeal.nD Cert.DnInRefIdeal.τ).loc Cert.DnInRefIdeal.main_arg1) = m' ((c.tc : Thread Cert.DnInRefIdeal.nD Cert.DnInRefIdeal.τ).loc Cert.DnInRefIdeal.main_arg1))

def preserves_RetIn_RetInIdeal : Prop :=
  True

def algebraic_RetInIdeal_RetInRefIdeal [hRetInIdeal : Cert.RetInIdeal.Facts] [hRetInRefIdeal : Cert.RetInRefIdeal.Facts] : Prop :=
  ∀ (m : (ℓ : Loc Cert.RetInIdeal.nD Cert.RetInIdeal.τ Cert.RetInIdeal.sig) → Buf (Elt Ideal) ℓ) (g : Dev Cert.RetInIdeal.nD → PrngReg)
    (m' : (ℓ : Loc Cert.RetInRefIdeal.nD Cert.RetInRefIdeal.τ Cert.RetInRefIdeal.sig) → Buf (Elt Ideal) ℓ) (g' : Dev Cert.RetInRefIdeal.nD → PrngReg), Pre_RetInIdeal m →
    (∀ c : Dev Cert.RetInIdeal.nD,
      m' ((c.tc : Thread Cert.RetInRefIdeal.nD Cert.RetInRefIdeal.τ).loc Cert.RetInRefIdeal.main_arg0) = m ((c.tc : Thread Cert.RetInIdeal.nD Cert.RetInIdeal.τ).loc Cert.RetInIdeal.main_arg0)
      ∧ m' ((c.tc : Thread Cert.RetInRefIdeal.nD Cert.RetInRefIdeal.τ).loc Cert.RetInRefIdeal.main_arg1) = m ((c.tc : Thread Cert.RetInIdeal.nD Cert.RetInIdeal.τ).loc Cert.RetInIdeal.main_arg1)) →
    ∃ (v0 : (c : Dev Cert.RetInIdeal.nD) → Buf (Elt Ideal) ((c.tc : Thread Cert.RetInIdeal.nD Cert.RetInIdeal.τ).loc Cert.RetInIdeal.main_v0)),
      θ_run (Cert.RetInIdeal.defs (F := Ideal)) (onTc (τ := Cert.RetInIdeal.τ) (Cert.RetInIdeal.main (F := Ideal))) ⟨m, fun _ => 0, g⟩ (fun r => ∀ c : Dev Cert.RetInIdeal.nD,
          r.2.mem ((c.tc : Thread Cert.RetInIdeal.nD Cert.RetInIdeal.τ).loc Cert.RetInIdeal.main_v0) = v0 c
          ∧ r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
          ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1))
      ∧ θ_run (Cert.RetInRefIdeal.defs (F := Ideal)) (onTc (τ := Cert.RetInRefIdeal.τ) (Cert.RetInRefIdeal.main (F := Ideal))) ⟨m', fun _ => 0, g'⟩ (fun r => ∀ c : Dev Cert.RetInRefIdeal.nD,
          r.2.mem ((c.tc : Thread Cert.RetInRefIdeal.nD Cert.RetInRefIdeal.τ).loc Cert.RetInRefIdeal.main_v2) = v0 c
          ∧ r.2.mem ((c.tc : Thread Cert.RetInRefIdeal.nD Cert.RetInRefIdeal.τ).loc Cert.RetInRefIdeal.main_arg0) = m' ((c.tc : Thread Cert.RetInRefIdeal.nD Cert.RetInRefIdeal.τ).loc Cert.RetInRefIdeal.main_arg0)
          ∧ r.2.mem ((c.tc : Thread Cert.RetInRefIdeal.nD Cert.RetInRefIdeal.τ).loc Cert.RetInRefIdeal.main_arg1) = m' ((c.tc : Thread Cert.RetInRefIdeal.nD Cert.RetInRefIdeal.τ).loc Cert.RetInRefIdeal.main_arg1))

def preserves_AttIn_AttInIdeal : Prop :=
  True

def algebraic_AttInIdeal_AttInRefIdeal [hAttInIdeal : Cert.AttInIdeal.Facts] [hAttInRefIdeal : Cert.AttInRefIdeal.Facts] : Prop :=
  ∀ (m : (ℓ : Loc Cert.AttInIdeal.nD Cert.AttInIdeal.τ Cert.AttInIdeal.sig) → Buf (Elt Ideal) ℓ) (g : Dev Cert.AttInIdeal.nD → PrngReg)
    (m' : (ℓ : Loc Cert.AttInRefIdeal.nD Cert.AttInRefIdeal.τ Cert.AttInRefIdeal.sig) → Buf (Elt Ideal) ℓ) (g' : Dev Cert.AttInRefIdeal.nD → PrngReg), Pre_AttInIdeal m →
    (∀ c : Dev Cert.AttInIdeal.nD,
      m' ((c.tc : Thread Cert.AttInRefIdeal.nD Cert.AttInRefIdeal.τ).loc Cert.AttInRefIdeal.main_arg0) = m ((c.tc : Thread Cert.AttInIdeal.nD Cert.AttInIdeal.τ).loc Cert.AttInIdeal.main_arg0)
      ∧ m' ((c.tc : Thread Cert.AttInRefIdeal.nD Cert.AttInRefIdeal.τ).loc Cert.AttInRefIdeal.main_arg1) = m ((c.tc : Thread Cert.AttInIdeal.nD Cert.AttInIdeal.τ).loc Cert.AttInIdeal.main_arg1)) →
    ∃ (v0 : (c : Dev Cert.AttInIdeal.nD) → Buf (Elt Ideal) ((c.tc : Thread Cert.AttInIdeal.nD Cert.AttInIdeal.τ).loc Cert.AttInIdeal.main_v0)),
      θ_run (Cert.AttInIdeal.defs (F := Ideal)) (onTc (τ := Cert.AttInIdeal.τ) (Cert.AttInIdeal.main (F := Ideal))) ⟨m, fun _ => 0, g⟩ (fun r => ∀ c : Dev Cert.AttInIdeal.nD,
          r.2.mem ((c.tc : Thread Cert.AttInIdeal.nD Cert.AttInIdeal.τ).loc Cert.AttInIdeal.main_v0) = v0 c
          ∧ r.2.mem ((c.tc : Thread Cert.AttInIdeal.nD Cert.AttInIdeal.τ).loc Cert.AttInIdeal.main_arg0) = m ((c.tc : Thread Cert.AttInIdeal.nD Cert.AttInIdeal.τ).loc Cert.AttInIdeal.main_arg0)
          ∧ r.2.mem ((c.tc : Thread Cert.AttInIdeal.nD Cert.AttInIdeal.τ).loc Cert.AttInIdeal.main_arg1) = m ((c.tc : Thread Cert.AttInIdeal.nD Cert.AttInIdeal.τ).loc Cert.AttInIdeal.main_arg1))
      ∧ θ_run (Cert.AttInRefIdeal.defs (F := Ideal)) (onTc (τ := Cert.AttInRefIdeal.τ) (Cert.AttInRefIdeal.main (F := Ideal))) ⟨m', fun _ => 0, g'⟩ (fun r => ∀ c : Dev Cert.AttInRefIdeal.nD,
          r.2.mem ((c.tc : Thread Cert.AttInRefIdeal.nD Cert.AttInRefIdeal.τ).loc Cert.AttInRefIdeal.main_v2) = v0 c
          ∧ r.2.mem ((c.tc : Thread Cert.AttInRefIdeal.nD Cert.AttInRefIdeal.τ).loc Cert.AttInRefIdeal.main_arg0) = m' ((c.tc : Thread Cert.AttInRefIdeal.nD Cert.AttInRefIdeal.τ).loc Cert.AttInRefIdeal.main_arg0)
          ∧ r.2.mem ((c.tc : Thread Cert.AttInRefIdeal.nD Cert.AttInRefIdeal.τ).loc Cert.AttInRefIdeal.main_arg1) = m' ((c.tc : Thread Cert.AttInRefIdeal.nD Cert.AttInRefIdeal.τ).loc Cert.AttInRefIdeal.main_arg1))

def preserves_LruOut_LruOutIdeal : Prop :=
  True

def algebraic_LruOutIdeal_LruOutRefIdeal [hLruOutIdeal : Cert.LruOutIdeal.Facts] [hLruOutRefIdeal : Cert.LruOutRefIdeal.Facts] : Prop :=
  ∀ (m : (ℓ : Loc Cert.LruOutIdeal.nD Cert.LruOutIdeal.τ Cert.LruOutIdeal.sig) → Buf (Elt Ideal) ℓ) (g : Dev Cert.LruOutIdeal.nD → PrngReg)
    (m' : (ℓ : Loc Cert.LruOutRefIdeal.nD Cert.LruOutRefIdeal.τ Cert.LruOutRefIdeal.sig) → Buf (Elt Ideal) ℓ) (g' : Dev Cert.LruOutRefIdeal.nD → PrngReg), Pre_LruOutIdeal m →
    (∀ c : Dev Cert.LruOutIdeal.nD,
      m' ((c.tc : Thread Cert.LruOutRefIdeal.nD Cert.LruOutRefIdeal.τ).loc Cert.LruOutRefIdeal.main_arg0) = m ((c.tc : Thread Cert.LruOutIdeal.nD Cert.LruOutIdeal.τ).loc Cert.LruOutIdeal.main_arg0)
      ∧ m' ((c.tc : Thread Cert.LruOutRefIdeal.nD Cert.LruOutRefIdeal.τ).loc Cert.LruOutRefIdeal.main_arg1) = m ((c.tc : Thread Cert.LruOutIdeal.nD Cert.LruOutIdeal.τ).loc Cert.LruOutIdeal.main_arg1)
      ∧ m' ((c.tc : Thread Cert.LruOutRefIdeal.nD Cert.LruOutRefIdeal.τ).loc Cert.LruOutRefIdeal.main_arg2) = m ((c.tc : Thread Cert.LruOutIdeal.nD Cert.LruOutIdeal.τ).loc Cert.LruOutIdeal.main_arg2)
      ∧ m' ((c.tc : Thread Cert.LruOutRefIdeal.nD Cert.LruOutRefIdeal.τ).loc Cert.LruOutRefIdeal.main_arg3) = m ((c.tc : Thread Cert.LruOutIdeal.nD Cert.LruOutIdeal.τ).loc Cert.LruOutIdeal.main_arg3)
      ∧ m' ((c.tc : Thread Cert.LruOutRefIdeal.nD Cert.LruOutRefIdeal.τ).loc Cert.LruOutRefIdeal.main_arg4) = m ((c.tc : Thread Cert.LruOutIdeal.nD Cert.LruOutIdeal.τ).loc Cert.LruOutIdeal.main_arg4)
      ∧ m' ((c.tc : Thread Cert.LruOutRefIdeal.nD Cert.LruOutRefIdeal.τ).loc Cert.LruOutRefIdeal.main_arg5) = m ((c.tc : Thread Cert.LruOutIdeal.nD Cert.LruOutIdeal.τ).loc Cert.LruOutIdeal.main_arg5)
      ∧ m' ((c.tc : Thread Cert.LruOutRefIdeal.nD Cert.LruOutRefIdeal.τ).loc Cert.LruOutRefIdeal.main_arg6) = m ((c.tc : Thread Cert.LruOutIdeal.nD Cert.LruOutIdeal.τ).loc Cert.LruOutIdeal.main_arg6)
      ∧ m' ((c.tc : Thread Cert.LruOutRefIdeal.nD Cert.LruOutRefIdeal.τ).loc Cert.LruOutRefIdeal.main_arg7) = m ((c.tc : Thread Cert.LruOutIdeal.nD Cert.LruOutIdeal.τ).loc Cert.LruOutIdeal.main_arg7)) →
    ∃ (v0 : (c : Dev Cert.LruOutIdeal.nD) → Buf (Elt Ideal) ((c.tc : Thread Cert.LruOutIdeal.nD Cert.LruOutIdeal.τ).loc Cert.LruOutIdeal.main_v18_0)) (v1 : (c : Dev Cert.LruOutIdeal.nD) → Buf (Elt Ideal) ((c.tc : Thread Cert.LruOutIdeal.nD Cert.LruOutIdeal.τ).loc Cert.LruOutIdeal.main_v18_1)) (v2 : (c : Dev Cert.LruOutIdeal.nD) → Buf (Elt Ideal) ((c.tc : Thread Cert.LruOutIdeal.nD Cert.LruOutIdeal.τ).loc Cert.LruOutIdeal.main_v18_2)),
      θ_run (Cert.LruOutIdeal.defs (F := Ideal)) (onTc (τ := Cert.LruOutIdeal.τ) (Cert.LruOutIdeal.main (F := Ideal))) ⟨m, fun _ => 0, g⟩ (fun r => ∀ c : Dev Cert.LruOutIdeal.nD,
          r.2.mem ((c.tc : Thread Cert.LruOutIdeal.nD Cert.LruOutIdeal.τ).loc Cert.LruOutIdeal.main_v18_0) = v0 c
          ∧ r.2.mem ((c.tc : Thread Cert.LruOutIdeal.nD Cert.LruOutIdeal.τ).loc Cert.LruOutIdeal.main_v18_1) = v1 c
          ∧ r.2.mem ((c.tc : Thread Cert.LruOutIdeal.nD Cert.LruOutIdeal.τ).loc Cert.LruOutIdeal.main_v18_2) = v2 c
          ∧ r.2.mem ((c.tc : Thread Cert.LruOutIdeal.nD Cert.LruOutIdeal.τ).loc Cert.LruOutIdeal.main_arg0) = m ((c.tc : Thread Cert.LruOutIdeal.nD Cert.LruOutIdeal.τ).loc Cert.LruOutIdeal.main_arg0)
          ∧ r.2.mem ((c.tc : Thread Cert.LruOutIdeal.nD Cert.LruOutIdeal.τ).loc Cert.LruOutIdeal.main_arg1) = m ((c.tc : Thread Cert.LruOutIdeal.nD Cert.LruOutIdeal.τ).loc Cert.LruOutIdeal.main_arg1)
          ∧ r.2.mem ((c.tc : Thread Cert.LruOutIdeal.nD Cert.LruOutIdeal.τ).loc Cert.LruOutIdeal.main_arg2) = m ((c.tc : Thread Cert.LruOutIdeal.nD Cert.LruOutIdeal.τ).loc Cert.LruOutIdeal.main_arg2)
          ∧ r.2.mem ((c.tc : Thread Cert.LruOutIdeal.nD Cert.LruOutIdeal.τ).loc Cert.LruOutIdeal.main_arg3) = m ((c.tc : Thread Cert.LruOutIdeal.nD Cert.LruOutIdeal.τ).loc Cert.LruOutIdeal.main_arg3)
          ∧ r.2.mem ((c.tc : Thread Cert.LruOutIdeal.nD Cert.LruOutIdeal.τ).loc Cert.LruOutIdeal.main_arg4) = m ((c.tc : Thread Cert.LruOutIdeal.nD Cert.LruOutIdeal.τ).loc Cert.LruOutIdeal.main_arg4)
          ∧ r.2.mem ((c.tc : Thread Cert.LruOutIdeal.nD Cert.LruOutIdeal.τ).loc Cert.LruOutIdeal.main_arg5) = m ((c.tc : Thread Cert.LruOutIdeal.nD Cert.LruOutIdeal.τ).loc Cert.LruOutIdeal.main_arg5)
          ∧ r.2.mem ((c.tc : Thread Cert.LruOutIdeal.nD Cert.LruOutIdeal.τ).loc Cert.LruOutIdeal.main_arg6) = m ((c.tc : Thread Cert.LruOutIdeal.nD Cert.LruOutIdeal.τ).loc Cert.LruOutIdeal.main_arg6)
          ∧ r.2.mem ((c.tc : Thread Cert.LruOutIdeal.nD Cert.LruOutIdeal.τ).loc Cert.LruOutIdeal.main_arg7) = m ((c.tc : Thread Cert.LruOutIdeal.nD Cert.LruOutIdeal.τ).loc Cert.LruOutIdeal.main_arg7))
      ∧ θ_run (Cert.LruOutRefIdeal.defs (F := Ideal)) (onTc (τ := Cert.LruOutRefIdeal.τ) (Cert.LruOutRefIdeal.main (F := Ideal))) ⟨m', fun _ => 0, g'⟩ (fun r => ∀ c : Dev Cert.LruOutRefIdeal.nD,
          r.2.mem ((c.tc : Thread Cert.LruOutRefIdeal.nD Cert.LruOutRefIdeal.τ).loc Cert.LruOutRefIdeal.main_v90) = v0 c
          ∧ r.2.mem ((c.tc : Thread Cert.LruOutRefIdeal.nD Cert.LruOutRefIdeal.τ).loc Cert.LruOutRefIdeal.main_v91) = v1 c
          ∧ r.2.mem ((c.tc : Thread Cert.LruOutRefIdeal.nD Cert.LruOutRefIdeal.τ).loc Cert.LruOutRefIdeal.main_v92) = v2 c
          ∧ r.2.mem ((c.tc : Thread Cert.LruOutRefIdeal.nD Cert.LruOutRefIdeal.τ).loc Cert.LruOutRefIdeal.main_arg0) = m' ((c.tc : Thread Cert.LruOutRefIdeal.nD Cert.LruOutRefIdeal.τ).loc Cert.LruOutRefIdeal.main_arg0)
          ∧ r.2.mem ((c.tc : Thread Cert.LruOutRefIdeal.nD Cert.LruOutRefIdeal.τ).loc Cert.LruOutRefIdeal.main_arg1) = m' ((c.tc : Thread Cert.LruOutRefIdeal.nD Cert.LruOutRefIdeal.τ).loc Cert.LruOutRefIdeal.main_arg1)
          ∧ r.2.mem ((c.tc : Thread Cert.LruOutRefIdeal.nD Cert.LruOutRefIdeal.τ).loc Cert.LruOutRefIdeal.main_arg2) = m' ((c.tc : Thread Cert.LruOutRefIdeal.nD Cert.LruOutRefIdeal.τ).loc Cert.LruOutRefIdeal.main_arg2)
          ∧ r.2.mem ((c.tc : Thread Cert.LruOutRefIdeal.nD Cert.LruOutRefIdeal.τ).loc Cert.LruOutRefIdeal.main_arg3) = m' ((c.tc : Thread Cert.LruOutRefIdeal.nD Cert.LruOutRefIdeal.τ).loc Cert.LruOutRefIdeal.main_arg3)
          ∧ r.2.mem ((c.tc : Thread Cert.LruOutRefIdeal.nD Cert.LruOutRefIdeal.τ).loc Cert.LruOutRefIdeal.main_arg4) = m' ((c.tc : Thread Cert.LruOutRefIdeal.nD Cert.LruOutRefIdeal.τ).loc Cert.LruOutRefIdeal.main_arg4)
          ∧ r.2.mem ((c.tc : Thread Cert.LruOutRefIdeal.nD Cert.LruOutRefIdeal.τ).loc Cert.LruOutRefIdeal.main_arg5) = m' ((c.tc : Thread Cert.LruOutRefIdeal.nD Cert.LruOutRefIdeal.τ).loc Cert.LruOutRefIdeal.main_arg5)
          ∧ r.2.mem ((c.tc : Thread Cert.LruOutRefIdeal.nD Cert.LruOutRefIdeal.τ).loc Cert.LruOutRefIdeal.main_arg6) = m' ((c.tc : Thread Cert.LruOutRefIdeal.nD Cert.LruOutRefIdeal.τ).loc Cert.LruOutRefIdeal.main_arg6)
          ∧ r.2.mem ((c.tc : Thread Cert.LruOutRefIdeal.nD Cert.LruOutRefIdeal.τ).loc Cert.LruOutRefIdeal.main_arg7) = m' ((c.tc : Thread Cert.LruOutRefIdeal.nD Cert.LruOutRefIdeal.τ).loc Cert.LruOutRefIdeal.main_arg7))

def preserves_DnOut_DnOutIdeal : Prop :=
  True

def algebraic_DnOutIdeal_DnOutRefIdeal [hDnOutIdeal : Cert.DnOutIdeal.Facts] [hDnOutRefIdeal : Cert.DnOutRefIdeal.Facts] : Prop :=
  ∀ (m : (ℓ : Loc Cert.DnOutIdeal.nD Cert.DnOutIdeal.τ Cert.DnOutIdeal.sig) → Buf (Elt Ideal) ℓ) (g : Dev Cert.DnOutIdeal.nD → PrngReg)
    (m' : (ℓ : Loc Cert.DnOutRefIdeal.nD Cert.DnOutRefIdeal.τ Cert.DnOutRefIdeal.sig) → Buf (Elt Ideal) ℓ) (g' : Dev Cert.DnOutRefIdeal.nD → PrngReg), Pre_DnOutIdeal m →
    (∀ c : Dev Cert.DnOutIdeal.nD,
      m' ((c.tc : Thread Cert.DnOutRefIdeal.nD Cert.DnOutRefIdeal.τ).loc Cert.DnOutRefIdeal.main_arg0) = m ((c.tc : Thread Cert.DnOutIdeal.nD Cert.DnOutIdeal.τ).loc Cert.DnOutIdeal.main_arg0)
      ∧ m' ((c.tc : Thread Cert.DnOutRefIdeal.nD Cert.DnOutRefIdeal.τ).loc Cert.DnOutRefIdeal.main_arg1) = m ((c.tc : Thread Cert.DnOutIdeal.nD Cert.DnOutIdeal.τ).loc Cert.DnOutIdeal.main_arg1)
      ∧ m' ((c.tc : Thread Cert.DnOutRefIdeal.nD Cert.DnOutRefIdeal.τ).loc Cert.DnOutRefIdeal.main_arg2) = m ((c.tc : Thread Cert.DnOutIdeal.nD Cert.DnOutIdeal.τ).loc Cert.DnOutIdeal.main_arg2)
      ∧ m' ((c.tc : Thread Cert.DnOutRefIdeal.nD Cert.DnOutRefIdeal.τ).loc Cert.DnOutRefIdeal.main_arg3) = m ((c.tc : Thread Cert.DnOutIdeal.nD Cert.DnOutIdeal.τ).loc Cert.DnOutIdeal.main_arg3)
      ∧ m' ((c.tc : Thread Cert.DnOutRefIdeal.nD Cert.DnOutRefIdeal.τ).loc Cert.DnOutRefIdeal.main_arg4) = m ((c.tc : Thread Cert.DnOutIdeal.nD Cert.DnOutIdeal.τ).loc Cert.DnOutIdeal.main_arg4)
      ∧ m' ((c.tc : Thread Cert.DnOutRefIdeal.nD Cert.DnOutRefIdeal.τ).loc Cert.DnOutRefIdeal.main_arg5) = m ((c.tc : Thread Cert.DnOutIdeal.nD Cert.DnOutIdeal.τ).loc Cert.DnOutIdeal.main_arg5)
      ∧ m' ((c.tc : Thread Cert.DnOutRefIdeal.nD Cert.DnOutRefIdeal.τ).loc Cert.DnOutRefIdeal.main_arg6) = m ((c.tc : Thread Cert.DnOutIdeal.nD Cert.DnOutIdeal.τ).loc Cert.DnOutIdeal.main_arg6)
      ∧ m' ((c.tc : Thread Cert.DnOutRefIdeal.nD Cert.DnOutRefIdeal.τ).loc Cert.DnOutRefIdeal.main_arg7) = m ((c.tc : Thread Cert.DnOutIdeal.nD Cert.DnOutIdeal.τ).loc Cert.DnOutIdeal.main_arg7)
      ∧ m' ((c.tc : Thread Cert.DnOutRefIdeal.nD Cert.DnOutRefIdeal.τ).loc Cert.DnOutRefIdeal.main_arg8) = m ((c.tc : Thread Cert.DnOutIdeal.nD Cert.DnOutIdeal.τ).loc Cert.DnOutIdeal.main_arg8)) →
    ∃ (v0 : (c : Dev Cert.DnOutIdeal.nD) → Buf (Elt Ideal) ((c.tc : Thread Cert.DnOutIdeal.nD Cert.DnOutIdeal.τ).loc Cert.DnOutIdeal.main_v22_0)) (v1 : (c : Dev Cert.DnOutIdeal.nD) → Buf (Elt Ideal) ((c.tc : Thread Cert.DnOutIdeal.nD Cert.DnOutIdeal.τ).loc Cert.DnOutIdeal.main_v22_1)) (v2 : (c : Dev Cert.DnOutIdeal.nD) → Buf (Elt Ideal) ((c.tc : Thread Cert.DnOutIdeal.nD Cert.DnOutIdeal.τ).loc Cert.DnOutIdeal.main_v22_2)),
      θ_run (Cert.DnOutIdeal.defs (F := Ideal)) (onTc (τ := Cert.DnOutIdeal.τ) (Cert.DnOutIdeal.main (F := Ideal))) ⟨m, fun _ => 0, g⟩ (fun r => ∀ c : Dev Cert.DnOutIdeal.nD,
          r.2.mem ((c.tc : Thread Cert.DnOutIdeal.nD Cert.DnOutIdeal.τ).loc Cert.DnOutIdeal.main_v22_0) = v0 c
          ∧ r.2.mem ((c.tc : Thread Cert.DnOutIdeal.nD Cert.DnOutIdeal.τ).loc Cert.DnOutIdeal.main_v22_1) = v1 c
          ∧ r.2.mem ((c.tc : Thread Cert.DnOutIdeal.nD Cert.DnOutIdeal.τ).loc Cert.DnOutIdeal.main_v22_2) = v2 c
          ∧ r.2.mem ((c.tc : Thread Cert.DnOutIdeal.nD Cert.DnOutIdeal.τ).loc Cert.DnOutIdeal.main_arg0) = m ((c.tc : Thread Cert.DnOutIdeal.nD Cert.DnOutIdeal.τ).loc Cert.DnOutIdeal.main_arg0)
          ∧ r.2.mem ((c.tc : Thread Cert.DnOutIdeal.nD Cert.DnOutIdeal.τ).loc Cert.DnOutIdeal.main_arg1) = m ((c.tc : Thread Cert.DnOutIdeal.nD Cert.DnOutIdeal.τ).loc Cert.DnOutIdeal.main_arg1)
          ∧ r.2.mem ((c.tc : Thread Cert.DnOutIdeal.nD Cert.DnOutIdeal.τ).loc Cert.DnOutIdeal.main_arg2) = m ((c.tc : Thread Cert.DnOutIdeal.nD Cert.DnOutIdeal.τ).loc Cert.DnOutIdeal.main_arg2)
          ∧ r.2.mem ((c.tc : Thread Cert.DnOutIdeal.nD Cert.DnOutIdeal.τ).loc Cert.DnOutIdeal.main_arg3) = m ((c.tc : Thread Cert.DnOutIdeal.nD Cert.DnOutIdeal.τ).loc Cert.DnOutIdeal.main_arg3)
          ∧ r.2.mem ((c.tc : Thread Cert.DnOutIdeal.nD Cert.DnOutIdeal.τ).loc Cert.DnOutIdeal.main_arg4) = m ((c.tc : Thread Cert.DnOutIdeal.nD Cert.DnOutIdeal.τ).loc Cert.DnOutIdeal.main_arg4)
          ∧ r.2.mem ((c.tc : Thread Cert.DnOutIdeal.nD Cert.DnOutIdeal.τ).loc Cert.DnOutIdeal.main_arg5) = m ((c.tc : Thread Cert.DnOutIdeal.nD Cert.DnOutIdeal.τ).loc Cert.DnOutIdeal.main_arg5)
          ∧ r.2.mem ((c.tc : Thread Cert.DnOutIdeal.nD Cert.DnOutIdeal.τ).loc Cert.DnOutIdeal.main_arg6) = m ((c.tc : Thread Cert.DnOutIdeal.nD Cert.DnOutIdeal.τ).loc Cert.DnOutIdeal.main_arg6)
          ∧ r.2.mem ((c.tc : Thread Cert.DnOutIdeal.nD Cert.DnOutIdeal.τ).loc Cert.DnOutIdeal.main_arg7) = m ((c.tc : Thread Cert.DnOutIdeal.nD Cert.DnOutIdeal.τ).loc Cert.DnOutIdeal.main_arg7)
          ∧ r.2.mem ((c.tc : Thread Cert.DnOutIdeal.nD Cert.DnOutIdeal.τ).loc Cert.DnOutIdeal.main_arg8) = m ((c.tc : Thread Cert.DnOutIdeal.nD Cert.DnOutIdeal.τ).loc Cert.DnOutIdeal.main_arg8))
      ∧ θ_run (Cert.DnOutRefIdeal.defs (F := Ideal)) (onTc (τ := Cert.DnOutRefIdeal.τ) (Cert.DnOutRefIdeal.main (F := Ideal))) ⟨m', fun _ => 0, g'⟩ (fun r => ∀ c : Dev Cert.DnOutRefIdeal.nD,
          r.2.mem ((c.tc : Thread Cert.DnOutRefIdeal.nD Cert.DnOutRefIdeal.τ).loc Cert.DnOutRefIdeal.main_v94) = v0 c
          ∧ r.2.mem ((c.tc : Thread Cert.DnOutRefIdeal.nD Cert.DnOutRefIdeal.τ).loc Cert.DnOutRefIdeal.main_v95) = v1 c
          ∧ r.2.mem ((c.tc : Thread Cert.DnOutRefIdeal.nD Cert.DnOutRefIdeal.τ).loc Cert.DnOutRefIdeal.main_v96) = v2 c
          ∧ r.2.mem ((c.tc : Thread Cert.DnOutRefIdeal.nD Cert.DnOutRefIdeal.τ).loc Cert.DnOutRefIdeal.main_arg0) = m' ((c.tc : Thread Cert.DnOutRefIdeal.nD Cert.DnOutRefIdeal.τ).loc Cert.DnOutRefIdeal.main_arg0)
          ∧ r.2.mem ((c.tc : Thread Cert.DnOutRefIdeal.nD Cert.DnOutRefIdeal.τ).loc Cert.DnOutRefIdeal.main_arg1) = m' ((c.tc : Thread Cert.DnOutRefIdeal.nD Cert.DnOutRefIdeal.τ).loc Cert.DnOutRefIdeal.main_arg1)
          ∧ r.2.mem ((c.tc : Thread Cert.DnOutRefIdeal.nD Cert.DnOutRefIdeal.τ).loc Cert.DnOutRefIdeal.main_arg2) = m' ((c.tc : Thread Cert.DnOutRefIdeal.nD Cert.DnOutRefIdeal.τ).loc Cert.DnOutRefIdeal.main_arg2)
          ∧ r.2.mem ((c.tc : Thread Cert.DnOutRefIdeal.nD Cert.DnOutRefIdeal.τ).loc Cert.DnOutRefIdeal.main_arg3) = m' ((c.tc : Thread Cert.DnOutRefIdeal.nD Cert.DnOutRefIdeal.τ).loc Cert.DnOutRefIdeal.main_arg3)
          ∧ r.2.mem ((c.tc : Thread Cert.DnOutRefIdeal.nD Cert.DnOutRefIdeal.τ).loc Cert.DnOutRefIdeal.main_arg4) = m' ((c.tc : Thread Cert.DnOutRefIdeal.nD Cert.DnOutRefIdeal.τ).loc Cert.DnOutRefIdeal.main_arg4)
          ∧ r.2.mem ((c.tc : Thread Cert.DnOutRefIdeal.nD Cert.DnOutRefIdeal.τ).loc Cert.DnOutRefIdeal.main_arg5) = m' ((c.tc : Thread Cert.DnOutRefIdeal.nD Cert.DnOutRefIdeal.τ).loc Cert.DnOutRefIdeal.main_arg5)
          ∧ r.2.mem ((c.tc : Thread Cert.DnOutRefIdeal.nD Cert.DnOutRefIdeal.τ).loc Cert.DnOutRefIdeal.main_arg6) = m' ((c.tc : Thread Cert.DnOutRefIdeal.nD Cert.DnOutRefIdeal.τ).loc Cert.DnOutRefIdeal.main_arg6)
          ∧ r.2.mem ((c.tc : Thread Cert.DnOutRefIdeal.nD Cert.DnOutRefIdeal.τ).loc Cert.DnOutRefIdeal.main_arg7) = m' ((c.tc : Thread Cert.DnOutRefIdeal.nD Cert.DnOutRefIdeal.τ).loc Cert.DnOutRefIdeal.main_arg7)
          ∧ r.2.mem ((c.tc : Thread Cert.DnOutRefIdeal.nD Cert.DnOutRefIdeal.τ).loc Cert.DnOutRefIdeal.main_arg8) = m' ((c.tc : Thread Cert.DnOutRefIdeal.nD Cert.DnOutRefIdeal.τ).loc Cert.DnOutRefIdeal.main_arg8))

def preserves_RetOut_RetOutIdeal : Prop :=
  True

def algebraic_RetOutIdeal_RetOutRefIdeal [hRetOutIdeal : Cert.RetOutIdeal.Facts] [hRetOutRefIdeal : Cert.RetOutRefIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutRefIdeal.nD Cert.RetOutRefIdeal.τ Cert.RetOutRefIdeal.sig) → Buf (Elt Ideal) ℓ) (g' : Dev Cert.RetOutRefIdeal.nD → PrngReg), Pre_RetOutIdeal m →
    (∀ c : Dev Cert.RetOutIdeal.nD,
      m' ((c.tc : Thread Cert.RetOutRefIdeal.nD Cert.RetOutRefIdeal.τ).loc Cert.RetOutRefIdeal.main_arg0) = m ((c.tc : Thread Cert.RetOutIdeal.nD Cert.RetOutIdeal.τ).loc Cert.RetOutIdeal.main_arg0)
      ∧ m' ((c.tc : Thread Cert.RetOutRefIdeal.nD Cert.RetOutRefIdeal.τ).loc Cert.RetOutRefIdeal.main_arg1) = m ((c.tc : Thread Cert.RetOutIdeal.nD Cert.RetOutIdeal.τ).loc Cert.RetOutIdeal.main_arg1)
      ∧ m' ((c.tc : Thread Cert.RetOutRefIdeal.nD Cert.RetOutRefIdeal.τ).loc Cert.RetOutRefIdeal.main_arg2) = m ((c.tc : Thread Cert.RetOutIdeal.nD Cert.RetOutIdeal.τ).loc Cert.RetOutIdeal.main_arg2)
      ∧ m' ((c.tc : Thread Cert.RetOutRefIdeal.nD Cert.RetOutRefIdeal.τ).loc Cert.RetOutRefIdeal.main_arg3) = m ((c.tc : Thread Cert.RetOutIdeal.nD Cert.RetOutIdeal.τ).loc Cert.RetOutIdeal.main_arg3)
      ∧ m' ((c.tc : Thread Cert.RetOutRefIdeal.nD Cert.RetOutRefIdeal.τ).loc Cert.RetOutRefIdeal.main_arg4) = m ((c.tc : Thread Cert.RetOutIdeal.nD Cert.RetOutIdeal.τ).loc Cert.RetOutIdeal.main_arg4)
      ∧ m' ((c.tc : Thread Cert.RetOutRefIdeal.nD Cert.RetOutRefIdeal.τ).loc Cert.RetOutRefIdeal.main_arg5) = m ((c.tc : Thread Cert.RetOutIdeal.nD Cert.RetOutIdeal.τ).loc Cert.RetOutIdeal.main_arg5)
      ∧ m' ((c.tc : Thread Cert.RetOutRefIdeal.nD Cert.RetOutRefIdeal.τ).loc Cert.RetOutRefIdeal.main_arg6) = m ((c.tc : Thread Cert.RetOutIdeal.nD Cert.RetOutIdeal.τ).loc Cert.RetOutIdeal.main_arg6)
      ∧ m' ((c.tc : Thread Cert.RetOutRefIdeal.nD Cert.RetOutRefIdeal.τ).loc Cert.RetOutRefIdeal.main_arg7) = m ((c.tc : Thread Cert.RetOutIdeal.nD Cert.RetOutIdeal.τ).loc Cert.RetOutIdeal.main_arg7)
      ∧ m' ((c.tc : Thread Cert.RetOutRefIdeal.nD Cert.RetOutRefIdeal.τ).loc Cert.RetOutRefIdeal.main_arg8) = m ((c.tc : Thread Cert.RetOutIdeal.nD Cert.RetOutIdeal.τ).loc Cert.RetOutIdeal.main_arg8)) →
    ∃ (v0 : (c : Dev Cert.RetOutIdeal.nD) → Buf (Elt Ideal) ((c.tc : Thread Cert.RetOutIdeal.nD Cert.RetOutIdeal.τ).loc Cert.RetOutIdeal.main_v19_0)) (v1 : (c : Dev Cert.RetOutIdeal.nD) → Buf (Elt Ideal) ((c.tc : Thread Cert.RetOutIdeal.nD Cert.RetOutIdeal.τ).loc Cert.RetOutIdeal.main_v19_1)) (v2 : (c : Dev Cert.RetOutIdeal.nD) → Buf (Elt Ideal) ((c.tc : Thread Cert.RetOutIdeal.nD Cert.RetOutIdeal.τ).loc Cert.RetOutIdeal.main_v19_2)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v19_0) = v0 c
          ∧ r.2.mem ((c.tc : Thread Cert.RetOutIdeal.nD Cert.RetOutIdeal.τ).loc Cert.RetOutIdeal.main_v19_1) = v1 c
          ∧ r.2.mem ((c.tc : Thread Cert.RetOutIdeal.nD Cert.RetOutIdeal.τ).loc Cert.RetOutIdeal.main_v19_2) = v2 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
          ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3)
          ∧ r.2.mem ((c.tc : Thread Cert.RetOutIdeal.nD Cert.RetOutIdeal.τ).loc Cert.RetOutIdeal.main_arg4) = m ((c.tc : Thread Cert.RetOutIdeal.nD Cert.RetOutIdeal.τ).loc Cert.RetOutIdeal.main_arg4)
          ∧ r.2.mem ((c.tc : Thread Cert.RetOutIdeal.nD Cert.RetOutIdeal.τ).loc Cert.RetOutIdeal.main_arg5) = m ((c.tc : Thread Cert.RetOutIdeal.nD Cert.RetOutIdeal.τ).loc Cert.RetOutIdeal.main_arg5)
          ∧ r.2.mem ((c.tc : Thread Cert.RetOutIdeal.nD Cert.RetOutIdeal.τ).loc Cert.RetOutIdeal.main_arg6) = m ((c.tc : Thread Cert.RetOutIdeal.nD Cert.RetOutIdeal.τ).loc Cert.RetOutIdeal.main_arg6)
          ∧ r.2.mem ((c.tc : Thread Cert.RetOutIdeal.nD Cert.RetOutIdeal.τ).loc Cert.RetOutIdeal.main_arg7) = m ((c.tc : Thread Cert.RetOutIdeal.nD Cert.RetOutIdeal.τ).loc Cert.RetOutIdeal.main_arg7)
          ∧ r.2.mem ((c.tc : Thread Cert.RetOutIdeal.nD Cert.RetOutIdeal.τ).loc Cert.RetOutIdeal.main_arg8) = m ((c.tc : Thread Cert.RetOutIdeal.nD Cert.RetOutIdeal.τ).loc Cert.RetOutIdeal.main_arg8))
      ∧ θ_run (Cert.RetOutRefIdeal.defs (F := Ideal)) (onTc (τ := Cert.RetOutRefIdeal.τ) (Cert.RetOutRefIdeal.main (F := Ideal))) ⟨m', fun _ => 0, g'⟩ (fun r => ∀ c : Dev Cert.RetOutRefIdeal.nD,
          r.2.mem ((c.tc : Thread Cert.RetOutRefIdeal.nD Cert.RetOutRefIdeal.τ).loc Cert.RetOutRefIdeal.main_v94) = v0 c
          ∧ r.2.mem ((c.tc : Thread Cert.RetOutRefIdeal.nD Cert.RetOutRefIdeal.τ).loc Cert.RetOutRefIdeal.main_v95) = v1 c
          ∧ r.2.mem ((c.tc : Thread Cert.RetOutRefIdeal.nD Cert.RetOutRefIdeal.τ).loc Cert.RetOutRefIdeal.main_v96) = v2 c
          ∧ r.2.mem ((c.tc : Thread Cert.RetOutRefIdeal.nD Cert.RetOutRefIdeal.τ).loc Cert.RetOutRefIdeal.main_arg0) = m' ((c.tc : Thread Cert.RetOutRefIdeal.nD Cert.RetOutRefIdeal.τ).loc Cert.RetOutRefIdeal.main_arg0)
          ∧ r.2.mem ((c.tc : Thread Cert.RetOutRefIdeal.nD Cert.RetOutRefIdeal.τ).loc Cert.RetOutRefIdeal.main_arg1) = m' ((c.tc : Thread Cert.RetOutRefIdeal.nD Cert.RetOutRefIdeal.τ).loc Cert.RetOutRefIdeal.main_arg1)
          ∧ r.2.mem ((c.tc : Thread Cert.RetOutRefIdeal.nD Cert.RetOutRefIdeal.τ).loc Cert.RetOutRefIdeal.main_arg2) = m' ((c.tc : Thread Cert.RetOutRefIdeal.nD Cert.RetOutRefIdeal.τ).loc Cert.RetOutRefIdeal.main_arg2)
          ∧ r.2.mem ((c.tc : Thread Cert.RetOutRefIdeal.nD Cert.RetOutRefIdeal.τ).loc Cert.RetOutRefIdeal.main_arg3) = m' ((c.tc : Thread Cert.RetOutRefIdeal.nD Cert.RetOutRefIdeal.τ).loc Cert.RetOutRefIdeal.main_arg3)
          ∧ r.2.mem ((c.tc : Thread Cert.RetOutRefIdeal.nD Cert.RetOutRefIdeal.τ).loc Cert.RetOutRefIdeal.main_arg4) = m' ((c.tc : Thread Cert.RetOutRefIdeal.nD Cert.RetOutRefIdeal.τ).loc Cert.RetOutRefIdeal.main_arg4)
          ∧ r.2.mem ((c.tc : Thread Cert.RetOutRefIdeal.nD Cert.RetOutRefIdeal.τ).loc Cert.RetOutRefIdeal.main_arg5) = m' ((c.tc : Thread Cert.RetOutRefIdeal.nD Cert.RetOutRefIdeal.τ).loc Cert.RetOutRefIdeal.main_arg5)
          ∧ r.2.mem ((c.tc : Thread Cert.RetOutRefIdeal.nD Cert.RetOutRefIdeal.τ).loc Cert.RetOutRefIdeal.main_arg6) = m' ((c.tc : Thread Cert.RetOutRefIdeal.nD Cert.RetOutRefIdeal.τ).loc Cert.RetOutRefIdeal.main_arg6)
          ∧ r.2.mem ((c.tc : Thread Cert.RetOutRefIdeal.nD Cert.RetOutRefIdeal.τ).loc Cert.RetOutRefIdeal.main_arg7) = m' ((c.tc : Thread Cert.RetOutRefIdeal.nD Cert.RetOutRefIdeal.τ).loc Cert.RetOutRefIdeal.main_arg7)
          ∧ r.2.mem ((c.tc : Thread Cert.RetOutRefIdeal.nD Cert.RetOutRefIdeal.τ).loc Cert.RetOutRefIdeal.main_arg8) = m' ((c.tc : Thread Cert.RetOutRefIdeal.nD Cert.RetOutRefIdeal.τ).loc Cert.RetOutRefIdeal.main_arg8))

def preserves_AttOut_AttOutIdeal : Prop :=
  True

def algebraic_AttOutIdeal_AttOutRefIdeal [hAttOutIdeal : Cert.AttOutIdeal.Facts] [hAttOutRefIdeal : Cert.AttOutRefIdeal.Facts] : Prop :=
  ∀ (m : (ℓ : Loc Cert.AttOutIdeal.nD Cert.AttOutIdeal.τ Cert.AttOutIdeal.sig) → Buf (Elt Ideal) ℓ) (g : Dev Cert.AttOutIdeal.nD → PrngReg)
    (m' : (ℓ : Loc Cert.AttOutRefIdeal.nD Cert.AttOutRefIdeal.τ Cert.AttOutRefIdeal.sig) → Buf (Elt Ideal) ℓ) (g' : Dev Cert.AttOutRefIdeal.nD → PrngReg), Pre_AttOutIdeal m →
    (∀ c : Dev Cert.AttOutIdeal.nD,
      m' ((c.tc : Thread Cert.AttOutRefIdeal.nD Cert.AttOutRefIdeal.τ).loc Cert.AttOutRefIdeal.main_arg0) = m ((c.tc : Thread Cert.AttOutIdeal.nD Cert.AttOutIdeal.τ).loc Cert.AttOutIdeal.main_arg0)
      ∧ m' ((c.tc : Thread Cert.AttOutRefIdeal.nD Cert.AttOutRefIdeal.τ).loc Cert.AttOutRefIdeal.main_arg1) = m ((c.tc : Thread Cert.AttOutIdeal.nD Cert.AttOutIdeal.τ).loc Cert.AttOutIdeal.main_arg1)
      ∧ m' ((c.tc : Thread Cert.AttOutRefIdeal.nD Cert.AttOutRefIdeal.τ).loc Cert.AttOutRefIdeal.main_arg2) = m ((c.tc : Thread Cert.AttOutIdeal.nD Cert.AttOutIdeal.τ).loc Cert.AttOutIdeal.main_arg2)
      ∧ m' ((c.tc : Thread Cert.AttOutRefIdeal.nD Cert.AttOutRefIdeal.τ).loc Cert.AttOutRefIdeal.main_arg3) = m ((c.tc : Thread Cert.AttOutIdeal.nD Cert.AttOutIdeal.τ).loc Cert.AttOutIdeal.main_arg3)
      ∧ m' ((c.tc : Thread Cert.AttOutRefIdeal.nD Cert.AttOutRefIdeal.τ).loc Cert.AttOutRefIdeal.main_arg4) = m ((c.tc : Thread Cert.AttOutIdeal.nD Cert.AttOutIdeal.τ).loc Cert.AttOutIdeal.main_arg4)
      ∧ m' ((c.tc : Thread Cert.AttOutRefIdeal.nD Cert.AttOutRefIdeal.τ).loc Cert.AttOutRefIdeal.main_arg5) = m ((c.tc : Thread Cert.AttOutIdeal.nD Cert.AttOutIdeal.τ).loc Cert.AttOutIdeal.main_arg5)) →
    ∃ (v0 : (c : Dev Cert.AttOutIdeal.nD) → Buf (Elt Ideal) ((c.tc : Thread Cert.AttOutIdeal.nD Cert.AttOutIdeal.τ).loc Cert.AttOutIdeal.main_v18_0)) (v1 : (c : Dev Cert.AttOutIdeal.nD) → Buf (Elt Ideal) ((c.tc : Thread Cert.AttOutIdeal.nD Cert.AttOutIdeal.τ).loc Cert.AttOutIdeal.main_v18_1)) (v2 : (c : Dev Cert.AttOutIdeal.nD) → Buf (Elt Ideal) ((c.tc : Thread Cert.AttOutIdeal.nD Cert.AttOutIdeal.τ).loc Cert.AttOutIdeal.main_v18_2)),
      θ_run (Cert.AttOutIdeal.defs (F := Ideal)) (onTc (τ := Cert.AttOutIdeal.τ) (Cert.AttOutIdeal.main (F := Ideal))) ⟨m, fun _ => 0, g⟩ (fun r => ∀ c : Dev Cert.AttOutIdeal.nD,
          r.2.mem ((c.tc : Thread Cert.AttOutIdeal.nD Cert.AttOutIdeal.τ).loc Cert.AttOutIdeal.main_v18_0) = v0 c
          ∧ r.2.mem ((c.tc : Thread Cert.AttOutIdeal.nD Cert.AttOutIdeal.τ).loc Cert.AttOutIdeal.main_v18_1) = v1 c
          ∧ r.2.mem ((c.tc : Thread Cert.AttOutIdeal.nD Cert.AttOutIdeal.τ).loc Cert.AttOutIdeal.main_v18_2) = v2 c
          ∧ r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
          ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
          ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2)
          ∧ r.2.mem ((c.tc : Thread Cert.AttOutIdeal.nD Cert.AttOutIdeal.τ).loc Cert.AttOutIdeal.main_arg3) = m ((c.tc : Thread Cert.AttOutIdeal.nD Cert.AttOutIdeal.τ).loc Cert.AttOutIdeal.main_arg3)
          ∧ r.2.mem ((c.tc : Thread Cert.AttOutIdeal.nD Cert.AttOutIdeal.τ).loc Cert.AttOutIdeal.main_arg4) = m ((c.tc : Thread Cert.AttOutIdeal.nD Cert.AttOutIdeal.τ).loc Cert.AttOutIdeal.main_arg4)
          ∧ r.2.mem ((c.tc : Thread Cert.AttOutIdeal.nD Cert.AttOutIdeal.τ).loc Cert.AttOutIdeal.main_arg5) = m ((c.tc : Thread Cert.AttOutIdeal.nD Cert.AttOutIdeal.τ).loc Cert.AttOutIdeal.main_arg5))
      ∧ θ_run (Cert.AttOutRefIdeal.defs (F := Ideal)) (onTc (τ := Cert.AttOutRefIdeal.τ) (Cert.AttOutRefIdeal.main (F := Ideal))) ⟨m', fun _ => 0, g'⟩ (fun r => ∀ c : Dev Cert.AttOutRefIdeal.nD,
          r.2.mem ((c.tc : Thread Cert.AttOutRefIdeal.nD Cert.AttOutRefIdeal.τ).loc Cert.AttOutRefIdeal.main_v75) = v0 c
          ∧ r.2.mem ((c.tc : Thread Cert.AttOutRefIdeal.nD Cert.AttOutRefIdeal.τ).loc Cert.AttOutRefIdeal.main_v76) = v1 c
          ∧ r.2.mem ((c.tc : Thread Cert.AttOutRefIdeal.nD Cert.AttOutRefIdeal.τ).loc Cert.AttOutRefIdeal.main_v77) = v2 c
          ∧ r.2.mem ((c.tc : Thread Cert.AttOutRefIdeal.nD Cert.AttOutRefIdeal.τ).loc Cert.AttOutRefIdeal.main_arg0) = m' ((c.tc : Thread Cert.AttOutRefIdeal.nD Cert.AttOutRefIdeal.τ).loc Cert.AttOutRefIdeal.main_arg0)
          ∧ r.2.mem ((c.tc : Thread Cert.AttOutRefIdeal.nD Cert.AttOutRefIdeal.τ).loc Cert.AttOutRefIdeal.main_arg1) = m' ((c.tc : Thread Cert.AttOutRefIdeal.nD Cert.AttOutRefIdeal.τ).loc Cert.AttOutRefIdeal.main_arg1)
          ∧ r.2.mem ((c.tc : Thread Cert.AttOutRefIdeal.nD Cert.AttOutRefIdeal.τ).loc Cert.AttOutRefIdeal.main_arg2) = m' ((c.tc : Thread Cert.AttOutRefIdeal.nD Cert.AttOutRefIdeal.τ).loc Cert.AttOutRefIdeal.main_arg2)
          ∧ r.2.mem ((c.tc : Thread Cert.AttOutRefIdeal.nD Cert.AttOutRefIdeal.τ).loc Cert.AttOutRefIdeal.main_arg3) = m' ((c.tc : Thread Cert.AttOutRefIdeal.nD Cert.AttOutRefIdeal.τ).loc Cert.AttOutRefIdeal.main_arg3)
          ∧ r.2.mem ((c.tc : Thread Cert.AttOutRefIdeal.nD Cert.AttOutRefIdeal.τ).loc Cert.AttOutRefIdeal.main_arg4) = m' ((c.tc : Thread Cert.AttOutRefIdeal.nD Cert.AttOutRefIdeal.τ).loc Cert.AttOutRefIdeal.main_arg4)
          ∧ r.2.mem ((c.tc : Thread Cert.AttOutRefIdeal.nD Cert.AttOutRefIdeal.τ).loc Cert.AttOutRefIdeal.main_arg5) = m' ((c.tc : Thread Cert.AttOutRefIdeal.nD Cert.AttOutRefIdeal.τ).loc Cert.AttOutRefIdeal.main_arg5))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)
      ∧ m' ((c.tc : Thread Cert.ResidRefIdeal.nD Cert.ResidRefIdeal.τ).loc Cert.ResidRefIdeal.main_arg3) = m ((c.tc : Thread Cert.ResidIdeal.nD Cert.ResidIdeal.τ).loc Cert.ResidIdeal.main_arg3)) →
    ∃ (v0 : (c : Dev Cert.ResidIdeal.nD) → Buf (Elt Ideal) ((c.tc : Thread Cert.ResidIdeal.nD Cert.ResidIdeal.τ).loc Cert.ResidIdeal.main_v17)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v17) = v0 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v35) = v0 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2)
          ∧ r.2.mem ((c.tc : Thread Cert.ResidRefIdeal.nD Cert.ResidRefIdeal.τ).loc Cert.ResidRefIdeal.main_arg3) = m' ((c.tc : Thread Cert.ResidRefIdeal.nD Cert.ResidRefIdeal.τ).loc Cert.ResidRefIdeal.main_arg3))

def Claim : Prop :=
  ∃ (hMoe : Cert.Moe.Facts) (hMoeIdeal : Cert.MoeIdeal.Facts) (hMoeRefIdeal : Cert.MoeRefIdeal.Facts) (hLruIn : Cert.LruIn.Facts) (hLruInIdeal : Cert.LruInIdeal.Facts) (hLruInRefIdeal : Cert.LruInRefIdeal.Facts) (hDnIn : Cert.DnIn.Facts) (hDnInIdeal : Cert.DnInIdeal.Facts) (hDnInRefIdeal : Cert.DnInRefIdeal.Facts) (hRetIn : Cert.RetIn.Facts) (hRetInIdeal : Cert.RetInIdeal.Facts) (hRetInRefIdeal : Cert.RetInRefIdeal.Facts) (hAttIn : Cert.AttIn.Facts) (hAttInIdeal : Cert.AttInIdeal.Facts) (hAttInRefIdeal : Cert.AttInRefIdeal.Facts) (hLruOut : Cert.LruOut.Facts) (hLruOutIdeal : Cert.LruOutIdeal.Facts) (hLruOutRefIdeal : Cert.LruOutRefIdeal.Facts) (hDnOut : Cert.DnOut.Facts) (hDnOutIdeal : Cert.DnOutIdeal.Facts) (hDnOutRefIdeal : Cert.DnOutRefIdeal.Facts) (hRetOut : Cert.RetOut.Facts) (hRetOutIdeal : Cert.RetOutIdeal.Facts) (hRetOutRefIdeal : Cert.RetOutRefIdeal.Facts) (hAttOut : Cert.AttOut.Facts) (hAttOutIdeal : Cert.AttOutIdeal.Facts) (hAttOutRefIdeal : Cert.AttOutRefIdeal.Facts) (hResid : Cert.Resid.Facts) (hResidIdeal : Cert.ResidIdeal.Facts) (hResidRefIdeal : Cert.ResidRefIdeal.Facts) (hPre_blocks_in_range : Cert.Pre_blocks_in_range.Facts),
    quiescent_Moe (hMoe := hMoe) (hPre_blocks_in_range := hPre_blocks_in_range)
    ∧ quiescent_MoeIdeal (hMoeIdeal := hMoeIdeal) (hPre_blocks_in_range := hPre_blocks_in_range)
    ∧ quiescent_MoeRefIdeal (hMoeRefIdeal := hMoeRefIdeal) (hPre_blocks_in_range := hPre_blocks_in_range)
    ∧ quiescent_LruIn (hLruIn := hLruIn)
    ∧ quiescent_LruInIdeal (hLruInIdeal := hLruInIdeal)
    ∧ quiescent_LruInRefIdeal (hLruInRefIdeal := hLruInRefIdeal)
    ∧ quiescent_DnIn (hDnIn := hDnIn)
    ∧ quiescent_DnInIdeal (hDnInIdeal := hDnInIdeal)
    ∧ quiescent_DnInRefIdeal (hDnInRefIdeal := hDnInRefIdeal)
    ∧ quiescent_RetIn (hRetIn := hRetIn)
    ∧ quiescent_RetInIdeal (hRetInIdeal := hRetInIdeal)
    ∧ quiescent_RetInRefIdeal (hRetInRefIdeal := hRetInRefIdeal)
    ∧ quiescent_AttIn (hAttIn := hAttIn)
    ∧ quiescent_AttInIdeal (hAttInIdeal := hAttInIdeal)
    ∧ quiescent_AttInRefIdeal (hAttInRefIdeal := hAttInRefIdeal)
    ∧ quiescent_LruOut (hLruOut := hLruOut)
    ∧ quiescent_LruOutIdeal (hLruOutIdeal := hLruOutIdeal)
    ∧ quiescent_LruOutRefIdeal (hLruOutRefIdeal := hLruOutRefIdeal)
    ∧ quiescent_DnOut (hDnOut := hDnOut)
    ∧ quiescent_DnOutIdeal (hDnOutIdeal := hDnOutIdeal)
    ∧ quiescent_DnOutRefIdeal (hDnOutRefIdeal := hDnOutRefIdeal)
    ∧ quiescent_RetOut (hRetOut := hRetOut)
    ∧ quiescent_RetOutIdeal (hRetOutIdeal := hRetOutIdeal)
    ∧ quiescent_RetOutRefIdeal (hRetOutRefIdeal := hRetOutRefIdeal)
    ∧ quiescent_AttOut (hAttOut := hAttOut)
    ∧ quiescent_AttOutIdeal (hAttOutIdeal := hAttOutIdeal)
    ∧ quiescent_AttOutRefIdeal (hAttOutRefIdeal := hAttOutRefIdeal)
    ∧ quiescent_Resid (hResid := hResid)
    ∧ quiescent_ResidIdeal (hResidIdeal := hResidIdeal)
    ∧ quiescent_ResidRefIdeal (hResidRefIdeal := hResidRefIdeal)
    ∧ preserves_Moe_MoeIdeal
    ∧ algebraic_MoeIdeal_MoeRefIdeal (hMoeIdeal := hMoeIdeal) (hMoeRefIdeal := hMoeRefIdeal) (hPre_blocks_in_range := hPre_blocks_in_range)
    ∧ preserves_LruIn_LruInIdeal
    ∧ algebraic_LruInIdeal_LruInRefIdeal (hLruInIdeal := hLruInIdeal) (hLruInRefIdeal := hLruInRefIdeal)
    ∧ preserves_DnIn_DnInIdeal
    ∧ algebraic_DnInIdeal_DnInRefIdeal (hDnInIdeal := hDnInIdeal) (hDnInRefIdeal := hDnInRefIdeal)
    ∧ preserves_RetIn_RetInIdeal
    ∧ algebraic_RetInIdeal_RetInRefIdeal (hRetInIdeal := hRetInIdeal) (hRetInRefIdeal := hRetInRefIdeal)
    ∧ preserves_AttIn_AttInIdeal
    ∧ algebraic_AttInIdeal_AttInRefIdeal (hAttInIdeal := hAttInIdeal) (hAttInRefIdeal := hAttInRefIdeal)
    ∧ preserves_LruOut_LruOutIdeal
    ∧ algebraic_LruOutIdeal_LruOutRefIdeal (hLruOutIdeal := hLruOutIdeal) (hLruOutRefIdeal := hLruOutRefIdeal)
    ∧ preserves_DnOut_DnOutIdeal
    ∧ algebraic_DnOutIdeal_DnOutRefIdeal (hDnOutIdeal := hDnOutIdeal) (hDnOutRefIdeal := hDnOutRefIdeal)
    ∧ preserves_RetOut_RetOutIdeal
    ∧ algebraic_RetOutIdeal_RetOutRefIdeal (hRetOutIdeal := hRetOutIdeal) (hRetOutRefIdeal := hRetOutRefIdeal)
    ∧ preserves_AttOut_AttOutIdeal
    ∧ algebraic_AttOutIdeal_AttOutRefIdeal (hAttOutIdeal := hAttOutIdeal) (hAttOutRefIdeal := hAttOutRefIdeal)
    ∧ preserves_Resid_ResidIdeal
    ∧ algebraic_ResidIdeal_ResidRefIdeal (hResidIdeal := hResidIdeal) (hResidRefIdeal := hResidRefIdeal)
-- ==== Pre_blocks_in_range.lean ====
abbrev S21376x2048 : Shape := ⟨2, ![21376, 2048]⟩
abbrev S167 : Shape := ⟨1, ![167]⟩
abbrev S4x32x2048x512 : Shape := ⟨4, ![4, 32, 2048, 512]⟩
abbrev S4x32x512x2048 : Shape := ⟨4, ![4, 32, 512, 2048]⟩
abbrev S_ : Shape := ⟨0, ![]⟩

class Facts : Prop where
  bcast_S_S167 : S_.BroadcastsInDim S167 (![] : Fin 0 → Fin S167.rank)

variable [Facts]

def fn {F : FTy → Type} [FloatOps F] (main_arg0 : FVec F S21376x2048 .bf16) (main_arg1 : IVec S167 32) (main_arg2 : FVec F S4x32x2048x512 .f32) (main_arg3 : FVec F S4x32x2048x512 .f32) (main_arg4 : FVec F S4x32x512x2048 .f32) : IVec S167 1 :=
  let main_c : IVec S_ 32 := constantI S_ 32 0#32
  let main_v0 : IVec S167 32 := broadcastInDim S167 ![] bcast_S_S167 main_c
  let main_v1 : IVec S167 1 := cmpi .sge main_arg1 main_v0
  let main_c_0 : IVec S_ 32 := constantI S_ 32 32#32
  let main_v2 : IVec S167 32 := broadcastInDim S167 ![] bcast_S_S167 main_c_0
  let main_v3 : IVec S167 1 := cmpi .slt main_arg1 main_v2
  let main_v4 : IVec S167 1 := andi main_v1 main_v3
  main_v4
-- ==== Moe.lean ====
abbrev S21376x2048 : Shape := ⟨2, ![21376, 2048]⟩
abbrev S167 : Shape := ⟨1, ![167]⟩
abbrev S4x32x2048x512 : Shape := ⟨4, ![4, 32, 2048, 512]⟩
abbrev S4x32x512x2048 : Shape := ⟨4, ![4, 32, 512, 2048]⟩
abbrev S128x2048 : Shape := ⟨2, ![128, 2048]⟩
abbrev S1x1x2048x512 : Shape := ⟨4, ![1, 1, 2048, 512]⟩
abbrev S1 : Shape := ⟨1, ![1]⟩
abbrev S1x1x512x2048 : Shape := ⟨4, ![1, 1, 512, 2048]⟩
abbrev S2048x512 : Shape := ⟨2, ![2048, 512]⟩
abbrev S512x2048 : Shape := ⟨2, ![512, 2048]⟩
abbrev S128x512 : Shape := ⟨2, ![128, 512]⟩

abbrev nBuf : Space → Nat
  | .hbm => 5
  | .vmem => 13
  | .smem => 1
  | _ => 0

abbrev bufTy : (tb : Table) → Fin (tcTables nBuf tb) → BufTy
  | .hbm, ⟨0, _⟩ => ⟨S21376x2048, .bf16⟩
  | .hbm, ⟨1, _⟩ => ⟨S4x32x2048x512, .f32⟩
  | .hbm, ⟨2, _⟩ => ⟨S4x32x2048x512, .f32⟩
  | .hbm, ⟨3, _⟩ => ⟨S4x32x512x2048, .f32⟩
  | .hbm, ⟨4, _⟩ => ⟨S21376x2048, .f32⟩
  | .local _ .vmem, ⟨0, _⟩ => ⟨S128x2048, .bf16⟩
  | .local _ .vmem, ⟨1, _⟩ => ⟨S128x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S128x2048, .f32⟩
  | .local _ .vmem, ⟨9, _⟩ => ⟨S128x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S167, .i32⟩
  | _, _ => ⟨S21376x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![167], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S167.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S167) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S167.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S167) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S167.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S167) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MoeRefIdeal.lean ====
abbrev S21376x2048 : Shape := ⟨2, ![21376, 2048]⟩
abbrev S167 : Shape := ⟨1, ![167]⟩
abbrev S4x32x2048x512 : Shape := ⟨4, ![4, 32, 2048, 512]⟩
abbrev S4x32x512x2048 : Shape := ⟨4, ![4, 32, 512, 2048]⟩
abbrev S167x128x2048 : Shape := ⟨3, ![167, 128, 2048]⟩
abbrev S1x32x2048x512 : Shape := ⟨4, ![1, 32, 2048, 512]⟩
abbrev S32x2048x512 : Shape := ⟨3, ![32, 2048, 512]⟩
abbrev S1x32x512x2048 : Shape := ⟨4, ![1, 32, 512, 2048]⟩
abbrev S32x512x2048 : Shape := ⟨3, ![32, 512, 2048]⟩
abbrev S_ : Shape := ⟨0, ![]⟩
abbrev S167x1 : Shape := ⟨2, ![167, 1]⟩
abbrev S167x3 : Shape := ⟨2, ![167, 3]⟩
abbrev S167x1x2048x512 : Shape := ⟨4, ![167, 1, 2048, 512]⟩
abbrev S167x2048x512 : Shape := ⟨3, ![167, 2048, 512]⟩
abbrev S167x128x512 : Shape := ⟨3, ![167, 128, 512]⟩
abbrev S167x1x512x2048 : Shape := ⟨4, ![167, 1, 512, 2048]⟩
abbrev S167x512x2048 : Shape := ⟨3, ![167, 512, 2048]⟩

abbrev nBuf : Space → Nat
  | .hbm => 114
  | .vmem => 0
  | .smem => 0
  | _ => 0

abbrev bufTy : (tb : Table) → Fin (tcTables nBuf tb) → BufTy
  | .hbm, ⟨0, _⟩ => ⟨S21376x2048, .bf16⟩
  | .hbm, ⟨1, _⟩ => ⟨S167, .i32⟩
  | .hbm, ⟨2, _⟩ => ⟨S4x32x2048x512, .f32⟩
  | .hbm, ⟨3, _⟩ => ⟨S4x32x2048x512, .f32⟩
  | .hbm, ⟨4, _⟩ => ⟨S4x32x512x2048, .f32⟩
  | .hbm, ⟨5, _⟩ => ⟨S21376x2048, .f32⟩
  | .hbm, ⟨6, _⟩ => ⟨S167x128x2048, .f32⟩
  | .hbm, ⟨7, _⟩ => ⟨S1x32x2048x512, .f32⟩
  | .hbm, ⟨8, _⟩ => ⟨S32x2048x512, .f32⟩
  | .hbm, ⟨9, _⟩ => ⟨S1x32x2048x512, .f32⟩
  | .hbm, ⟨10, _⟩ => ⟨S32x2048x512, .f32⟩
  | .hbm, ⟨11, _⟩ => ⟨S1x32x512x2048, .f32⟩
  | .hbm, ⟨12, _⟩ => ⟨S32x512x2048, .f32⟩
  | .hbm, ⟨13, _⟩ => ⟨S_, .i32⟩
  | .hbm, ⟨14, _⟩ => ⟨S167, .i32⟩
  | .hbm, ⟨15, _⟩ => ⟨S167, .i1⟩
  | .hbm, ⟨16, _⟩ => ⟨S_, .i32⟩
  | .hbm, ⟨17, _⟩ => ⟨S167, .i32⟩
  | .hbm, ⟨18, _⟩ => ⟨S167, .i32⟩
  | .hbm, ⟨19, _⟩ => ⟨S167, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S167x1, .i32⟩
  | .hbm, ⟨37, _⟩ => ⟨S167x1, .i32⟩
  | .hbm, ⟨38, _⟩ => ⟨S167x1, .i32⟩
  | .hbm, ⟨39, _⟩ => ⟨S167x3, .i32⟩
  | .hbm, ⟨40, _⟩ => ⟨S167x1x2048x512, .f32⟩
  | .hbm, ⟨41, _⟩ => ⟨S167x2048x512, .f32⟩
  | .hbm, ⟨42, _⟩ => ⟨S167x128x512, .f32⟩
  | .hbm, ⟨43, _⟩ => ⟨S167x128x512, .f32⟩
  | .hbm, ⟨44, _⟩ => ⟨S167x128x512, .f32⟩
  | .hbm, ⟨45, _⟩ => ⟨S_, .f32⟩
  | .hbm, ⟨46, _⟩ => ⟨S167x128x512, .f32⟩
  | .hbm, ⟨47, _⟩ => ⟨S167x128x512, .f32⟩
  | .hbm, ⟨48, _⟩ => ⟨S_, .f32⟩
  | .hbm, ⟨49, _⟩ => ⟨S167x128x512, .f32⟩
  | .hbm, ⟨50, _⟩ => ⟨S167x128x512, .f32⟩
  | .hbm, ⟨51, _⟩ => ⟨S167x128x512, .f32⟩
  | .hbm, ⟨52, _⟩ => ⟨S_, .i32⟩
  | .hbm, ⟨53, _⟩ => ⟨S167, .i32⟩
  | .hbm, ⟨54, _⟩ => ⟨S167, .i1⟩
  | .hbm, ⟨55, _⟩ => ⟨S_, .i32⟩
  | .hbm, ⟨56, _⟩ => ⟨S167, .i32⟩
  | .hbm, ⟨57, _⟩ => ⟨S167, .i32⟩
  | .hbm, ⟨58, _⟩ => ⟨S167, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S167x1, .i32⟩
  | .hbm, ⟨76, _⟩ => ⟨S167x1, .i32⟩
  | .hbm, ⟨77, _⟩ => ⟨S167x1, .i32⟩
  | .hbm, ⟨78, _⟩ => ⟨S167x3, .i32⟩
  | .hbm, ⟨79, _⟩ => ⟨S167x1x2048x512, .f32⟩
  | .hbm, ⟨80, _⟩ => ⟨S167x2048x512, .f32⟩
  | .hbm, ⟨81, _⟩ => ⟨S167x128x512, .f32⟩
  | .hbm, ⟨82, _⟩ => ⟨S167x128x512, .f32⟩
  | .hbm, ⟨83, _⟩ => ⟨S_, .i32⟩
  | .hbm, ⟨84, _⟩ => ⟨S167, .i32⟩
  | .hbm, ⟨85, _⟩ => ⟨S167, .i1⟩
  | .hbm, ⟨86, _⟩ => ⟨S_, .i32⟩
  | .hbm, ⟨87, _⟩ => ⟨S167, .i32⟩
  | .hbm, ⟨88, _⟩ => ⟨S167, .i32⟩
  | .hbm, ⟨89, _⟩ => ⟨S167, .i32⟩
  | .hbm, ⟨90, _⟩ => ⟨S_, .i32⟩
  | .hbm, ⟨91, _⟩ => ⟨S_, .i32⟩
  | .hbm, ⟨92, _⟩ => ⟨S_, .i1⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i1⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S167x1, .i32⟩
  | .hbm, ⟨107, _⟩ => ⟨S167x1, .i32⟩
  | .hbm, ⟨108, _⟩ => ⟨S167x1, .i32⟩
  | .hbm, ⟨109, _⟩ => ⟨S167x3, .i32⟩
  | .hbm, ⟨110, _⟩ => ⟨S167x1x512x2048, .f32⟩
  | .hbm, ⟨111, _⟩ => ⟨S167x512x2048, .f32⟩
  | .hbm, ⟨112, _⟩ => ⟨S167x128x2048, .f32⟩
  | .hbm, ⟨113, _⟩ => ⟨S21376x2048, .f32⟩
  | _, _ => ⟨S21376x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_c_2 : Ref sig .tc := ⟨.hbm, 21, rfl⟩
abbrev main_v13 : Ref sig .tc := ⟨.hbm, 22, rfl⟩
abbrev main_c_3 : Ref sig .tc := ⟨.hbm, 23, rfl⟩
abbrev main_c_4 : Ref sig .tc := ⟨.hbm, 24, rfl⟩
abbrev main_v14 : Ref sig .tc := ⟨.hbm, 25, rfl⟩
abbrev main_c_5 : Ref sig .tc := ⟨.hbm, 26, rfl⟩
abbrev main_v15 : Ref sig .tc := ⟨.hbm, 27, rfl⟩
abbrev main_c_6 : Ref sig .tc := ⟨.hbm, 28, rfl⟩
abbrev main_c_7 : Ref sig .tc := ⟨.hbm, 29, rfl⟩
abbrev main_v16 : Ref sig .tc := ⟨.hbm, 30, rfl⟩
abbrev main_c_8 : Ref sig .tc := ⟨.hbm, 31, rfl⟩
abbrev main_c_9 : Ref sig .tc := ⟨.hbm, 32, rfl⟩
abbrev main_v17 : Ref sig .tc := ⟨.hbm, 33, rfl⟩
abbrev main_c_10 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v26 : Ref sig .tc := ⟨.hbm, 51, rfl⟩
abbrev main_c_11 : Ref sig .tc := ⟨.hbm, 52, rfl⟩
abbrev main_v27 : Ref sig .tc := ⟨.hbm, 53, rfl⟩
abbrev main_v28 : Ref sig .tc := ⟨.hbm, 54, rfl⟩
abbrev main_c_12 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_13 : Ref sig .tc := ⟨.hbm, 59, rfl⟩
abbrev main_c_14 : Ref sig .tc := ⟨.hbm, 60, rfl⟩
abbrev main_v32 : Ref sig .tc := ⟨.hbm, 61, rfl⟩
abbrev main_c_15 : Ref sig .tc := ⟨.hbm, 62, rfl⟩
abbrev main_c_16 : Ref sig .tc := ⟨.hbm, 63, rfl⟩
abbrev main_v33 : Ref sig .tc := ⟨.hbm, 64, rfl⟩
abbrev main_c_17 : Ref sig .tc := ⟨.hbm, 65, rfl⟩
abbrev main_v34 : Ref sig .tc := ⟨.hbm, 66, rfl⟩
abbrev main_c_18 : Ref sig .tc := ⟨.hbm, 67, rfl⟩
abbrev main_c_19 : Ref sig .tc := ⟨.hbm, 68, rfl⟩
abbrev main_v35 : Ref sig .tc := ⟨.hbm, 69, rfl⟩
abbrev main_c_20 : Ref sig .tc := ⟨.hbm, 70, rfl⟩
abbrev main_c_21 : Ref sig .tc := ⟨.hbm, 71, rfl⟩
abbrev main_v36 : Ref sig .tc := ⟨.hbm, 72, rfl⟩
abbrev main_c_22 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_c_23 : Ref sig .tc := ⟨.hbm, 83, rfl⟩
abbrev main_v46 : Ref sig .tc := ⟨.hbm, 84, rfl⟩
abbrev main_v47 : Ref sig .tc := ⟨.hbm, 85, rfl⟩
abbrev main_c_24 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_c_25 : Ref sig .tc := ⟨.hbm, 90, rfl⟩
abbrev main_c_26 : Ref sig .tc := ⟨.hbm, 91, rfl⟩
abbrev main_v51 : Ref sig .tc := ⟨.hbm, 92, rfl⟩
abbrev main_c_27 : Ref sig .tc := ⟨.hbm, 93, rfl⟩
abbrev main_c_28 : Ref sig .tc := ⟨.hbm, 94, rfl⟩
abbrev main_v52 : Ref sig .tc := ⟨.hbm, 95, rfl⟩
abbrev main_c_29 : Ref sig .tc := ⟨.hbm, 96, rfl⟩
abbrev main_v53 : Ref sig .tc := ⟨.hbm, 97, rfl⟩
abbrev main_c_30 : Ref sig .tc := ⟨.hbm, 98, rfl⟩
abbrev main_c_31 : Ref sig .tc := ⟨.hbm, 99, rfl⟩
abbrev main_v54 : Ref sig .tc := ⟨.hbm, 100, rfl⟩
abbrev main_c_32 : Ref sig .tc := ⟨.hbm, 101, rfl⟩
abbrev main_c_33 : Ref sig .tc := ⟨.hbm, 102, rfl⟩
abbrev main_v55 : Ref sig .tc := ⟨.hbm, 103, rfl⟩
abbrev main_c_34 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩

abbrev nD : Nat := 1
abbrev τ : Topo := Topo.v7x

variable {F : FTy → Type} [FloatOps F]
-- ==== LruIn.lean ====
abbrev S8704x2048 : Shape := ⟨2, ![8704, 2048]⟩
abbrev S1x2048x4096 : Shape := ⟨3, ![1, 2048, 4096]⟩
abbrev S8704x4096 : Shape := ⟨2, ![8704, 4096]⟩
abbrev S512x2048 : Shape := ⟨2, ![512, 2048]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S1x2048x4096, .f32⟩
  | .hbm, ⟨2, _⟩ => ⟨S8704x4096, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S512x512, .f32⟩
  | .local _ .vmem, ⟨5, _⟩ => ⟨S512x512, .f32⟩
  | .local _ .vmem, ⟨6, _⟩ => ⟨S2048x512, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LruInIdeal.lean ====
abbrev S8704x2048 : Shape := ⟨2, ![8704, 2048]⟩
abbrev S1x2048x4096 : Shape := ⟨3, ![1, 2048, 4096]⟩
abbrev S8704x4096 : Shape := ⟨2, ![8704, 4096]⟩
abbrev S512x2048 : Shape := ⟨2, ![512, 2048]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S1x2048x4096, .f32⟩
  | .hbm, ⟨2, _⟩ => ⟨S8704x4096, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S512x512, .f32⟩
  | .local _ .vmem, ⟨5, _⟩ => ⟨S512x512, .f32⟩
  | .local _ .vmem, ⟨6, _⟩ => ⟨S2048x512, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LruInRefIdeal.lean ====
abbrev S8704x2048 : Shape := ⟨2, ![8704, 2048]⟩
abbrev S1x2048x4096 : Shape := ⟨3, ![1, 2048, 4096]⟩
abbrev S2048x4096 : Shape := ⟨2, ![2048, 4096]⟩
abbrev S8704x4096 : Shape := ⟨2, ![8704, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x4096, .f32⟩
  | .hbm, ⟨2, _⟩ => ⟨S8704x2048, .f32⟩
  | .hbm, ⟨3, _⟩ => ⟨S2048x4096, .f32⟩
  | .hbm, ⟨4, _⟩ => ⟨S8704x4096, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DnIn.lean ====
abbrev S8704x2048 : Shape := ⟨2, ![8704, 2048]⟩
abbrev S1x2048x8256 : Shape := ⟨3, ![1, 2048, 8256]⟩
abbrev S8704x8192 : Shape := ⟨2, ![8704, 8192]⟩
abbrev S512x2048 : Shape := ⟨2, ![512, 2048]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S1x2048x8256, .f32⟩
  | .hbm, ⟨2, _⟩ => ⟨S8704x8192, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S512x512, .f32⟩
  | .local _ .vmem, ⟨5, _⟩ => ⟨S512x512, .f32⟩
  | .local _ .vmem, ⟨6, _⟩ => ⟨S2048x512, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DnInRefIdeal.lean ====
abbrev S8704x2048 : Shape := ⟨2, ![8704, 2048]⟩
abbrev S1x2048x8256 : Shape := ⟨3, ![1, 2048, 8256]⟩
abbrev S2048x8256 : Shape := ⟨2, ![2048, 8256]⟩
abbrev S8704x8256 : Shape := ⟨2, ![8704, 8256]⟩
abbrev S8704x8192 : Shape := ⟨2, ![8704, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x8256, .f32⟩
  | .hbm, ⟨2, _⟩ => ⟨S8704x2048, .f32⟩
  | .hbm, ⟨3, _⟩ => ⟨S2048x8256, .f32⟩
  | .hbm, ⟨4, _⟩ => ⟨S8704x8256, .f32⟩
  | .hbm, ⟨5, _⟩ => ⟨S8704x8192, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== RetIn.lean ====
abbrev S8704x2048 : Shape := ⟨2, ![8704, 2048]⟩
abbrev S1x2048x12288 : Shape := ⟨3, ![1, 2048, 12288]⟩
abbrev S8704x12288 : Shape := ⟨2, ![8704, 12288]⟩
abbrev S512x2048 : Shape := ⟨2, ![512, 2048]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S1x2048x12288, .f32⟩
  | .hbm, ⟨2, _⟩ => ⟨S8704x12288, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S512x512, .f32⟩
  | .local _ .vmem, ⟨5, _⟩ => ⟨S512x512, .f32⟩
  | .local _ .vmem, ⟨6, _⟩ => ⟨S2048x512, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RetInIdeal.lean ====
abbrev S8704x2048 : Shape := ⟨2, ![8704, 2048]⟩
abbrev S1x2048x12288 : Shape := ⟨3, ![1, 2048, 12288]⟩
abbrev S8704x12288 : Shape := ⟨2, ![8704, 12288]⟩
abbrev S512x2048 : Shape := ⟨2, ![512, 2048]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S1x2048x12288, .f32⟩
  | .hbm, ⟨2, _⟩ => ⟨S8704x12288, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S512x512, .f32⟩
  | .local _ .vmem, ⟨5, _⟩ => ⟨S512x512, .f32⟩
  | .local _ .vmem, ⟨6, _⟩ => ⟨S2048x512, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RetInRefIdeal.lean ====
abbrev S8704x2048 : Shape := ⟨2, ![8704, 2048]⟩
abbrev S1x2048x12288 : Shape := ⟨3, ![1, 2048, 12288]⟩
abbrev S2048x12288 : Shape := ⟨2, ![2048, 12288]⟩
abbrev S8704x12288 : Shape := ⟨2, ![8704, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x12288, .f32⟩
  | .hbm, ⟨2, _⟩ => ⟨S8704x2048, .f32⟩
  | .hbm, ⟨3, _⟩ => ⟨S2048x12288, .f32⟩
  | .hbm, ⟨4, _⟩ => ⟨S8704x12288, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AttIn.lean ====
abbrev S8704x2048 : Shape := ⟨2, ![8704, 2048]⟩
abbrev S1x2048x3072 : Shape := ⟨3, ![1, 2048, 3072]⟩
abbrev S8704x3072 : Shape := ⟨2, ![8704, 3072]⟩
abbrev S512x2048 : Shape := ⟨2, ![512, 2048]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S1x2048x3072, .f32⟩
  | .hbm, ⟨2, _⟩ => ⟨S8704x3072, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S512x512, .f32⟩
  | .local _ .vmem, ⟨5, _⟩ => ⟨S512x512, .f32⟩
  | .local _ .vmem, ⟨6, _⟩ => ⟨S2048x512, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttInRefIdeal.lean ====
abbrev S8704x2048 : Shape := ⟨2, ![8704, 2048]⟩
abbrev S1x2048x3072 : Shape := ⟨3, ![1, 2048, 3072]⟩
abbrev S2048x3072 : Shape := ⟨2, ![2048, 3072]⟩
abbrev S8704x3072 : Shape := ⟨2, ![8704, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x3072, .f32⟩
  | .hbm, ⟨2, _⟩ => ⟨S8704x2048, .f32⟩
  | .hbm, ⟨3, _⟩ => ⟨S2048x3072, .f32⟩
  | .hbm, ⟨4, _⟩ => ⟨S8704x3072, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== LruOut.lean ====
abbrev S8704x4096 : Shape := ⟨2, ![8704, 4096]⟩
abbrev S8704x2048 : Shape := ⟨2, ![8704, 2048]⟩
abbrev S2048x2048 : Shape := ⟨2, ![2048, 2048]⟩
abbrev S2048 : Shape := ⟨1, ![2048]⟩
abbrev S16x12288 : Shape := ⟨2, ![16, 12288]⟩
abbrev S2048x32 : Shape := ⟨2, ![2048, 32]⟩
abbrev S34 : Shape := ⟨1, ![34]⟩
abbrev S_ : Shape := ⟨0, ![]⟩
abbrev S16x6x2048 : Shape := ⟨3, ![16, 6, 2048]⟩
abbrev S34x1 : Shape := ⟨2, ![34, 1]⟩
abbrev S34x6x2048 : Shape := ⟨3, ![34, 6, 2048]⟩
abbrev S34x8x2048 : Shape := ⟨3, ![34, 8, 2048]⟩
abbrev S2048x128 : Shape := ⟨2, ![2048, 128]⟩
abbrev S1x2048 : Shape := ⟨2, ![1, 2048]⟩
abbrev S8704x128 : Shape := ⟨2, ![8704, 128]⟩
abbrev S256x2048 : Shape := ⟨2, ![256, 2048]⟩
abbrev S1x8x2048 : Shape := ⟨3, ![1, 8, 2048]⟩
abbrev S256x128 : Shape := ⟨2, ![256, 128]⟩
abbrev S1x1x2048 : Shape := ⟨3, ![1, 1, 2048]⟩
abbrev S256 : Shape := ⟨1, ![256]⟩
abbrev S256x1 : Shape := ⟨2, ![256, 1]⟩

abbrev nBuf : Space → Nat
  | .hbm => 77
  | .vmem => 19
  | .smem => 0
  | _ => 0

abbrev bufTy : (tb : Table) → Fin (tcTables nBuf tb) → BufTy
  | .hbm, ⟨0, _⟩ => ⟨S8704x4096, .f32⟩
  | .hbm, ⟨1, _⟩ => ⟨S8704x2048, .f32⟩
  | .hbm, ⟨2, _⟩ => ⟨S8704x2048, .f32⟩
  | .hbm, ⟨3, _⟩ => ⟨S2048x2048, .f32⟩
  | .hbm, ⟨4, _⟩ => ⟨S8704x2048, .f32⟩
  | .hbm, ⟨5, _⟩ => ⟨S2048, .f32⟩
  | .hbm, ⟨6, _⟩ => ⟨S16x12288, .f32⟩
  | .hbm, ⟨7, _⟩ => ⟨S2048x32, .f32⟩
  | .hbm, ⟨8, _⟩ => ⟨S34, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S34, .i32⟩
  | .hbm, ⟨16, _⟩ => ⟨S34, .i32⟩
  | .hbm, ⟨17, _⟩ => ⟨S_, .i32⟩
  | .hbm, ⟨18, _⟩ => ⟨S34, .i32⟩
  | .hbm, ⟨19, _⟩ => ⟨S34, .i1⟩
  | .hbm, ⟨20, _⟩ => ⟨S_, .i32⟩
  | .hbm, ⟨21, _⟩ => ⟨S34, .i32⟩
  | .hbm, ⟨22, _⟩ => ⟨S34, .i1⟩
  | .hbm, ⟨23, _⟩ => ⟨S_, .i32⟩
  | .hbm, ⟨24, _⟩ => ⟨S_, .i1⟩
  | .hbm, ⟨25, _⟩ => ⟨S34, .i1⟩
  | .hbm, ⟨26, _⟩ => ⟨S34, .i1⟩
  | .hbm, ⟨27, _⟩ => ⟨S34, .i1⟩
  | .hbm, ⟨28, _⟩ => ⟨S34, .i32⟩
  | .hbm, ⟨29, _⟩ => ⟨S34, .i32⟩
  | .hbm, ⟨30, _⟩ => ⟨S34, .i32⟩
  | .hbm, ⟨31, _⟩ => ⟨S_, .i32⟩
  | .hbm, ⟨32, _⟩ => ⟨S34, .i32⟩
  | .hbm, ⟨33, _⟩ => ⟨S34, .i1⟩
  | .hbm, ⟨34, _⟩ => ⟨S_, .i32⟩
  | .hbm, ⟨35, _⟩ => ⟨S_, .i32⟩
  | .hbm, ⟨36, _⟩ => ⟨S34, .i32⟩
  | .hbm, ⟨37, _⟩ => ⟨S34, .i32⟩
  | .hbm, ⟨38, _⟩ => ⟨S34, .i32⟩
  | .hbm, ⟨39, _⟩ => ⟨S_, .i32⟩
  | .hbm, ⟨40, _⟩ => ⟨S34, .i32⟩
  | .hbm, ⟨41, _⟩ => ⟨S34, .i1⟩
  | .hbm, ⟨42, _⟩ => ⟨S34, .i32⟩
  | .hbm, ⟨43, _⟩ => ⟨S34, .i32⟩
  | .hbm, ⟨44, _⟩ => ⟨S_, .i32⟩
  | .hbm, ⟨45, _⟩ => ⟨S34, .i32⟩
  | .hbm, ⟨46, _⟩ => ⟨S34, .i1⟩
  | .hbm, ⟨47, _⟩ => ⟨S34, .i1⟩
  | .hbm, ⟨48, _⟩ => ⟨S_, .i32⟩
  | .hbm, ⟨49, _⟩ => ⟨S34, .i32⟩
  | .hbm, ⟨50, _⟩ => ⟨S34, .i32⟩
  | .hbm, ⟨51, _⟩ => ⟨S34, .i32⟩
  | .hbm, ⟨52, _⟩ => ⟨S_, .i32⟩
  | .hbm, ⟨53, _⟩ => ⟨S_, .i32⟩
  | .hbm, ⟨54, _⟩ => ⟨S34, .i32⟩
  | .hbm, ⟨55, _⟩ => ⟨S34, .i32⟩
  | .hbm, ⟨56, _⟩ => ⟨S16x6x2048, .f32⟩
  | .hbm, ⟨57, _⟩ => ⟨S_, .i32⟩
  | .hbm, ⟨58, _⟩ => ⟨S34, .i32⟩
  | .hbm, ⟨59, _⟩ => ⟨S34, .i1⟩
  | .hbm, ⟨60, _⟩ => ⟨S_, .i32⟩
  | .hbm, ⟨61, _⟩ => ⟨S34, .i32⟩
  | .hbm, ⟨62, _⟩ => ⟨S34, .i32⟩
  | .hbm, ⟨63, _⟩ => ⟨S34, .i32⟩
  | .hbm, ⟨64, _⟩ => ⟨S34x1, .i32⟩
  | .hbm, ⟨65, _⟩ => ⟨S34x6x2048, .f32⟩
  | .hbm, ⟨66, _⟩ => ⟨S_, .i32⟩
  | .hbm, ⟨67, _⟩ => ⟨S_, .f32⟩
  | .hbm, ⟨68, _⟩ => ⟨S34x8x2048, .f32⟩
  | .hbm, ⟨69, _⟩ => ⟨S_, .i32⟩
  | .hbm, ⟨70, _⟩ => ⟨S_, .f32⟩
  | .hbm, ⟨71, _⟩ => ⟨S2048x128, .f32⟩
  | .hbm, ⟨72, _⟩ => ⟨S2048x2048, .bf16⟩
  | .hbm, ⟨73, _⟩ => ⟨S1x2048, .f32⟩
  | .hbm, ⟨74, _⟩ => ⟨S8704x2048, .f32⟩
  | .hbm, ⟨75, _⟩ => ⟨S8704x2048, .bf16⟩
  | .hbm, ⟨76, _⟩ => ⟨S8704x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S2048x2048, .bf16⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S1x8x2048, .f32⟩
  | .local _ .vmem, ⟨11, _⟩ => ⟨S1x8x2048, .f32⟩
  | .local _ .vmem, ⟨12, _⟩ => ⟨S2048x128, .f32⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S256x2048, .bf16⟩
  | .local _ .vmem, ⟨17, _⟩ => ⟨S256x128, .f32⟩
  | .local _ .vmem, ⟨18, _⟩ => ⟨S256x128, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_v3 : Ref sig .tc := ⟨.hbm, 33, rfl⟩
abbrev main_c_1 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v4 : Ref sig .tc := ⟨.hbm, 51, rfl⟩
abbrev main_c_2 : Ref sig .tc := ⟨.hbm, 52, rfl⟩
abbrev main_call2_v0 : Ref sig .tc := ⟨.hbm, 53, rfl⟩
abbrev main_call2_v1 : Ref sig .tc := ⟨.hbm, 54, rfl⟩
abbrev main_v5 : Ref sig .tc := ⟨.hbm, 55, rfl⟩
abbrev main_v6 : Ref sig .tc := ⟨.hbm, 56, rfl⟩
abbrev main_c_3 : Ref sig .tc := ⟨.hbm, 57, rfl⟩
abbrev main_v7 : Ref sig .tc := ⟨.hbm, 58, rfl⟩
abbrev main_v8 : Ref sig .tc := ⟨.hbm, 59, rfl⟩
abbrev main_c_4 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_c_5 : Ref sig .tc := ⟨.hbm, 66, rfl⟩
abbrev main_call3_v0 : Ref sig .tc := ⟨.hbm, 67, rfl⟩
abbrev main_v14 : Ref sig .tc := ⟨.hbm, 68, rfl⟩
abbrev main_c_6 : Ref sig .tc := ⟨.hbm, 69, rfl⟩
abbrev main_call4_v0 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18_0 : Ref sig .tc := ⟨.hbm, 74, rfl⟩
abbrev main_v18_1 : Ref sig .tc := ⟨.hbm, 75, rfl⟩
abbrev main_v18_2 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== LruOutRefIdeal.lean ====
abbrev S8704x4096 : Shape := ⟨2, ![8704, 4096]⟩
abbrev S8704x2048 : Shape := ⟨2, ![8704, 2048]⟩
abbrev S2048x2048 : Shape := ⟨2, ![2048, 2048]⟩
abbrev S2048 : Shape := ⟨1, ![2048]⟩
abbrev S16x12288 : Shape := ⟨2, ![16, 12288]⟩
abbrev S2048x32 : Shape := ⟨2, ![2048, 32]⟩
abbrev S_ : Shape := ⟨0, ![]⟩
abbrev S2x4352x2048 : Shape := ⟨3, ![2, 4352, 2048]⟩
abbrev S2x12288 : Shape := ⟨2, ![2, 12288]⟩
abbrev S2x1x12288 : Shape := ⟨3, ![2, 1, 12288]⟩
abbrev S2x1x2048 : Shape := ⟨3, ![2, 1, 2048]⟩
abbrev S1x12288 : Shape := ⟨2, ![1, 12288]⟩
abbrev S12288 : Shape := ⟨1, ![12288]⟩
abbrev S2x256x2048 : Shape := ⟨3, ![2, 256, 2048]⟩
abbrev S1x1x2048 : Shape := ⟨3, ![1, 1, 2048]⟩
abbrev S2x4096x2048 : Shape := ⟨3, ![2, 4096, 2048]⟩
abbrev S2x256 : Shape := ⟨2, ![2, 256]⟩
abbrev S2x256x1 : Shape := ⟨3, ![2, 256, 1]⟩
abbrev S2x4096 : Shape := ⟨2, ![2, 4096]⟩
abbrev S2x4096x1 : Shape := ⟨3, ![2, 4096, 1]⟩
abbrev S2048x128 : Shape := ⟨2, ![2048, 128]⟩
abbrev S8704x128 : Shape := ⟨2, ![8704, 128]⟩

abbrev nBuf : Space → Nat
  | .hbm => 115
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S8704x2048, .f32⟩
  | .hbm, ⟨2, _⟩ => ⟨S8704x2048, .f32⟩
  | .hbm, ⟨3, _⟩ => ⟨S2048x2048, .f32⟩
  | .hbm, ⟨4, _⟩ => ⟨S8704x2048, .f32⟩
  | .hbm, ⟨5, _⟩ => ⟨S2048, .f32⟩
  | .hbm, ⟨6, _⟩ => ⟨S16x12288, .f32⟩
  | .hbm, ⟨7, _⟩ => ⟨S2048x32, .f32⟩
  | .hbm, ⟨8, _⟩ => ⟨S8704x2048, .f32⟩
  | .hbm, ⟨9, _⟩ => ⟨S8704x2048, .f32⟩
  | .hbm, ⟨10, _⟩ => ⟨S8704x2048, .f32⟩
  | .hbm, ⟨11, _⟩ => ⟨S_, .f32⟩
  | .hbm, ⟨12, _⟩ => ⟨S8704x2048, .f32⟩
  | .hbm, ⟨13, _⟩ => ⟨S8704x2048, .f32⟩
  | .hbm, ⟨14, _⟩ => ⟨S8704x2048, .f32⟩
  | .hbm, ⟨15, _⟩ => ⟨S_, .f32⟩
  | .hbm, ⟨16, _⟩ => ⟨S8704x2048, .f32⟩
  | .hbm, ⟨17, _⟩ => ⟨S8704x2048, .f32⟩
  | .hbm, ⟨18, _⟩ => ⟨S8704x2048, .f32⟩
  | .hbm, ⟨19, _⟩ => ⟨S_, .f32⟩
  | .hbm, ⟨20, _⟩ => ⟨S8704x2048, .f32⟩
  | .hbm, ⟨21, _⟩ => ⟨S8704x2048, .f32⟩
  | .hbm, ⟨22, _⟩ => ⟨S_, .f32⟩
  | .hbm, ⟨23, _⟩ => ⟨S8704x2048, .f32⟩
  | .hbm, ⟨24, _⟩ => ⟨S8704x2048, .f32⟩
  | .hbm, ⟨25, _⟩ => ⟨S8704x2048, .f32⟩
  | .hbm, ⟨26, _⟩ => ⟨S8704x2048, .f32⟩
  | .hbm, ⟨27, _⟩ => ⟨S8704x2048, .f32⟩
  | .hbm, ⟨28, _⟩ => ⟨S8704x2048, .f32⟩
  | .hbm, ⟨29, _⟩ => ⟨S2x4352x2048, .f32⟩
  | .hbm, ⟨30, _⟩ => ⟨S2x4352x2048, .f32⟩
  | .hbm, ⟨31, _⟩ => ⟨S2x12288, .f32⟩
  | .hbm, ⟨32, _⟩ => ⟨S2x1x12288, .f32⟩
  | .hbm, ⟨33, _⟩ => ⟨S2x1x2048, .f32⟩
  | .hbm, ⟨34, _⟩ => ⟨S2x1x2048, .f32⟩
  | .hbm, ⟨35, _⟩ => ⟨S2x1x2048, .f32⟩
  | .hbm, ⟨36, _⟩ => ⟨S2x1x2048, .f32⟩
  | .hbm, ⟨37, _⟩ => ⟨S2x1x2048, .f32⟩
  | .hbm, ⟨38, _⟩ => ⟨S2x1x2048, .f32⟩
  | .hbm, ⟨39, _⟩ => ⟨S1x12288, .f32⟩
  | .hbm, ⟨40, _⟩ => ⟨S12288, .f32⟩
  | .hbm, ⟨41, _⟩ => ⟨S2048, .f32⟩
  | .hbm, ⟨42, _⟩ => ⟨S2048, .f32⟩
  | .hbm, ⟨43, _⟩ => ⟨S2048, .f32⟩
  | .hbm, ⟨44, _⟩ => ⟨S2048, .f32⟩
  | .hbm, ⟨45, _⟩ => ⟨S2048, .f32⟩
  | .hbm, ⟨46, _⟩ => ⟨S2048, .f32⟩
  | .hbm, ⟨47, _⟩ => ⟨S2x256x2048, .f32⟩
  | .hbm, ⟨48, _⟩ => ⟨S2x256x2048, .f32⟩
  | .hbm, ⟨49, _⟩ => ⟨S1x1x2048, .f32⟩
  | .hbm, ⟨50, _⟩ => ⟨S2x256x2048, .f32⟩
  | .hbm, ⟨51, _⟩ => ⟨S2x256x2048, .f32⟩
  | .hbm, ⟨52, _⟩ => ⟨S2x256x2048, .f32⟩
  | .hbm, ⟨53, _⟩ => ⟨S2x4096x2048, .f32⟩
  | .hbm, ⟨54, _⟩ => ⟨S2x4096x2048, .f32⟩
  | .hbm, ⟨55, _⟩ => ⟨S2x4096x2048, .f32⟩
  | .hbm, ⟨56, _⟩ => ⟨S2x4096x2048, .f32⟩
  | .hbm, ⟨57, _⟩ => ⟨S2x4096x2048, .f32⟩
  | .hbm, ⟨58, _⟩ => ⟨S2x256x2048, .f32⟩
  | .hbm, ⟨59, _⟩ => ⟨S_, .f32⟩
  | .hbm, ⟨60, _⟩ => ⟨S2x256, .f32⟩
  | .hbm, ⟨61, _⟩ => ⟨S2x256x1, .f32⟩
  | .hbm, ⟨62, _⟩ => ⟨S_, .f32⟩
  | .hbm, ⟨63, _⟩ => ⟨S2x256x1, .f32⟩
  | .hbm, ⟨64, _⟩ => ⟨S2x256x1, .f32⟩
  | .hbm, ⟨65, _⟩ => ⟨S_, .f32⟩
  | .hbm, ⟨66, _⟩ => ⟨S2x256x1, .f32⟩
  | .hbm, ⟨67, _⟩ => ⟨S2x256x1, .f32⟩
  | .hbm, ⟨68, _⟩ => ⟨S2x256x1, .f32⟩
  | .hbm, ⟨69, _⟩ => ⟨S2x256x2048, .f32⟩
  | .hbm, ⟨70, _⟩ => ⟨S2x256x2048, .f32⟩
  | .hbm, ⟨71, _⟩ => ⟨S1x1x2048, .f32⟩
  | .hbm, ⟨72, _⟩ => ⟨S2x256x2048, .f32⟩
  | .hbm, ⟨73, _⟩ => ⟨S2x256x2048, .f32⟩
  | .hbm, ⟨74, _⟩ => ⟨S_, .f32⟩
  | .hbm, ⟨75, _⟩ => ⟨S2048, .f32⟩
  | .hbm, ⟨76, _⟩ => ⟨S2048, .f32⟩
  | .hbm, ⟨77, _⟩ => ⟨S1x1x2048, .f32⟩
  | .hbm, ⟨78, _⟩ => ⟨S2x256x2048, .f32⟩
  | .hbm, ⟨79, _⟩ => ⟨S2x256x2048, .f32⟩
  | .hbm, ⟨80, _⟩ => ⟨S1x1x2048, .f32⟩
  | .hbm, ⟨81, _⟩ => ⟨S2x256x2048, .f32⟩
  | .hbm, ⟨82, _⟩ => ⟨S2x256x2048, .f32⟩
  | .hbm, ⟨83, _⟩ => ⟨S2x4096x2048, .f32⟩
  | .hbm, ⟨84, _⟩ => ⟨S_, .f32⟩
  | .hbm, ⟨85, _⟩ => ⟨S2x4096, .f32⟩
  | .hbm, ⟨86, _⟩ => ⟨S2x4096x1, .f32⟩
  | .hbm, ⟨87, _⟩ => ⟨S_, .f32⟩
  | .hbm, ⟨88, _⟩ => ⟨S2x4096x1, .f32⟩
  | .hbm, ⟨89, _⟩ => ⟨S2x4096x1, .f32⟩
  | .hbm, ⟨90, _⟩ => ⟨S_, .f32⟩
  | .hbm, ⟨91, _⟩ => ⟨S2x4096x1, .f32⟩
  | .hbm, ⟨92, _⟩ => ⟨S2x4096x1, .f32⟩
  | .hbm, ⟨93, _⟩ => ⟨S2x4096x1, .f32⟩
  | .hbm, ⟨94, _⟩ => ⟨S2x4096x2048, .f32⟩
  | .hbm, ⟨95, _⟩ => ⟨S2x4096x2048, .f32⟩
  | .hbm, ⟨96, _⟩ => ⟨S1x1x2048, .f32⟩
  | .hbm, ⟨97, _⟩ => ⟨S2x4096x2048, .f32⟩
  | .hbm, ⟨98, _⟩ => ⟨S2x4096x2048, .f32⟩
  | .hbm, ⟨99, _⟩ => ⟨S_, .f32⟩
  | .hbm, ⟨100, _⟩ => ⟨S2x1x2048, .f32⟩
  | .hbm, ⟨101, _⟩ => ⟨S2x1x2048, .f32⟩
  | .hbm, ⟨102, _⟩ => ⟨S2x4096x2048, .f32⟩
  | .hbm, ⟨103, _⟩ => ⟨S2x4096x2048, .f32⟩
  | .hbm, ⟨104, _⟩ => ⟨S2x4096x2048, .f32⟩
  | .hbm, ⟨105, _⟩ => ⟨S2x4096x2048, .f32⟩
  | .hbm, ⟨106, _⟩ => ⟨S2x4352x2048, .f32⟩
  | .hbm, ⟨107, _⟩ => ⟨S8704x2048, .f32⟩
  | .hbm, ⟨108, _⟩ => ⟨S_, .i32⟩
  | .hbm, ⟨109, _⟩ => ⟨S_, .f32⟩
  | .hbm, ⟨110, _⟩ => ⟨S2048x128, .f32⟩
  | .hbm, ⟨111, _⟩ => ⟨S2x4352x2048, .f32⟩
  | .hbm, ⟨112, _⟩ => ⟨S8704x2048, .f32⟩
  | .hbm, ⟨113, _⟩ => ⟨S8704x2048, .bf16⟩
  | .hbm, ⟨114, _⟩ => ⟨S8704x128, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_6 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_7 : Ref sig .tc := ⟨.hbm, 84, rfl⟩
abbrev main_v68 : Ref sig .tc := ⟨.hbm, 85, rfl⟩
abbrev main_v69 : Ref sig .tc := ⟨.hbm, 86, rfl⟩
abbrev main_cst_8 : Ref sig .tc := ⟨.hbm, 87, rfl⟩
abbrev main_v70 : Ref sig .tc := ⟨.hbm, 88, rfl⟩
abbrev main_v71 : Ref sig .tc := ⟨.hbm, 89, rfl⟩
abbrev main_cst_9 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_10 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_c : Ref sig .tc := ⟨.hbm, 108, rfl⟩
abbrev main_call0_v0 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩

abbrev nD : Nat := 1
abbrev τ : Topo := Topo.v7x

variable {F : FTy → Type} [FloatOps F]
-- ==== DnOut.lean ====
abbrev S8704x8192 : Shape := ⟨2, ![8704, 8192]⟩
abbrev S8704x2048 : Shape := ⟨2, ![8704, 2048]⟩
abbrev S128 : Shape := ⟨1, ![128]⟩
abbrev S2048x2048 : Shape := ⟨2, ![2048, 2048]⟩
abbrev S2048 : Shape := ⟨1, ![2048]⟩
abbrev S16x12288 : Shape := ⟨2, ![16, 12288]⟩
abbrev S2048x32 : Shape := ⟨2, ![2048, 32]⟩
abbrev S1x128 : Shape := ⟨2, ![1, 128]⟩
abbrev S16x128 : Shape := ⟨2, ![16, 128]⟩
abbrev S1x2048 : Shape := ⟨2, ![1, 2048]⟩
abbrev S34 : Shape := ⟨1, ![34]⟩
abbrev S_ : Shape := ⟨0, ![]⟩
abbrev S16x6x2048 : Shape := ⟨3, ![16, 6, 2048]⟩
abbrev S34x1 : Shape := ⟨2, ![34, 1]⟩
abbrev S34x6x2048 : Shape := ⟨3, ![34, 6, 2048]⟩
abbrev S34x8x2048 : Shape := ⟨3, ![34, 8, 2048]⟩
abbrev S2048x128 : Shape := ⟨2, ![2048, 128]⟩
abbrev S8704x128 : Shape := ⟨2, ![8704, 128]⟩
abbrev S256x2048 : Shape := ⟨2, ![256, 2048]⟩
abbrev S1x8x2048 : Shape := ⟨3, ![1, 8, 2048]⟩
abbrev S256x128 : Shape := ⟨2, ![256, 128]⟩
abbrev S256 : Shape := ⟨1, ![256]⟩
abbrev S256x1 : Shape := ⟨2, ![256, 1]⟩
abbrev S1x1x2048 : Shape := ⟨3, ![1, 1, 2048]⟩

abbrev nBuf : Space → Nat
  | .hbm => 82
  | .vmem => 20
  | .smem => 0
  | _ => 0

abbrev bufTy : (tb : Table) → Fin (tcTables nBuf tb) → BufTy
  | .hbm, ⟨0, _⟩ => ⟨S8704x8192, .f32⟩
  | .hbm, ⟨1, _⟩ => ⟨S8704x2048, .f32⟩
  | .hbm, ⟨2, _⟩ => ⟨S8704x2048, .f32⟩
  | .hbm, ⟨3, _⟩ => ⟨S128, .f32⟩
  | .hbm, ⟨4, _⟩ => ⟨S2048x2048, .f32⟩
  | .hbm, ⟨5, _⟩ => ⟨S8704x2048, .f32⟩
  | .hbm, ⟨6, _⟩ => ⟨S2048, .f32⟩
  | .hbm, ⟨7, _⟩ => ⟨S16x12288, .f32⟩
  | .hbm, ⟨8, _⟩ => ⟨S2048x32, .f32⟩
  | .hbm, ⟨9, _⟩ => ⟨S1x128, .f32⟩
  | .hbm, ⟨10, _⟩ => ⟨S16x128, .f32⟩
  | .hbm, ⟨11, _⟩ => ⟨S2048, .f32⟩
  | .hbm, ⟨12, _⟩ => ⟨S1x2048, .f32⟩
  | .hbm, ⟨13, _⟩ => ⟨S34, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S34, .i32⟩
  | .hbm, ⟨21, _⟩ => ⟨S34, .i32⟩
  | .hbm, ⟨22, _⟩ => ⟨S_, .i32⟩
  | .hbm, ⟨23, _⟩ => ⟨S34, .i32⟩
  | .hbm, ⟨24, _⟩ => ⟨S34, .i1⟩
  | .hbm, ⟨25, _⟩ => ⟨S_, .i32⟩
  | .hbm, ⟨26, _⟩ => ⟨S34, .i32⟩
  | .hbm, ⟨27, _⟩ => ⟨S34, .i1⟩
  | .hbm, ⟨28, _⟩ => ⟨S_, .i32⟩
  | .hbm, ⟨29, _⟩ => ⟨S_, .i1⟩
  | .hbm, ⟨30, _⟩ => ⟨S34, .i1⟩
  | .hbm, ⟨31, _⟩ => ⟨S34, .i1⟩
  | .hbm, ⟨32, _⟩ => ⟨S34, .i1⟩
  | .hbm, ⟨33, _⟩ => ⟨S34, .i32⟩
  | .hbm, ⟨34, _⟩ => ⟨S34, .i32⟩
  | .hbm, ⟨35, _⟩ => ⟨S34, .i32⟩
  | .hbm, ⟨36, _⟩ => ⟨S_, .i32⟩
  | .hbm, ⟨37, _⟩ => ⟨S34, .i32⟩
  | .hbm, ⟨38, _⟩ => ⟨S34, .i1⟩
  | .hbm, ⟨39, _⟩ => ⟨S_, .i32⟩
  | .hbm, ⟨40, _⟩ => ⟨S_, .i32⟩
  | .hbm, ⟨41, _⟩ => ⟨S34, .i32⟩
  | .hbm, ⟨42, _⟩ => ⟨S34, .i32⟩
  | .hbm, ⟨43, _⟩ => ⟨S34, .i32⟩
  | .hbm, ⟨44, _⟩ => ⟨S_, .i32⟩
  | .hbm, ⟨45, _⟩ => ⟨S34, .i32⟩
  | .hbm, ⟨46, _⟩ => ⟨S34, .i1⟩
  | .hbm, ⟨47, _⟩ => ⟨S34, .i32⟩
  | .hbm, ⟨48, _⟩ => ⟨S34, .i32⟩
  | .hbm, ⟨49, _⟩ => ⟨S_, .i32⟩
  | .hbm, ⟨50, _⟩ => ⟨S34, .i32⟩
  | .hbm, ⟨51, _⟩ => ⟨S34, .i1⟩
  | .hbm, ⟨52, _⟩ => ⟨S34, .i1⟩
  | .hbm, ⟨53, _⟩ => ⟨S_, .i32⟩
  | .hbm, ⟨54, _⟩ => ⟨S34, .i32⟩
  | .hbm, ⟨55, _⟩ => ⟨S34, .i32⟩
  | .hbm, ⟨56, _⟩ => ⟨S34, .i32⟩
  | .hbm, ⟨57, _⟩ => ⟨S_, .i32⟩
  | .hbm, ⟨58, _⟩ => ⟨S_, .i32⟩
  | .hbm, ⟨59, _⟩ => ⟨S34, .i32⟩
  | .hbm, ⟨60, _⟩ => ⟨S34, .i32⟩
  | .hbm, ⟨61, _⟩ => ⟨S16x6x2048, .f32⟩
  | .hbm, ⟨62, _⟩ => ⟨S_, .i32⟩
  | .hbm, ⟨63, _⟩ => ⟨S34, .i32⟩
  | .hbm, ⟨64, _⟩ => ⟨S34, .i1⟩
  | .hbm, ⟨65, _⟩ => ⟨S_, .i32⟩
  | .hbm, ⟨66, _⟩ => ⟨S34, .i32⟩
  | .hbm, ⟨67, _⟩ => ⟨S34, .i32⟩
  | .hbm, ⟨68, _⟩ => ⟨S34, .i32⟩
  | .hbm, ⟨69, _⟩ => ⟨S34x1, .i32⟩
  | .hbm, ⟨70, _⟩ => ⟨S34x6x2048, .f32⟩
  | .hbm, ⟨71, _⟩ => ⟨S_, .i32⟩
  | .hbm, ⟨72, _⟩ => ⟨S_, .f32⟩
  | .hbm, ⟨73, _⟩ => ⟨S34x8x2048, .f32⟩
  | .hbm, ⟨74, _⟩ => ⟨S_, .i32⟩
  | .hbm, ⟨75, _⟩ => ⟨S_, .f32⟩
  | .hbm, ⟨76, _⟩ => ⟨S2048x128, .f32⟩
  | .hbm, ⟨77, _⟩ => ⟨S2048x2048, .bf16⟩
  | .hbm, ⟨78, _⟩ => ⟨S1x2048, .f32⟩
  | .hbm, ⟨79, _⟩ => ⟨S8704x2048, .f32⟩
  | .hbm, ⟨80, _⟩ => ⟨S8704x2048, .bf16⟩
  | .hbm, ⟨81, _⟩ => ⟨S8704x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S2048x2048, .bf16⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x8x2048, .f32⟩
  | .local _ .vmem, ⟨12, _⟩ => ⟨S1x8x2048, .f32⟩
  | .local _ .vmem, ⟨13, _⟩ => ⟨S2048x128, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | .local _ .vmem, ⟨18, _⟩ => ⟨S256x128, .f32⟩
  | .local _ .vmem, ⟨19, _⟩ => ⟨S256x128, .f32⟩
  | _, _ => ⟨S8704x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_c_1 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v8 : Ref sig .tc := ⟨.hbm, 56, rfl⟩
abbrev main_c_2 : Ref sig .tc := ⟨.hbm, 57, rfl⟩
abbrev main_call2_v0 : Ref sig .tc := ⟨.hbm, 58, rfl⟩
abbrev main_call2_v1 : Ref sig .tc := ⟨.hbm, 59, rfl⟩
abbrev main_v9 : Ref sig .tc := ⟨.hbm, 60, rfl⟩
abbrev main_v10 : Ref sig .tc := ⟨.hbm, 61, rfl⟩
abbrev main_c_3 : Ref sig .tc := ⟨.hbm, 62, rfl⟩
abbrev main_v11 : Ref sig .tc := ⟨.hbm, 63, rfl⟩
abbrev main_v12 : Ref sig .tc := ⟨.hbm, 64, rfl⟩
abbrev main_c_4 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_c_5 : Ref sig .tc := ⟨.hbm, 71, rfl⟩
abbrev main_call3_v0 : Ref sig .tc := ⟨.hbm, 72, rfl⟩
abbrev main_v18 : Ref sig .tc := ⟨.hbm, 73, rfl⟩
abbrev main_c_6 : Ref sig .tc := ⟨.hbm, 74, rfl⟩
abbrev main_call4_v0 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22_0 : Ref sig .tc := ⟨.hbm, 79, rfl⟩
abbrev main_v22_1 : Ref sig .tc := ⟨.hbm, 80, rfl⟩
abbrev main_v22_2 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== DnOutRefIdeal.lean ====
abbrev S8704x8192 : Shape := ⟨2, ![8704, 8192]⟩
abbrev S8704x2048 : Shape := ⟨2, ![8704, 2048]⟩
abbrev S128 : Shape := ⟨1, ![128]⟩
abbrev S2048x2048 : Shape := ⟨2, ![2048, 2048]⟩
abbrev S2048 : Shape := ⟨1, ![2048]⟩
abbrev S16x12288 : Shape := ⟨2, ![16, 12288]⟩
abbrev S2048x32 : Shape := ⟨2, ![2048, 32]⟩
abbrev S8704x16x128 : Shape := ⟨3, ![8704, 16, 128]⟩
abbrev S_ : Shape := ⟨0, ![]⟩
abbrev S8704x16 : Shape := ⟨2, ![8704, 16]⟩
abbrev S8704x16x1 : Shape := ⟨3, ![8704, 16, 1]⟩
abbrev S1x1x128 : Shape := ⟨3, ![1, 1, 128]⟩
abbrev S2x4352x2048 : Shape := ⟨3, ![2, 4352, 2048]⟩
abbrev S2x12288 : Shape := ⟨2, ![2, 12288]⟩
abbrev S2x1x12288 : Shape := ⟨3, ![2, 1, 12288]⟩
abbrev S2x1x2048 : Shape := ⟨3, ![2, 1, 2048]⟩
abbrev S1x12288 : Shape := ⟨2, ![1, 12288]⟩
abbrev S12288 : Shape := ⟨1, ![12288]⟩
abbrev S2x256x2048 : Shape := ⟨3, ![2, 256, 2048]⟩
abbrev S1x1x2048 : Shape := ⟨3, ![1, 1, 2048]⟩
abbrev S2x4096x2048 : Shape := ⟨3, ![2, 4096, 2048]⟩
abbrev S2x256 : Shape := ⟨2, ![2, 256]⟩
abbrev S2x256x1 : Shape := ⟨3, ![2, 256, 1]⟩
abbrev S2x4096 : Shape := ⟨2, ![2, 4096]⟩
abbrev S2x4096x1 : Shape := ⟨3, ![2, 4096, 1]⟩
abbrev S2048x128 : Shape := ⟨2, ![2048, 128]⟩
abbrev S8704x128 : Shape := ⟨2, ![8704, 128]⟩

abbrev nBuf : Space → Nat
  | .hbm => 127
  | .vmem => 0
  | .smem => 0
  | _ => 0

abbrev bufTy : (tb : Table) → Fin (tcTables nBuf tb) → BufTy
  | .hbm, ⟨0, _⟩ => ⟨S8704x8192, .f32⟩
  | .hbm, ⟨1, _⟩ => ⟨S8704x2048, .f32⟩
  | .hbm, ⟨2, _⟩ => ⟨S8704x2048, .f32⟩
  | .hbm, ⟨3, _⟩ => ⟨S128, .f32⟩
  | .hbm, ⟨4, _⟩ => ⟨S2048x2048, .f32⟩
  | .hbm, ⟨5, _⟩ => ⟨S8704x2048, .f32⟩
  | .hbm, ⟨6, _⟩ => ⟨S2048, .f32⟩
  | .hbm, ⟨7, _⟩ => ⟨S16x12288, .f32⟩
  | .hbm, ⟨8, _⟩ => ⟨S2048x32, .f32⟩
  | .hbm, ⟨9, _⟩ => ⟨S8704x2048, .f32⟩
  | .hbm, ⟨10, _⟩ => ⟨S8704x2048, .f32⟩
  | .hbm, ⟨11, _⟩ => ⟨S8704x16x128, .f32⟩
  | .hbm, ⟨12, _⟩ => ⟨S8704x16x128, .f32⟩
  | .hbm, ⟨13, _⟩ => ⟨S_, .f32⟩
  | .hbm, ⟨14, _⟩ => ⟨S8704x16, .f32⟩
  | .hbm, ⟨15, _⟩ => ⟨S8704x16x1, .f32⟩
  | .hbm, ⟨16, _⟩ => ⟨S_, .f32⟩
  | .hbm, ⟨17, _⟩ => ⟨S8704x16x1, .f32⟩
  | .hbm, ⟨18, _⟩ => ⟨S8704x16x1, .f32⟩
  | .hbm, ⟨19, _⟩ => ⟨S_, .f32⟩
  | .hbm, ⟨20, _⟩ => ⟨S8704x16x1, .f32⟩
  | .hbm, ⟨21, _⟩ => ⟨S8704x16x1, .f32⟩
  | .hbm, ⟨22, _⟩ => ⟨S8704x16x1, .f32⟩
  | .hbm, ⟨23, _⟩ => ⟨S8704x16x128, .f32⟩
  | .hbm, ⟨24, _⟩ => ⟨S8704x16x128, .f32⟩
  | .hbm, ⟨25, _⟩ => ⟨S1x1x128, .f32⟩
  | .hbm, ⟨26, _⟩ => ⟨S8704x16x128, .f32⟩
  | .hbm, ⟨27, _⟩ => ⟨S8704x16x128, .f32⟩
  | .hbm, ⟨28, _⟩ => ⟨S8704x16x128, .f32⟩
  | .hbm, ⟨29, _⟩ => ⟨S8704x16x128, .f32⟩
  | .hbm, ⟨30, _⟩ => ⟨S8704x16x128, .f32⟩
  | .hbm, ⟨31, _⟩ => ⟨S_, .f32⟩
  | .hbm, ⟨32, _⟩ => ⟨S8704x16x128, .f32⟩
  | .hbm, ⟨33, _⟩ => ⟨S8704x16x128, .f32⟩
  | .hbm, ⟨34, _⟩ => ⟨S_, .f32⟩
  | .hbm, ⟨35, _⟩ => ⟨S8704x16x128, .f32⟩
  | .hbm, ⟨36, _⟩ => ⟨S8704x16x128, .f32⟩
  | .hbm, ⟨37, _⟩ => ⟨S8704x16x128, .f32⟩
  | .hbm, ⟨38, _⟩ => ⟨S8704x16x128, .f32⟩
  | .hbm, ⟨39, _⟩ => ⟨S8704x2048, .f32⟩
  | .hbm, ⟨40, _⟩ => ⟨S8704x2048, .f32⟩
  | .hbm, ⟨41, _⟩ => ⟨S2x4352x2048, .f32⟩
  | .hbm, ⟨42, _⟩ => ⟨S2x4352x2048, .f32⟩
  | .hbm, ⟨43, _⟩ => ⟨S2x12288, .f32⟩
  | .hbm, ⟨44, _⟩ => ⟨S2x1x12288, .f32⟩
  | .hbm, ⟨45, _⟩ => ⟨S2x1x2048, .f32⟩
  | .hbm, ⟨46, _⟩ => ⟨S2x1x2048, .f32⟩
  | .hbm, ⟨47, _⟩ => ⟨S2x1x2048, .f32⟩
  | .hbm, ⟨48, _⟩ => ⟨S2x1x2048, .f32⟩
  | .hbm, ⟨49, _⟩ => ⟨S2x1x2048, .f32⟩
  | .hbm, ⟨50, _⟩ => ⟨S2x1x2048, .f32⟩
  | .hbm, ⟨51, _⟩ => ⟨S1x12288, .f32⟩
  | .hbm, ⟨52, _⟩ => ⟨S12288, .f32⟩
  | .hbm, ⟨53, _⟩ => ⟨S2048, .f32⟩
  | .hbm, ⟨54, _⟩ => ⟨S2048, .f32⟩
  | .hbm, ⟨55, _⟩ => ⟨S2048, .f32⟩
  | .hbm, ⟨56, _⟩ => ⟨S2048, .f32⟩
  | .hbm, ⟨57, _⟩ => ⟨S2048, .f32⟩
  | .hbm, ⟨58, _⟩ => ⟨S2048, .f32⟩
  | .hbm, ⟨59, _⟩ => ⟨S2x256x2048, .f32⟩
  | .hbm, ⟨60, _⟩ => ⟨S2x256x2048, .f32⟩
  | .hbm, ⟨61, _⟩ => ⟨S1x1x2048, .f32⟩
  | .hbm, ⟨62, _⟩ => ⟨S2x256x2048, .f32⟩
  | .hbm, ⟨63, _⟩ => ⟨S2x256x2048, .f32⟩
  | .hbm, ⟨64, _⟩ => ⟨S2x256x2048, .f32⟩
  | .hbm, ⟨65, _⟩ => ⟨S2x4096x2048, .f32⟩
  | .hbm, ⟨66, _⟩ => ⟨S2x4096x2048, .f32⟩
  | .hbm, ⟨67, _⟩ => ⟨S2x4096x2048, .f32⟩
  | .hbm, ⟨68, _⟩ => ⟨S2x4096x2048, .f32⟩
  | .hbm, ⟨69, _⟩ => ⟨S2x4096x2048, .f32⟩
  | .hbm, ⟨70, _⟩ => ⟨S2x256x2048, .f32⟩
  | .hbm, ⟨71, _⟩ => ⟨S_, .f32⟩
  | .hbm, ⟨72, _⟩ => ⟨S2x256, .f32⟩
  | .hbm, ⟨73, _⟩ => ⟨S2x256x1, .f32⟩
  | .hbm, ⟨74, _⟩ => ⟨S_, .f32⟩
  | .hbm, ⟨75, _⟩ => ⟨S2x256x1, .f32⟩
  | .hbm, ⟨76, _⟩ => ⟨S2x256x1, .f32⟩
  | .hbm, ⟨77, _⟩ => ⟨S_, .f32⟩
  | .hbm, ⟨78, _⟩ => ⟨S2x256x1, .f32⟩
  | .hbm, ⟨79, _⟩ => ⟨S2x256x1, .f32⟩
  | .hbm, ⟨80, _⟩ => ⟨S2x256x1, .f32⟩
  | .hbm, ⟨81, _⟩ => ⟨S2x256x2048, .f32⟩
  | .hbm, ⟨82, _⟩ => ⟨S2x256x2048, .f32⟩
  | .hbm, ⟨83, _⟩ => ⟨S1x1x2048, .f32⟩
  | .hbm, ⟨84, _⟩ => ⟨S2x256x2048, .f32⟩
  | .hbm, ⟨85, _⟩ => ⟨S2x256x2048, .f32⟩
  | .hbm, ⟨86, _⟩ => ⟨S_, .f32⟩
  | .hbm, ⟨87, _⟩ => ⟨S2048, .f32⟩
  | .hbm, ⟨88, _⟩ => ⟨S2048, .f32⟩
  | .hbm, ⟨89, _⟩ => ⟨S1x1x2048, .f32⟩
  | .hbm, ⟨90, _⟩ => ⟨S2x256x2048, .f32⟩
  | .hbm, ⟨91, _⟩ => ⟨S2x256x2048, .f32⟩
  | .hbm, ⟨92, _⟩ => ⟨S1x1x2048, .f32⟩
  | .hbm, ⟨93, _⟩ => ⟨S2x256x2048, .f32⟩
  | .hbm, ⟨94, _⟩ => ⟨S2x256x2048, .f32⟩
  | .hbm, ⟨95, _⟩ => ⟨S2x4096x2048, .f32⟩
  | .hbm, ⟨96, _⟩ => ⟨S_, .f32⟩
  | .hbm, ⟨97, _⟩ => ⟨S2x4096, .f32⟩
  | .hbm, ⟨98, _⟩ => ⟨S2x4096x1, .f32⟩
  | .hbm, ⟨99, _⟩ => ⟨S_, .f32⟩
  | .hbm, ⟨100, _⟩ => ⟨S2x4096x1, .f32⟩
  | .hbm, ⟨101, _⟩ => ⟨S2x4096x1, .f32⟩
  | .hbm, ⟨102, _⟩ => ⟨S_, .f32⟩
  | .hbm, ⟨103, _⟩ => ⟨S2x4096x1, .f32⟩
  | .hbm, ⟨104, _⟩ => ⟨S2x4096x1, .f32⟩
  | .hbm, ⟨105, _⟩ => ⟨S2x4096x1, .f32⟩
  | .hbm, ⟨106, _⟩ => ⟨S2x4096x2048, .f32⟩
  | .hbm, ⟨107, _⟩ => ⟨S2x4096x2048, .f32⟩
  | .hbm, ⟨108, _⟩ => ⟨S1x1x2048, .f32⟩
  | .hbm, ⟨109, _⟩ => ⟨S2x4096x2048, .f32⟩
  | .hbm, ⟨110, _⟩ => ⟨S2x4096x2048, .f32⟩
  | .hbm, ⟨111, _⟩ => ⟨S_, .f32⟩
  | .hbm, ⟨112, _⟩ => ⟨S2x1x2048, .f32⟩
  | .hbm, ⟨113, _⟩ => ⟨S2x1x2048, .f32⟩
  | .hbm, ⟨114, _⟩ => ⟨S2x4096x2048, .f32⟩
  | .hbm, ⟨115, _⟩ => ⟨S2x4096x2048, .f32⟩
  | .hbm, ⟨116, _⟩ => ⟨S2x4096x2048, .f32⟩
  | .hbm, ⟨117, _⟩ => ⟨S2x4096x2048, .f32⟩
  | .hbm, ⟨118, _⟩ => ⟨S2x4352x2048, .f32⟩
  | .hbm, ⟨119, _⟩ => ⟨S8704x2048, .f32⟩
  | .hbm, ⟨120, _⟩ => ⟨S_, .i32⟩
  | .hbm, ⟨121, _⟩ => ⟨S_, .f32⟩
  | .hbm, ⟨122, _⟩ => ⟨S2048x128, .f32⟩
  | .hbm, ⟨123, _⟩ => ⟨S2x4352x2048, .f32⟩
  | .hbm, ⟨124, _⟩ => ⟨S8704x2048, .f32⟩
  | .hbm, ⟨125, _⟩ => ⟨S8704x2048, .bf16⟩
  | .hbm, ⟨126, _⟩ => ⟨S8704x128, .f32⟩
  | _, _ => ⟨S8704x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_2 : Ref sig .tc := ⟨.hbm, 71, rfl⟩
abbrev main_v51 : Ref sig .tc := ⟨.hbm, 72, rfl⟩
abbrev main_v52 : Ref sig .tc := ⟨.hbm, 73, rfl⟩
abbrev main_cst_3 : Ref sig .tc := ⟨.hbm, 74, rfl⟩
abbrev main_v53 : Ref sig .tc := ⟨.hbm, 75, rfl⟩
abbrev main_v54 : Ref sig .tc := ⟨.hbm, 76, rfl⟩
abbrev main_cst_4 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_5 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_6 : Ref sig .tc := ⟨.hbm, 96, rfl⟩
abbrev main_v72 : Ref sig .tc := ⟨.hbm, 97, rfl⟩
abbrev main_v73 : Ref sig .tc := ⟨.hbm, 98, rfl⟩
abbrev main_cst_7 : Ref sig .tc := ⟨.hbm, 99, rfl⟩
abbrev main_v74 : Ref sig .tc := ⟨.hbm, 100, rfl⟩
abbrev main_v75 : Ref sig .tc := ⟨.hbm, 101, rfl⟩
abbrev main_cst_8 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_9 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_c : Ref sig .tc := ⟨.hbm, 120, rfl⟩
abbrev main_call1_v0 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩

abbrev nD : Nat := 1
abbrev τ : Topo := Topo.v7x

variable {F : FTy → Type} [FloatOps F]
-- ==== RetOut.lean ====
abbrev S8704x12288 : Shape := ⟨2, ![8704, 12288]⟩
abbrev S8704x4096 : Shape := ⟨2, ![8704, 4096]⟩
abbrev S4096 : Shape := ⟨1, ![4096]⟩
abbrev S4096x2048 : Shape := ⟨2, ![4096, 2048]⟩
abbrev S8704x2048 : Shape := ⟨2, ![8704, 2048]⟩
abbrev S2048 : Shape := ⟨1, ![2048]⟩
abbrev S16x12288 : Shape := ⟨2, ![16, 12288]⟩
abbrev S2048x32 : Shape := ⟨2, ![2048, 32]⟩
abbrev S1x4096 : Shape := ⟨2, ![1, 4096]⟩
abbrev S34 : Shape := ⟨1, ![34]⟩
abbrev S_ : Shape := ⟨0, ![]⟩
abbrev S16x6x2048 : Shape := ⟨3, ![16, 6, 2048]⟩
abbrev S34x1 : Shape := ⟨2, ![34, 1]⟩
abbrev S34x6x2048 : Shape := ⟨3, ![34, 6, 2048]⟩
abbrev S34x8x2048 : Shape := ⟨3, ![34, 8, 2048]⟩
abbrev S2048x128 : Shape := ⟨2, ![2048, 128]⟩
abbrev S1x2048 : Shape := ⟨2, ![1, 2048]⟩
abbrev S8704x128 : Shape := ⟨2, ![8704, 128]⟩
abbrev S128x4096 : Shape := ⟨2, ![128, 4096]⟩
abbrev S128x2048 : Shape := ⟨2, ![128, 2048]⟩
abbrev S1x8x2048 : Shape := ⟨3, ![1, 8, 2048]⟩
abbrev S128x128 : Shape := ⟨2, ![128, 128]⟩
abbrev S128x512 : Shape := ⟨2, ![128, 512]⟩
abbrev S128 : Shape := ⟨1, ![128]⟩
abbrev S128x1 : Shape := ⟨2, ![128, 1]⟩
abbrev S1x1x2048 : Shape := ⟨3, ![1, 1, 2048]⟩

abbrev nBuf : Space → Nat
  | .hbm => 79
  | .vmem => 20
  | .smem => 0
  | _ => 0

abbrev bufTy : (tb : Table) → Fin (tcTables nBuf tb) → BufTy
  | .hbm, ⟨0, _⟩ => ⟨S8704x12288, .f32⟩
  | .hbm, ⟨1, _⟩ => ⟨S8704x4096, .f32⟩
  | .hbm, ⟨2, _⟩ => ⟨S8704x4096, .f32⟩
  | .hbm, ⟨3, _⟩ => ⟨S4096, .f32⟩
  | .hbm, ⟨4, _⟩ => ⟨S4096x2048, .f32⟩
  | .hbm, ⟨5, _⟩ => ⟨S8704x2048, .f32⟩
  | .hbm, ⟨6, _⟩ => ⟨S2048, .f32⟩
  | .hbm, ⟨7, _⟩ => ⟨S16x12288, .f32⟩
  | .hbm, ⟨8, _⟩ => ⟨S2048x32, .f32⟩
  | .hbm, ⟨9, _⟩ => ⟨S1x4096, .f32⟩
  | .hbm, ⟨10, _⟩ => ⟨S34, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S34, .i32⟩
  | .hbm, ⟨18, _⟩ => ⟨S34, .i32⟩
  | .hbm, ⟨19, _⟩ => ⟨S_, .i32⟩
  | .hbm, ⟨20, _⟩ => ⟨S34, .i32⟩
  | .hbm, ⟨21, _⟩ => ⟨S34, .i1⟩
  | .hbm, ⟨22, _⟩ => ⟨S_, .i32⟩
  | .hbm, ⟨23, _⟩ => ⟨S34, .i32⟩
  | .hbm, ⟨24, _⟩ => ⟨S34, .i1⟩
  | .hbm, ⟨25, _⟩ => ⟨S_, .i32⟩
  | .hbm, ⟨26, _⟩ => ⟨S_, .i1⟩
  | .hbm, ⟨27, _⟩ => ⟨S34, .i1⟩
  | .hbm, ⟨28, _⟩ => ⟨S34, .i1⟩
  | .hbm, ⟨29, _⟩ => ⟨S34, .i1⟩
  | .hbm, ⟨30, _⟩ => ⟨S34, .i32⟩
  | .hbm, ⟨31, _⟩ => ⟨S34, .i32⟩
  | .hbm, ⟨32, _⟩ => ⟨S34, .i32⟩
  | .hbm, ⟨33, _⟩ => ⟨S_, .i32⟩
  | .hbm, ⟨34, _⟩ => ⟨S34, .i32⟩
  | .hbm, ⟨35, _⟩ => ⟨S34, .i1⟩
  | .hbm, ⟨36, _⟩ => ⟨S_, .i32⟩
  | .hbm, ⟨37, _⟩ => ⟨S_, .i32⟩
  | .hbm, ⟨38, _⟩ => ⟨S34, .i32⟩
  | .hbm, ⟨39, _⟩ => ⟨S34, .i32⟩
  | .hbm, ⟨40, _⟩ => ⟨S34, .i32⟩
  | .hbm, ⟨41, _⟩ => ⟨S_, .i32⟩
  | .hbm, ⟨42, _⟩ => ⟨S34, .i32⟩
  | .hbm, ⟨43, _⟩ => ⟨S34, .i1⟩
  | .hbm, ⟨44, _⟩ => ⟨S34, .i32⟩
  | .hbm, ⟨45, _⟩ => ⟨S34, .i32⟩
  | .hbm, ⟨46, _⟩ => ⟨S_, .i32⟩
  | .hbm, ⟨47, _⟩ => ⟨S34, .i32⟩
  | .hbm, ⟨48, _⟩ => ⟨S34, .i1⟩
  | .hbm, ⟨49, _⟩ => ⟨S34, .i1⟩
  | .hbm, ⟨50, _⟩ => ⟨S_, .i32⟩
  | .hbm, ⟨51, _⟩ => ⟨S34, .i32⟩
  | .hbm, ⟨52, _⟩ => ⟨S34, .i32⟩
  | .hbm, ⟨53, _⟩ => ⟨S34, .i32⟩
  | .hbm, ⟨54, _⟩ => ⟨S_, .i32⟩
  | .hbm, ⟨55, _⟩ => ⟨S_, .i32⟩
  | .hbm, ⟨56, _⟩ => ⟨S34, .i32⟩
  | .hbm, ⟨57, _⟩ => ⟨S34, .i32⟩
  | .hbm, ⟨58, _⟩ => ⟨S16x6x2048, .f32⟩
  | .hbm, ⟨59, _⟩ => ⟨S_, .i32⟩
  | .hbm, ⟨60, _⟩ => ⟨S34, .i32⟩
  | .hbm, ⟨61, _⟩ => ⟨S34, .i1⟩
  | .hbm, ⟨62, _⟩ => ⟨S_, .i32⟩
  | .hbm, ⟨63, _⟩ => ⟨S34, .i32⟩
  | .hbm, ⟨64, _⟩ => ⟨S34, .i32⟩
  | .hbm, ⟨65, _⟩ => ⟨S34, .i32⟩
  | .hbm, ⟨66, _⟩ => ⟨S34x1, .i32⟩
  | .hbm, ⟨67, _⟩ => ⟨S34x6x2048, .f32⟩
  | .hbm, ⟨68, _⟩ => ⟨S_, .i32⟩
  | .hbm, ⟨69, _⟩ => ⟨S_, .f32⟩
  | .hbm, ⟨70, _⟩ => ⟨S34x8x2048, .f32⟩
  | .hbm, ⟨71, _⟩ => ⟨S_, .i32⟩
  | .hbm, ⟨72, _⟩ => ⟨S_, .f32⟩
  | .hbm, ⟨73, _⟩ => ⟨S2048x128, .f32⟩
  | .hbm, ⟨74, _⟩ => ⟨S4096x2048, .bf16⟩
  | .hbm, ⟨75, _⟩ => ⟨S1x2048, .f32⟩
  | .hbm, ⟨76, _⟩ => ⟨S8704x2048, .f32⟩
  | .hbm, ⟨77, _⟩ => ⟨S8704x2048, .bf16⟩
  | .hbm, ⟨78, _⟩ => ⟨S8704x128, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S4096x2048, .bf16⟩
  | .local _ .vmem, ⟨8, _⟩ => ⟨S128x2048, .f32⟩
  | .local _ .vmem, ⟨9, _⟩ => ⟨S128x2048, .f32⟩
  | .local _ .vmem, ⟨10, _⟩ => ⟨S1x2048, .f32⟩
  | .local _ .vmem, ⟨11, _⟩ => ⟨S1x8x2048, .f32⟩
  | .local _ .vmem, ⟨12, _⟩ => ⟨S1x8x2048, .f32⟩
  | .local _ .vmem, ⟨13, _⟩ => ⟨S2048x128, .f32⟩
  | .local _ .vmem, ⟨14, _⟩ => ⟨S128x2048, .f32⟩
  | .local _ .vmem, ⟨15, _⟩ => ⟨S128x2048, .f32⟩
  | .local _ .vmem, ⟨16, _⟩ => ⟨S128x2048, .bf16⟩
  | .local _ .vmem, ⟨17, _⟩ => ⟨S128x2048, .bf16⟩
  | .local _ .vmem, ⟨18, _⟩ => ⟨S128x128, .f32⟩
  | .local _ .vmem, ⟨19, _⟩ => ⟨S128x128, .f32⟩
  | _, _ => ⟨S8704x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v2 : Ref sig .tc := ⟨.hbm, 32, rfl⟩
abbrev main_c_0 : Ref sig .tc := ⟨.hbm, 33, rfl⟩
abbrev main_v3 : Ref sig .tc := ⟨.hbm, 34, rfl⟩
abbrev main_v4 : Ref sig .tc := ⟨.hbm, 35, rfl⟩
abbrev main_c_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v5 : Ref sig .tc := ⟨.hbm, 53, rfl⟩
abbrev main_c_2 : Ref sig .tc := ⟨.hbm, 54, rfl⟩
abbrev main_call2_v0 : Ref sig .tc := ⟨.hbm, 55, rfl⟩
abbrev main_call2_v1 : Ref sig .tc := ⟨.hbm, 56, rfl⟩
abbrev main_v6 : Ref sig .tc := ⟨.hbm, 57, rfl⟩
abbrev main_v7 : Ref sig .tc := ⟨.hbm, 58, rfl⟩
abbrev main_c_3 : Ref sig .tc := ⟨.hbm, 59, rfl⟩
abbrev main_v8 : Ref sig .tc := ⟨.hbm, 60, rfl⟩
abbrev main_v9 : Ref sig .tc := ⟨.hbm, 61, rfl⟩
abbrev main_c_4 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_c_5 : Ref sig .tc := ⟨.hbm, 68, rfl⟩
abbrev main_call3_v0 : Ref sig .tc := ⟨.hbm, 69, rfl⟩
abbrev main_v15 : Ref sig .tc := ⟨.hbm, 70, rfl⟩
abbrev main_c_6 : Ref sig .tc := ⟨.hbm, 71, rfl⟩
abbrev main_call4_v0 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19_0 : Ref sig .tc := ⟨.hbm, 76, rfl⟩
abbrev main_v19_1 : Ref sig .tc := ⟨.hbm, 77, rfl⟩
abbrev main_v19_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RetOutRefIdeal.lean ====
abbrev S8704x12288 : Shape := ⟨2, ![8704, 12288]⟩
abbrev S8704x4096 : Shape := ⟨2, ![8704, 4096]⟩
abbrev S4096 : Shape := ⟨1, ![4096]⟩
abbrev S4096x2048 : Shape := ⟨2, ![4096, 2048]⟩
abbrev S8704x2048 : Shape := ⟨2, ![8704, 2048]⟩
abbrev S2048 : Shape := ⟨1, ![2048]⟩
abbrev S16x12288 : Shape := ⟨2, ![16, 12288]⟩
abbrev S2048x32 : Shape := ⟨2, ![2048, 32]⟩
abbrev S8704x8x512 : Shape := ⟨3, ![8704, 8, 512]⟩
abbrev S8x512 : Shape := ⟨2, ![8, 512]⟩
abbrev S_ : Shape := ⟨0, ![]⟩
abbrev S8704x8 : Shape := ⟨2, ![8704, 8]⟩
abbrev S8704x8x1 : Shape := ⟨3, ![8704, 8, 1]⟩
abbrev S1x8x512 : Shape := ⟨3, ![1, 8, 512]⟩
abbrev S2x4352x2048 : Shape := ⟨3, ![2, 4352, 2048]⟩
abbrev S2x12288 : Shape := ⟨2, ![2, 12288]⟩
abbrev S2x1x12288 : Shape := ⟨3, ![2, 1, 12288]⟩
abbrev S2x1x2048 : Shape := ⟨3, ![2, 1, 2048]⟩
abbrev S1x12288 : Shape := ⟨2, ![1, 12288]⟩
abbrev S12288 : Shape := ⟨1, ![12288]⟩
abbrev S2x256x2048 : Shape := ⟨3, ![2, 256, 2048]⟩
abbrev S1x1x2048 : Shape := ⟨3, ![1, 1, 2048]⟩
abbrev S2x4096x2048 : Shape := ⟨3, ![2, 4096, 2048]⟩
abbrev S2x256 : Shape := ⟨2, ![2, 256]⟩
abbrev S2x256x1 : Shape := ⟨3, ![2, 256, 1]⟩
abbrev S2x4096 : Shape := ⟨2, ![2, 4096]⟩
abbrev S2x4096x1 : Shape := ⟨3, ![2, 4096, 1]⟩
abbrev S2048x128 : Shape := ⟨2, ![2048, 128]⟩
abbrev S8704x128 : Shape := ⟨2, ![8704, 128]⟩

abbrev nBuf : Space → Nat
  | .hbm => 127
  | .vmem => 0
  | .smem => 0
  | _ => 0

abbrev bufTy : (tb : Table) → Fin (tcTables nBuf tb) → BufTy
  | .hbm, ⟨0, _⟩ => ⟨S8704x12288, .f32⟩
  | .hbm, ⟨1, _⟩ => ⟨S8704x4096, .f32⟩
  | .hbm, ⟨2, _⟩ => ⟨S8704x4096, .f32⟩
  | .hbm, ⟨3, _⟩ => ⟨S4096, .f32⟩
  | .hbm, ⟨4, _⟩ => ⟨S4096x2048, .f32⟩
  | .hbm, ⟨5, _⟩ => ⟨S8704x2048, .f32⟩
  | .hbm, ⟨6, _⟩ => ⟨S2048, .f32⟩
  | .hbm, ⟨7, _⟩ => ⟨S16x12288, .f32⟩
  | .hbm, ⟨8, _⟩ => ⟨S2048x32, .f32⟩
  | .hbm, ⟨9, _⟩ => ⟨S8704x4096, .f32⟩
  | .hbm, ⟨10, _⟩ => ⟨S8704x8x512, .f32⟩
  | .hbm, ⟨11, _⟩ => ⟨S8x512, .f32⟩
  | .hbm, ⟨12, _⟩ => ⟨S8704x8x512, .f32⟩
  | .hbm, ⟨13, _⟩ => ⟨S_, .f32⟩
  | .hbm, ⟨14, _⟩ => ⟨S8704x8, .f32⟩
  | .hbm, ⟨15, _⟩ => ⟨S8704x8x1, .f32⟩
  | .hbm, ⟨16, _⟩ => ⟨S_, .f32⟩
  | .hbm, ⟨17, _⟩ => ⟨S8704x8x1, .f32⟩
  | .hbm, ⟨18, _⟩ => ⟨S8704x8x1, .f32⟩
  | .hbm, ⟨19, _⟩ => ⟨S_, .f32⟩
  | .hbm, ⟨20, _⟩ => ⟨S8704x8x1, .f32⟩
  | .hbm, ⟨21, _⟩ => ⟨S8704x8x1, .f32⟩
  | .hbm, ⟨22, _⟩ => ⟨S8704x8x1, .f32⟩
  | .hbm, ⟨23, _⟩ => ⟨S8704x8x512, .f32⟩
  | .hbm, ⟨24, _⟩ => ⟨S8704x8x512, .f32⟩
  | .hbm, ⟨25, _⟩ => ⟨S1x8x512, .f32⟩
  | .hbm, ⟨26, _⟩ => ⟨S8704x8x512, .f32⟩
  | .hbm, ⟨27, _⟩ => ⟨S8704x8x512, .f32⟩
  | .hbm, ⟨28, _⟩ => ⟨S8704x4096, .f32⟩
  | .hbm, ⟨29, _⟩ => ⟨S8704x4096, .f32⟩
  | .hbm, ⟨30, _⟩ => ⟨S8704x4096, .f32⟩
  | .hbm, ⟨31, _⟩ => ⟨S8704x4096, .f32⟩
  | .hbm, ⟨32, _⟩ => ⟨S_, .f32⟩
  | .hbm, ⟨33, _⟩ => ⟨S8704x4096, .f32⟩
  | .hbm, ⟨34, _⟩ => ⟨S8704x4096, .f32⟩
  | .hbm, ⟨35, _⟩ => ⟨S_, .f32⟩
  | .hbm, ⟨36, _⟩ => ⟨S8704x4096, .f32⟩
  | .hbm, ⟨37, _⟩ => ⟨S8704x4096, .f32⟩
  | .hbm, ⟨38, _⟩ => ⟨S8704x4096, .f32⟩
  | .hbm, ⟨39, _⟩ => ⟨S8704x4096, .f32⟩
  | .hbm, ⟨40, _⟩ => ⟨S8704x2048, .f32⟩
  | .hbm, ⟨41, _⟩ => ⟨S2x4352x2048, .f32⟩
  | .hbm, ⟨42, _⟩ => ⟨S2x4352x2048, .f32⟩
  | .hbm, ⟨43, _⟩ => ⟨S2x12288, .f32⟩
  | .hbm, ⟨44, _⟩ => ⟨S2x1x12288, .f32⟩
  | .hbm, ⟨45, _⟩ => ⟨S2x1x2048, .f32⟩
  | .hbm, ⟨46, _⟩ => ⟨S2x1x2048, .f32⟩
  | .hbm, ⟨47, _⟩ => ⟨S2x1x2048, .f32⟩
  | .hbm, ⟨48, _⟩ => ⟨S2x1x2048, .f32⟩
  | .hbm, ⟨49, _⟩ => ⟨S2x1x2048, .f32⟩
  | .hbm, ⟨50, _⟩ => ⟨S2x1x2048, .f32⟩
  | .hbm, ⟨51, _⟩ => ⟨S1x12288, .f32⟩
  | .hbm, ⟨52, _⟩ => ⟨S12288, .f32⟩
  | .hbm, ⟨53, _⟩ => ⟨S2048, .f32⟩
  | .hbm, ⟨54, _⟩ => ⟨S2048, .f32⟩
  | .hbm, ⟨55, _⟩ => ⟨S2048, .f32⟩
  | .hbm, ⟨56, _⟩ => ⟨S2048, .f32⟩
  | .hbm, ⟨57, _⟩ => ⟨S2048, .f32⟩
  | .hbm, ⟨58, _⟩ => ⟨S2048, .f32⟩
  | .hbm, ⟨59, _⟩ => ⟨S2x256x2048, .f32⟩
  | .hbm, ⟨60, _⟩ => ⟨S2x256x2048, .f32⟩
  | .hbm, ⟨61, _⟩ => ⟨S1x1x2048, .f32⟩
  | .hbm, ⟨62, _⟩ => ⟨S2x256x2048, .f32⟩
  | .hbm, ⟨63, _⟩ => ⟨S2x256x2048, .f32⟩
  | .hbm, ⟨64, _⟩ => ⟨S2x256x2048, .f32⟩
  | .hbm, ⟨65, _⟩ => ⟨S2x4096x2048, .f32⟩
  | .hbm, ⟨66, _⟩ => ⟨S2x4096x2048, .f32⟩
  | .hbm, ⟨67, _⟩ => ⟨S2x4096x2048, .f32⟩
  | .hbm, ⟨68, _⟩ => ⟨S2x4096x2048, .f32⟩
  | .hbm, ⟨69, _⟩ => ⟨S2x4096x2048, .f32⟩
  | .hbm, ⟨70, _⟩ => ⟨S2x256x2048, .f32⟩
  | .hbm, ⟨71, _⟩ => ⟨S_, .f32⟩
  | .hbm, ⟨72, _⟩ => ⟨S2x256, .f32⟩
  | .hbm, ⟨73, _⟩ => ⟨S2x256x1, .f32⟩
  | .hbm, ⟨74, _⟩ => ⟨S_, .f32⟩
  | .hbm, ⟨75, _⟩ => ⟨S2x256x1, .f32⟩
  | .hbm, ⟨76, _⟩ => ⟨S2x256x1, .f32⟩
  | .hbm, ⟨77, _⟩ => ⟨S_, .f32⟩
  | .hbm, ⟨78, _⟩ => ⟨S2x256x1, .f32⟩
  | .hbm, ⟨79, _⟩ => ⟨S2x256x1, .f32⟩
  | .hbm, ⟨80, _⟩ => ⟨S2x256x1, .f32⟩
  | .hbm, ⟨81, _⟩ => ⟨S2x256x2048, .f32⟩
  | .hbm, ⟨82, _⟩ => ⟨S2x256x2048, .f32⟩
  | .hbm, ⟨83, _⟩ => ⟨S1x1x2048, .f32⟩
  | .hbm, ⟨84, _⟩ => ⟨S2x256x2048, .f32⟩
  | .hbm, ⟨85, _⟩ => ⟨S2x256x2048, .f32⟩
  | .hbm, ⟨86, _⟩ => ⟨S_, .f32⟩
  | .hbm, ⟨87, _⟩ => ⟨S2048, .f32⟩
  | .hbm, ⟨88, _⟩ => ⟨S2048, .f32⟩
  | .hbm, ⟨89, _⟩ => ⟨S1x1x2048, .f32⟩
  | .hbm, ⟨90, _⟩ => ⟨S2x256x2048, .f32⟩
  | .hbm, ⟨91, _⟩ => ⟨S2x256x2048, .f32⟩
  | .hbm, ⟨92, _⟩ => ⟨S1x1x2048, .f32⟩
  | .hbm, ⟨93, _⟩ => ⟨S2x256x2048, .f32⟩
  | .hbm, ⟨94, _⟩ => ⟨S2x256x2048, .f32⟩
  | .hbm, ⟨95, _⟩ => ⟨S2x4096x2048, .f32⟩
  | .hbm, ⟨96, _⟩ => ⟨S_, .f32⟩
  | .hbm, ⟨97, _⟩ => ⟨S2x4096, .f32⟩
  | .hbm, ⟨98, _⟩ => ⟨S2x4096x1, .f32⟩
  | .hbm, ⟨99, _⟩ => ⟨S_, .f32⟩
  | .hbm, ⟨100, _⟩ => ⟨S2x4096x1, .f32⟩
  | .hbm, ⟨101, _⟩ => ⟨S2x4096x1, .f32⟩
  | .hbm, ⟨102, _⟩ => ⟨S_, .f32⟩
  | .hbm, ⟨103, _⟩ => ⟨S2x4096x1, .f32⟩
  | .hbm, ⟨104, _⟩ => ⟨S2x4096x1, .f32⟩
  | .hbm, ⟨105, _⟩ => ⟨S2x4096x1, .f32⟩
  | .hbm, ⟨106, _⟩ => ⟨S2x4096x2048, .f32⟩
  | .hbm, ⟨107, _⟩ => ⟨S2x4096x2048, .f32⟩
  | .hbm, ⟨108, _⟩ => ⟨S1x1x2048, .f32⟩
  | .hbm, ⟨109, _⟩ => ⟨S2x4096x2048, .f32⟩
  | .hbm, ⟨110, _⟩ => ⟨S2x4096x2048, .f32⟩
  | .hbm, ⟨111, _⟩ => ⟨S_, .f32⟩
  | .hbm, ⟨112, _⟩ => ⟨S2x1x2048, .f32⟩
  | .hbm, ⟨113, _⟩ => ⟨S2x1x2048, .f32⟩
  | .hbm, ⟨114, _⟩ => ⟨S2x4096x2048, .f32⟩
  | .hbm, ⟨115, _⟩ => ⟨S2x4096x2048, .f32⟩
  | .hbm, ⟨116, _⟩ => ⟨S2x4096x2048, .f32⟩
  | .hbm, ⟨117, _⟩ => ⟨S2x4096x2048, .f32⟩
  | .hbm, ⟨118, _⟩ => ⟨S2x4352x2048, .f32⟩
  | .hbm, ⟨119, _⟩ => ⟨S8704x2048, .f32⟩
  | .hbm, ⟨120, _⟩ => ⟨S_, .i32⟩
  | .hbm, ⟨121, _⟩ => ⟨S_, .f32⟩
  | .hbm, ⟨122, _⟩ => ⟨S2048x128, .f32⟩
  | .hbm, ⟨123, _⟩ => ⟨S2x4352x2048, .f32⟩
  | .hbm, ⟨124, _⟩ => ⟨S8704x2048, .f32⟩
  | .hbm, ⟨125, _⟩ => ⟨S8704x2048, .bf16⟩
  | .hbm, ⟨126, _⟩ => ⟨S8704x128, .f32⟩
  | _, _ => ⟨S8704x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_2 : Ref sig .tc := ⟨.hbm, 71, rfl⟩
abbrev main_v51 : Ref sig .tc := ⟨.hbm, 72, rfl⟩
abbrev main_v52 : Ref sig .tc := ⟨.hbm, 73, rfl⟩
abbrev main_cst_3 : Ref sig .tc := ⟨.hbm, 74, rfl⟩
abbrev main_v53 : Ref sig .tc := ⟨.hbm, 75, rfl⟩
abbrev main_v54 : Ref sig .tc := ⟨.hbm, 76, rfl⟩
abbrev main_cst_4 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_5 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_6 : Ref sig .tc := ⟨.hbm, 96, rfl⟩
abbrev main_v72 : Ref sig .tc := ⟨.hbm, 97, rfl⟩
abbrev main_v73 : Ref sig .tc := ⟨.hbm, 98, rfl⟩
abbrev main_cst_7 : Ref sig .tc := ⟨.hbm, 99, rfl⟩
abbrev main_v74 : Ref sig .tc := ⟨.hbm, 100, rfl⟩
abbrev main_v75 : Ref sig .tc := ⟨.hbm, 101, rfl⟩
abbrev main_cst_8 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_9 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_c : Ref sig .tc := ⟨.hbm, 120, rfl⟩
abbrev main_call1_v0 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩

abbrev nD : Nat := 1
abbrev τ : Topo := Topo.v7x

variable {F : FTy → Type} [FloatOps F]
-- ==== AttOut.lean ====
abbrev S8704x2048 : Shape := ⟨2, ![8704, 2048]⟩
abbrev S2048x2048 : Shape := ⟨2, ![2048, 2048]⟩
abbrev S2048 : Shape := ⟨1, ![2048]⟩
abbrev S16x12288 : Shape := ⟨2, ![16, 12288]⟩
abbrev S2048x32 : Shape := ⟨2, ![2048, 32]⟩
abbrev S34 : Shape := ⟨1, ![34]⟩
abbrev S_ : Shape := ⟨0, ![]⟩
abbrev S16x6x2048 : Shape := ⟨3, ![16, 6, 2048]⟩
abbrev S34x1 : Shape := ⟨2, ![34, 1]⟩
abbrev S34x6x2048 : Shape := ⟨3, ![34, 6, 2048]⟩
abbrev S34x8x2048 : Shape := ⟨3, ![34, 8, 2048]⟩
abbrev S2048x128 : Shape := ⟨2, ![2048, 128]⟩
abbrev S1x2048 : Shape := ⟨2, ![1, 2048]⟩
abbrev S8704x128 : Shape := ⟨2, ![8704, 128]⟩
abbrev S256x2048 : Shape := ⟨2, ![256, 2048]⟩
abbrev S1x8x2048 : Shape := ⟨3, ![1, 8, 2048]⟩
abbrev S256x128 : Shape := ⟨2, ![256, 128]⟩
abbrev S1x1x2048 : Shape := ⟨3, ![1, 1, 2048]⟩
abbrev S256 : Shape := ⟨1, ![256]⟩
abbrev S256x1 : Shape := ⟨2, ![256, 1]⟩

abbrev nBuf : Space → Nat
  | .hbm => 75
  | .vmem => 15
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .hbm, ⟨3, _⟩ => ⟨S2048, .f32⟩
  | .hbm, ⟨4, _⟩ => ⟨S16x12288, .f32⟩
  | .hbm, ⟨5, _⟩ => ⟨S2048x32, .f32⟩
  | .hbm, ⟨6, _⟩ => ⟨S34, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S34, .i32⟩
  | .hbm, ⟨14, _⟩ => ⟨S34, .i32⟩
  | .hbm, ⟨15, _⟩ => ⟨S_, .i32⟩
  | .hbm, ⟨16, _⟩ => ⟨S34, .i32⟩
  | .hbm, ⟨17, _⟩ => ⟨S34, .i1⟩
  | .hbm, ⟨18, _⟩ => ⟨S_, .i32⟩
  | .hbm, ⟨19, _⟩ => ⟨S34, .i32⟩
  | .hbm, ⟨20, _⟩ => ⟨S34, .i1⟩
  | .hbm, ⟨21, _⟩ => ⟨S_, .i32⟩
  | .hbm, ⟨22, _⟩ => ⟨S_, .i1⟩
  | .hbm, ⟨23, _⟩ => ⟨S34, .i1⟩
  | .hbm, ⟨24, _⟩ => ⟨S34, .i1⟩
  | .hbm, ⟨25, _⟩ => ⟨S34, .i1⟩
  | .hbm, ⟨26, _⟩ => ⟨S34, .i32⟩
  | .hbm, ⟨27, _⟩ => ⟨S34, .i32⟩
  | .hbm, ⟨28, _⟩ => ⟨S34, .i32⟩
  | .hbm, ⟨29, _⟩ => ⟨S_, .i32⟩
  | .hbm, ⟨30, _⟩ => ⟨S34, .i32⟩
  | .hbm, ⟨31, _⟩ => ⟨S34, .i1⟩
  | .hbm, ⟨32, _⟩ => ⟨S_, .i32⟩
  | .hbm, ⟨33, _⟩ => ⟨S_, .i32⟩
  | .hbm, ⟨34, _⟩ => ⟨S34, .i32⟩
  | .hbm, ⟨35, _⟩ => ⟨S34, .i32⟩
  | .hbm, ⟨36, _⟩ => ⟨S34, .i32⟩
  | .hbm, ⟨37, _⟩ => ⟨S_, .i32⟩
  | .hbm, ⟨38, _⟩ => ⟨S34, .i32⟩
  | .hbm, ⟨39, _⟩ => ⟨S34, .i1⟩
  | .hbm, ⟨40, _⟩ => ⟨S34, .i32⟩
  | .hbm, ⟨41, _⟩ => ⟨S34, .i32⟩
  | .hbm, ⟨42, _⟩ => ⟨S_, .i32⟩
  | .hbm, ⟨43, _⟩ => ⟨S34, .i32⟩
  | .hbm, ⟨44, _⟩ => ⟨S34, .i1⟩
  | .hbm, ⟨45, _⟩ => ⟨S34, .i1⟩
  | .hbm, ⟨46, _⟩ => ⟨S_, .i32⟩
  | .hbm, ⟨47, _⟩ => ⟨S34, .i32⟩
  | .hbm, ⟨48, _⟩ => ⟨S34, .i32⟩
  | .hbm, ⟨49, _⟩ => ⟨S34, .i32⟩
  | .hbm, ⟨50, _⟩ => ⟨S_, .i32⟩
  | .hbm, ⟨51, _⟩ => ⟨S_, .i32⟩
  | .hbm, ⟨52, _⟩ => ⟨S34, .i32⟩
  | .hbm, ⟨53, _⟩ => ⟨S34, .i32⟩
  | .hbm, ⟨54, _⟩ => ⟨S16x6x2048, .f32⟩
  | .hbm, ⟨55, _⟩ => ⟨S_, .i32⟩
  | .hbm, ⟨56, _⟩ => ⟨S34, .i32⟩
  | .hbm, ⟨57, _⟩ => ⟨S34, .i1⟩
  | .hbm, ⟨58, _⟩ => ⟨S_, .i32⟩
  | .hbm, ⟨59, _⟩ => ⟨S34, .i32⟩
  | .hbm, ⟨60, _⟩ => ⟨S34, .i32⟩
  | .hbm, ⟨61, _⟩ => ⟨S34, .i32⟩
  | .hbm, ⟨62, _⟩ => ⟨S34x1, .i32⟩
  | .hbm, ⟨63, _⟩ => ⟨S34x6x2048, .f32⟩
  | .hbm, ⟨64, _⟩ => ⟨S_, .i32⟩
  | .hbm, ⟨65, _⟩ => ⟨S_, .f32⟩
  | .hbm, ⟨66, _⟩ => ⟨S34x8x2048, .f32⟩
  | .hbm, ⟨67, _⟩ => ⟨S_, .i32⟩
  | .hbm, ⟨68, _⟩ => ⟨S_, .f32⟩
  | .hbm, ⟨69, _⟩ => ⟨S2048x128, .f32⟩
  | .hbm, ⟨70, _⟩ => ⟨S2048x2048, .bf16⟩
  | .hbm, ⟨71, _⟩ => ⟨S1x2048, .f32⟩
  | .hbm, ⟨72, _⟩ => ⟨S8704x2048, .f32⟩
  | .hbm, ⟨73, _⟩ => ⟨S8704x2048, .bf16⟩
  | .hbm, ⟨74, _⟩ => ⟨S8704x128, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x8x2048, .f32⟩
  | .local _ .vmem, ⟨7, _⟩ => ⟨S1x8x2048, .f32⟩
  | .local _ .vmem, ⟨8, _⟩ => ⟨S2048x128, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x128, .f32⟩
  | .local _ .vmem, ⟨14, _⟩ => ⟨S256x128, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_c_1 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v4 : Ref sig .tc := ⟨.hbm, 49, rfl⟩
abbrev main_c_2 : Ref sig .tc := ⟨.hbm, 50, rfl⟩
abbrev main_call2_v0 : Ref sig .tc := ⟨.hbm, 51, rfl⟩
abbrev main_call2_v1 : Ref sig .tc := ⟨.hbm, 52, rfl⟩
abbrev main_v5 : Ref sig .tc := ⟨.hbm, 53, rfl⟩
abbrev main_v6 : Ref sig .tc := ⟨.hbm, 54, rfl⟩
abbrev main_c_3 : Ref sig .tc := ⟨.hbm, 55, rfl⟩
abbrev main_v7 : Ref sig .tc := ⟨.hbm, 56, rfl⟩
abbrev main_v8 : Ref sig .tc := ⟨.hbm, 57, rfl⟩
abbrev main_c_4 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_c_5 : Ref sig .tc := ⟨.hbm, 64, rfl⟩
abbrev main_call3_v0 : Ref sig .tc := ⟨.hbm, 65, rfl⟩
abbrev main_v14 : Ref sig .tc := ⟨.hbm, 66, rfl⟩
abbrev main_c_6 : Ref sig .tc := ⟨.hbm, 67, rfl⟩
abbrev main_call4_v0 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18_0 : Ref sig .tc := ⟨.hbm, 72, rfl⟩
abbrev main_v18_1 : Ref sig .tc := ⟨.hbm, 73, rfl⟩
abbrev main_v18_2 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttOutRefIdeal.lean ====
abbrev S8704x2048 : Shape := ⟨2, ![8704, 2048]⟩
abbrev S2048x2048 : Shape := ⟨2, ![2048, 2048]⟩
abbrev S2048 : Shape := ⟨1, ![2048]⟩
abbrev S16x12288 : Shape := ⟨2, ![16, 12288]⟩
abbrev S2048x32 : Shape := ⟨2, ![2048, 32]⟩
abbrev S2x4352x2048 : Shape := ⟨3, ![2, 4352, 2048]⟩
abbrev S2x12288 : Shape := ⟨2, ![2, 12288]⟩
abbrev S2x1x12288 : Shape := ⟨3, ![2, 1, 12288]⟩
abbrev S2x1x2048 : Shape := ⟨3, ![2, 1, 2048]⟩
abbrev S1x12288 : Shape := ⟨2, ![1, 12288]⟩
abbrev S12288 : Shape := ⟨1, ![12288]⟩
abbrev S2x256x2048 : Shape := ⟨3, ![2, 256, 2048]⟩
abbrev S1x1x2048 : Shape := ⟨3, ![1, 1, 2048]⟩
abbrev S2x4096x2048 : Shape := ⟨3, ![2, 4096, 2048]⟩
abbrev S_ : Shape := ⟨0, ![]⟩
abbrev S2x256 : Shape := ⟨2, ![2, 256]⟩
abbrev S2x256x1 : Shape := ⟨3, ![2, 256, 1]⟩
abbrev S2x4096 : Shape := ⟨2, ![2, 4096]⟩
abbrev S2x4096x1 : Shape := ⟨3, ![2, 4096, 1]⟩
abbrev S2048x128 : Shape := ⟨2, ![2048, 128]⟩
abbrev S8704x128 : Shape := ⟨2, ![8704, 128]⟩

abbrev nBuf : Space → Nat
  | .hbm => 94
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .hbm, ⟨3, _⟩ => ⟨S2048, .f32⟩
  | .hbm, ⟨4, _⟩ => ⟨S16x12288, .f32⟩
  | .hbm, ⟨5, _⟩ => ⟨S2048x32, .f32⟩
  | .hbm, ⟨6, _⟩ => ⟨S8704x2048, .f32⟩
  | .hbm, ⟨7, _⟩ => ⟨S8704x2048, .f32⟩
  | .hbm, ⟨8, _⟩ => ⟨S2x4352x2048, .f32⟩
  | .hbm, ⟨9, _⟩ => ⟨S2x4352x2048, .f32⟩
  | .hbm, ⟨10, _⟩ => ⟨S2x12288, .f32⟩
  | .hbm, ⟨11, _⟩ => ⟨S2x1x12288, .f32⟩
  | .hbm, ⟨12, _⟩ => ⟨S2x1x2048, .f32⟩
  | .hbm, ⟨13, _⟩ => ⟨S2x1x2048, .f32⟩
  | .hbm, ⟨14, _⟩ => ⟨S2x1x2048, .f32⟩
  | .hbm, ⟨15, _⟩ => ⟨S2x1x2048, .f32⟩
  | .hbm, ⟨16, _⟩ => ⟨S2x1x2048, .f32⟩
  | .hbm, ⟨17, _⟩ => ⟨S2x1x2048, .f32⟩
  | .hbm, ⟨18, _⟩ => ⟨S1x12288, .f32⟩
  | .hbm, ⟨19, _⟩ => ⟨S12288, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S2x256x2048, .f32⟩
  | .hbm, ⟨27, _⟩ => ⟨S2x256x2048, .f32⟩
  | .hbm, ⟨28, _⟩ => ⟨S1x1x2048, .f32⟩
  | .hbm, ⟨29, _⟩ => ⟨S2x256x2048, .f32⟩
  | .hbm, ⟨30, _⟩ => ⟨S2x256x2048, .f32⟩
  | .hbm, ⟨31, _⟩ => ⟨S2x256x2048, .f32⟩
  | .hbm, ⟨32, _⟩ => ⟨S2x4096x2048, .f32⟩
  | .hbm, ⟨33, _⟩ => ⟨S2x4096x2048, .f32⟩
  | .hbm, ⟨34, _⟩ => ⟨S2x4096x2048, .f32⟩
  | .hbm, ⟨35, _⟩ => ⟨S2x4096x2048, .f32⟩
  | .hbm, ⟨36, _⟩ => ⟨S2x4096x2048, .f32⟩
  | .hbm, ⟨37, _⟩ => ⟨S2x256x2048, .f32⟩
  | .hbm, ⟨38, _⟩ => ⟨S_, .f32⟩
  | .hbm, ⟨39, _⟩ => ⟨S2x256, .f32⟩
  | .hbm, ⟨40, _⟩ => ⟨S2x256x1, .f32⟩
  | .hbm, ⟨41, _⟩ => ⟨S_, .f32⟩
  | .hbm, ⟨42, _⟩ => ⟨S2x256x1, .f32⟩
  | .hbm, ⟨43, _⟩ => ⟨S2x256x1, .f32⟩
  | .hbm, ⟨44, _⟩ => ⟨S_, .f32⟩
  | .hbm, ⟨45, _⟩ => ⟨S2x256x1, .f32⟩
  | .hbm, ⟨46, _⟩ => ⟨S2x256x1, .f32⟩
  | .hbm, ⟨47, _⟩ => ⟨S2x256x1, .f32⟩
  | .hbm, ⟨48, _⟩ => ⟨S2x256x2048, .f32⟩
  | .hbm, ⟨49, _⟩ => ⟨S2x256x2048, .f32⟩
  | .hbm, ⟨50, _⟩ => ⟨S1x1x2048, .f32⟩
  | .hbm, ⟨51, _⟩ => ⟨S2x256x2048, .f32⟩
  | .hbm, ⟨52, _⟩ => ⟨S2x256x2048, .f32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S1x1x2048, .f32⟩
  | .hbm, ⟨57, _⟩ => ⟨S2x256x2048, .f32⟩
  | .hbm, ⟨58, _⟩ => ⟨S2x256x2048, .f32⟩
  | .hbm, ⟨59, _⟩ => ⟨S1x1x2048, .f32⟩
  | .hbm, ⟨60, _⟩ => ⟨S2x256x2048, .f32⟩
  | .hbm, ⟨61, _⟩ => ⟨S2x256x2048, .f32⟩
  | .hbm, ⟨62, _⟩ => ⟨S2x4096x2048, .f32⟩
  | .hbm, ⟨63, _⟩ => ⟨S_, .f32⟩
  | .hbm, ⟨64, _⟩ => ⟨S2x4096, .f32⟩
  | .hbm, ⟨65, _⟩ => ⟨S2x4096x1, .f32⟩
  | .hbm, ⟨66, _⟩ => ⟨S_, .f32⟩
  | .hbm, ⟨67, _⟩ => ⟨S2x4096x1, .f32⟩
  | .hbm, ⟨68, _⟩ => ⟨S2x4096x1, .f32⟩
  | .hbm, ⟨69, _⟩ => ⟨S_, .f32⟩
  | .hbm, ⟨70, _⟩ => ⟨S2x4096x1, .f32⟩
  | .hbm, ⟨71, _⟩ => ⟨S2x4096x1, .f32⟩
  | .hbm, ⟨72, _⟩ => ⟨S2x4096x1, .f32⟩
  | .hbm, ⟨73, _⟩ => ⟨S2x4096x2048, .f32⟩
  | .hbm, ⟨74, _⟩ => ⟨S2x4096x2048, .f32⟩
  | .hbm, ⟨75, _⟩ => ⟨S1x1x2048, .f32⟩
  | .hbm, ⟨76, _⟩ => ⟨S2x4096x2048, .f32⟩
  | .hbm, ⟨77, _⟩ => ⟨S2x4096x2048, .f32⟩
  | .hbm, ⟨78, _⟩ => ⟨S_, .f32⟩
  | .hbm, ⟨79, _⟩ => ⟨S2x1x2048, .f32⟩
  | .hbm, ⟨80, _⟩ => ⟨S2x1x2048, .f32⟩
  | .hbm, ⟨81, _⟩ => ⟨S2x4096x2048, .f32⟩
  | .hbm, ⟨82, _⟩ => ⟨S2x4096x2048, .f32⟩
  | .hbm, ⟨83, _⟩ => ⟨S2x4096x2048, .f32⟩
  | .hbm, ⟨84, _⟩ => ⟨S2x4096x2048, .f32⟩
  | .hbm, ⟨85, _⟩ => ⟨S2x4352x2048, .f32⟩
  | .hbm, ⟨86, _⟩ => ⟨S8704x2048, .f32⟩
  | .hbm, ⟨87, _⟩ => ⟨S_, .i32⟩
  | .hbm, ⟨88, _⟩ => ⟨S_, .f32⟩
  | .hbm, ⟨89, _⟩ => ⟨S2048x128, .f32⟩
  | .hbm, ⟨90, _⟩ => ⟨S2x4352x2048, .f32⟩
  | .hbm, ⟨91, _⟩ => ⟨S8704x2048, .f32⟩
  | .hbm, ⟨92, _⟩ => ⟨S8704x2048, .bf16⟩
  | .hbm, ⟨93, _⟩ => ⟨S8704x128, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst : Ref sig .tc := ⟨.hbm, 38, rfl⟩
abbrev main_v32 : Ref sig .tc := ⟨.hbm, 39, rfl⟩
abbrev main_v33 : Ref sig .tc := ⟨.hbm, 40, rfl⟩
abbrev main_cst_0 : Ref sig .tc := ⟨.hbm, 41, rfl⟩
abbrev main_v34 : Ref sig .tc := ⟨.hbm, 42, rfl⟩
abbrev main_v35 : Ref sig .tc := ⟨.hbm, 43, rfl⟩
abbrev main_cst_1 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_2 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_3 : Ref sig .tc := ⟨.hbm, 63, rfl⟩
abbrev main_v53 : Ref sig .tc := ⟨.hbm, 64, rfl⟩
abbrev main_v54 : Ref sig .tc := ⟨.hbm, 65, rfl⟩
abbrev main_cst_4 : Ref sig .tc := ⟨.hbm, 66, rfl⟩
abbrev main_v55 : Ref sig .tc := ⟨.hbm, 67, rfl⟩
abbrev main_v56 : Ref sig .tc := ⟨.hbm, 68, rfl⟩
abbrev main_cst_5 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_6 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_c : Ref sig .tc := ⟨.hbm, 87, rfl⟩
abbrev main_call0_v0 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩

abbrev nD : Nat := 1
abbrev τ : Topo := Topo.v7x

variable {F : FTy → Type} [FloatOps F]
-- ==== Resid.lean ====
abbrev S8704x2048 : Shape := ⟨2, ![8704, 2048]⟩
abbrev S17408x2048 : Shape := ⟨2, ![17408, 2048]⟩
abbrev S8704x2 : Shape := ⟨2, ![8704, 2]⟩
abbrev S16x12288 : Shape := ⟨2, ![16, 12288]⟩
abbrev S8704x4096 : Shape := ⟨2, ![8704, 4096]⟩
abbrev S_ : Shape := ⟨0, ![]⟩
abbrev S8704x128 : Shape := ⟨2, ![8704, 128]⟩
abbrev S34 : Shape := ⟨1, ![34]⟩
abbrev S16x6x2048 : Shape := ⟨3, ![16, 6, 2048]⟩
abbrev S34x1 : Shape := ⟨2, ![34, 1]⟩
abbrev S34x6x2048 : Shape := ⟨3, ![34, 6, 2048]⟩
abbrev S34x8x2048 : Shape := ⟨3, ![34, 8, 2048]⟩
abbrev S256x2048 : Shape := ⟨2, ![256, 2048]⟩
abbrev S256x4096 : Shape := ⟨2, ![256, 4096]⟩
abbrev S256x128 : Shape := ⟨2, ![256, 128]⟩
abbrev S1x8x2048 : Shape := ⟨3, ![1, 8, 2048]⟩
abbrev S256x1 : Shape := ⟨2, ![256, 1]⟩
abbrev S1x1x2048 : Shape := ⟨3, ![1, 1, 2048]⟩
abbrev S1x2048 : Shape := ⟨2, ![1, 2048]⟩

abbrev nBuf : Space → Nat
  | .hbm => 70
  | .vmem => 10
  | .smem => 0
  | _ => 0

abbrev bufTy : (tb : Table) → Fin (tcTables nBuf tb) → BufTy
  | .hbm, ⟨0, _⟩ => ⟨S8704x2048, .f32⟩
  | .hbm, ⟨1, _⟩ => ⟨S17408x2048, .f32⟩
  | .hbm, ⟨2, _⟩ => ⟨S8704x2, .f32⟩
  | .hbm, ⟨3, _⟩ => ⟨S16x12288, .f32⟩
  | .hbm, ⟨4, _⟩ => ⟨S8704x4096, .f32⟩
  | .hbm, ⟨5, _⟩ => ⟨S_, .i32⟩
  | .hbm, ⟨6, _⟩ => ⟨S_, .f32⟩
  | .hbm, ⟨7, _⟩ => ⟨S8704x128, .f32⟩
  | .hbm, ⟨8, _⟩ => ⟨S34, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S34, .i32⟩
  | .hbm, ⟨16, _⟩ => ⟨S34, .i32⟩
  | .hbm, ⟨17, _⟩ => ⟨S_, .i32⟩
  | .hbm, ⟨18, _⟩ => ⟨S34, .i32⟩
  | .hbm, ⟨19, _⟩ => ⟨S34, .i1⟩
  | .hbm, ⟨20, _⟩ => ⟨S_, .i32⟩
  | .hbm, ⟨21, _⟩ => ⟨S34, .i32⟩
  | .hbm, ⟨22, _⟩ => ⟨S34, .i1⟩
  | .hbm, ⟨23, _⟩ => ⟨S_, .i32⟩
  | .hbm, ⟨24, _⟩ => ⟨S_, .i1⟩
  | .hbm, ⟨25, _⟩ => ⟨S34, .i1⟩
  | .hbm, ⟨26, _⟩ => ⟨S34, .i1⟩
  | .hbm, ⟨27, _⟩ => ⟨S34, .i1⟩
  | .hbm, ⟨28, _⟩ => ⟨S34, .i32⟩
  | .hbm, ⟨29, _⟩ => ⟨S34, .i32⟩
  | .hbm, ⟨30, _⟩ => ⟨S34, .i32⟩
  | .hbm, ⟨31, _⟩ => ⟨S_, .i32⟩
  | .hbm, ⟨32, _⟩ => ⟨S34, .i32⟩
  | .hbm, ⟨33, _⟩ => ⟨S34, .i1⟩
  | .hbm, ⟨34, _⟩ => ⟨S_, .i32⟩
  | .hbm, ⟨35, _⟩ => ⟨S_, .i32⟩
  | .hbm, ⟨36, _⟩ => ⟨S34, .i32⟩
  | .hbm, ⟨37, _⟩ => ⟨S34, .i32⟩
  | .hbm, ⟨38, _⟩ => ⟨S34, .i32⟩
  | .hbm, ⟨39, _⟩ => ⟨S_, .i32⟩
  | .hbm, ⟨40, _⟩ => ⟨S34, .i32⟩
  | .hbm, ⟨41, _⟩ => ⟨S34, .i1⟩
  | .hbm, ⟨42, _⟩ => ⟨S34, .i32⟩
  | .hbm, ⟨43, _⟩ => ⟨S34, .i32⟩
  | .hbm, ⟨44, _⟩ => ⟨S_, .i32⟩
  | .hbm, ⟨45, _⟩ => ⟨S34, .i32⟩
  | .hbm, ⟨46, _⟩ => ⟨S34, .i1⟩
  | .hbm, ⟨47, _⟩ => ⟨S34, .i1⟩
  | .hbm, ⟨48, _⟩ => ⟨S_, .i32⟩
  | .hbm, ⟨49, _⟩ => ⟨S34, .i32⟩
  | .hbm, ⟨50, _⟩ => ⟨S34, .i32⟩
  | .hbm, ⟨51, _⟩ => ⟨S34, .i32⟩
  | .hbm, ⟨52, _⟩ => ⟨S_, .i32⟩
  | .hbm, ⟨53, _⟩ => ⟨S_, .i32⟩
  | .hbm, ⟨54, _⟩ => ⟨S34, .i32⟩
  | .hbm, ⟨55, _⟩ => ⟨S34, .i32⟩
  | .hbm, ⟨56, _⟩ => ⟨S16x6x2048, .f32⟩
  | .hbm, ⟨57, _⟩ => ⟨S_, .i32⟩
  | .hbm, ⟨58, _⟩ => ⟨S34, .i32⟩
  | .hbm, ⟨59, _⟩ => ⟨S34, .i1⟩
  | .hbm, ⟨60, _⟩ => ⟨S_, .i32⟩
  | .hbm, ⟨61, _⟩ => ⟨S34, .i32⟩
  | .hbm, ⟨62, _⟩ => ⟨S34, .i32⟩
  | .hbm, ⟨63, _⟩ => ⟨S34, .i32⟩
  | .hbm, ⟨64, _⟩ => ⟨S34x1, .i32⟩
  | .hbm, ⟨65, _⟩ => ⟨S34x6x2048, .f32⟩
  | .hbm, ⟨66, _⟩ => ⟨S_, .i32⟩
  | .hbm, ⟨67, _⟩ => ⟨S_, .f32⟩
  | .hbm, ⟨68, _⟩ => ⟨S34x8x2048, .f32⟩
  | .hbm, ⟨69, _⟩ => ⟨S8704x2048, .f32⟩
  | .local _ .vmem, ⟨0, _⟩ => ⟨S256x2048, .f32⟩
  | .local _ .vmem, ⟨1, _⟩ => ⟨S256x2048, .f32⟩
  | .local _ .vmem, ⟨2, _⟩ => ⟨S256x4096, .f32⟩
  | .local _ .vmem, ⟨3, _⟩ => ⟨S256x4096, .f32⟩
  | .local _ .vmem, ⟨4, _⟩ => ⟨S256x128, .f32⟩
  | .local _ .vmem, ⟨5, _⟩ => ⟨S256x128, .f32⟩
  | .local _ .vmem, ⟨6, _⟩ => ⟨S1x8x2048, .f32⟩
  | .local _ .vmem, ⟨7, _⟩ => ⟨S1x8x2048, .f32⟩
  | .local _ .vmem, ⟨8, _⟩ => ⟨S256x2048, .f32⟩
  | .local _ .vmem, ⟨9, _⟩ => ⟨S256x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_call1_c : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_c_1 : Ref sig .tc := ⟨.hbm, 17, rfl⟩
abbrev main_call1_v5 : Ref sig .tc := ⟨.hbm, 18, rfl⟩
abbrev main_call1_v6 : Ref sig .tc := ⟨.hbm, 19, rfl⟩
abbrev main_call1_c_2 : Ref sig .tc := ⟨.hbm, 20, rfl⟩
abbrev main_call1_v7 : Ref sig .tc := ⟨.hbm, 21, rfl⟩
abbrev main_call1_v8 : Ref sig .tc := ⟨.hbm, 22, rfl⟩
abbrev main_call1_c_3 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_v12 : Ref sig .tc := ⟨.hbm, 27, rfl⟩
abbrev main_call1_v13 : Ref sig .tc := ⟨.hbm, 28, rfl⟩
abbrev main_call1_v14 : Ref sig .tc := ⟨.hbm, 29, rfl⟩
abbrev main_v3 : Ref sig .tc := ⟨.hbm, 30, rfl⟩
abbrev main_c_1 : Ref sig .tc := ⟨.hbm, 31, rfl⟩
abbrev main_v4 : Ref sig .tc := ⟨.hbm, 32, rfl⟩
abbrev main_v5 : Ref sig .tc := ⟨.hbm, 33, rfl⟩
abbrev main_c_2 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_c : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_0 : Ref sig .tc := ⟨.hbm, 48, rfl⟩
abbrev main_call2_v12 : Ref sig .tc := ⟨.hbm, 49, rfl⟩
abbrev main_call2_v13 : Ref sig .tc := ⟨.hbm, 50, rfl⟩
abbrev main_v6 : Ref sig .tc := ⟨.hbm, 51, rfl⟩
abbrev main_c_3 : Ref sig .tc := ⟨.hbm, 52, rfl⟩
abbrev main_call3_v0 : Ref sig .tc := ⟨.hbm, 53, rfl⟩
abbrev main_call3_v1 : Ref sig .tc := ⟨.hbm, 54, rfl⟩
abbrev main_v7 : Ref sig .tc := ⟨.hbm, 55, rfl⟩
abbrev main_v8 : Ref sig .tc := ⟨.hbm, 56, rfl⟩
abbrev main_c_4 : Ref sig .tc := ⟨.hbm, 57, rfl⟩
abbrev main_v9 : Ref sig .tc := ⟨.hbm, 58, rfl⟩
abbrev main_v10 : Ref sig .tc := ⟨.hbm, 59, rfl⟩
abbrev main_c_5 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_c_6 : Ref sig .tc := ⟨.hbm, 66, rfl⟩
abbrev main_call4_v0 : Ref sig .tc := ⟨.hbm, 67, rfl⟩
abbrev main_v16 : Ref sig .tc := ⟨.hbm, 68, rfl⟩
abbrev main_v17 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ResidRefIdeal.lean ====
abbrev S8704x2048 : Shape := ⟨2, ![8704, 2048]⟩
abbrev S17408x2048 : Shape := ⟨2, ![17408, 2048]⟩
abbrev S8704x2 : Shape := ⟨2, ![8704, 2]⟩
abbrev S16x12288 : Shape := ⟨2, ![16, 12288]⟩
abbrev S17408 : Shape := ⟨1, ![17408]⟩
abbrev S17408x1 : Shape := ⟨2, ![17408, 1]⟩
abbrev S2x4352x2x2048 : Shape := ⟨4, ![2, 4352, 2, 2048]⟩
abbrev S_ : Shape := ⟨0, ![]⟩
abbrev S2x4352x2048 : Shape := ⟨3, ![2, 4352, 2048]⟩
abbrev S2x12288 : Shape := ⟨2, ![2, 12288]⟩
abbrev S2x1x12288 : Shape := ⟨3, ![2, 1, 12288]⟩
abbrev S2x1x2048 : Shape := ⟨3, ![2, 1, 2048]⟩
abbrev S1x12288 : Shape := ⟨2, ![1, 12288]⟩
abbrev S12288 : Shape := ⟨1, ![12288]⟩
abbrev S2048 : Shape := ⟨1, ![2048]⟩
abbrev S2x256x2048 : Shape := ⟨3, ![2, 256, 2048]⟩
abbrev S1x1x2048 : Shape := ⟨3, ![1, 1, 2048]⟩
abbrev S2x4096x2048 : Shape := ⟨3, ![2, 4096, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S17408x2048, .f32⟩
  | .hbm, ⟨2, _⟩ => ⟨S8704x2, .f32⟩
  | .hbm, ⟨3, _⟩ => ⟨S16x12288, .f32⟩
  | .hbm, ⟨4, _⟩ => ⟨S17408, .f32⟩
  | .hbm, ⟨5, _⟩ => ⟨S17408x1, .f32⟩
  | .hbm, ⟨6, _⟩ => ⟨S17408x2048, .f32⟩
  | .hbm, ⟨7, _⟩ => ⟨S17408x2048, .f32⟩
  | .hbm, ⟨8, _⟩ => ⟨S2x4352x2x2048, .f32⟩
  | .hbm, ⟨9, _⟩ => ⟨S_, .f32⟩
  | .hbm, ⟨10, _⟩ => ⟨S2x4352x2048, .f32⟩
  | .hbm, ⟨11, _⟩ => ⟨S2x4352x2048, .f32⟩
  | .hbm, ⟨12, _⟩ => ⟨S2x12288, .f32⟩
  | .hbm, ⟨13, _⟩ => ⟨S2x1x12288, .f32⟩
  | .hbm, ⟨14, _⟩ => ⟨S2x1x2048, .f32⟩
  | .hbm, ⟨15, _⟩ => ⟨S2x1x2048, .f32⟩
  | .hbm, ⟨16, _⟩ => ⟨S2x1x2048, .f32⟩
  | .hbm, ⟨17, _⟩ => ⟨S2x1x2048, .f32⟩
  | .hbm, ⟨18, _⟩ => ⟨S2x1x2048, .f32⟩
  | .hbm, ⟨19, _⟩ => ⟨S2x1x2048, .f32⟩
  | .hbm, ⟨20, _⟩ => ⟨S1x12288, .f32⟩
  | .hbm, ⟨21, _⟩ => ⟨S12288, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S2x256x2048, .f32⟩
  | .hbm, ⟨29, _⟩ => ⟨S2x256x2048, .f32⟩
  | .hbm, ⟨30, _⟩ => ⟨S1x1x2048, .f32⟩
  | .hbm, ⟨31, _⟩ => ⟨S2x256x2048, .f32⟩
  | .hbm, ⟨32, _⟩ => ⟨S2x256x2048, .f32⟩
  | .hbm, ⟨33, _⟩ => ⟨S2x256x2048, .f32⟩
  | .hbm, ⟨34, _⟩ => ⟨S2x4096x2048, .f32⟩
  | .hbm, ⟨35, _⟩ => ⟨S2x4096x2048, .f32⟩
  | .hbm, ⟨36, _⟩ => ⟨S2x4096x2048, .f32⟩
  | .hbm, ⟨37, _⟩ => ⟨S2x4096x2048, .f32⟩
  | .hbm, ⟨38, _⟩ => ⟨S2x4096x2048, .f32⟩
  | .hbm, ⟨39, _⟩ => ⟨S2x4352x2048, .f32⟩
  | .hbm, ⟨40, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]
-- ==== Proof.RetInProduct.lean ====
/-
  The matrix product `RetIn` read as a sum.  The kernel visits, for each of its 24 blocks of 512 columns, the 17 blocks
  of 512 rows; at the first of the 17 it casts its block of the weight into a scratch buffer and at the other 16 it
  uses what lies there.  So the scratch always holds the block of columns the point belongs to (`scratch_eq`), every
  block written back is the product of a block of rows with a block of columns (`after_eq`), and the array after the
  run is, at row `i` and column `j`, the sum over `k` of `x[i,k] * w[0,k,j]` (`result_eq`).
-/
module

public import proofs.«01_k».proof.Proof.Gen.RetInIdeal.Value
public import proofs.«01_k».proof.Proof.Gen.RetInRefIdeal.Run
public import proofs.«01_k».proof.Proof.Gen.RetInRefIdeal.Read
public import Idealize.ShloMosaic.Lib.Pointwise

@[expose] public section

set_option maxRecDepth 16384

noncomputable section

namespace Cert.RetInIdeal.Product

open Cert.RetInIdeal Cert.RetInIdeal.Gen Idealize.ShloMosaic Idealize.ShloMosaic.TcCoe Idealize.SL.Sem
open Idealize.ShloMosaic.Tactic

section Cases
variable {F : FTy → Type} [FloatOps F]

/-- The offset of a whole rank-2 rectangle. -/
theorem zeros2 : (![0, 0] : Fin 2 → Nat) = fun _ => 0 := funext fun a => by fin_cases a <;> rfl
/-- The offset of a whole rank-3 rectangle. -/
theorem zeros3 : (![0, 0, 0] : Fin 3 → Nat) = fun _ => 0 := funext fun a => by fin_cases a <;> rfl

/-- At a point that reuses the scratch the output block is the row block times the scratch. -/
theorem out_reuse (c : Dev nD) (i : grid0.Coords) (a2 : Memref sig .tc .vmem S512x2048 .bf16) (h2 : a2.IsWhole)
    (a3 : Memref sig .tc .vmem S1x2048x512 .f32) (h3 : a3.IsWhole) (a4 : Memref sig .tc .vmem S512x512 .f32) (h4 : a4.IsWhole)
    (a5 : Memref sig .tc .vmem S2048x512 .bf16) (h5 : a5.IsWhole) (hc : ¬cond0_0 i)
    (x : Vec F S512x2048 .bf16) (w : Vec F S1x2048x512 .f32) (s : Vec F S2048x512 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B; dsimp only
  rw [View.canon_unit_zero zeros2]
  simp only [View.readAt_eq_ld, h2.read_unread, h5.read_unread, View.ld_unit_zero (S := S512x2048) zeros2,
    View.ld_unit_zero (S := S2048x512) zeros2]

/-- At the first row block of a column block the output block is the row block times the cast weight block. -/
theorem out_first (c : Dev nD) (i : grid0.Coords) (a2 : Memref sig .tc .vmem S512x2048 .bf16) (h2 : a2.IsWhole)
    (a3 : Memref sig .tc .vmem S1x2048x512 .f32) (h3 : a3.IsWhole) (a4 : Memref sig .tc .vmem S512x512 .f32) (h4 : a4.IsWhole)
    (a5 : Memref sig .tc .vmem S2048x512 .bf16) (h5 : a5.IsWhole) (hc : cond0_0 i)
    (x : Vec F S512x2048 .bf16) (w : Vec F S1x2048x512 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A; dsimp only; sl_unfold_words
  rw [View.canon_unit_zero zeros2, View.readCov_unit_zero (S := S2048x512) _ zeros2]
  simp only [View.readAt_eq_ld, h2.read_unread, h3.read_unread, View.ld_unit_zero (S := S512x2048) zeros2,
    View.ld_unit_zero (S := S1x2048x512) zeros3]

/-- At the first row block of a column block the scratch is left at the cast weight block. -/
theorem scratch_first (c : Dev nD) (i : grid0.Coords) (a2 : Memref sig .tc .vmem S512x2048 .bf16) (h2 : a2.IsWhole)
    (a3 : Memref sig .tc .vmem S1x2048x512 .f32) (h3 : a3.IsWhole) (a4 : Memref sig .tc .vmem S512x512 .f32) (h4 : a4.IsWhole)
    (a5 : Memref sig .tc .vmem S2048x512 .bf16) (h5 : a5.IsWhole) (hc : cond0_0 i)
    (x : Vec F S512x2048 .bf16) (w : Vec F S1x2048x512 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A; dsimp only; sl_unfold_words
  rw [View.canon_unit_zero zeros2]
  simp only [View.readAt_eq_ld, h3.read_unread, View.ld_unit_zero (S := S1x2048x512) zeros3]

end Cases

/-! ## The blocks -/

section Blocks
variable (m : (ℓ : Loc nD τ sig) → Buf (Elt Ideal) ℓ) (c : Dev nD)

/-- The left operand. -/
abbrev lhs : S8704x2048.Idx → EReal := m ((c : Thread nD τ).loc main_arg0)
/-- The right operand, under its leading axis of one. -/
abbrev rhs : S1x2048x12288.Idx → EReal := m ((c : Thread nD τ).loc main_arg1)

/-- The column block of a point is the quotient of its number by 17. -/
theorem col_lt (t : Fin cfg0.N) : t.val / 17 < 24 := by
  have := lt_of_lt_of_eq t.isLt (show cfg0.N = 408 from N_0); omega

/-- Which blocks a point reads: the row block is the point's number modulo 17, the column block its quotient. -/
theorem index_facts : ∀ t : Fin cfg0.N, (win0_0.index t (0 : Fin 2) = t.val % 17 ∧ win0_0.index t (1 : Fin 2) = 0)
    ∧ win0_1.index t (0 : Fin 3) = 0 ∧ win0_1.index t (1 : Fin 3) = 0 ∧ win0_1.index t (2 : Fin 3) = t.val / 17 :=
  (by decide +kernel : ∀ t : Fin grid0.N, _)

/-- The row block of a point, at an index. -/
theorem rows_apply (t : Fin cfg0.N) (a : Fin 512) (k : Fin 2048) :
    (iblk m c 0 t : S512x2048.Idx → EReal) (ix2 a k) = lhs m c (ix2 ⟨512 * (t.val % 17) + a.val, by omega⟩ k) := by
  obtain ⟨⟨e0, e1⟩, -⟩ := index_facts t
  refine congrArg (lhs m c) (?_ : ((cfg0.win 0).blk t).view.emb (ix2 a k) = _)
  refine funext fun d => Fin.ext ?_
  match d with
  | ⟨0, _⟩ => show win0_0.index t (0 : Fin 2) * 512 + 1 * a.val = 512 * (t.val % 17) + a.val; omega
  | ⟨1, _⟩ => show win0_0.index t (1 : Fin 2) * 2048 + 1 * k.val = k.val; omega

/-- A block of 512 columns of the right operand. -/
def columns (n : Fin 24) : S2048x512.Idx → EReal := fun j =>
  rhs m c (ix3 0 ⟨(j 0).val, (j 0).isLt⟩ ⟨512 * n.val + (j 1).val, by have h : (j 1).val < 512 := (j 1).isLt; omega⟩)

/-- The cast weight block of a point is its block of columns. -/
theorem cast_eq (t : Fin cfg0.N) : (k0_pay1 (F := Ideal) (iblk m c 1 t) : S2048x512.Idx → EReal) = columns m c ⟨t.val / 17, col_lt t⟩ := by
  obtain ⟨-, e0, e1, e2⟩ := index_facts t
  funext j
  idx_vars j
  pointwise [k0_pay1]
  refine congrArg (rhs m c) (?_ : ((cfg0.win 1).blk t).view.emb (ix3 0 j0 j1) = _)
  refine funext fun d => Fin.ext ?_
  match d with
  | ⟨0, _⟩ => show win0_1.index t (0 : Fin 3) * 1 + 1 * 0 = 0; omega
  | ⟨1, _⟩ => show win0_1.index t (1 : Fin 3) * 2048 + 1 * j0.val = j0.val; omega
  | ⟨2, _⟩ => show win0_1.index t (2 : Fin 3) * 512 + 1 * j1.val = 512 * (t.val / 17) + j1.val; omega

/-- After every point the scratch holds the point's block of columns: written at the first row block of the column
    block, kept at the others. -/
theorem scratch_eq : ∀ (n : ℕ) (h : n < cfg0.N), ((outsAt0 m c n h).2 : S2048x512.Idx → EReal) = columns m c ⟨n / 17, col_lt ⟨n, h⟩⟩
  | 0, h => by
      rw [outsAt0_A m c ⟨0, h⟩ (Nat.zero_mod _)]
      dsimp only
      rw [scratch_first]
      exact cast_eq m c ⟨0, h⟩
  | n + 1, h => by
      by_cases h0 : (n + 1) % 17 = 0
      · rw [outsAt0_A m c ⟨n + 1, h⟩ h0]
        dsimp only
        rw [scratch_first]
        exact cast_eq m c ⟨n + 1, h⟩
      · rw [outsAt0_B m c ⟨n + 1, h⟩ h0]
        dsimp only
        unfold sout0_B_0
        refine (scratch_eq n (Nat.lt_of_succ_lt h)).trans ?_
        have e : n / 17 = (n + 1) / 17 := by omega
        exact congrArg (columns m c) (Fin.ext e)

/-- The output block after a point: its row block times its block of columns. -/
theorem after_eq (t : Fin cfg0.N) : (outsAt0 m c t.val t.isLt).1 = k0_pay2 (F := Ideal) (iblk m c 0 t) (columns m c ⟨t.val / 17, col_lt t⟩) := by
  by_cases h0 : t.val % 17 = 0
  · rw [outsAt0_A m c t h0]
    dsimp only
    rw [out_first, cast_eq]
  · rw [outsAt0_B m c t h0]
    dsimp only
    rw [out_reuse, scratch_eq]
    have e : (t.val - 1) / 17 = t.val / 17 := by omega
    exact congrArg (fun n => k0_pay2 (F := Ideal) (iblk m c 0 t) (columns m c n)) (Fin.ext e)

/-- A block product at an index. -/
theorem product_apply (x : S512x2048.Idx → EReal) (w : S2048x512.Idx → EReal) (a b : Fin 512) :
    k0_pay2 (F := Ideal) x w (ix2 a b) = ∑ k : Fin 2048, x (ix2 a k) * w (ix2 k b) := by
  pointwise [k0_pay2]

/-- The product of the operands, at an index. -/
def product : S8704x12288.Idx → EReal := fun i =>
  ∑ k : Fin 2048, lhs m c (ix2 ⟨(i 0).val, (i 0).isLt⟩ k) * rhs m c (ix3 0 k ⟨(i 1).val, by have h : (i 1).val < 12288 := (i 1).isLt; omega⟩)

/-- The array after the run is the product. -/
theorem result_eq : Value.G2 m c = product m c := by
  funext i
  have hi0 : (i 0).val < 8704 := (i 0).isLt
  have hi1 : (i 1).val < 12288 := (i 1).isLt
  have hp : Value.pt2Of i = (i 0).val / 512 + 17 * ((i 1).val / 512) := by
    show 1 * ((i 0).val / 512 - 0) + 17 * ((i 1).val / 512 - 0) = _; omega
  have hN : cfg0.N = 408 := N_0
  have h : Value.pt2Of i < cfg0.N := by rw [hp, hN]; omega
  have hm : Value.pt2Of i % 17 = (i 0).val / 512 := by omega
  have hd : Value.pt2Of i / 17 = (i 1).val / 512 := by omega
  unfold Value.G2
  rw [dif_pos h, ← Value.outsAt0_sweep m c _ h, after_eq m c ⟨_, h⟩]
  have hl : Value.loc2Of i = ix2 (⟨(i 0).val % 512, by omega⟩ : Fin 512) (⟨(i 1).val % 512, by omega⟩ : Fin 512) := by
    refine funext fun d => Fin.ext ?_
    match d with
    | ⟨0, _⟩ => rfl
    | ⟨1, _⟩ => rfl
  rw [hl]
  refine (product_apply (iblk m c 0 ⟨_, h⟩) (columns m c ⟨_, col_lt ⟨_, h⟩⟩) _ _).trans (Finset.sum_congr rfl fun k _ => ?_)
  rw [rows_apply]
  refine congrArg₂ (· * ·) (congrArg (lhs m c) (funext fun d => Fin.ext ?_)) (congrArg (rhs m c) (funext fun d => Fin.ext ?_))
  · match d with
    | ⟨0, _⟩ => show 512 * (Value.pt2Of i % 17) + (i 0).val % 512 = (i 0).val; rw [hm]; omega
    | ⟨1, _⟩ => rfl
  · match d with
    | ⟨0, _⟩ => rfl
    | ⟨1, _⟩ => rfl
    | ⟨2, _⟩ => show 512 * (Value.pt2Of i / 17) + (i 1).val % 512 = (i 1).val; rw [hd]; omega

end Blocks

/-! ## The claim -/

/-- The reference's result is the product of its operands. -/
theorem reference_eq (x : S8704x2048.Idx → EReal) (w : S1x2048x12288.Idx → EReal) (i : S8704x12288.Idx) :
    Cert.RetInRefIdeal.Read.val_main_v2 (F := Ideal) x w i
      = ∑ k : Fin 2048, x (ix2 ⟨(i 0).val, (i 0).isLt⟩ k) * w (ix3 0 k ⟨(i 1).val, by have h : (i 1).val < 12288 := (i 1).isLt; omega⟩) := by
  have hi1 : (i 1).val < 12288 := (i 1).isLt
  rw [Cert.RetInRefIdeal.Read.val_main_v2_apply]
  refine Finset.sum_congr rfl fun k _ => ?_
  rw [Cert.RetInRefIdeal.Read.val_main_v0_apply, Cert.RetInRefIdeal.Read.val_main_v1_apply]
  refine congrArg₂ (· * ·) (congrArg x (funext fun d => Fin.ext ?_)) (congrArg w (funext fun d => Fin.ext ?_))
  · match d with
    | ⟨0, _⟩ => rfl
    | ⟨1, _⟩ => rfl
  · match d with
    | ⟨0, _⟩ => rfl
    | ⟨1, _⟩ => show (k.val * 12288 + (i 1).val) / 12288 % 2048 = k.val; omega
    | ⟨2, _⟩ => show (k.val * 12288 + (i 1).val) % 12288 = (i 1).val; omega

/-- Kernel and reference end with the same array, the product of the operands. -/
theorem agree (m : (ℓ : Loc Cert.RetInIdeal.nD Cert.RetInIdeal.τ Cert.RetInIdeal.sig) → Buf (Elt Ideal) ℓ) (g : Dev Cert.RetInIdeal.nD → PrngReg)
    (m' : (ℓ : Loc Cert.RetInRefIdeal.nD Cert.RetInRefIdeal.τ Cert.RetInRefIdeal.sig) → Buf (Elt Ideal) ℓ) (g' : Dev Cert.RetInRefIdeal.nD → PrngReg)
    (he : ∀ c : Dev Cert.RetInIdeal.nD,
      m' ((c.tc : Thread Cert.RetInRefIdeal.nD Cert.RetInRefIdeal.τ).loc Cert.RetInRefIdeal.main_arg0) = m ((c.tc : Thread Cert.RetInIdeal.nD Cert.RetInIdeal.τ).loc Cert.RetInIdeal.main_arg0)
      ∧ m' ((c.tc : Thread Cert.RetInRefIdeal.nD Cert.RetInRefIdeal.τ).loc Cert.RetInRefIdeal.main_arg1) = m ((c.tc : Thread Cert.RetInIdeal.nD Cert.RetInIdeal.τ).loc Cert.RetInIdeal.main_arg1)) :
    ∃ (v0 : (c : Dev Cert.RetInIdeal.nD) → Buf (Elt Ideal) ((c.tc : Thread Cert.RetInIdeal.nD Cert.RetInIdeal.τ).loc Cert.RetInIdeal.main_v0)),
      θ_run (Cert.RetInIdeal.defs (F := Ideal)) (onTc (τ := Cert.RetInIdeal.τ) (Cert.RetInIdeal.main (F := Ideal))) ⟨m, fun _ => 0, g⟩ (fun r => ∀ c : Dev Cert.RetInIdeal.nD,
          r.2.mem ((c.tc : Thread Cert.RetInIdeal.nD Cert.RetInIdeal.τ).loc Cert.RetInIdeal.main_v0) = v0 c
          ∧ r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
          ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1))
      ∧ θ_run (Cert.RetInRefIdeal.defs (F := Ideal)) (onTc (τ := Cert.RetInRefIdeal.τ) (Cert.RetInRefIdeal.main (F := Ideal))) ⟨m', fun _ => 0, g'⟩ (fun r => ∀ c : Dev Cert.RetInRefIdeal.nD,
          r.2.mem ((c.tc : Thread Cert.RetInRefIdeal.nD Cert.RetInRefIdeal.τ).loc Cert.RetInRefIdeal.main_v2) = v0 c
          ∧ r.2.mem ((c.tc : Thread Cert.RetInRefIdeal.nD Cert.RetInRefIdeal.τ).loc Cert.RetInRefIdeal.main_arg0) = m' ((c.tc : Thread Cert.RetInRefIdeal.nD Cert.RetInRefIdeal.τ).loc Cert.RetInRefIdeal.main_arg0)
          ∧ r.2.mem ((c.tc : Thread Cert.RetInRefIdeal.nD Cert.RetInRefIdeal.τ).loc Cert.RetInRefIdeal.main_arg1) = m' ((c.tc : Thread Cert.RetInRefIdeal.nD Cert.RetInRefIdeal.τ).loc Cert.RetInRefIdeal.main_arg1)) := by
  refine ⟨fun c => product m c, ?_, ?_⟩
  · refine (θ_run _ _ _).mono (fun r h c => ?_) (Value.run m g)
    exact ⟨(h c).1.trans (result_eq m c), (h c).2⟩
  · refine (θ_run _ _ _).mono (fun r h c => ?_) (Cert.RetInRefIdeal.Value.run m' g')
    refine ⟨(h c).1.trans ?_, (h c).2⟩
    rw [(he c).1, (he c).2, Cert.RetInRefIdeal.Read.val_main_v2_eq]
    exact funext fun i => reference_eq _ _ i

end Cert.RetInIdeal.Product

end
-- ==== Proof.LruInProduct.lean ====
/-
  The matrix product `LruIn` read as a sum.  The kernel visits, for each of its 8 blocks of 512 columns, the 17 blocks
  of 512 rows; at the first of the 17 it casts its block of the weight into a scratch buffer and at the other 16 it
  uses what lies there.  So the scratch always holds the block of columns the point belongs to (`scratch_eq`), every
  block written back is the product of a block of rows with a block of columns (`after_eq`), and the array after the
  run is, at row `i` and column `j`, the sum over `k` of `x[i,k] * w[0,k,j]` (`result_eq`).
-/
module

public import proofs.«01_k».proof.Proof.Gen.LruInIdeal.Value
public import proofs.«01_k».proof.Proof.Gen.LruInRefIdeal.Run
public import proofs.«01_k».proof.Proof.Gen.LruInRefIdeal.Read
public import Idealize.ShloMosaic.Lib.Pointwise
public import proofs.«01_k».proof.Proof.RetInProduct

@[expose] public section

set_option maxRecDepth 16384

noncomputable section

namespace Cert.LruInIdeal.Product

open Cert.LruInIdeal Cert.LruInIdeal.Gen Idealize.ShloMosaic Idealize.ShloMosaic.TcCoe Idealize.SL.Sem
open Idealize.ShloMosaic.Tactic

section Cases
variable {F : FTy → Type} [FloatOps F]

/-- The offset of a whole rank-2 rectangle. -/
theorem zeros2 : (![0, 0] : Fin 2 → Nat) = fun _ => 0 := funext fun a => by fin_cases a <;> rfl
/-- The offset of a whole rank-3 rectangle. -/
theorem zeros3 : (![0, 0, 0] : Fin 3 → Nat) = fun _ => 0 := funext fun a => by fin_cases a <;> rfl

/-- At a point that reuses the scratch the output block is the row block times the scratch. -/
theorem out_reuse (c : Dev nD) (i : grid0.Coords) (a2 : Memref sig .tc .vmem S512x2048 .bf16) (h2 : a2.IsWhole)
    (a3 : Memref sig .tc .vmem S1x2048x512 .f32) (h3 : a3.IsWhole) (a4 : Memref sig .tc .vmem S512x512 .f32) (h4 : a4.IsWhole)
    (a5 : Memref sig .tc .vmem S2048x512 .bf16) (h5 : a5.IsWhole) (hc : ¬cond0_0 i)
    (x : Vec F S512x2048 .bf16) (w : Vec F S1x2048x512 .f32) (s : Vec F S2048x512 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B; dsimp only
  rw [View.canon_unit_zero zeros2]
  simp only [View.readAt_eq_ld, h2.read_unread, h5.read_unread, View.ld_unit_zero (S := S512x2048) zeros2,
    View.ld_unit_zero (S := S2048x512) zeros2]

/-- At the first row block of a column block the output block is the row block times the cast weight block. -/
theorem out_first (c : Dev nD) (i : grid0.Coords) (a2 : Memref sig .tc .vmem S512x2048 .bf16) (h2 : a2.IsWhole)
    (a3 : Memref sig .tc .vmem S1x2048x512 .f32) (h3 : a3.IsWhole) (a4 : Memref sig .tc .vmem S512x512 .f32) (h4 : a4.IsWhole)
    (a5 : Memref sig .tc .vmem S2048x512 .bf16) (h5 : a5.IsWhole) (hc : cond0_0 i)
    (x : Vec F S512x2048 .bf16) (w : Vec F S1x2048x512 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A; dsimp only; sl_unfold_words
  rw [View.canon_unit_zero zeros2, View.readCov_unit_zero (S := S2048x512) _ zeros2]
  simp only [View.readAt_eq_ld, h2.read_unread, h3.read_unread, View.ld_unit_zero (S := S512x2048) zeros2,
    View.ld_unit_zero (S := S1x2048x512) zeros3]

/-- At the first row block of a column block the scratch is left at the cast weight block. -/
theorem scratch_first (c : Dev nD) (i : grid0.Coords) (a2 : Memref sig .tc .vmem S512x2048 .bf16) (h2 : a2.IsWhole)
    (a3 : Memref sig .tc .vmem S1x2048x512 .f32) (h3 : a3.IsWhole) (a4 : Memref sig .tc .vmem S512x512 .f32) (h4 : a4.IsWhole)
    (a5 : Memref sig .tc .vmem S2048x512 .bf16) (h5 : a5.IsWhole) (hc : cond0_0 i)
    (x : Vec F S512x2048 .bf16) (w : Vec F S1x2048x512 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A; dsimp only; sl_unfold_words
  rw [View.canon_unit_zero zeros2]
  simp only [View.readAt_eq_ld, h3.read_unread, View.ld_unit_zero (S := S1x2048x512) zeros3]

end Cases

/-! ## The blocks -/

section Blocks
variable (m : (ℓ : Loc nD τ sig) → Buf (Elt Ideal) ℓ) (c : Dev nD)

/-- The left operand. -/
abbrev lhs : S8704x2048.Idx → EReal := m ((c : Thread nD τ).loc main_arg0)
/-- The right operand, under its leading axis of one. -/
abbrev rhs : S1x2048x4096.Idx → EReal := m ((c : Thread nD τ).loc main_arg1)

/-- The column block of a point is the quotient of its number by 17. -/
theorem col_lt (t : Fin cfg0.N) : t.val / 17 < 8 := by
  have := lt_of_lt_of_eq t.isLt (show cfg0.N = 136 from N_0); omega

/-- Which blocks a point reads: the row block is the point's number modulo 17, the column block its quotient. -/
theorem index_facts : ∀ t : Fin cfg0.N, (win0_0.index t (0 : Fin 2) = t.val % 17 ∧ win0_0.index t (1 : Fin 2) = 0)
    ∧ win0_1.index t (0 : Fin 3) = 0 ∧ win0_1.index t (1 : Fin 3) = 0 ∧ win0_1.index t (2 : Fin 3) = t.val / 17 :=
  (by decide +kernel : ∀ t : Fin grid0.N, _)

/-- The row block of a point, at an index. -/
theorem rows_apply (t : Fin cfg0.N) (a : Fin 512) (k : Fin 2048) :
    (iblk m c 0 t : S512x2048.Idx → EReal) (ix2 a k) = lhs m c (ix2 ⟨512 * (t.val % 17) + a.val, by omega⟩ k) := by
  obtain ⟨⟨e0, e1⟩, -⟩ := index_facts t
  refine congrArg (lhs m c) (?_ : ((cfg0.win 0).blk t).view.emb (ix2 a k) = _)
  refine funext fun d => Fin.ext ?_
  match d with
  | ⟨0, _⟩ => show win0_0.index t (0 : Fin 2) * 512 + 1 * a.val = 512 * (t.val % 17) + a.val; omega
  | ⟨1, _⟩ => show win0_0.index t (1 : Fin 2) * 2048 + 1 * k.val = k.val; omega

/-- A block of 512 columns of the right operand. -/
def columns (n : Fin 8) : S2048x512.Idx → EReal := fun j =>
  rhs m c (ix3 0 ⟨(j 0).val, (j 0).isLt⟩ ⟨512 * n.val + (j 1).val, by have h : (j 1).val < 512 := (j 1).isLt; omega⟩)

/-- The cast weight block of a point is its block of columns. -/
theorem cast_eq (t : Fin cfg0.N) : (k0_pay1 (F := Ideal) (iblk m c 1 t) : S2048x512.Idx → EReal) = columns m c ⟨t.val / 17, col_lt t⟩ := by
  obtain ⟨-, e0, e1, e2⟩ := index_facts t
  funext j
  idx_vars j
  pointwise [k0_pay1]
  refine congrArg (rhs m c) (?_ : ((cfg0.win 1).blk t).view.emb (ix3 0 j0 j1) = _)
  refine funext fun d => Fin.ext ?_
  match d with
  | ⟨0, _⟩ => show win0_1.index t (0 : Fin 3) * 1 + 1 * 0 = 0; omega
  | ⟨1, _⟩ => show win0_1.index t (1 : Fin 3) * 2048 + 1 * j0.val = j0.val; omega
  | ⟨2, _⟩ => show win0_1.index t (2 : Fin 3) * 512 + 1 * j1.val = 512 * (t.val / 17) + j1.val; omega

/-- After every point the scratch holds the point's block of columns: written at the first row block of the column
    block, kept at the others. -/
theorem scratch_eq : ∀ (n : ℕ) (h : n < cfg0.N), ((outsAt0 m c n h).2 : S2048x512.Idx → EReal) = columns m c ⟨n / 17, col_lt ⟨n, h⟩⟩
  | 0, h => by
      rw [outsAt0_A m c ⟨0, h⟩ (Nat.zero_mod _)]
      dsimp only
      rw [scratch_first]
      exact cast_eq m c ⟨0, h⟩
  | n + 1, h => by
      by_cases h0 : (n + 1) % 17 = 0
      · rw [outsAt0_A m c ⟨n + 1, h⟩ h0]
        dsimp only
        rw [scratch_first]
        exact cast_eq m c ⟨n + 1, h⟩
      · rw [outsAt0_B m c ⟨n + 1, h⟩ h0]
        dsimp only
        unfold sout0_B_0
        refine (scratch_eq n (Nat.lt_of_succ_lt h)).trans ?_
        have e : n / 17 = (n + 1) / 17 := by omega
        exact congrArg (columns m c) (Fin.ext e)

/-- The output block after a point: its row block times its block of columns. -/
theorem after_eq (t : Fin cfg0.N) : (outsAt0 m c t.val t.isLt).1 = k0_pay2 (F := Ideal) (iblk m c 0 t) (columns m c ⟨t.val / 17, col_lt t⟩) := by
  by_cases h0 : t.val % 17 = 0
  · rw [outsAt0_A m c t h0]
    dsimp only
    rw [out_first, cast_eq]
  · rw [outsAt0_B m c t h0]
    dsimp only
    rw [out_reuse, scratch_eq]
    have e : (t.val - 1) / 17 = t.val / 17 := by omega
    exact congrArg (fun n => k0_pay2 (F := Ideal) (iblk m c 0 t) (columns m c n)) (Fin.ext e)

/-- A block product at an index. -/
theorem product_apply (x : S512x2048.Idx → EReal) (w : S2048x512.Idx → EReal) (a b : Fin 512) :
    k0_pay2 (F := Ideal) x w (ix2 a b) = ∑ k : Fin 2048, x (ix2 a k) * w (ix2 k b) := by
  pointwise [k0_pay2]

/-- The product of the operands, at an index. -/
def product : S8704x4096.Idx → EReal := fun i =>
  ∑ k : Fin 2048, lhs m c (ix2 ⟨(i 0).val, (i 0).isLt⟩ k) * rhs m c (ix3 0 k ⟨(i 1).val, by have h : (i 1).val < 4096 := (i 1).isLt; omega⟩)

/-- The array after the run is the product. -/
theorem result_eq : Value.G2 m c = product m c := by
  funext i
  have hi0 : (i 0).val < 8704 := (i 0).isLt
  have hi1 : (i 1).val < 4096 := (i 1).isLt
  have hp : Value.pt2Of i = (i 0).val / 512 + 17 * ((i 1).val / 512) := by
    show 1 * ((i 0).val / 512 - 0) + 17 * ((i 1).val / 512 - 0) = _; omega
  have hN : cfg0.N = 136 := N_0
  have h : Value.pt2Of i < cfg0.N := by rw [hp, hN]; omega
  have hm : Value.pt2Of i % 17 = (i 0).val / 512 := by omega
  have hd : Value.pt2Of i / 17 = (i 1).val / 512 := by omega
  unfold Value.G2
  rw [dif_pos h, ← Value.outsAt0_sweep m c _ h, after_eq m c ⟨_, h⟩]
  have hl : Value.loc2Of i = ix2 (⟨(i 0).val % 512, by omega⟩ : Fin 512) (⟨(i 1).val % 512, by omega⟩ : Fin 512) := by
    refine funext fun d => Fin.ext ?_
    match d with
    | ⟨0, _⟩ => rfl
    | ⟨1, _⟩ => rfl
  rw [hl]
  refine (product_apply (iblk m c 0 ⟨_, h⟩) (columns m c ⟨_, col_lt ⟨_, h⟩⟩) _ _).trans (Finset.sum_congr rfl fun k _ => ?_)
  rw [rows_apply]
  refine congrArg₂ (· * ·) (congrArg (lhs m c) (funext fun d => Fin.ext ?_)) (congrArg (rhs m c) (funext fun d => Fin.ext ?_))
  · match d with
    | ⟨0, _⟩ => show 512 * (Value.pt2Of i % 17) + (i 0).val % 512 = (i 0).val; rw [hm]; omega
    | ⟨1, _⟩ => rfl
  · match d with
    | ⟨0, _⟩ => rfl
    | ⟨1, _⟩ => rfl
    | ⟨2, _⟩ => show 512 * (Value.pt2Of i / 17) + (i 1).val % 512 = (i 1).val; rw [hd]; omega

end Blocks

/-! ## The claim -/

/-- The reference's result is the product of its operands. -/
theorem reference_eq (x : S8704x2048.Idx → EReal) (w : S1x2048x4096.Idx → EReal) (i : S8704x4096.Idx) :
    Cert.LruInRefIdeal.Read.val_main_v2 (F := Ideal) x w i
      = ∑ k : Fin 2048, x (ix2 ⟨(i 0).val, (i 0).isLt⟩ k) * w (ix3 0 k ⟨(i 1).val, by have h : (i 1).val < 4096 := (i 1).isLt; omega⟩) := by
  have hi1 : (i 1).val < 4096 := (i 1).isLt
  rw [Cert.LruInRefIdeal.Read.val_main_v2_apply]
  refine Finset.sum_congr rfl fun k _ => ?_
  rw [Cert.LruInRefIdeal.Read.val_main_v0_apply, Cert.LruInRefIdeal.Read.val_main_v1_apply]
  refine congrArg₂ (· * ·) (congrArg x (funext fun d => Fin.ext ?_)) (congrArg w (funext fun d => Fin.ext ?_))
  · match d with
    | ⟨0, _⟩ => rfl
    | ⟨1, _⟩ => rfl
  · match d with
    | ⟨0, _⟩ => rfl
    | ⟨1, _⟩ => show (k.val * 4096 + (i 1).val) / 4096 % 2048 = k.val; omega
    | ⟨2, _⟩ => show (k.val * 4096 + (i 1).val) % 4096 = (i 1).val; omega

/-- Kernel and reference end with the same array, the product of the operands. -/
theorem agree (m : (ℓ : Loc Cert.LruInIdeal.nD Cert.LruInIdeal.τ Cert.LruInIdeal.sig) → Buf (Elt Ideal) ℓ) (g : Dev Cert.LruInIdeal.nD → PrngReg)
    (m' : (ℓ : Loc Cert.LruInRefIdeal.nD Cert.LruInRefIdeal.τ Cert.LruInRefIdeal.sig) → Buf (Elt Ideal) ℓ) (g' : Dev Cert.LruInRefIdeal.nD → PrngReg)
    (he : ∀ c : Dev Cert.LruInIdeal.nD,
      m' ((c.tc : Thread Cert.LruInRefIdeal.nD Cert.LruInRefIdeal.τ).loc Cert.LruInRefIdeal.main_arg0) = m ((c.tc : Thread Cert.LruInIdeal.nD Cert.LruInIdeal.τ).loc Cert.LruInIdeal.main_arg0)
      ∧ m' ((c.tc : Thread Cert.LruInRefIdeal.nD Cert.LruInRefIdeal.τ).loc Cert.LruInRefIdeal.main_arg1) = m ((c.tc : Thread Cert.LruInIdeal.nD Cert.LruInIdeal.τ).loc Cert.LruInIdeal.main_arg1)) :
    ∃ (v0 : (c : Dev Cert.LruInIdeal.nD) → Buf (Elt Ideal) ((c.tc : Thread Cert.LruInIdeal.nD Cert.LruInIdeal.τ).loc Cert.LruInIdeal.main_v0)),
      θ_run (Cert.LruInIdeal.defs (F := Ideal)) (onTc (τ := Cert.LruInIdeal.τ) (Cert.LruInIdeal.main (F := Ideal))) ⟨m, fun _ => 0, g⟩ (fun r => ∀ c : Dev Cert.LruInIdeal.nD,
          r.2.mem ((c.tc : Thread Cert.LruInIdeal.nD Cert.LruInIdeal.τ).loc Cert.LruInIdeal.main_v0) = v0 c
          ∧ r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
          ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ θ_run (Cert.LruInRefIdeal.defs (F := Ideal)) (onTc (τ := Cert.LruInRefIdeal.τ) (Cert.LruInRefIdeal.main (F := Ideal))) ⟨m', fun _ => 0, g'⟩ (fun r => ∀ c : Dev Cert.LruInRefIdeal.nD,
          r.2.mem ((c.tc : Thread Cert.LruInRefIdeal.nD Cert.LruInRefIdeal.τ).loc Cert.LruInRefIdeal.main_v2) = v0 c
          ∧ r.2.mem ((c.tc : Thread Cert.LruInRefIdeal.nD Cert.LruInRefIdeal.τ).loc Cert.LruInRefIdeal.main_arg0) = m' ((c.tc : Thread Cert.LruInRefIdeal.nD Cert.LruInRefIdeal.τ).loc Cert.LruInRefIdeal.main_arg0)
          ∧ r.2.mem ((c.tc : Thread Cert.LruInRefIdeal.nD Cert.LruInRefIdeal.τ).loc Cert.LruInRefIdeal.main_arg1) = m' ((c.tc : Thread Cert.LruInRefIdeal.nD Cert.LruInRefIdeal.τ).loc Cert.LruInRefIdeal.main_arg1)) := by
  refine ⟨fun c => product m c, ?_, ?_⟩
  · refine (θ_run _ _ _).mono (fun r h c => ?_) (Value.run m g)
    exact ⟨(h c).1.trans (result_eq m c), (h c).2⟩
  · refine (θ_run _ _ _).mono (fun r h c => ?_) (Cert.LruInRefIdeal.Value.run m' g')
    refine ⟨(h c).1.trans ?_, (h c).2⟩
    rw [(he c).1, (he c).2, Cert.LruInRefIdeal.Read.val_main_v2_eq]
    exact funext fun i => reference_eq _ _ i

end Cert.LruInIdeal.Product

end
-- ==== Proof.AttInProduct.lean ====
/-
  The matrix product `AttIn` read as a sum.  The kernel visits, for each of its 6 blocks of 512 columns, the 17 blocks
  of 512 rows; at the first of the 17 it casts its block of the weight into a scratch buffer and at the other 16 it
  uses what lies there.  So the scratch always holds the block of columns the point belongs to (`scratch_eq`), every
  block written back is the product of a block of rows with a block of columns (`after_eq`), and the array after the
  run is, at row `i` and column `j`, the sum over `k` of `x[i,k] * w[0,k,j]` (`result_eq`).
-/
module

public import proofs.«01_k».proof.Proof.Gen.AttInIdeal.Value
public import proofs.«01_k».proof.Proof.Gen.AttInRefIdeal.Run
public import proofs.«01_k».proof.Proof.Gen.AttInRefIdeal.Read
public import Idealize.ShloMosaic.Lib.Pointwise
public import proofs.«01_k».proof.Proof.LruInProduct

@[expose] public section

set_option maxRecDepth 16384

noncomputable section

namespace Cert.AttInIdeal.Product

open Cert.AttInIdeal Cert.AttInIdeal.Gen Idealize.ShloMosaic Idealize.ShloMosaic.TcCoe Idealize.SL.Sem
open Idealize.ShloMosaic.Tactic

section Cases
variable {F : FTy → Type} [FloatOps F]

/-- The offset of a whole rank-2 rectangle. -/
theorem zeros2 : (![0, 0] : Fin 2 → Nat) = fun _ => 0 := funext fun a => by fin_cases a <;> rfl
/-- The offset of a whole rank-3 rectangle. -/
theorem zeros3 : (![0, 0, 0] : Fin 3 → Nat) = fun _ => 0 := funext fun a => by fin_cases a <;> rfl

/-- At a point that reuses the scratch the output block is the row block times the scratch. -/
theorem out_reuse (c : Dev nD) (i : grid0.Coords) (a2 : Memref sig .tc .vmem S512x2048 .bf16) (h2 : a2.IsWhole)
    (a3 : Memref sig .tc .vmem S1x2048x512 .f32) (h3 : a3.IsWhole) (a4 : Memref sig .tc .vmem S512x512 .f32) (h4 : a4.IsWhole)
    (a5 : Memref sig .tc .vmem S2048x512 .bf16) (h5 : a5.IsWhole) (hc : ¬cond0_0 i)
    (x : Vec F S512x2048 .bf16) (w : Vec F S1x2048x512 .f32) (s : Vec F S2048x512 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B; dsimp only
  rw [View.canon_unit_zero zeros2]
  simp only [View.readAt_eq_ld, h2.read_unread, h5.read_unread, View.ld_unit_zero (S := S512x2048) zeros2,
    View.ld_unit_zero (S := S2048x512) zeros2]

/-- At the first row block of a column block the output block is the row block times the cast weight block. -/
theorem out_first (c : Dev nD) (i : grid0.Coords) (a2 : Memref sig .tc .vmem S512x2048 .bf16) (h2 : a2.IsWhole)
    (a3 : Memref sig .tc .vmem S1x2048x512 .f32) (h3 : a3.IsWhole) (a4 : Memref sig .tc .vmem S512x512 .f32) (h4 : a4.IsWhole)
    (a5 : Memref sig .tc .vmem S2048x512 .bf16) (h5 : a5.IsWhole) (hc : cond0_0 i)
    (x : Vec F S512x2048 .bf16) (w : Vec F S1x2048x512 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A; dsimp only; sl_unfold_words
  rw [View.canon_unit_zero zeros2, View.readCov_unit_zero (S := S2048x512) _ zeros2]
  simp only [View.readAt_eq_ld, h2.read_unread, h3.read_unread, View.ld_unit_zero (S := S512x2048) zeros2,
    View.ld_unit_zero (S := S1x2048x512) zeros3]

/-- At the first row block of a column block the scratch is left at the cast weight block. -/
theorem scratch_first (c : Dev nD) (i : grid0.Coords) (a2 : Memref sig .tc .vmem S512x2048 .bf16) (h2 : a2.IsWhole)
    (a3 : Memref sig .tc .vmem S1x2048x512 .f32) (h3 : a3.IsWhole) (a4 : Memref sig .tc .vmem S512x512 .f32) (h4 : a4.IsWhole)
    (a5 : Memref sig .tc .vmem S2048x512 .bf16) (h5 : a5.IsWhole) (hc : cond0_0 i)
    (x : Vec F S512x2048 .bf16) (w : Vec F S1x2048x512 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A; dsimp only; sl_unfold_words
  rw [View.canon_unit_zero zeros2]
  simp only [View.readAt_eq_ld, h3.read_unread, View.ld_unit_zero (S := S1x2048x512) zeros3]

end Cases

/-! ## The blocks -/

section Blocks
variable (m : (ℓ : Loc nD τ sig) → Buf (Elt Ideal) ℓ) (c : Dev nD)

/-- The left operand. -/
abbrev lhs : S8704x2048.Idx → EReal := m ((c : Thread nD τ).loc main_arg0)
/-- The right operand, under its leading axis of one. -/
abbrev rhs : S1x2048x3072.Idx → EReal := m ((c : Thread nD τ).loc main_arg1)

/-- The column block of a point is the quotient of its number by 17. -/
theorem col_lt (t : Fin cfg0.N) : t.val / 17 < 6 := by
  have := lt_of_lt_of_eq t.isLt (show cfg0.N = 102 from N_0); omega

/-- Which blocks a point reads: the row block is the point's number modulo 17, the column block its quotient. -/
theorem index_facts : ∀ t : Fin cfg0.N, (win0_0.index t (0 : Fin 2) = t.val % 17 ∧ win0_0.index t (1 : Fin 2) = 0)
    ∧ win0_1.index t (0 : Fin 3) = 0 ∧ win0_1.index t (1 : Fin 3) = 0 ∧ win0_1.index t (2 : Fin 3) = t.val / 17 :=
  (by decide +kernel : ∀ t : Fin grid0.N, _)

/-- The row block of a point, at an index. -/
theorem rows_apply (t : Fin cfg0.N) (a : Fin 512) (k : Fin 2048) :
    (iblk m c 0 t : S512x2048.Idx → EReal) (ix2 a k) = lhs m c (ix2 ⟨512 * (t.val % 17) + a.val, by omega⟩ k) := by
  obtain ⟨⟨e0, e1⟩, -⟩ := index_facts t
  refine congrArg (lhs m c) (?_ : ((cfg0.win 0).blk t).view.emb (ix2 a k) = _)
  refine funext fun d => Fin.ext ?_
  match d with
  | ⟨0, _⟩ => show win0_0.index t (0 : Fin 2) * 512 + 1 * a.val = 512 * (t.val % 17) + a.val; omega
  | ⟨1, _⟩ => show win0_0.index t (1 : Fin 2) * 2048 + 1 * k.val = k.val; omega

/-- A block of 512 columns of the right operand. -/
def columns (n : Fin 6) : S2048x512.Idx → EReal := fun j =>
  rhs m c (ix3 0 ⟨(j 0).val, (j 0).isLt⟩ ⟨512 * n.val + (j 1).val, by have h : (j 1).val < 512 := (j 1).isLt; omega⟩)

/-- The cast weight block of a point is its block of columns. -/
theorem cast_eq (t : Fin cfg0.N) : (k0_pay1 (F := Ideal) (iblk m c 1 t) : S2048x512.Idx → EReal) = columns m c ⟨t.val / 17, col_lt t⟩ := by
  obtain ⟨-, e0, e1, e2⟩ := index_facts t
  funext j
  idx_vars j
  pointwise [k0_pay1]
  refine congrArg (rhs m c) (?_ : ((cfg0.win 1).blk t).view.emb (ix3 0 j0 j1) = _)
  refine funext fun d => Fin.ext ?_
  match d with
  | ⟨0, _⟩ => show win0_1.index t (0 : Fin 3) * 1 + 1 * 0 = 0; omega
  | ⟨1, _⟩ => show win0_1.index t (1 : Fin 3) * 2048 + 1 * j0.val = j0.val; omega
  | ⟨2, _⟩ => show win0_1.index t (2 : Fin 3) * 512 + 1 * j1.val = 512 * (t.val / 17) + j1.val; omega

/-- After every point the scratch holds the point's block of columns: written at the first row block of the column
    block, kept at the others. -/
theorem scratch_eq : ∀ (n : ℕ) (h : n < cfg0.N), ((outsAt0 m c n h).2 : S2048x512.Idx → EReal) = columns m c ⟨n / 17, col_lt ⟨n, h⟩⟩
  | 0, h => by
      rw [outsAt0_A m c ⟨0, h⟩ (Nat.zero_mod _)]
      dsimp only
      rw [scratch_first]
      exact cast_eq m c ⟨0, h⟩
  | n + 1, h => by
      by_cases h0 : (n + 1) % 17 = 0
      · rw [outsAt0_A m c ⟨n + 1, h⟩ h0]
        dsimp only
        rw [scratch_first]
        exact cast_eq m c ⟨n + 1, h⟩
      · rw [outsAt0_B m c ⟨n + 1, h⟩ h0]
        dsimp only
        unfold sout0_B_0
        refine (scratch_eq n (Nat.lt_of_succ_lt h)).trans ?_
        have e : n / 17 = (n + 1) / 17 := by omega
        exact congrArg (columns m c) (Fin.ext e)

/-- The output block after a point: its row block times its block of columns. -/
theorem after_eq (t : Fin cfg0.N) : (outsAt0 m c t.val t.isLt).1 = k0_pay2 (F := Ideal) (iblk m c 0 t) (columns m c ⟨t.val / 17, col_lt t⟩) := by
  by_cases h0 : t.val % 17 = 0
  · rw [outsAt0_A m c t h0]
    dsimp only
    rw [out_first, cast_eq]
  · rw [outsAt0_B m c t h0]
    dsimp only
    rw [out_reuse, scratch_eq]
    have e : (t.val - 1) / 17 = t.val / 17 := by omega
    exact congrArg (fun n => k0_pay2 (F := Ideal) (iblk m c 0 t) (columns m c n)) (Fin.ext e)

/-- A block product at an index. -/
theorem product_apply (x : S512x2048.Idx → EReal) (w : S2048x512.Idx → EReal) (a b : Fin 512) :
    k0_pay2 (F := Ideal) x w (ix2 a b) = ∑ k : Fin 2048, x (ix2 a k) * w (ix2 k b) := by
  pointwise [k0_pay2]

/-- The product of the operands, at an index. -/
def product : S8704x3072.Idx → EReal := fun i =>
  ∑ k : Fin 2048, lhs m c (ix2 ⟨(i 0).val, (i 0).isLt⟩ k) * rhs m c (ix3 0 k ⟨(i 1).val, by have h : (i 1).val < 3072 := (i 1).isLt; omega⟩)

/-- The array after the run is the product. -/
theorem result_eq : Value.G2 m c = product m c := by
  funext i
  have hi0 : (i 0).val < 8704 := (i 0).isLt
  have hi1 : (i 1).val < 3072 := (i 1).isLt
  have hp : Value.pt2Of i = (i 0).val / 512 + 17 * ((i 1).val / 512) := by
    show 1 * ((i 0).val / 512 - 0) + 17 * ((i 1).val / 512 - 0) = _; omega
  have hN : cfg0.N = 102 := N_0
  have h : Value.pt2Of i < cfg0.N := by rw [hp, hN]; omega
  have hm : Value.pt2Of i % 17 = (i 0).val / 512 := by omega
  have hd : Value.pt2Of i / 17 = (i 1).val / 512 := by omega
  unfold Value.G2
  rw [dif_pos h, ← Value.outsAt0_sweep m c _ h, after_eq m c ⟨_, h⟩]
  have hl : Value.loc2Of i = ix2 (⟨(i 0).val % 512, by omega⟩ : Fin 512) (⟨(i 1).val % 512, by omega⟩ : Fin 512) := by
    refine funext fun d => Fin.ext ?_
    match d with
    | ⟨0, _⟩ => rfl
    | ⟨1, _⟩ => rfl
  rw [hl]
  refine (product_apply (iblk m c 0 ⟨_, h⟩) (columns m c ⟨_, col_lt ⟨_, h⟩⟩) _ _).trans (Finset.sum_congr rfl fun k _ => ?_)
  rw [rows_apply]
  refine congrArg₂ (· * ·) (congrArg (lhs m c) (funext fun d => Fin.ext ?_)) (congrArg (rhs m c) (funext fun d => Fin.ext ?_))
  · match d with
    | ⟨0, _⟩ => show 512 * (Value.pt2Of i % 17) + (i 0).val % 512 = (i 0).val; rw [hm]; omega
    | ⟨1, _⟩ => rfl
  · match d with
    | ⟨0, _⟩ => rfl
    | ⟨1, _⟩ => rfl
    | ⟨2, _⟩ => show 512 * (Value.pt2Of i / 17) + (i 1).val % 512 = (i 1).val; rw [hd]; omega

end Blocks

/-! ## The claim -/

/-- The reference's result is the product of its operands. -/
theorem reference_eq (x : S8704x2048.Idx → EReal) (w : S1x2048x3072.Idx → EReal) (i : S8704x3072.Idx) :
    Cert.AttInRefIdeal.Read.val_main_v2 (F := Ideal) x w i
      = ∑ k : Fin 2048, x (ix2 ⟨(i 0).val, (i 0).isLt⟩ k) * w (ix3 0 k ⟨(i 1).val, by have h : (i 1).val < 3072 := (i 1).isLt; omega⟩) := by
  have hi1 : (i 1).val < 3072 := (i 1).isLt
  rw [Cert.AttInRefIdeal.Read.val_main_v2_apply]
  refine Finset.sum_congr rfl fun k _ => ?_
  rw [Cert.AttInRefIdeal.Read.val_main_v0_apply, Cert.AttInRefIdeal.Read.val_main_v1_apply]
  refine congrArg₂ (· * ·) (congrArg x (funext fun d => Fin.ext ?_)) (congrArg w (funext fun d => Fin.ext ?_))
  · match d with
    | ⟨0, _⟩ => rfl
    | ⟨1, _⟩ => rfl
  · match d with
    | ⟨0, _⟩ => rfl
    | ⟨1, _⟩ => show (k.val * 3072 + (i 1).val) / 3072 % 2048 = k.val; omega
    | ⟨2, _⟩ => show (k.val * 3072 + (i 1).val) % 3072 = (i 1).val; omega

/-- Kernel and reference end with the same array, the product of the operands. -/
theorem agree (m : (ℓ : Loc Cert.AttInIdeal.nD Cert.AttInIdeal.τ Cert.AttInIdeal.sig) → Buf (Elt Ideal) ℓ) (g : Dev Cert.AttInIdeal.nD → PrngReg)
    (m' : (ℓ : Loc Cert.AttInRefIdeal.nD Cert.AttInRefIdeal.τ Cert.AttInRefIdeal.sig) → Buf (Elt Ideal) ℓ) (g' : Dev Cert.AttInRefIdeal.nD → PrngReg)
    (he : ∀ c : Dev Cert.AttInIdeal.nD,
      m' ((c.tc : Thread Cert.AttInRefIdeal.nD Cert.AttInRefIdeal.τ).loc Cert.AttInRefIdeal.main_arg0) = m ((c.tc : Thread Cert.AttInIdeal.nD Cert.AttInIdeal.τ).loc Cert.AttInIdeal.main_arg0)
      ∧ m' ((c.tc : Thread Cert.AttInRefIdeal.nD Cert.AttInRefIdeal.τ).loc Cert.AttInRefIdeal.main_arg1) = m ((c.tc : Thread Cert.AttInIdeal.nD Cert.AttInIdeal.τ).loc Cert.AttInIdeal.main_arg1)) :
    ∃ (v0 : (c : Dev Cert.AttInIdeal.nD) → Buf (Elt Ideal) ((c.tc : Thread Cert.AttInIdeal.nD Cert.AttInIdeal.τ).loc Cert.AttInIdeal.main_v0)),
      θ_run (Cert.AttInIdeal.defs (F := Ideal)) (onTc (τ := Cert.AttInIdeal.τ) (Cert.AttInIdeal.main (F := Ideal))) ⟨m, fun _ => 0, g⟩ (fun r => ∀ c : Dev Cert.AttInIdeal.nD,
          r.2.mem ((c.tc : Thread Cert.AttInIdeal.nD Cert.AttInIdeal.τ).loc Cert.AttInIdeal.main_v0) = v0 c
          ∧ r.2.mem ((c.tc : Thread Cert.AttInIdeal.nD Cert.AttInIdeal.τ).loc Cert.AttInIdeal.main_arg0) = m ((c.tc : Thread Cert.AttInIdeal.nD Cert.AttInIdeal.τ).loc Cert.AttInIdeal.main_arg0)
          ∧ r.2.mem ((c.tc : Thread Cert.AttInIdeal.nD Cert.AttInIdeal.τ).loc Cert.AttInIdeal.main_arg1) = m ((c.tc : Thread Cert.AttInIdeal.nD Cert.AttInIdeal.τ).loc Cert.AttInIdeal.main_arg1))
      ∧ θ_run (Cert.AttInRefIdeal.defs (F := Ideal)) (onTc (τ := Cert.AttInRefIdeal.τ) (Cert.AttInRefIdeal.main (F := Ideal))) ⟨m', fun _ => 0, g'⟩ (fun r => ∀ c : Dev Cert.AttInRefIdeal.nD,
          r.2.mem ((c.tc : Thread Cert.AttInRefIdeal.nD Cert.AttInRefIdeal.τ).loc Cert.AttInRefIdeal.main_v2) = v0 c
          ∧ r.2.mem ((c.tc : Thread Cert.AttInRefIdeal.nD Cert.AttInRefIdeal.τ).loc Cert.AttInRefIdeal.main_arg0) = m' ((c.tc : Thread Cert.AttInRefIdeal.nD Cert.AttInRefIdeal.τ).loc Cert.AttInRefIdeal.main_arg0)
          ∧ r.2.mem ((c.tc : Thread Cert.AttInRefIdeal.nD Cert.AttInRefIdeal.τ).loc Cert.AttInRefIdeal.main_arg1) = m' ((c.tc : Thread Cert.AttInRefIdeal.nD Cert.AttInRefIdeal.τ).loc Cert.AttInRefIdeal.main_arg1)) := by
  refine ⟨fun c => product m c, ?_, ?_⟩
  · refine (θ_run _ _ _).mono (fun r h c => ?_) (Value.run m g)
    exact ⟨(h c).1.trans (result_eq m c), (h c).2⟩
  · refine (θ_run _ _ _).mono (fun r h c => ?_) (Cert.AttInRefIdeal.Value.run m' g')
    refine ⟨(h c).1.trans ?_, (h c).2⟩
    rw [(he c).1, (he c).2, Cert.AttInRefIdeal.Read.val_main_v2_eq]
    exact funext fun i => reference_eq _ _ i

end Cert.AttInIdeal.Product

end
-- ==== Proof.DnInProduct.lean ====
/-
  The matrix product `DnIn` read as a sum.  The kernel visits, for each of its 16 blocks of 512 columns, the 17 blocks
  of 512 rows; at the first of the 17 it casts its block of the weight into a scratch buffer and at the other 16 it
  uses what lies there.  So the scratch always holds the block of columns the point belongs to (`scratch_eq`), every
  block written back is the product of a block of rows with a block of columns (`after_eq`), and the array after the
  run is, at row `i` and column `j`, the sum over `k` of `x[i,k] * w[0,k,j]` (`result_eq`).
-/
module

public import proofs.«01_k».proof.Proof.Gen.DnInIdeal.Value
public import proofs.«01_k».proof.Proof.Gen.DnInRefIdeal.Run
public import proofs.«01_k».proof.Proof.Gen.DnInRefIdeal.Read
public import Idealize.ShloMosaic.Lib.Pointwise
public import proofs.«01_k».proof.Proof.AttInProduct

@[expose] public section

set_option maxRecDepth 16384

noncomputable section

namespace Cert.DnInIdeal.Product

open Cert.DnInIdeal Cert.DnInIdeal.Gen Idealize.ShloMosaic Idealize.ShloMosaic.TcCoe Idealize.SL.Sem
open Idealize.ShloMosaic.Tactic

section Cases
variable {F : FTy → Type} [FloatOps F]

/-- The offset of a whole rank-2 rectangle. -/
theorem zeros2 : (![0, 0] : Fin 2 → Nat) = fun _ => 0 := funext fun a => by fin_cases a <;> rfl
/-- The offset of a whole rank-3 rectangle. -/
theorem zeros3 : (![0, 0, 0] : Fin 3 → Nat) = fun _ => 0 := funext fun a => by fin_cases a <;> rfl

/-- At a point that reuses the scratch the output block is the row block times the scratch. -/
theorem out_reuse (c : Dev nD) (i : grid0.Coords) (a2 : Memref sig .tc .vmem S512x2048 .bf16) (h2 : a2.IsWhole)
    (a3 : Memref sig .tc .vmem S1x2048x512 .f32) (h3 : a3.IsWhole) (a4 : Memref sig .tc .vmem S512x512 .f32) (h4 : a4.IsWhole)
    (a5 : Memref sig .tc .vmem S2048x512 .bf16) (h5 : a5.IsWhole) (hc : ¬cond0_0 i)
    (x : Vec F S512x2048 .bf16) (w : Vec F S1x2048x512 .f32) (s : Vec F S2048x512 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B; dsimp only
  rw [View.canon_unit_zero zeros2]
  simp only [View.readAt_eq_ld, h2.read_unread, h5.read_unread, View.ld_unit_zero (S := S512x2048) zeros2,
    View.ld_unit_zero (S := S2048x512) zeros2]

/-- At the first row block of a column block the output block is the row block times the cast weight block. -/
theorem out_first (c : Dev nD) (i : grid0.Coords) (a2 : Memref sig .tc .vmem S512x2048 .bf16) (h2 : a2.IsWhole)
    (a3 : Memref sig .tc .vmem S1x2048x512 .f32) (h3 : a3.IsWhole) (a4 : Memref sig .tc .vmem S512x512 .f32) (h4 : a4.IsWhole)
    (a5 : Memref sig .tc .vmem S2048x512 .bf16) (h5 : a5.IsWhole) (hc : cond0_0 i)
    (x : Vec F S512x2048 .bf16) (w : Vec F S1x2048x512 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A; dsimp only; sl_unfold_words
  rw [View.canon_unit_zero zeros2, View.readCov_unit_zero (S := S2048x512) _ zeros2]
  simp only [View.readAt_eq_ld, h2.read_unread, h3.read_unread, View.ld_unit_zero (S := S512x2048) zeros2,
    View.ld_unit_zero (S := S1x2048x512) zeros3]

/-- At the first row block of a column block the scratch is left at the cast weight block. -/
theorem scratch_first (c : Dev nD) (i : grid0.Coords) (a2 : Memref sig .tc .vmem S512x2048 .bf16) (h2 : a2.IsWhole)
    (a3 : Memref sig .tc .vmem S1x2048x512 .f32) (h3 : a3.IsWhole) (a4 : Memref sig .tc .vmem S512x512 .f32) (h4 : a4.IsWhole)
    (a5 : Memref sig .tc .vmem S2048x512 .bf16) (h5 : a5.IsWhole) (hc : cond0_0 i)
    (x : Vec F S512x2048 .bf16) (w : Vec F S1x2048x512 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A; dsimp only; sl_unfold_words
  rw [View.canon_unit_zero zeros2]
  simp only [View.readAt_eq_ld, h3.read_unread, View.ld_unit_zero (S := S1x2048x512) zeros3]

end Cases

/-! ## The blocks -/

section Blocks
variable (m : (ℓ : Loc nD τ sig) → Buf (Elt Ideal) ℓ) (c : Dev nD)

/-- The left operand. -/
abbrev lhs : S8704x2048.Idx → EReal := m ((c : Thread nD τ).loc main_arg0)
/-- The right operand, under its leading axis of one. -/
abbrev rhs : S1x2048x8256.Idx → EReal := m ((c : Thread nD τ).loc main_arg1)

/-- The column block of a point is the quotient of its number by 17. -/
theorem col_lt (t : Fin cfg0.N) : t.val / 17 < 16 := by
  have := lt_of_lt_of_eq t.isLt (show cfg0.N = 272 from N_0); omega

/-- Which blocks a point reads: the row block is the point's number modulo 17, the column block its quotient. -/
theorem index_facts : ∀ t : Fin cfg0.N, (win0_0.index t (0 : Fin 2) = t.val % 17 ∧ win0_0.index t (1 : Fin 2) = 0)
    ∧ win0_1.index t (0 : Fin 3) = 0 ∧ win0_1.index t (1 : Fin 3) = 0 ∧ win0_1.index t (2 : Fin 3) = t.val / 17 :=
  (by decide +kernel : ∀ t : Fin grid0.N, _)

/-- The row block of a point, at an index. -/
theorem rows_apply (t : Fin cfg0.N) (a : Fin 512) (k : Fin 2048) :
    (iblk m c 0 t : S512x2048.Idx → EReal) (ix2 a k) = lhs m c (ix2 ⟨512 * (t.val % 17) + a.val, by omega⟩ k) := by
  obtain ⟨⟨e0, e1⟩, -⟩ := index_facts t
  refine congrArg (lhs m c) (?_ : ((cfg0.win 0).blk t).view.emb (ix2 a k) = _)
  refine funext fun d => Fin.ext ?_
  match d with
  | ⟨0, _⟩ => show win0_0.index t (0 : Fin 2) * 512 + 1 * a.val = 512 * (t.val % 17) + a.val; omega
  | ⟨1, _⟩ => show win0_0.index t (1 : Fin 2) * 2048 + 1 * k.val = k.val; omega

/-- A block of 512 columns of the right operand. -/
def columns (n : Fin 16) : S2048x512.Idx → EReal := fun j =>
  rhs m c (ix3 0 ⟨(j 0).val, (j 0).isLt⟩ ⟨512 * n.val + (j 1).val, by have h : (j 1).val < 512 := (j 1).isLt; omega⟩)

/-- The cast weight block of a point is its block of columns. -/
theorem cast_eq (t : Fin cfg0.N) : (k0_pay1 (F := Ideal) (X0_1 m c t) : S2048x512.Idx → EReal) = columns m c ⟨t.val / 17, col_lt t⟩ := by
  obtain ⟨-, e0, e1, e2⟩ := index_facts t
  funext j
  idx_vars j
  pointwise [k0_pay1]
  refine (dif_pos (moved0_1 t (ix3 0 j0 j1))).trans (congrArg (rhs m c) ?_)
  refine funext fun d => Fin.ext ?_
  match d with
  | ⟨0, _⟩ => show win0_1.index t (0 : Fin 3) * 1 + 1 * 0 = 0; omega
  | ⟨1, _⟩ => show win0_1.index t (1 : Fin 3) * 2048 + 1 * j0.val = j0.val; omega
  | ⟨2, _⟩ => show win0_1.index t (2 : Fin 3) * 512 + 1 * j1.val = 512 * (t.val / 17) + j1.val; omega

/-- After every point the scratch holds the point's block of columns: written at the first row block of the column
    block, kept at the others. -/
theorem scratch_eq : ∀ (n : ℕ) (h : n < cfg0.N), ((outsAt0 m c n h).2 : S2048x512.Idx → EReal) = columns m c ⟨n / 17, col_lt ⟨n, h⟩⟩
  | 0, h => by
      rw [outsAt0_A m c ⟨0, h⟩ (Nat.zero_mod _)]
      dsimp only
      rw [scratch_first]
      exact cast_eq m c ⟨0, h⟩
  | n + 1, h => by
      by_cases h0 : (n + 1) % 17 = 0
      · rw [outsAt0_A m c ⟨n + 1, h⟩ h0]
        dsimp only
        rw [scratch_first]
        exact cast_eq m c ⟨n + 1, h⟩
      · rw [outsAt0_B m c ⟨n + 1, h⟩ h0]
        dsimp only
        unfold sout0_B_0
        refine (scratch_eq n (Nat.lt_of_succ_lt h)).trans ?_
        have e : n / 17 = (n + 1) / 17 := by omega
        exact congrArg (columns m c) (Fin.ext e)

/-- The output block after a point: its row block times its block of columns. -/
theorem after_eq (t : Fin cfg0.N) : (outsAt0 m c t.val t.isLt).1 = k0_pay2 (F := Ideal) (iblk m c 0 t) (columns m c ⟨t.val / 17, col_lt t⟩) := by
  by_cases h0 : t.val % 17 = 0
  · rw [outsAt0_A m c t h0]
    dsimp only
    rw [out_first, cast_eq]
  · rw [outsAt0_B m c t h0]
    dsimp only
    rw [out_reuse, scratch_eq]
    have e : (t.val - 1) / 17 = t.val / 17 := by omega
    exact congrArg (fun n => k0_pay2 (F := Ideal) (iblk m c 0 t) (columns m c n)) (Fin.ext e)

/-- A block product at an index. -/
theorem product_apply (x : S512x2048.Idx → EReal) (w : S2048x512.Idx → EReal) (a b : Fin 512) :
    k0_pay2 (F := Ideal) x w (ix2 a b) = ∑ k : Fin 2048, x (ix2 a k) * w (ix2 k b) := by
  pointwise [k0_pay2]

/-- The product of the operands, at an index. -/
def product : S8704x8192.Idx → EReal := fun i =>
  ∑ k : Fin 2048, lhs m c (ix2 ⟨(i 0).val, (i 0).isLt⟩ k) * rhs m c (ix3 0 k ⟨(i 1).val, by have h : (i 1).val < 8192 := (i 1).isLt; omega⟩)

/-- The array after the run is the product. -/
theorem result_eq : Value.G2 m c = product m c := by
  funext i
  have hi0 : (i 0).val < 8704 := (i 0).isLt
  have hi1 : (i 1).val < 8192 := (i 1).isLt
  have hp : Value.pt2Of i = (i 0).val / 512 + 17 * ((i 1).val / 512) := by
    show 1 * ((i 0).val / 512 - 0) + 17 * ((i 1).val / 512 - 0) = _; omega
  have hN : cfg0.N = 272 := N_0
  have h : Value.pt2Of i < cfg0.N := by rw [hp, hN]; omega
  have hm : Value.pt2Of i % 17 = (i 0).val / 512 := by omega
  have hd : Value.pt2Of i / 17 = (i 1).val / 512 := by omega
  unfold Value.G2
  rw [dif_pos h, ← Value.outsAt0_sweep m c _ h, after_eq m c ⟨_, h⟩]
  have hl : Value.loc2Of i = ix2 (⟨(i 0).val % 512, by omega⟩ : Fin 512) (⟨(i 1).val % 512, by omega⟩ : Fin 512) := by
    refine funext fun d => Fin.ext ?_
    match d with
    | ⟨0, _⟩ => rfl
    | ⟨1, _⟩ => rfl
  rw [hl]
  refine (product_apply (iblk m c 0 ⟨_, h⟩) (columns m c ⟨_, col_lt ⟨_, h⟩⟩) _ _).trans (Finset.sum_congr rfl fun k _ => ?_)
  rw [rows_apply]
  refine congrArg₂ (· * ·) (congrArg (lhs m c) (funext fun d => Fin.ext ?_)) (congrArg (rhs m c) (funext fun d => Fin.ext ?_))
  · match d with
    | ⟨0, _⟩ => show 512 * (Value.pt2Of i % 17) + (i 0).val % 512 = (i 0).val; rw [hm]; omega
    | ⟨1, _⟩ => rfl
  · match d with
    | ⟨0, _⟩ => rfl
    | ⟨1, _⟩ => rfl
    | ⟨2, _⟩ => show 512 * (Value.pt2Of i / 17) + (i 1).val % 512 = (i 1).val; rw [hd]; omega

end Blocks

/-! ## The claim -/

/-- The reference's result is the product of its operands. -/
theorem reference_eq (x : S8704x2048.Idx → EReal) (w : S1x2048x8256.Idx → EReal) (i : S8704x8192.Idx) :
    Cert.DnInRefIdeal.Read.val_main_v3 (F := Ideal) x w i
      = ∑ k : Fin 2048, x (ix2 ⟨(i 0).val, (i 0).isLt⟩ k) * w (ix3 0 k ⟨(i 1).val, by have h : (i 1).val < 8192 := (i 1).isLt; omega⟩) := by
  have hi1 : (i 1).val < 8192 := (i 1).isLt
  rw [Cert.DnInRefIdeal.Read.val_main_v3_apply, Cert.DnInRefIdeal.Read.val_main_v2_apply]
  refine Finset.sum_congr rfl fun k _ => ?_
  rw [Cert.DnInRefIdeal.Read.val_main_v0_apply, Cert.DnInRefIdeal.Read.val_main_v1_apply]
  refine congrArg₂ (· * ·) (congrArg x (funext fun d => Fin.ext ?_)) (congrArg w (funext fun d => Fin.ext ?_))
  · match d with
    | ⟨0, _⟩ => rfl
    | ⟨1, _⟩ => rfl
  · match d with
    | ⟨0, _⟩ => rfl
    | ⟨1, _⟩ => show (k.val * 8256 + (i 1).val) / 8256 % 2048 = k.val; omega
    | ⟨2, _⟩ => show (k.val * 8256 + (i 1).val) % 8256 = (i 1).val; omega

/-- Kernel and reference end with the same array, the product of the operands. -/
theorem agree (m : (ℓ : Loc Cert.DnInIdeal.nD Cert.DnInIdeal.τ Cert.DnInIdeal.sig) → Buf (Elt Ideal) ℓ) (g : Dev Cert.DnInIdeal.nD → PrngReg)
    (m' : (ℓ : Loc Cert.DnInRefIdeal.nD Cert.DnInRefIdeal.τ Cert.DnInRefIdeal.sig) → Buf (Elt Ideal) ℓ) (g' : Dev Cert.DnInRefIdeal.nD → PrngReg)
    (he : ∀ c : Dev Cert.DnInIdeal.nD,
      m' ((c.tc : Thread Cert.DnInRefIdeal.nD Cert.DnInRefIdeal.τ).loc Cert.DnInRefIdeal.main_arg0) = m ((c.tc : Thread Cert.DnInIdeal.nD Cert.DnInIdeal.τ).loc Cert.DnInIdeal.main_arg0)
      ∧ m' ((c.tc : Thread Cert.DnInRefIdeal.nD Cert.DnInRefIdeal.τ).loc Cert.DnInRefIdeal.main_arg1) = m ((c.tc : Thread Cert.DnInIdeal.nD Cert.DnInIdeal.τ).loc Cert.DnInIdeal.main_arg1)) :
    ∃ (v0 : (c : Dev Cert.DnInIdeal.nD) → Buf (Elt Ideal) ((c.tc : Thread Cert.DnInIdeal.nD Cert.DnInIdeal.τ).loc Cert.DnInIdeal.main_v0)),
      θ_run (Cert.DnInIdeal.defs (F := Ideal)) (onTc (τ := Cert.DnInIdeal.τ) (Cert.DnInIdeal.main (F := Ideal))) ⟨m, fun _ => 0, g⟩ (fun r => ∀ c : Dev Cert.DnInIdeal.nD,
          r.2.mem ((c.tc : Thread Cert.DnInIdeal.nD Cert.DnInIdeal.τ).loc Cert.DnInIdeal.main_v0) = v0 c
          ∧ r.2.mem ((c.tc : Thread Cert.DnInIdeal.nD Cert.DnInIdeal.τ).loc Cert.DnInIdeal.main_arg0) = m ((c.tc : Thread Cert.DnInIdeal.nD Cert.DnInIdeal.τ).loc Cert.DnInIdeal.main_arg0)
          ∧ r.2.mem ((c.tc : Thread Cert.DnInIdeal.nD Cert.DnInIdeal.τ).loc Cert.DnInIdeal.main_arg1) = m ((c.tc : Thread Cert.DnInIdeal.nD Cert.DnInIdeal.τ).loc Cert.DnInIdeal.main_arg1))
      ∧ θ_run (Cert.DnInRefIdeal.defs (F := Ideal)) (onTc (τ := Cert.DnInRefIdeal.τ) (Cert.DnInRefIdeal.main (F := Ideal))) ⟨m', fun _ => 0, g'⟩ (fun r => ∀ c : Dev Cert.DnInRefIdeal.nD,
          r.2.mem ((c.tc : Thread Cert.DnInRefIdeal.nD Cert.DnInRefIdeal.τ).loc Cert.DnInRefIdeal.main_v3) = v0 c
          ∧ r.2.mem ((c.tc : Thread Cert.DnInRefIdeal.nD Cert.DnInRefIdeal.τ).loc Cert.DnInRefIdeal.main_arg0) = m' ((c.tc : Thread Cert.DnInRefIdeal.nD Cert.DnInRefIdeal.τ).loc Cert.DnInRefIdeal.main_arg0)
          ∧ r.2.mem ((c.tc : Thread Cert.DnInRefIdeal.nD Cert.DnInRefIdeal.τ).loc Cert.DnInRefIdeal.main_arg1) = m' ((c.tc : Thread Cert.DnInRefIdeal.nD Cert.DnInRefIdeal.τ).loc Cert.DnInRefIdeal.main_arg1)) := by
  refine ⟨fun c => product m c, ?_, ?_⟩
  · refine (θ_run _ _ _).mono (fun r h c => ?_) (Value.run m g)
    exact ⟨(h c).1.trans (result_eq m c), (h c).2⟩
  · refine (θ_run _ _ _).mono (fun r h c => ?_) (Cert.DnInRefIdeal.Value.run m' g')
    refine ⟨(h c).1.trans ?_, (h c).2⟩
    rw [(he c).1, (he c).2, Cert.DnInRefIdeal.Read.val_main_v3_eq]
    exact funext fun i => reference_eq _ _ i

end Cert.DnInIdeal.Product

end
-- ==== Proof.MoeReference.lean ====
/-
  The mixture of experts as plain mathematics, and the reference's result read as it.  Row `i` of the result belongs to
  block `i / 128`; with that block's expert `e` it is the sum over `f` of `silu(x·G_e)[i,f] * (x·U_e)[i,f] * D_e[f,j]`
  (`mixture`).  The reference gathers the three weights of every block's expert by the table, which names an expert
  below 32 in every entry, and multiplies block by block (`reference_eq`).
-/
module

public import proofs.«01_k».proof.Proof.Gen.MoeRefIdeal.Run
public import proofs.«01_k».proof.Proof.Gen.MoeRefIdeal.Read
public import Idealize.ShloMosaic.Lib.Pointwise
public import Idealize.ShloMosaic.Lib.IdealHost
public import proofs.«01_k».proof.Proof.Gen.Pre_blocks_in_range
public import proofs.«01_k».proof.Proof.DnInProduct

@[expose] public section

set_option maxRecDepth 16384

noncomputable section

namespace Cert.MoeRefIdeal.Hand

open Cert.MoeRefIdeal Cert.MoeRefIdeal.Gen Cert.MoeRefIdeal.Read Idealize.ShloMosaic Idealize.ShloMosaic.TcCoe Idealize.SL.Sem

/-! ## The mathematics -/

/-- One row through the gated feed-forward network of expert `e`, at one column. -/
def entry (x : S21376x2048.Idx → EReal) (wg wu : S4x32x2048x512.Idx → EReal) (wd : S4x32x512x2048.Idx → EReal)
    (e : Fin 32) (row : Fin 21376) (j : Fin 2048) : EReal :=
  ∑ f : Fin 512, (∑ k : Fin 2048, x (ix2 row k) * wg (ix4 0 e k f)) * Ideal.logistic (∑ k : Fin 2048, x (ix2 row k) * wg (ix4 0 e k f))
    * (∑ k : Fin 2048, x (ix2 row k) * wu (ix4 0 e k f)) * wd (ix4 0 e f j)

/-- The mixture: each block of 128 rows goes through its expert's network. -/
def mixture (x : S21376x2048.Idx → EReal) (wg wu : S4x32x2048x512.Idx → EReal) (wd : S4x32x512x2048.Idx → EReal)
    (ex : Fin 167 → Fin 32) : S21376x2048.Idx → EReal := fun i =>
  entry x wg wu wd (ex ⟨(i 0).val / 128, by have h : (i 0).val < 21376 := (i 0).isLt; omega⟩) ⟨(i 0).val, (i 0).isLt⟩ ⟨(i 1).val, (i 1).isLt⟩

/-- The word of one half denotes one half. -/
theorem ofBits_half : Ideal.ofBits .f32 0x3F000000#32 = ((1 / 2 : ℝ) : EReal) := by
  simp [Ideal.ofBits, Ideal.ieee]; rw [← EReal.coe_mul]; norm_num

/-- Over the reals, `tanh(x/2)/2 + 1/2` is the logistic function. -/
theorem half_tanh_real (x : ℝ) : 1 / 2 * Real.tanh (1 / 2 * x) + 1 / 2 = (1 + Real.exp (-x))⁻¹ := by
  have e1 : Real.exp (-x) = (Real.exp (1 / 2 * x))⁻¹ * (Real.exp (1 / 2 * x))⁻¹ := by
    rw [← Real.exp_neg, ← Real.exp_add]; congr 1; ring
  have hp := Real.exp_pos (1 / 2 * x)
  rw [Real.tanh_eq_sinh_div_cosh, Real.sinh_eq, Real.cosh_eq, Real.exp_neg (1 / 2 * x), e1]
  generalize Real.exp (1 / 2 * x) = a at hp
  have : a ≠ 0 := hp.ne'
  have h2 : a ^ 2 + 1 ≠ 0 := by positivity
  field_simp
  ring

/-- The same at the extended reals. -/
theorem half_tanh (g : EReal) : ((1 / 2 : ℝ) : EReal) * Ideal.tanh (((1 / 2 : ℝ) : EReal) * g) + ((1 / 2 : ℝ) : EReal) = Ideal.logistic g := by
  induction g with
  | bot =>
    rw [EReal.coe_mul_bot_of_pos (by norm_num), Ideal.tanh_bot, Ideal.logistic_bot]
    rw [show (-1 : EReal) = ((-1 : ℝ) : EReal) by rw [EReal.coe_neg, EReal.coe_one], ← EReal.coe_mul, ← EReal.coe_add]
    norm_num
  | top =>
    rw [EReal.coe_mul_top_of_pos (by norm_num), Ideal.tanh_top, Ideal.logistic_top]
    rw [show (1 : EReal) = ((1 : ℝ) : EReal) by norm_cast, ← EReal.coe_mul, ← EReal.coe_add]
    norm_num
  | coe x =>
    rw [← EReal.coe_mul, Ideal.tanh_coe, Ideal.logistic_coe, ← EReal.coe_mul, ← EReal.coe_add, half_tanh_real]

/-! ## The table's words -/

/-- Where the precondition holds every word of the table is at least 0 and below 32. -/
theorem word_range [Cert.Pre_blocks_in_range.Facts] {F : FTy → Type} [FloatOps F] (x : FVec F S21376x2048 .bf16) (be : IVec S167 32)
    (wg wu : FVec F S4x32x2048x512 .f32) (wd : FVec F S4x32x512x2048 .f32)
    (h : Cert.Pre_blocks_in_range.fn (F := F) x be wg wu wd = fun _ => 1#1) (b : Fin 167) :
    (be (ix1 b)).toNat < 32 ∧ (be (ix1 b)).slt 0#32 = false ∧ (be (ix1 b)).toInt.toNat = (be (ix1 b)).toNat := by
  have hb : BitVec.ofBool ((0#32).sle (be (ix1 b))) &&& BitVec.ofBool ((be (ix1 b)).slt 32#32) = 1#1 := congrFun h (ix1 b)
  generalize be (ix1 b) = w at hb ⊢
  have h1 : (0#32).sle w = true := by
    cases e : (0#32).sle w
    · rw [e] at hb; cases e2 : w.slt 32#32 <;> rw [e2] at hb <;> exact absurd hb (by decide)
    · rfl
  have h2 : w.slt 32#32 = true := by
    cases e : w.slt 32#32
    · rw [e, h1] at hb; exact absurd hb (by decide)
    · rfl
  have a1 : (0 : ℤ) ≤ w.toInt := by simpa [BitVec.sle] using h1
  have a2 : w.toInt < 32 := by simpa [BitVec.slt] using h2
  have a3 : w.slt 0#32 = false := by simpa [BitVec.slt] using a1
  have hw := w.isLt
  have a4 := BitVec.toInt_eq_toNat_cond w
  refine ⟨?_, a3, ?_⟩ <;> · split at a4 <;> omega

/-! ## The gather -/

section Gather
variable {α : Type}

/-- The dimension numbers of a gather of whole matrices out of a stack of 32, one for each of 167 blocks. -/
abbrev matrixDims (A B : Nat) (wf : GatherDims.WF ⟨3, ![32, A, B]⟩ ⟨2, ![167, 3]⟩ ⟨4, ![167, 1, A, B]⟩ [1, 2, 3] [] [] [0, 1, 2] [] 1 ![1, A, B]) :
    GatherDims ⟨3, ![32, A, B]⟩ ⟨2, ![167, 3]⟩ ⟨4, ![167, 1, A, B]⟩ where
  offsetDims := [1, 2, 3]
  collapsedSliceDims := []
  operandBatchingDims := []
  startIndicesBatchingDims := []
  startIndexMap := [0, 1, 2]
  indexVectorDim := 1
  sliceSizes := ![1, A, B]
  wf := wf

/-- Such a gather reads the matrix its start index names, at the same row and column. -/
theorem gather_matrix {A B : Nat} (wf : GatherDims.WF ⟨3, ![32, A, B]⟩ ⟨2, ![167, 3]⟩ ⟨4, ![167, 1, A, B]⟩ [1, 2, 3] [] [] [0, 1, 2] [] 1 ![1, A, B])
    (x : (⟨3, ![32, A, B]⟩ : Shape).Idx → α) (idx : IVec ⟨2, ![167, 3]⟩ 32) (b : Fin 167) (p : Fin A) (q : Fin B) (e : Fin 32)
    (he : (idx (ix2 b 0)).toInt.toNat = e.val) :
    Host.gather (matrixDims A B wf) x idx (ix4 b 0 p q) = x (ix3 e p q) := by
  unfold Host.gather
  congr 1
  funext a
  refine Fin.ext ?_
  show (matrixDims A B wf).start (ix4 b 0 p q) idx a + (matrixDims A B wf).batchCoord (ix4 b 0 p q) a + (matrixDims A B wf).offCoord (ix4 b 0 p q) a = _
  rw [GatherDims.batchCoord_eq_zero _ _ _ List.not_mem_nil, Nat.add_zero]
  have hs := (matrixDims A B wf).start_le (ix4 b 0 p q) idx a
  match a with
  | ⟨0, _⟩ =>
    have ho : (matrixDims A B wf).offCoord (ix4 b 0 p q) (0 : Fin 3) = 0 := rfl
    have h1 : (matrixDims A B wf).siIdx (ix4 b 0 p q) ⟨List.idxOf (0 : Fin 3) (matrixDims A B wf).startIndexMap,
        List.idxOf_lt_length_iff.2 (show (0 : Fin 3) ∈ ([0, 1, 2] : List (Fin 3)) by decide)⟩ = ix2 b 0 := by
      funext d; refine Fin.ext ?_
      match d with
      | ⟨0, _⟩ => rfl
      | ⟨1, _⟩ => rfl
    have hst : (matrixDims A B wf).start (ix4 b 0 p q) idx (0 : Fin 3) = e.val := by
      unfold GatherDims.start
      rw [dif_pos (show (0 : Fin 3) ∈ ([0, 1, 2] : List (Fin 3)) by decide), h1, he]
      show min e.val (32 - 1) = e.val
      omega
    exact (congrArg₂ (· + ·) hst ho).trans (Nat.add_zero _)
  | ⟨1, _⟩ =>
    have h0 : (matrixDims A B wf).start (ix4 b 0 p q) idx (1 : Fin 3) = 0 := by
      have : (matrixDims A B wf).start (ix4 b 0 p q) idx (1 : Fin 3) ≤ A - A := hs
      omega
    have ho : (matrixDims A B wf).offCoord (ix4 b 0 p q) (1 : Fin 3) = p.val := rfl
    exact (congrArg₂ (· + ·) h0 ho).trans (Nat.zero_add _)
  | ⟨2, _⟩ =>
    have h0 : (matrixDims A B wf).start (ix4 b 0 p q) idx (2 : Fin 3) = 0 := by
      have : (matrixDims A B wf).start (ix4 b 0 p q) idx (2 : Fin 3) ≤ B - B := hs
      omega
    have ho : (matrixDims A B wf).offCoord (ix4 b 0 p q) (2 : Fin 3) = q.val := rfl
    exact (congrArg₂ (· + ·) h0 ho).trans (Nat.zero_add _)

end Gather

/-! ## The reference's stages -/

section Stages
variable (x : S21376x2048.Idx → EReal) (be : S167.Idx → BitVec 32) (wg wu : S4x32x2048x512.Idx → EReal) (wd : S4x32x512x2048.Idx → EReal)
variable (hbe : ∀ b : Fin 167, (be (ix1 b)).slt 0#32 = false) (ex : Fin 167 → Fin 32) (hex : ∀ b : Fin 167, (be (ix1 b)).toInt.toNat = (ex b).val)

include hbe in
/-- The first start index of a block is the table's word (a non-negative word is not wrapped around). -/
theorem start_gate (b : Fin 167) : val_main_v22 (F := Ideal) be (ix2 b 0) = be (ix1 b) := by
  have h := hbe b
  pointwise [val_main_v22, val_main_v19, val_main_v12, val_main_v11, val_main_v9, val_main_v8, val_main_c]
  simp [h, IntOp.cmpi, Scalar.select]
include hbe in
theorem start_up (b : Fin 167) : val_main_v41 (F := Ideal) be (ix2 b 0) = be (ix1 b) := by
  have h := hbe b
  pointwise [val_main_v41, val_main_v38, val_main_v31, val_main_v30, val_main_v28, val_main_v27, val_main_c_11]
  simp [h, IntOp.cmpi, Scalar.select]
include hbe in
theorem start_down (b : Fin 167) : val_main_v60 (F := Ideal) be (ix2 b 0) = be (ix1 b) := by
  have h := hbe b
  pointwise [val_main_v60, val_main_v57, val_main_v50, val_main_v49, val_main_v47, val_main_v46, val_main_c_23]
  simp [h, IntOp.cmpi, Scalar.select]

include hbe hex in
/-- The gathered gate weight of a block is its expert's. -/
theorem gate_apply (b : Fin 167) (k : Fin 2048) (f : Fin 512) : val_main_v24 (F := Ideal) be wg (ix3 b k f) = wg (ix4 0 (ex b) k f) := by
  rw [val_main_v24_apply, show idx_main_v24 (ix3 b k f) = ix4 b 0 k f from funext fun d => Fin.ext (by
    have hb := b.isLt; have hk := k.isLt; have hf := f.isLt
    match d with
    | ⟨0, _⟩ => show ((b.val * 2048 + k.val) * 512 + f.val) / 1048576 = b.val; omega
    | ⟨1, _⟩ => rfl
    | ⟨2, _⟩ => show ((b.val * 2048 + k.val) * 512 + f.val) / 512 % 2048 = k.val; omega
    | ⟨3, _⟩ => show ((b.val * 2048 + k.val) * 512 + f.val) % 512 = f.val; omega)]
  unfold val_main_v23
  refine (gather_matrix gather_S32x2048x512_S167x3_S167x1x2048x512_123_n_n_n_012_1_12048512_wf (val_main_v3 (F := Ideal) wg) (val_main_v22 (F := Ideal) be) b k f (ex b)
    (by rw [start_gate be hbe]; exact hex b)).trans ?_
  pointwise [val_main_v3, val_main_v2]

include hbe hex in
/-- The gathered up weight of a block is its expert's. -/
theorem up_apply (b : Fin 167) (k : Fin 2048) (f : Fin 512) : val_main_v43 (F := Ideal) be wu (ix3 b k f) = wu (ix4 0 (ex b) k f) := by
  rw [val_main_v43_apply, show idx_main_v43 (ix3 b k f) = ix4 b 0 k f from funext fun d => Fin.ext (by
    have hb := b.isLt; have hk := k.isLt; have hf := f.isLt
    match d with
    | ⟨0, _⟩ => show ((b.val * 2048 + k.val) * 512 + f.val) / 1048576 = b.val; omega
    | ⟨1, _⟩ => rfl
    | ⟨2, _⟩ => show ((b.val * 2048 + k.val) * 512 + f.val) / 512 % 2048 = k.val; omega
    | ⟨3, _⟩ => show ((b.val * 2048 + k.val) * 512 + f.val) % 512 = f.val; omega)]
  unfold val_main_v42
  refine (gather_matrix gather_S32x2048x512_S167x3_S167x1x2048x512_123_n_n_n_012_1_12048512_wf (val_main_v5 (F := Ideal) wu) (val_main_v41 (F := Ideal) be) b k f (ex b)
    (by rw [start_up be hbe]; exact hex b)).trans ?_
  pointwise [val_main_v5, val_main_v4]

include hbe hex in
/-- The gathered down weight of a block is its expert's. -/
theorem down_apply (b : Fin 167) (f : Fin 512) (j : Fin 2048) : val_main_v62 (F := Ideal) be wd (ix3 b f j) = wd (ix4 0 (ex b) f j) := by
  rw [val_main_v62_apply, show idx_main_v62 (ix3 b f j) = ix4 b 0 f j from funext fun d => Fin.ext (by
    have hb := b.isLt; have hj := j.isLt; have hf := f.isLt
    match d with
    | ⟨0, _⟩ => show ((b.val * 512 + f.val) * 2048 + j.val) / 1048576 = b.val; omega
    | ⟨1, _⟩ => rfl
    | ⟨2, _⟩ => show ((b.val * 512 + f.val) * 2048 + j.val) / 2048 % 512 = f.val; omega
    | ⟨3, _⟩ => show ((b.val * 512 + f.val) * 2048 + j.val) % 2048 = j.val; omega)]
  unfold val_main_v61
  refine (gather_matrix gather_S32x512x2048_S167x3_S167x1x512x2048_123_n_n_n_012_1_15122048_wf (val_main_v7 (F := Ideal) wd) (val_main_v60 (F := Ideal) be) b f j (ex b)
    (by rw [start_down be hbe]; exact hex b)).trans ?_
  pointwise [val_main_v7, val_main_v6]

/-- The rows, cut into blocks of 128. -/
theorem rows_apply (b : Fin 167) (r : Fin 128) (k : Fin 2048) :
    val_main_v1 (F := Ideal) x (ix3 b r k) = x (ix2 ⟨b.val * 128 + r.val, by omega⟩ k) := by
  rw [val_main_v1_apply, val_main_v0_apply]
  refine congrArg x (funext fun d => Fin.ext ?_)
  have hb := b.isLt; have hr := r.isLt; have hk := k.isLt
  match d with
  | ⟨0, _⟩ => show ((b.val * 128 + r.val) * 2048 + k.val) / 2048 = b.val * 128 + r.val; omega
  | ⟨1, _⟩ => show ((b.val * 128 + r.val) * 2048 + k.val) % 2048 = k.val; omega

include hbe hex in
/-- The gate product. -/
theorem gate_product (b : Fin 167) (r : Fin 128) (f : Fin 512) :
    val_main_v25 (F := Ideal) x be wg (ix3 b r f) = ∑ k : Fin 2048, x (ix2 ⟨b.val * 128 + r.val, by omega⟩ k) * wg (ix4 0 (ex b) k f) := by
  rw [val_main_v25_apply]
  refine Finset.sum_congr rfl fun k _ => ?_
  exact congrArg₂ (· * ·) (rows_apply x b r k) (gate_apply be wg hbe ex hex b k f)

include hbe hex in
/-- The up product. -/
theorem up_product (b : Fin 167) (r : Fin 128) (f : Fin 512) :
    val_main_v44 (F := Ideal) x be wu (ix3 b r f) = ∑ k : Fin 2048, x (ix2 ⟨b.val * 128 + r.val, by omega⟩ k) * wu (ix4 0 (ex b) k f) := by
  rw [val_main_v44_apply]
  refine Finset.sum_congr rfl fun k _ => ?_
  exact congrArg₂ (· * ·) (rows_apply x b r k) (up_apply be wu hbe ex hex b k f)

/-- The activation: the gate product times its logistic. -/
theorem silu_apply (i : S167x128x512.Idx) : val_main_v26 (F := Ideal) x be wg i
    = val_main_v25 (F := Ideal) x be wg i * Ideal.logistic (val_main_v25 (F := Ideal) x be wg i) := by
  rw [val_main_v26_apply, val_main_call0_v5_apply, val_main_call0_v4_apply, val_main_call0_cst_0_apply, val_main_call0_v3_apply,
    val_main_call0_v2_apply, val_main_call0_cst_apply, val_main_call0_v1_apply, val_main_call0_v0_apply]
  show val_main_v25 (F := Ideal) x be wg i * Ideal.div (Ideal.ofBits .f32 0x3F800000#32)
    (Ideal.ofBits .f32 0x3F800000#32 + Ideal.exp (-(val_main_v25 (F := Ideal) x be wg i))) = _
  rw [Ideal.ofBits_one_f32]
  rfl

include hbe hex in
/-- The reference's result is the mixture. -/
theorem reference_eq : val_main_v64 (F := Ideal) x be wg wu wd = mixture x wg wu wd ex := by
  funext i
  have h0 : (i 0).val < 21376 := (i 0).isLt
  have h1 : (i 1).val < 2048 := (i 1).isLt
  rw [val_main_v64_apply, show idx_main_v64 i = ix3 (⟨(i 0).val / 128, by omega⟩ : Fin 167) (⟨(i 0).val % 128, by omega⟩ : Fin 128) (⟨(i 1).val, h1⟩ : Fin 2048) from funext fun d => Fin.ext (by
    match d with
    | ⟨0, _⟩ => show ((i 0).val * 2048 + (i 1).val) / 262144 = (i 0).val / 128; omega
    | ⟨1, _⟩ => show ((i 0).val * 2048 + (i 1).val) / 2048 % 128 = (i 0).val % 128; omega
    | ⟨2, _⟩ => show ((i 0).val * 2048 + (i 1).val) % 2048 = (i 1).val; omega), val_main_v63_apply]
  unfold mixture entry
  refine Finset.sum_congr rfl fun f _ => ?_
  refine congrArg₂ (· * ·) ?_ (down_apply be wd hbe ex hex _ f _)
  rw [val_main_v45_apply, silu_apply]
  have hrow : (⟨(i 0).val / 128 * 128 + (i 0).val % 128, by omega⟩ : Fin 21376) = ⟨(i 0).val, h0⟩ := Fin.ext (by show (i 0).val / 128 * 128 + (i 0).val % 128 = (i 0).val; omega)
  have hg := gate_product x be wg hbe ex hex (⟨(i 0).val / 128, by omega⟩ : Fin 167) (⟨(i 0).val % 128, by omega⟩ : Fin 128) f
  have hu := up_product x be wu hbe ex hex (⟨(i 0).val / 128, by omega⟩ : Fin 167) (⟨(i 0).val % 128, by omega⟩ : Fin 128) f
  dsimp only at hg hu
  rw [hrow] at hg hu
  exact congrArg₂ (· * ·) (congrArg (fun y => y * Ideal.logistic y) hg) hu

end Stages

end Cert.MoeRefIdeal.Hand

end
-- ==== Proof.MoeBitsRun.lean ====
/-
  The experts of the mixture, run on the machine numbers, at whatever table the launch finds that names experts below 32.
  The kernel visits the 167 blocks of 128 rows in order.  Where a block's expert is not the one of the block before it
  casts the expert's three weights into scratch buffers, else it uses what lies there.  So before every point but the
  first the scratches hold the cast weights of the expert of the point before (`Phi`), and every block written back is
  the block of rows through its own expert (`outBlk`).  From this follow the run (`run_main`) and the frame (`frame`).
-/
module

public import proofs.«01_k».proof.Proof.Gen.Moe.Flash.Runs
public import proofs.«01_k».proof.Proof.Gen.Moe.Launch
public import Idealize.ShloMosaic.Lib.Pipeline.Quiescent
public import Idealize.ShloMosaic.Lib.Pipeline.Kit
public import Idealize.ShloMosaic.Lib.Pipeline.Value
public import Idealize.ShloMosaic.Lib.Pipeline.TableIdle
public import Idealize.ShloMosaic.Lib.Pipeline.FrameBody
public import Idealize.ShloMosaic.Lib.Writes
public import Idealize.ShloMosaic.Lib.Tactic
public import Idealize.ShloMosaic.Lib.Pointwise
public import proofs.«01_k».proof.Proof.MoeReference

@[expose] public section

set_option maxRecDepth 16384

noncomputable section

namespace Cert.Moe.Hand

open Cert.Moe Cert.Moe.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The propositions of the program's separation logic. -/
local notation "𝕄" => MT nD τ sig Unit (Elt Bits) ℕ (UR sig nD τ) ℕ

/-- The pipeline's own resources. -/
abbrev EP : Emb (UR sig nD τ) 𝕄 := emb₁

/-! ## What one visit of the body computes -/

/-- The offset of a whole rank-2 rectangle. -/
theorem zeros2 : (![0, 0] : Fin 2 → Nat) = fun _ => 0 := funext fun a => by fin_cases a <;> rfl
/-- The offset of a whole rank-4 rectangle. -/
theorem zeros4 : (![0, 0, 0, 0] : Fin 4 → Nat) = fun _ => 0 := funext fun a => by fin_cases a <;> rfl

/-- The expert of a block of rows, read off the table as the body reads it. -/
abbrev own (i : grid0.Coords) (T : S167.Idx → Elt Bits .i32) : BitVec 32 :=
  View.readAt (Elt Bits) (tbM0_0).view (Rect.unit (s := S167) (k0_off1 i) S1.size (k0_off1_inb i)).toLoadRect T (Shape.Idx.first (numel1_S1.symm ▸ Nat.one_pos))
/-- The expert of the block before it. -/
abbrev prior (i : grid0.Coords) (T : S167.Idx → Elt Bits .i32) : BitVec 32 :=
  View.readAt (Elt Bits) (tbM0_0).view (Rect.unit (s := S167) (k0_off2 i) S1.size (k0_off2_inb i)).toLoadRect T (Shape.Idx.first (numel1_S1.symm ▸ Nat.one_pos))
/-- The body's test: the first block, or a block whose expert is not the one before. -/
abbrev Renew (i : grid0.Coords) (T : S167.Idx → Elt Bits .i32) : Prop :=
  (Scalar.cmpi .ne (Scalar.extui (Scalar.ori (Scalar.cmpi .eq (BitVec.ofNat 32 (i 0).val) 0#32) (Scalar.cmpi .ne (own i T) (prior i T)))) 0#32) = 1#1

section Cases
variable (c : Dev nD) (i : grid0.Coords)
  (a2 : Memref sig .tc .vmem S128x2048 .bf16) (h2 : a2.IsWhole) (a3 : Memref sig .tc .vmem S1x1x2048x512 .f32) (h3 : a3.IsWhole)
  (a4 : Memref sig .tc .vmem S1x1x2048x512 .f32) (h4 : a4.IsWhole) (a5 : Memref sig .tc .vmem S1x1x512x2048 .f32) (h5 : a5.IsWhole)
  (a6 : Memref sig .tc .vmem S128x2048 .f32) (h6 : a6.IsWhole) (T : S167.Idx → Elt Bits .i32)
  (x : Vec Bits S128x2048 .bf16) (wg wu : Vec Bits S1x1x2048x512 .f32) (wd : Vec Bits S1x1x512x2048 .f32)

/-- Where the weights are renewed the output block is the expert's of the block's own weights. -/
theorem out_renew (hc : Renew i T) :
    out0_A_4 c i a2 h2 a3 h3 a4 h4 a5 h5 a6 h6 T x wg wu wd hc = k0_pay4 x (k0_pay1 wg) (k0_pay2 wu) (k0_pay3 wd) := by
  unfold out0_A_4
  rw [View.read_writes_eq_canon _ _ _ (cover0_A_4 c i a2 h2 a3 h3 a4 h4 a5 h5 a6 h6 T x wg wu wd hc)]
  unfold kernelRun0_A; dsimp only; sl_unfold_words
  rw [View.canon_unit_zero zeros2]
  simp only [View.readCov_unit_zero (S := S2048x512) _ zeros2, View.readCov_unit_zero (S := S512x2048) _ zeros2,
    View.readAt_eq_ld, View.read_rep, View.read_rep, View.read_rep, View.read_rep, View.ld_unit_zero (S := S128x2048) zeros2,
    View.ld_unit_zero (S := S1x1x2048x512) zeros4, View.ld_unit_zero (S := S1x1x512x2048) zeros4]

/-- One write over a whole buffer leaves what was written. -/
theorem read_one_write {S : Shape} {e : EltTy} (v : View sig .tc .vmem S e) (f : v.ty.Contents (Elt Bits)) {off : Fin S.rank → Nat}
    (h : off = fun _ => 0) (inb : ∀ a, off a + S.size a ≤ S.size a) (w : S.Idx → Elt Bits e) :
    v.read (Elt Bits) (v.writes (Elt Bits) f [⟨Rect.unit off S.size inb, w⟩]) = w :=
  (View.read_writes_eq_canon _ _ _ fun y => ⟨_, List.mem_singleton_self _, View.mem_set_unit_zero h inb y⟩).trans (View.canon_unit_zero h inb w)

/-- There the first scratch is left at the cast gate weight, -/
theorem gate_renew (hc : Renew i T) :
    scM0_0.view.read (Elt Bits) (kernelRun0_A c i a2 h2 a3 h3 a4 h4 a5 h5 a6 h6 T x wg wu wd hc).2.1 = k0_pay1 wg := by
  unfold kernelRun0_A; dsimp only; sl_unfold_words
  simp only [View.readAt_eq_ld, View.read_rep, View.ld_unit_zero (S := S1x1x2048x512) zeros4]
  exact read_one_write (S := S2048x512) scM0_0.view _ zeros2 _ _

/-- the second at the cast up weight, -/
theorem up_renew (hc : Renew i T) :
    scM0_1.view.read (Elt Bits) (kernelRun0_A c i a2 h2 a3 h3 a4 h4 a5 h5 a6 h6 T x wg wu wd hc).2.2.1 = k0_pay2 wu := by
  unfold kernelRun0_A; dsimp only; sl_unfold_words
  simp only [View.readAt_eq_ld, View.read_rep, View.ld_unit_zero (S := S1x1x2048x512) zeros4]
  exact read_one_write (S := S2048x512) scM0_1.view _ zeros2 _ _

/-- and the third at the cast down weight. -/
theorem down_renew (hc : Renew i T) :
    scM0_2.view.read (Elt Bits) (kernelRun0_A c i a2 h2 a3 h3 a4 h4 a5 h5 a6 h6 T x wg wu wd hc).2.2.2.1 = k0_pay3 wd := by
  unfold kernelRun0_A; dsimp only; sl_unfold_words
  simp only [View.readAt_eq_ld, View.read_rep, View.ld_unit_zero (S := S1x1x512x2048) zeros4]
  exact read_one_write (S := S512x2048) scM0_2.view _ zeros2 _ _

variable (s0 : Buf (Elt Bits) ((c : Thread nD τ).loc cc0_scratch0)) (s1 : Buf (Elt Bits) ((c : Thread nD τ).loc cc0_scratch1))
  (s2 : Buf (Elt Bits) ((c : Thread nD τ).loc cc0_scratch2))

/-- Where the weights are kept the output block is the expert's of what the scratches hold. -/
theorem out_keep (hc : ¬Renew i T) :
    out0_B_4 c i a2 h2 a3 h3 a4 h4 a5 h5 a6 h6 T x wg wu wd s0 s1 s2 hc
      = k0_pay4 x (scM0_0.view.read (Elt Bits) s0) (scM0_1.view.read (Elt Bits) s1) (scM0_2.view.read (Elt Bits) s2) := by
  unfold out0_B_4
  rw [View.read_writes_eq_canon _ _ _ (cover0_B_4 c i a2 h2 a3 h3 a4 h4 a5 h5 a6 h6 T x wg wu wd s0 s1 s2 hc)]
  unfold kernelRun0_B; dsimp only; sl_unfold_words
  rw [View.canon_unit_zero zeros2]
  simp only [View.readAt_eq_ld, View.read_rep, View.ld_unit_zero (S := S128x2048) zeros2,
    View.ld_unit_zero (S := S2048x512) zeros2, View.ld_unit_zero (S := S512x2048) zeros2]

/-- There the scratches are left as they were. -/
theorem scratch_keep (hc : ¬Renew i T) :
    (kernelRun0_B c i a2 h2 a3 h3 a4 h4 a5 h5 a6 h6 T x wg wu wd s0 s1 s2 hc).2.1 = s0
      ∧ (kernelRun0_B c i a2 h2 a3 h3 a4 h4 a5 h5 a6 h6 T x wg wu wd s0 s1 s2 hc).2.2.1 = s1
      ∧ (kernelRun0_B c i a2 h2 a3 h3 a4 h4 a5 h5 a6 h6 T x wg wu wd s0 s1 s2 hc).2.2.2.1 = s2 :=
  ⟨rfl, rfl, rfl⟩

end Cases

/-! ## The table -/

/-- The body's first read of the table is the word of the block itself. -/
theorem own_apply (i : grid0.Coords) (T : S167.Idx → Elt Bits .i32) :
    own i T = T (ix1 ⟨(i 0).val, (i 0).isLt⟩) :=
  congrArg T (funext fun d => Fin.ext (by
    match d with
    | ⟨0, _⟩ =>
      show k0_off1 i 0 + 1 * 0 = (i 0).val
      rw [k0_off1_eq]; rfl))

/-- The second read's offset is one less, but not below zero. -/
theorem off2_eq : ∀ i : grid0.Coords, k0_off2 i 0 = (i 0).val - 1 := by decide +kernel

/-- The second read is the word of the block before. -/
theorem prior_apply (i : grid0.Coords) (T : S167.Idx → Elt Bits .i32) :
    prior i T = T (ix1 ⟨(i 0).val - 1, lt_of_le_of_lt (Nat.sub_le _ _) (i 0).isLt⟩) :=
  congrArg T (funext fun d => Fin.ext (by
    match d with
    | ⟨0, _⟩ =>
      show k0_off2 i 0 + 1 * 0 = (i 0).val - 1
      rw [off2_eq]; omega))

/-- Where the weights are kept the block is not the first and its expert is the one before. -/
theorem keep_facts (i : grid0.Coords) (T : S167.Idx → Elt Bits .i32) (hc : ¬Renew i T) : (i 0).val ≠ 0 ∧ own i T = prior i T := by
  constructor
  · intro h
    refine hc ?_
    unfold Renew
    rw [h]
    generalize Scalar.cmpi .ne (own i T) (prior i T) = b
    revert b; decide
  · by_contra e
    refine hc ?_
    unfold Renew
    have h1 : Scalar.cmpi .ne (own i T) (prior i T) = 1#1 := by
      show BitVec.ofBool (own i T != prior i T) = 1#1
      rw [show (own i T != prior i T) = true from bne_iff_ne.mpr e]; rfl
    rw [h1]
    generalize Scalar.cmpi .eq (BitVec.ofNat 32 (i 0).val) 0#32 = b
    revert b; decide

/-! ## The pipeline at the table the launch finds -/

variable (m : (ℓ : Loc nD τ sig) → Buf (Elt Bits) ℓ) (ρ : Dev nD → PrngReg)

/-- The prefetched table as the launch finds it. -/
def tbl : pre0.Contents (Elt Bits) := fun j => m (((0 : Dev nD) : Thread nD τ).loc (pre0.ref j))
/-- There is one device, so every device holds that table. -/
theorem tbl_eq (c : Dev nD) (j : Fin 1) : m ((c : Thread nD τ).loc (pre0.ref j)) = tbl m j := by
  obtain rfl : c = 0 := Subsingleton.elim _ _; rfl
/-- Every word of the table names one of the 32 experts. -/
def Ok : Prop := ok0 (F := Bits) (tbl m)

variable (hO : Ok m)

/-- The table with the side condition of the windows that read it. -/
def adm : (pcfg0 (F := Bits)).Adm := ⟨tbl m, hO⟩
/-- The pipeline at that table. -/
abbrev cfgM : Pipeline.Cfg sig Λ₀ := cfg0 (F := Bits) (adm m hO)
/-- The program's one pipeline, as the launch theorem lists it. -/
abbrev pcs : Fin 1 → Pipeline.Cfg sig Λ₀ := Pipeline.pin (pcfgs (F := Bits)) fun _ => adm m hO
/-- The coordinates of a point. -/
abbrev crd (t : Fin (cfgM m hO).N) : grid0.Coords := (cfgM m hO).grid.coords t

/-- The windows' staging memrefs at a point, each whole. -/
abbrev ms0 (t : Fin (cfgM m hO).N) : Memref sig .tc .vmem S128x2048 .bf16 := spec0_0.stage ((cfgM m hO).slots t (0 : Fin 5))
abbrev hs0 (t : Fin (cfgM m hO).N) : (ms0 m hO t).IsWhole := hstage0_0 (((cfgM m hO).slots t (0 : Fin 5)).cast nbuf0_0)
abbrev ms1 (t : Fin (cfgM m hO).N) : Memref sig .tc .vmem S1x1x2048x512 .f32 := spec0_1.stage ((cfgM m hO).slots t (1 : Fin 5))
abbrev hs1 (t : Fin (cfgM m hO).N) : (ms1 m hO t).IsWhole := hstage0_1 (((cfgM m hO).slots t (1 : Fin 5)).cast nbuf0_1)
abbrev ms2 (t : Fin (cfgM m hO).N) : Memref sig .tc .vmem S1x1x2048x512 .f32 := spec0_2.stage ((cfgM m hO).slots t (2 : Fin 5))
abbrev hs2 (t : Fin (cfgM m hO).N) : (ms2 m hO t).IsWhole := hstage0_2 (((cfgM m hO).slots t (2 : Fin 5)).cast nbuf0_2)
abbrev ms3 (t : Fin (cfgM m hO).N) : Memref sig .tc .vmem S1x1x512x2048 .f32 := spec0_3.stage ((cfgM m hO).slots t (3 : Fin 5))
abbrev hs3 (t : Fin (cfgM m hO).N) : (ms3 m hO t).IsWhole := hstage0_3 (((cfgM m hO).slots t (3 : Fin 5)).cast nbuf0_3)
abbrev ms4 (t : Fin (cfgM m hO).N) : Memref sig .tc .vmem S128x2048 .f32 := spec0_4.stage ((cfgM m hO).slots t (4 : Fin 5))
abbrev hs4 (t : Fin (cfgM m hO).N) : (ms4 m hO t).IsWhole := hstage0_4 (((cfgM m hO).slots t (4 : Fin 5)).cast nbuf0_4)

/-- A window's block at a point, read off its array at launch. -/
def iblk (c : Dev nD) (w : Fin (cfgM m hO).W) (t : Fin (cfgM m hO).N) :
    (((cfgM m hO).win w).xblock ((cfgM m hO).grid.coords t)).Idx → Elt Bits ((cfgM m hO).win w).elt :=
  (((cfgM m hO).win w).blk t).view.read (Elt Bits) (m (((cfgM m hO).win w).arr.view.loc (c : Thread nD τ)))

/-- The one coordinate of a point is its number. -/
theorem crd_val : ∀ t : Fin grid0.N, ((grid0.coords t) 0).val = t.val := by decide +kernel

include hO in
/-- The words of the table are below 32. -/
theorem own_lt (i : grid0.Coords) : (own i (tbl m 0)).toNat < 32 := by
  obtain ⟨h, -⟩ := hO.1 i
  have h1 : ((own i (tbl m 0)).toNat + 1) * 1 ≤ 32 := h (1 : Fin 4)
  omega

/-- The expert of a point. -/
def expert (t : Fin (cfgM m hO).N) : Fin 32 := ⟨(own (crd m hO t) (tbl m 0)).toNat, own_lt m hO _⟩

/-- The gate weight of an expert, in the layout of its block. -/
def gateW (c : Dev nD) (e : Fin 32) : S1x1x2048x512.Idx → Elt Bits .f32 := fun j =>
  (m ((c : Thread nD τ).loc main_arg2) : S4x32x2048x512.Idx → Elt Bits .f32) (ix4 0 e ⟨(j 2).val, (j 2).isLt⟩ ⟨(j 3).val, (j 3).isLt⟩)
/-- The up weight of an expert. -/
def upW (c : Dev nD) (e : Fin 32) : S1x1x2048x512.Idx → Elt Bits .f32 := fun j =>
  (m ((c : Thread nD τ).loc main_arg3) : S4x32x2048x512.Idx → Elt Bits .f32) (ix4 0 e ⟨(j 2).val, (j 2).isLt⟩ ⟨(j 3).val, (j 3).isLt⟩)
/-- The down weight of an expert. -/
def downW (c : Dev nD) (e : Fin 32) : S1x1x512x2048.Idx → Elt Bits .f32 := fun j =>
  (m ((c : Thread nD τ).loc main_arg4) : S4x32x512x2048.Idx → Elt Bits .f32) (ix4 0 e ⟨(j 2).val, (j 2).isLt⟩ ⟨(j 3).val, (j 3).isLt⟩)

/-- The block of gate weights a point stages is its expert's. -/
theorem gate_block (c : Dev nD) (t : Fin (cfgM m hO).N) : (iblk m hO c (1 : Fin 5) t : S1x1x2048x512.Idx → Elt Bits .f32) = gateW m c (expert m hO t) := by
  funext j
  have j0 : (j 0).val < 1 := (j 0).isLt
  have j1 : (j 1).val < 1 := (j 1).isLt
  refine congrArg (m ((c : Thread nD τ).loc main_arg2) : S4x32x2048x512.Idx → Elt Bits .f32) (funext fun d => Fin.ext ?_)
  match d with
  | ⟨0, _⟩ => show 0 * 1 + 1 * (j 0).val = 0; omega
  | ⟨1, _⟩ => show (own (crd m hO t) (tbl m 0)).toNat * 1 + 1 * (j 1).val = (own (crd m hO t) (tbl m 0)).toNat; omega
  | ⟨2, _⟩ => show 0 * 2048 + 1 * (j 2).val = (j 2).val; omega
  | ⟨3, _⟩ => show 0 * 512 + 1 * (j 3).val = (j 3).val; omega

/-- The block of up weights a point stages is its expert's. -/
theorem up_block (c : Dev nD) (t : Fin (cfgM m hO).N) : (iblk m hO c (2 : Fin 5) t : S1x1x2048x512.Idx → Elt Bits .f32) = upW m c (expert m hO t) := by
  funext j
  have j0 : (j 0).val < 1 := (j 0).isLt
  have j1 : (j 1).val < 1 := (j 1).isLt
  refine congrArg (m ((c : Thread nD τ).loc main_arg3) : S4x32x2048x512.Idx → Elt Bits .f32) (funext fun d => Fin.ext ?_)
  match d with
  | ⟨0, _⟩ => show 0 * 1 + 1 * (j 0).val = 0; omega
  | ⟨1, _⟩ => show (own (crd m hO t) (tbl m 0)).toNat * 1 + 1 * (j 1).val = (own (crd m hO t) (tbl m 0)).toNat; omega
  | ⟨2, _⟩ => show 0 * 2048 + 1 * (j 2).val = (j 2).val; omega
  | ⟨3, _⟩ => show 0 * 512 + 1 * (j 3).val = (j 3).val; omega

/-- The block of down weights a point stages is its expert's. -/
theorem down_block (c : Dev nD) (t : Fin (cfgM m hO).N) : (iblk m hO c (3 : Fin 5) t : S1x1x512x2048.Idx → Elt Bits .f32) = downW m c (expert m hO t) := by
  funext j
  have j0 : (j 0).val < 1 := (j 0).isLt
  have j1 : (j 1).val < 1 := (j 1).isLt
  refine congrArg (m ((c : Thread nD τ).loc main_arg4) : S4x32x512x2048.Idx → Elt Bits .f32) (funext fun d => Fin.ext ?_)
  match d with
  | ⟨0, _⟩ => show 0 * 1 + 1 * (j 0).val = 0; omega
  | ⟨1, _⟩ => show (own (crd m hO t) (tbl m 0)).toNat * 1 + 1 * (j 1).val = (own (crd m hO t) (tbl m 0)).toNat; omega
  | ⟨2, _⟩ => show 0 * 512 + 1 * (j 2).val = (j 2).val; omega
  | ⟨3, _⟩ => show 0 * 2048 + 1 * (j 3).val = (j 3).val; omega

/-- The expert of the point with a given number (the first expert past the end). -/
def expertN (n : ℕ) : Fin 32 := if h : n < (cfgM m hO).N then expert m hO ⟨n, h⟩ else 0

theorem expertN_val (t : Fin (cfgM m hO).N) : expertN m hO t.val = expert m hO t := dif_pos t.isLt

/-- Where the weights are kept the expert is the one of the point before. -/
theorem expert_keep (t : Fin (cfgM m hO).N) (hc : ¬Renew (crd m hO t) (tbl m 0)) :
    t.val ≠ 0 ∧ expertN m hO (t.val - 1) = expert m hO t := by
  obtain ⟨h0, he⟩ := keep_facts _ _ hc
  have ht : ((crd m hO t) 0).val = t.val := crd_val t
  refine ⟨by rw [← ht]; exact h0, ?_⟩
  have hlt : t.val - 1 < (cfgM m hO).N := lt_of_le_of_lt (Nat.sub_le _ _) t.isLt
  have hp : ((crd m hO ⟨t.val - 1, hlt⟩) 0).val = t.val - 1 := crd_val ⟨t.val - 1, hlt⟩
  unfold expertN; rw [dif_pos hlt]
  have key : own (crd m hO ⟨t.val - 1, hlt⟩) (tbl m 0) = own (crd m hO t) (tbl m 0) := by
    refine (own_apply _ _).trans (Eq.trans ?_ ((prior_apply _ _).symm.trans he.symm))
    refine congrArg (fun n => tbl m 0 (ix1 n)) (Fin.ext ?_)
    show ((crd m hO ⟨t.val - 1, hlt⟩) 0).val = ((crd m hO t) 0).val - 1
    rw [hp, ht]
  exact Fin.ext (show (own (crd m hO ⟨t.val - 1, hlt⟩) (tbl m 0)).toNat = (own (crd m hO t) (tbl m 0)).toNat from congrArg (BitVec.toNat (w := 32)) key)

/-- The output block of a point: its rows through its expert. -/
def outBlk (c : Dev nD) (t : Fin (cfgM m hO).N) : S128x2048.Idx → Elt Bits .f32 :=
  k0_pay4 (F := Bits) (iblk m hO c (0 : Fin 5) t) (k0_pay1 (F := Bits) (gateW m c (expert m hO t))) (k0_pay2 (F := Bits) (upW m c (expert m hO t))) (k0_pay3 (F := Bits) (downW m c (expert m hO t)))

/-! ## The proof data: what holds before each point -/

/-- Before every point but the first the three scratches hold the cast weights of the expert of the point before. -/
def Phi (c : Dev nD) (t : Fin ((cfgM m hO).N + 1)) : sProp 𝕄 :=
  iprop((∃ a, ⌜t.val ≠ 0 → scM0_0.view.read (Elt Bits) a = k0_pay1 (F := Bits) (gateW m c (expertN m hO (t.val - 1)))⌝ ∗ (scM0_0.view.loc (c : Thread nD τ) ↦{fullShare} a))
    ∗ (∃ a, ⌜t.val ≠ 0 → scM0_1.view.read (Elt Bits) a = k0_pay2 (F := Bits) (upW m c (expertN m hO (t.val - 1)))⌝ ∗ (scM0_1.view.loc (c : Thread nD τ) ↦{fullShare} a))
    ∗ (∃ a, ⌜t.val ≠ 0 → scM0_2.view.read (Elt Bits) a = k0_pay3 (F := Bits) (downW m c (expertN m hO (t.val - 1)))⌝ ∗ (scM0_2.view.loc (c : Thread nD τ) ↦{fullShare} a))
    ∗ (tbM0_0.view.loc (c : Thread nD τ) ↦{fullShare.right} tbl m 0))

/-- The arrays as launched, what each staging buffer holds after the body, and the invariant. -/
def dats (_ : Fin 1) (c : Dev nD) : Dat τ (Elt Bits) Unit ℕ (UR sig nD τ) ℕ (cfgM m hO) c where
  A w := m (((cfgM m hO).win w).arr.view.loc (c : Thread nD τ))
  after w t := match w with
    | ⟨0, _⟩ => iblk m hO c (0 : Fin 5) t
    | ⟨1, _⟩ => iblk m hO c (1 : Fin 5) t
    | ⟨2, _⟩ => iblk m hO c (2 : Fin 5) t
    | ⟨3, _⟩ => iblk m hO c (3 : Fin 5) t
    | ⟨4, _⟩ => outBlk m hO c t
  Φ t := Phi m hO c t
  q _ := fullShare
  owed _ := 0

/-- After the body each input holds its block and the output its point's rows through the expert. -/
theorem after_0 (c : Dev nD) (t : Fin (cfgM m hO).N) : (dats m hO 0 c).after (0 : Fin 5) t = iblk m hO c (0 : Fin 5) t := rfl
theorem after_1 (c : Dev nD) (t : Fin (cfgM m hO).N) : (dats m hO 0 c).after (1 : Fin 5) t = iblk m hO c (1 : Fin 5) t := rfl
theorem after_2 (c : Dev nD) (t : Fin (cfgM m hO).N) : (dats m hO 0 c).after (2 : Fin 5) t = iblk m hO c (2 : Fin 5) t := rfl
theorem after_3 (c : Dev nD) (t : Fin (cfgM m hO).N) : (dats m hO 0 c).after (3 : Fin 5) t = iblk m hO c (3 : Fin 5) t := rfl
theorem after_4 (c : Dev nD) (t : Fin (cfgM m hO).N) : (dats m hO 0 c).after (4 : Fin 5) t = outBlk m hO c t := rfl

/-- Before the body each input's staging buffer holds its block, fetched at this point or earlier. -/
theorem before_0 (c : Dev nD) (t : Fin (cfgM m hO).N) (d) : (dats m hO 0 c).before (0 : Fin 5) t d = iblk m hO c (0 : Fin 5) t :=
  ((dats m hO 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfgM m hO).N) (d) : (dats m hO 0 c).before (1 : Fin 5) t d = iblk m hO c (1 : Fin 5) t :=
  ((dats m hO 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfgM m hO).N) (d) : (dats m hO 0 c).before (2 : Fin 5) t d = iblk m hO c (2 : Fin 5) t :=
  ((dats m hO 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfgM m hO).N) (d) : (dats m hO 0 c).before (3 : Fin 5) t d = iblk m hO c (3 : Fin 5) t :=
  ((dats m hO 0 c).before_in_eq_fetched (3 : Fin 5) rfl (fun _ => rfl) (fun _ _ _ => rfl) (fun t => by rw [after_3]; unfold Dat.blockOf iblk; rfl) t d).trans
    (by unfold Dat.fetched Dat.blockOf iblk; rfl)

/-! ## The body at a point -/

/-- The body on the staging memrefs of a point, as the pipeline calls it. -/
abbrev bodyAt (t : Fin (cfgM m hO).N) : Prog (TpuEff nD τ sig (Elt Bits) Λ₀ .tc) PUnit :=
  cc0_moe_experts (crd m hO t) (Memref.whole main_arg1) (Memref.isWhole_whole _) (ms0 m hO t) (hs0 m hO t) (ms1 m hO t) (hs1 m hO t) (ms2 m hO t) (hs2 m hO t) (ms3 m hO t) (hs3 m hO t) (ms4 m hO t) (hs4 m hO t) (Memref.whole cc0_scratch0) (Memref.isWhole_whole _) (Memref.whole cc0_scratch1) (Memref.isWhole_whole _) (Memref.whole cc0_scratch2) (Memref.isWhole_whole _)

set_option maxHeartbeats 4000000 in
/-- At every point the body takes the invariant to the next point and leaves its output block: where the weights are
    renewed by the casts of the staged blocks, else by what the scratches hold. -/
theorem sound_body (c : Dev nD) (t : Fin (cfgM m hO).N) :
    iprop((dats m hO 0 c).Φ t.castSucc ∗ (dats m hO 0 c).owesAt () t.castSucc
        ∗ (∃ d, owns (c : Thread nD τ) (ms0 m hO t) fullShare ((dats m hO 0 c).before (0 : Fin 5) t d))
        ∗ (∃ d, owns (c : Thread nD τ) (ms1 m hO t) fullShare ((dats m hO 0 c).before (1 : Fin 5) t d))
        ∗ (∃ d, owns (c : Thread nD τ) (ms2 m hO t) fullShare ((dats m hO 0 c).before (2 : Fin 5) t d))
        ∗ (∃ d, owns (c : Thread nD τ) (ms3 m hO t) fullShare ((dats m hO 0 c).before (3 : Fin 5) t d))
        ∗ (∃ d, owns (c : Thread nD τ) (ms4 m hO t) fullShare ((dats m hO 0 c).before (4 : Fin 5) t d)))
      ⊢ wp frame (wpE (defs₀ (F := Bits)) Variants.none c none) Set.univ (bodyAt m hO t) fun _ =>
          iprop((dats m hO 0 c).Φ t.succ ∗ (dats m hO 0 c).owesAt () t.succ
            ∗ owns (c : Thread nD τ) (ms0 m hO t) fullShare ((dats m hO 0 c).after (0 : Fin 5) t)
            ∗ owns (c : Thread nD τ) (ms1 m hO t) fullShare ((dats m hO 0 c).after (1 : Fin 5) t)
            ∗ owns (c : Thread nD τ) (ms2 m hO t) fullShare ((dats m hO 0 c).after (2 : Fin 5) t)
            ∗ owns (c : Thread nD τ) (ms3 m hO t) fullShare ((dats m hO 0 c).after (3 : Fin 5) t)
            ∗ owns (c : Thread nD τ) (ms4 m hO t) fullShare ((dats m hO 0 c).after (4 : Fin 5) t)) := by
  simp only [before_0, before_1, before_2, before_3, after_0, after_1, after_2, after_3, after_4]
  rewrite [show (dats m hO 0 c).Φ t.succ = Phi m hO c t.succ from rfl, show (dats m hO 0 c).Φ t.castSucc = Phi m hO c t.castSucc from rfl,
    show (dats m hO 0 c).owesAt () t.succ = (dats m hO 0 c).owesAt () t.castSucc from rfl]
  unfold Phi; simp only [Fin.val_castSucc, Fin.val_succ, Nat.add_one_sub_one, expertN_val]
  have eg := gate_block m hO c t
  have eu := up_block m hO c t
  have ed := down_block m hO c t
  by_cases hc : Renew (crd m hO t) (tbl m 0)
  · iintro ⟨⟨⟨%s0, %ha0, HS0⟩, ⟨%s1, %ha1, HS1⟩, ⟨%s2, %ha2, HS2⟩, HT0⟩, Ho, ⟨%d0, H0⟩, ⟨%d1, H1⟩, ⟨%d2, H2⟩, ⟨%d3, H3⟩, ⟨%d4, H4⟩⟩
    iapply ((kernelRun0_A c (crd m hO t) (ms0 m hO t) (hs0 m hO t) (ms1 m hO t) (hs1 m hO t) (ms2 m hO t) (hs2 m hO t) (ms3 m hO t) (hs3 m hO t) (ms4 m hO t) (hs4 m hO t) (tbl m 0) (iblk m hO c (0 : Fin 5) t) (iblk m hO c (1 : Fin 5) t) (iblk m hO c (2 : Fin 5) t) (iblk m hO c (3 : Fin 5) t) hc).2.2.2.2 s0 s1 s2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [H4]; · iexists _; iexact H4
    isplitl [HS0]; · iexact HS0
    isplitl [HS1]; · iexact HS1
    isplitl [HS2]; · iexact HS2
    iintro ⟨H0, H1, H2, H3, HT0, ⟨%e4, H4⟩, HS0, HS1, HS2⟩
    isplitl [HS0 HS1 HS2 HT0]
    · isplitl [HS0]
      · iexists _; isplitr; swap
        · iexact HS0
        · ipureintro; intro _; rw [← eg]; exact gate_renew c _ _ _ _ _ _ _ _ _ _ _ _ _ _ _ _ hc
      isplitl [HS1]
      · iexists _; isplitr; swap
        · iexact HS1
        · ipureintro; intro _; rw [← eu]; exact up_renew c _ _ _ _ _ _ _ _ _ _ _ _ _ _ _ _ hc
      isplitl [HS2]
      · iexists _; isplitr; swap
        · iexact HS2
        · ipureintro; intro _; rw [← ed]; exact down_renew c _ _ _ _ _ _ _ _ _ _ _ _ _ _ _ _ hc
      iexact HT0
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro
      unfold outBlk; rw [← eg, ← eu, ← ed]
      exact (View.read_writes_of_cover _ _ _ _ _ (cover0_A_4 c _ _ _ _ _ _ _ _ _ _ _ _ _ _ _ _ hc)).trans
        (out_renew c _ _ _ _ _ _ _ _ _ _ _ _ _ _ _ _ hc)
  · obtain ⟨ht, hk⟩ := expert_keep m hO t hc
    rw [hk]
    iintro ⟨⟨⟨%s0, %ha0, HS0⟩, ⟨%s1, %ha1, HS1⟩, ⟨%s2, %ha2, HS2⟩, HT0⟩, Ho, ⟨%d0, H0⟩, ⟨%d1, H1⟩, ⟨%d2, H2⟩, ⟨%d3, H3⟩, ⟨%d4, H4⟩⟩
    iapply ((kernelRun0_B c (crd m hO t) (ms0 m hO t) (hs0 m hO t) (ms1 m hO t) (hs1 m hO t) (ms2 m hO t) (hs2 m hO t) (ms3 m hO t) (hs3 m hO t) (ms4 m hO t) (hs4 m hO t) (tbl m 0) (iblk m hO c (0 : Fin 5) t) (iblk m hO c (1 : Fin 5) t) (iblk m hO c (2 : Fin 5) t) (iblk m hO c (3 : Fin 5) t) s0 s1 s2 hc).2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [H4]; · iexists _; iexact H4
    isplitl [HS0]; · iexact HS0
    isplitl [HS1]; · iexact HS1
    isplitl [HS2]; · iexact HS2
    iintro ⟨H0, H1, H2, H3, HT0, ⟨%e4, H4⟩, HS0, HS1, HS2⟩
    isplitl [HS0 HS1 HS2 HT0]
    · isplitl [HS0]
      · iexists _; isplitr; swap
        · iexact HS0
        · ipureintro; intro _; exact ha0 ht
      isplitl [HS1]
      · iexists _; isplitr; swap
        · iexact HS1
        · ipureintro; intro _; exact ha1 ht
      isplitl [HS2]
      · iexists _; isplitr; swap
        · iexact HS2
        · ipureintro; intro _; exact ha2 ht
      iexact HT0
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro
      unfold outBlk; rw [← ha0 ht, ← ha1 ht, ← ha2 ht]
      exact (View.read_writes_of_cover _ _ _ _ _ (cover0_B_4 c _ _ _ _ _ _ _ _ _ _ _ _ _ _ _ _ _ _ _ hc)).trans
        (out_keep c _ _ _ _ _ _ _ _ _ _ _ _ _ _ _ _ _ _ _ hc)

/-- The body table's row at a point is the body above. -/
theorem defs₀_row (t : Fin (cfgM m hO).N) :
    defs₀ (F := Bits) .tc (cfgM m hO).body ((cfgM m hO).bodyArgs t ((cfgM m hO).slots t)) = bodyAt m hO t := by
  unfold defs₀; rw [Defs.onTc_tc]

/-- The pipeline's obligation for the body, at every point. -/
theorem body_obligation (c : Dev nD) : BodyObligation (dats m hO 0 c) (defs₀ (F := Bits)) Variants.none () Set.univ := fun t => by
  rw [bigSep_W0, bigSep_W0, defs₀_row m hO]
  exact triple_restated (sound_body m hO c t) rfl .rfl fun _ => .rfl

/-! ## The launch -/

/-- The launch's resources for the staging cells. -/
def u₀ : UR sig nD τ :=
  initOf (Pipeline.cells (pcs m hO) ((launch0 (F := Bits)).cellOf_inj fun _ => adm m hO))
    (Pipeline.launchToks (pcs m hO) ((launch0 (F := Bits)).cellOf_inj fun _ => adm m hO))

/-- Every window holds its array at the full share. -/
theorem share_eq (c : Dev nD) (w : Fin (cfgM m hO).W) : (dats m hO 0 c).share w = fullShare := by unfold Dat.share; split <;> rfl

/-- The tables the launch hands over are the one table. -/
theorem prefHeld_eq (c : Dev nD) (q : Fin 1 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0)) := by
  unfold Pipeline.prefHeld
  rw [show (Finset.univ : Finset (Fin 1)) = {(0 : Fin 1)} from by decide, bigSep_singleton]
  rfl

/-- Before the first point nothing is asked of the scratches. -/
theorem phi_first (c : Dev nD) :
    iprop(BI.emp ∗ Pipeline.prefHeld pre0 c (fun _ => fullShare.right) (adm m hO).1 ∗ Pipeline.scopedRest spec0 c) ⊢ (dats m hO 0 c).Φ 0 := by
  rw [prefHeld_eq, scopedRest0_eq, show (dats m hO 0 c).Φ 0 = Phi m hO c 0 from rfl]
  unfold Phi
  iintro ⟨-, ⟨HT0⟩, ⟨%a0, HS0⟩, ⟨%a1, HS1⟩, ⟨%a2, HS2⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  iexact HT0

/-- After the last point the scratches are given back. -/
theorem phi_last (c : Dev nD) : (dats m hO 0 c).Φ (Fin.last (cfgM m hO).N) ⊢ iprop(BI.emp ∗ Pipeline.scopedRest spec0 c) := by
  rw [scopedRest0_eq, show (dats m hO 0 c).Φ (Fin.last (cfgM m hO).N) = Phi m hO c (Fin.last _) from rfl]
  unfold Phi
  iintro ⟨⟨%a0, -, HS0⟩, ⟨%a1, -, HS1⟩, ⟨%a2, -, HS2⟩, -⟩
  isplitr; · iempintro
  isplitl [HS0]
  · iexists a0; iexact HS0
  isplitl [HS1]
  · iexists a1; iexact HS1
  iexists a2; iexact HS2

/-- The memory at the end: every array at what the points wrote back, the table as it was. -/
def Post : PUnit × MemSt nD τ sig (Elt Bits) → Prop := fun r =>
  ∀ c : Dev nD, (∀ w : Fin (cfgM m hO).W, r.2.mem (((cfgM m hO).win w).arr.view.loc (c : Thread nD τ)) = (dats m hO 0 c).arrAt w (cfgM m hO).N)
    ∧ ∀ j, r.2.mem ((c : Thread nD τ).loc (pre0.ref j)) = (adm m hO).1 j

set_option backward.isDefEq.respectTransparency.types false in
set_option maxHeartbeats 4000000 in
/-- Every execution from a memory whose table names experts ends, with that memory and with every semaphore at zero. -/
theorem run_main : θ_run (defs (F := Bits)) (onTc (τ := τ) (main (F := Bits))) ⟨m, fun _ => 0, ρ⟩ (fun r => Post m hO r ∧ r.2.sem = fun _ => 0) :=
  Pipeline.θ_run_region_noSem_pf_quiescent pcfgs (fun _ => adm m hO) (dats m hO) () ((launch0 (F := Bits)).cellOf_inj fun _ => adm m hO) (0 : Fin 1)
    (launch0 (F := Bits)).win.to₀ (launch0 (F := Bits)).pre EP defs₀ Variants.none m ρ main
    (hbody := fun c => (body_obligation m hO c).loose) (hne := (launch0 (F := Bits)).block_pos)
    (harr := (launch0 (F := Bits)).arr_whole) (hstage := (launch0 (F := Bits)).stage_whole) (howed := fun _ _ => rfl)
    (u₀ := u₀ m hO) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hO) (dats m hO) 0 (launch0 (F := Bits)).win.arr_inj c (launch0 (F := Bits)).arr_whole
      (share_eq m hO c) _ _ fun _ => rfl)
    (hpf := tbl_eq m)
    (X := fun _ => iprop(emp)) (Y := fun _ => iprop(emp)) (Z := fun _ => iprop(emp))
    (hX := fun c => by rw [unscopedRestP0_eq]; iintro -; isplitr <;> iempintro)
    (hin := phi_first m hO)
    (hout := phi_last m hO)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The argument arrays at the end are what they were. -/
theorem args_kept (hO : Ok m) (r : PUnit × MemSt nD τ sig (Elt Bits)) (h : Post m hO r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 (0 : Fin 5)).trans ((dats m hO 0 c).arrAt_in (0 : Fin 5) rfl _), ((h c).2 0).trans (tbl_eq m c 0).symm,
    ((h c).1 (1 : Fin 5)).trans ((dats m hO 0 c).arrAt_in (1 : Fin 5) rfl _), ((h c).1 (2 : Fin 5)).trans ((dats m hO 0 c).arrAt_in (2 : Fin 5) rfl _),
    ((h c).1 (3 : Fin 5)).trans ((dats m hO 0 c).arrAt_in (3 : Fin 5) rfl _)⟩

/-- The frame: every execution ends, with the arguments unchanged and every semaphore at zero. -/
theorem frame (hO : Ok m) : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => args_kept m hO r h.1 c, h.2⟩) (run_main m ρ hO)

/-- Where every word of the table is below 32 every block the windows read lies in its array. -/
theorem ok_of_lt (h : ∀ i : grid0.Coords, (own i (tbl m 0)).toNat < 32) : Ok m := by
  refine ⟨fun i => ⟨fun a => ?_, .inl rfl⟩, fun i => ⟨fun a => ?_, .inl rfl⟩, fun i => ⟨fun a => ?_, .inl rfl⟩⟩
  · have hi := h i
    match a with
    | ⟨0, _⟩ => show (0 + 1) * 1 ≤ 4; omega
    | ⟨1, _⟩ => show ((own i (tbl m 0)).toNat + 1) * 1 ≤ 32; omega
    | ⟨2, _⟩ => show (0 + 1) * 2048 ≤ 2048; omega
    | ⟨3, _⟩ => show (0 + 1) * 512 ≤ 512; omega
  · have hi := h i
    match a with
    | ⟨0, _⟩ => show (0 + 1) * 1 ≤ 4; omega
    | ⟨1, _⟩ => show ((own i (tbl m 0)).toNat + 1) * 1 ≤ 32; omega
    | ⟨2, _⟩ => show (0 + 1) * 2048 ≤ 2048; omega
    | ⟨3, _⟩ => show (0 + 1) * 512 ≤ 512; omega
  · have hi := h i
    match a with
    | ⟨0, _⟩ => show (0 + 1) * 1 ≤ 4; omega
    | ⟨1, _⟩ => show ((own i (tbl m 0)).toNat + 1) * 1 ≤ 32; omega
    | ⟨2, _⟩ => show (0 + 1) * 512 ≤ 512; omega
    | ⟨3, _⟩ => show (0 + 1) * 2048 ≤ 2048; omega

/-- The precondition says that every word of the table is below 32. -/
theorem ok_of_pre [Cert.Pre_blocks_in_range.Facts] (h : ∀ c : Dev nD, Cert.Pre_blocks_in_range.fn (F := Bits) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) = fun _ => 1#1) : Ok m :=
  ok_of_lt m fun i => lt_of_eq_of_lt (congrArg (BitVec.toNat (w := 32)) (own_apply i (tbl m 0)))
    (Cert.MoeRefIdeal.Hand.word_range _ _ _ _ _ (h 0) ⟨(i 0).val, (i 0).isLt⟩).1

end Cert.Moe.Hand

end
-- ==== Proof.MoeRun.lean ====
/-
  The experts of the mixture, run over the reals, at whatever table the launch finds that names experts below 32.
  The kernel visits the 167 blocks of 128 rows in order.  Where a block's expert is not the one of the block before it
  casts the expert's three weights into scratch buffers, else it uses what lies there.  So before every point but the
  first the scratches hold the cast weights of the expert of the point before (`Phi`), and every block written back is
  the block of rows through its own expert (`outBlk`).  From this follow the run (`run_main`) and the frame (`frame`).
-/
module

public import proofs.«01_k».proof.Proof.Gen.MoeIdeal.Flash.Runs
public import proofs.«01_k».proof.Proof.Gen.MoeIdeal.Launch
public import Idealize.ShloMosaic.Lib.Pipeline.Quiescent
public import Idealize.ShloMosaic.Lib.Pipeline.Kit
public import Idealize.ShloMosaic.Lib.Pipeline.Value
public import Idealize.ShloMosaic.Lib.Pipeline.TableIdle
public import Idealize.ShloMosaic.Lib.Pipeline.FrameBody
public import Idealize.ShloMosaic.Lib.Writes
public import Idealize.ShloMosaic.Lib.Tactic
public import Idealize.ShloMosaic.Lib.Pointwise
public import proofs.«01_k».proof.Proof.MoeBitsRun

@[expose] public section

set_option maxRecDepth 16384

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The propositions of the program's separation logic. -/
local notation "𝕄" => MT nD τ sig Unit (Elt Ideal) ℕ (UR sig nD τ) ℕ

/-- The pipeline's own resources. -/
abbrev EP : Emb (UR sig nD τ) 𝕄 := emb₁

/-! ## What one visit of the body computes -/

/-- The offset of a whole rank-2 rectangle. -/
theorem zeros2 : (![0, 0] : Fin 2 → Nat) = fun _ => 0 := funext fun a => by fin_cases a <;> rfl
/-- The offset of a whole rank-4 rectangle. -/
theorem zeros4 : (![0, 0, 0, 0] : Fin 4 → Nat) = fun _ => 0 := funext fun a => by fin_cases a <;> rfl

/-- The expert of a block of rows, read off the table as the body reads it. -/
abbrev own (i : grid0.Coords) (T : S167.Idx → Elt Ideal .i32) : BitVec 32 :=
  View.readAt (Elt Ideal) (tbM0_0).view (Rect.unit (s := S167) (k0_off1 i) S1.size (k0_off1_inb i)).toLoadRect T (Shape.Idx.first (numel1_S1.symm ▸ Nat.one_pos))
/-- The expert of the block before it. -/
abbrev prior (i : grid0.Coords) (T : S167.Idx → Elt Ideal .i32) : BitVec 32 :=
  View.readAt (Elt Ideal) (tbM0_0).view (Rect.unit (s := S167) (k0_off2 i) S1.size (k0_off2_inb i)).toLoadRect T (Shape.Idx.first (numel1_S1.symm ▸ Nat.one_pos))
/-- The body's test: the first block, or a block whose expert is not the one before. -/
abbrev Renew (i : grid0.Coords) (T : S167.Idx → Elt Ideal .i32) : Prop :=
  (Scalar.cmpi .ne (Scalar.extui (Scalar.ori (Scalar.cmpi .eq (BitVec.ofNat 32 (i 0).val) 0#32) (Scalar.cmpi .ne (own i T) (prior i T)))) 0#32) = 1#1

section Cases
variable (c : Dev nD) (i : grid0.Coords)
  (a2 : Memref sig .tc .vmem S128x2048 .bf16) (h2 : a2.IsWhole) (a3 : Memref sig .tc .vmem S1x1x2048x512 .f32) (h3 : a3.IsWhole)
  (a4 : Memref sig .tc .vmem S1x1x2048x512 .f32) (h4 : a4.IsWhole) (a5 : Memref sig .tc .vmem S1x1x512x2048 .f32) (h5 : a5.IsWhole)
  (a6 : Memref sig .tc .vmem S128x2048 .f32) (h6 : a6.IsWhole) (T : S167.Idx → Elt Ideal .i32)
  (x : Vec Ideal S128x2048 .bf16) (wg wu : Vec Ideal S1x1x2048x512 .f32) (wd : Vec Ideal S1x1x512x2048 .f32)

/-- Where the weights are renewed the output block is the expert's of the block's own weights. -/
theorem out_renew (hc : Renew i T) :
    out0_A_4 c i a2 h2 a3 h3 a4 h4 a5 h5 a6 h6 T x wg wu wd hc = k0_pay4 x (k0_pay1 wg) (k0_pay2 wu) (k0_pay3 wd) := by
  unfold out0_A_4
  rw [View.read_writes_eq_canon _ _ _ (cover0_A_4 c i a2 h2 a3 h3 a4 h4 a5 h5 a6 h6 T x wg wu wd hc)]
  unfold kernelRun0_A; dsimp only; sl_unfold_words
  rw [View.canon_unit_zero zeros2]
  simp only [View.readCov_unit_zero (S := S2048x512) _ zeros2, View.readCov_unit_zero (S := S512x2048) _ zeros2,
    View.readAt_eq_ld, View.read_rep, View.read_rep, View.read_rep, View.read_rep, View.ld_unit_zero (S := S128x2048) zeros2,
    View.ld_unit_zero (S := S1x1x2048x512) zeros4, View.ld_unit_zero (S := S1x1x512x2048) zeros4]

/-- One write over a whole buffer leaves what was written. -/
theorem read_one_write {S : Shape} {e : EltTy} (v : View sig .tc .vmem S e) (f : v.ty.Contents (Elt Ideal)) {off : Fin S.rank → Nat}
    (h : off = fun _ => 0) (inb : ∀ a, off a + S.size a ≤ S.size a) (w : S.Idx → Elt Ideal e) :
    v.read (Elt Ideal) (v.writes (Elt Ideal) f [⟨Rect.unit off S.size inb, w⟩]) = w :=
  (View.read_writes_eq_canon _ _ _ fun y => ⟨_, List.mem_singleton_self _, View.mem_set_unit_zero h inb y⟩).trans (View.canon_unit_zero h inb w)

/-- There the first scratch is left at the cast gate weight, -/
theorem gate_renew (hc : Renew i T) :
    scM0_0.view.read (Elt Ideal) (kernelRun0_A c i a2 h2 a3 h3 a4 h4 a5 h5 a6 h6 T x wg wu wd hc).2.1 = k0_pay1 wg := by
  unfold kernelRun0_A; dsimp only; sl_unfold_words
  simp only [View.readAt_eq_ld, View.read_rep, View.ld_unit_zero (S := S1x1x2048x512) zeros4]
  exact read_one_write (S := S2048x512) scM0_0.view _ zeros2 _ _

/-- the second at the cast up weight, -/
theorem up_renew (hc : Renew i T) :
    scM0_1.view.read (Elt Ideal) (kernelRun0_A c i a2 h2 a3 h3 a4 h4 a5 h5 a6 h6 T x wg wu wd hc).2.2.1 = k0_pay2 wu := by
  unfold kernelRun0_A; dsimp only; sl_unfold_words
  simp only [View.readAt_eq_ld, View.read_rep, View.ld_unit_zero (S := S1x1x2048x512) zeros4]
  exact read_one_write (S := S2048x512) scM0_1.view _ zeros2 _ _

/-- and the third at the cast down weight. -/
theorem down_renew (hc : Renew i T) :
    scM0_2.view.read (Elt Ideal) (kernelRun0_A c i a2 h2 a3 h3 a4 h4 a5 h5 a6 h6 T x wg wu wd hc).2.2.2.1 = k0_pay3 wd := by
  unfold kernelRun0_A; dsimp only; sl_unfold_words
  simp only [View.readAt_eq_ld, View.read_rep, View.ld_unit_zero (S := S1x1x512x2048) zeros4]
  exact read_one_write (S := S512x2048) scM0_2.view _ zeros2 _ _

variable (s0 : Buf (Elt Ideal) ((c : Thread nD τ).loc cc0_scratch0)) (s1 : Buf (Elt Ideal) ((c : Thread nD τ).loc cc0_scratch1))
  (s2 : Buf (Elt Ideal) ((c : Thread nD τ).loc cc0_scratch2))

/-- Where the weights are kept the output block is the expert's of what the scratches hold. -/
theorem out_keep (hc : ¬Renew i T) :
    out0_B_4 c i a2 h2 a3 h3 a4 h4 a5 h5 a6 h6 T x wg wu wd s0 s1 s2 hc
      = k0_pay4 x (scM0_0.view.read (Elt Ideal) s0) (scM0_1.view.read (Elt Ideal) s1) (scM0_2.view.read (Elt Ideal) s2) := by
  unfold out0_B_4
  rw [View.read_writes_eq_canon _ _ _ (cover0_B_4 c i a2 h2 a3 h3 a4 h4 a5 h5 a6 h6 T x wg wu wd s0 s1 s2 hc)]
  unfold kernelRun0_B; dsimp only; sl_unfold_words
  rw [View.canon_unit_zero zeros2]
  simp only [View.readAt_eq_ld, View.read_rep, View.ld_unit_zero (S := S128x2048) zeros2,
    View.ld_unit_zero (S := S2048x512) zeros2, View.ld_unit_zero (S := S512x2048) zeros2]

/-- There the scratches are left as they were. -/
theorem scratch_keep (hc : ¬Renew i T) :
    (kernelRun0_B c i a2 h2 a3 h3 a4 h4 a5 h5 a6 h6 T x wg wu wd s0 s1 s2 hc).2.1 = s0
      ∧ (kernelRun0_B c i a2 h2 a3 h3 a4 h4 a5 h5 a6 h6 T x wg wu wd s0 s1 s2 hc).2.2.1 = s1
      ∧ (kernelRun0_B c i a2 h2 a3 h3 a4 h4 a5 h5 a6 h6 T x wg wu wd s0 s1 s2 hc).2.2.2.1 = s2 :=
  ⟨rfl, rfl, rfl⟩

end Cases

/-! ## The table -/

/-- The body's first read of the table is the word of the block itself. -/
theorem own_apply (i : grid0.Coords) (T : S167.Idx → Elt Ideal .i32) :
    own i T = T (ix1 ⟨(i 0).val, (i 0).isLt⟩) :=
  congrArg T (funext fun d => Fin.ext (by
    match d with
    | ⟨0, _⟩ =>
      show k0_off1 i 0 + 1 * 0 = (i 0).val
      rw [k0_off1_eq]; rfl))

/-- The second read's offset is one less, but not below zero. -/
theorem off2_eq : ∀ i : grid0.Coords, k0_off2 i 0 = (i 0).val - 1 := by decide +kernel

/-- The second read is the word of the block before. -/
theorem prior_apply (i : grid0.Coords) (T : S167.Idx → Elt Ideal .i32) :
    prior i T = T (ix1 ⟨(i 0).val - 1, lt_of_le_of_lt (Nat.sub_le _ _) (i 0).isLt⟩) :=
  congrArg T (funext fun d => Fin.ext (by
    match d with
    | ⟨0, _⟩ =>
      show k0_off2 i 0 + 1 * 0 = (i 0).val - 1
      rw [off2_eq]; omega))

/-- Where the weights are kept the block is not the first and its expert is the one before. -/
theorem keep_facts (i : grid0.Coords) (T : S167.Idx → Elt Ideal .i32) (hc : ¬Renew i T) : (i 0).val ≠ 0 ∧ own i T = prior i T := by
  constructor
  · intro h
    refine hc ?_
    unfold Renew
    rw [h]
    generalize Scalar.cmpi .ne (own i T) (prior i T) = b
    revert b; decide
  · by_contra e
    refine hc ?_
    unfold Renew
    have h1 : Scalar.cmpi .ne (own i T) (prior i T) = 1#1 := by
      show BitVec.ofBool (own i T != prior i T) = 1#1
      rw [show (own i T != prior i T) = true from bne_iff_ne.mpr e]; rfl
    rw [h1]
    generalize Scalar.cmpi .eq (BitVec.ofNat 32 (i 0).val) 0#32 = b
    revert b; decide

/-! ## The pipeline at the table the launch finds -/

variable (m : (ℓ : Loc nD τ sig) → Buf (Elt Ideal) ℓ) (ρ : Dev nD → PrngReg)

/-- The prefetched table as the launch finds it. -/
def tbl : pre0.Contents (Elt Ideal) := fun j => m (((0 : Dev nD) : Thread nD τ).loc (pre0.ref j))
/-- There is one device, so every device holds that table. -/
theorem tbl_eq (c : Dev nD) (j : Fin 1) : m ((c : Thread nD τ).loc (pre0.ref j)) = tbl m j := by
  obtain rfl : c = 0 := Subsingleton.elim _ _; rfl
/-- Every word of the table names one of the 32 experts. -/
def Ok : Prop := ok0 (F := Ideal) (tbl m)

variable (hO : Ok m)

/-- The table with the side condition of the windows that read it. -/
def adm : (pcfg0 (F := Ideal)).Adm := ⟨tbl m, hO⟩
/-- The pipeline at that table. -/
abbrev cfgM : Pipeline.Cfg sig Λ₀ := cfg0 (F := Ideal) (adm m hO)
/-- The program's one pipeline, as the launch theorem lists it. -/
abbrev pcs : Fin 1 → Pipeline.Cfg sig Λ₀ := Pipeline.pin (pcfgs (F := Ideal)) fun _ => adm m hO
/-- The coordinates of a point. -/
abbrev crd (t : Fin (cfgM m hO).N) : grid0.Coords := (cfgM m hO).grid.coords t

/-- The windows' staging memrefs at a point, each whole. -/
abbrev ms0 (t : Fin (cfgM m hO).N) : Memref sig .tc .vmem S128x2048 .bf16 := spec0_0.stage ((cfgM m hO).slots t (0 : Fin 5))
abbrev hs0 (t : Fin (cfgM m hO).N) : (ms0 m hO t).IsWhole := hstage0_0 (((cfgM m hO).slots t (0 : Fin 5)).cast nbuf0_0)
abbrev ms1 (t : Fin (cfgM m hO).N) : Memref sig .tc .vmem S1x1x2048x512 .f32 := spec0_1.stage ((cfgM m hO).slots t (1 : Fin 5))
abbrev hs1 (t : Fin (cfgM m hO).N) : (ms1 m hO t).IsWhole := hstage0_1 (((cfgM m hO).slots t (1 : Fin 5)).cast nbuf0_1)
abbrev ms2 (t : Fin (cfgM m hO).N) : Memref sig .tc .vmem S1x1x2048x512 .f32 := spec0_2.stage ((cfgM m hO).slots t (2 : Fin 5))
abbrev hs2 (t : Fin (cfgM m hO).N) : (ms2 m hO t).IsWhole := hstage0_2 (((cfgM m hO).slots t (2 : Fin 5)).cast nbuf0_2)
abbrev ms3 (t : Fin (cfgM m hO).N) : Memref sig .tc .vmem S1x1x512x2048 .f32 := spec0_3.stage ((cfgM m hO).slots t (3 : Fin 5))
abbrev hs3 (t : Fin (cfgM m hO).N) : (ms3 m hO t).IsWhole := hstage0_3 (((cfgM m hO).slots t (3 : Fin 5)).cast nbuf0_3)
abbrev ms4 (t : Fin (cfgM m hO).N) : Memref sig .tc .vmem S128x2048 .f32 := spec0_4.stage ((cfgM m hO).slots t (4 : Fin 5))
abbrev hs4 (t : Fin (cfgM m hO).N) : (ms4 m hO t).IsWhole := hstage0_4 (((cfgM m hO).slots t (4 : Fin 5)).cast nbuf0_4)

/-- A window's block at a point, read off its array at launch. -/
def iblk (c : Dev nD) (w : Fin (cfgM m hO).W) (t : Fin (cfgM m hO).N) :
    (((cfgM m hO).win w).xblock ((cfgM m hO).grid.coords t)).Idx → Elt Ideal ((cfgM m hO).win w).elt :=
  (((cfgM m hO).win w).blk t).view.read (Elt Ideal) (m (((cfgM m hO).win w).arr.view.loc (c : Thread nD τ)))

/-- The one coordinate of a point is its number. -/
theorem crd_val : ∀ t : Fin grid0.N, ((grid0.coords t) 0).val = t.val := by decide +kernel

include hO in
/-- The words of the table are below 32. -/
theorem own_lt (i : grid0.Coords) : (own i (tbl m 0)).toNat < 32 := by
  obtain ⟨h, -⟩ := hO.1 i
  have h1 : ((own i (tbl m 0)).toNat + 1) * 1 ≤ 32 := h (1 : Fin 4)
  omega

/-- The expert of a point. -/
def expert (t : Fin (cfgM m hO).N) : Fin 32 := ⟨(own (crd m hO t) (tbl m 0)).toNat, own_lt m hO _⟩

/-- The gate weight of an expert, in the layout of its block. -/
def gateW (c : Dev nD) (e : Fin 32) : S1x1x2048x512.Idx → Elt Ideal .f32 := fun j =>
  (m ((c : Thread nD τ).loc main_arg2) : S4x32x2048x512.Idx → Elt Ideal .f32) (ix4 0 e ⟨(j 2).val, (j 2).isLt⟩ ⟨(j 3).val, (j 3).isLt⟩)
/-- The up weight of an expert. -/
def upW (c : Dev nD) (e : Fin 32) : S1x1x2048x512.Idx → Elt Ideal .f32 := fun j =>
  (m ((c : Thread nD τ).loc main_arg3) : S4x32x2048x512.Idx → Elt Ideal .f32) (ix4 0 e ⟨(j 2).val, (j 2).isLt⟩ ⟨(j 3).val, (j 3).isLt⟩)
/-- The down weight of an expert. -/
def downW (c : Dev nD) (e : Fin 32) : S1x1x512x2048.Idx → Elt Ideal .f32 := fun j =>
  (m ((c : Thread nD τ).loc main_arg4) : S4x32x512x2048.Idx → Elt Ideal .f32) (ix4 0 e ⟨(j 2).val, (j 2).isLt⟩ ⟨(j 3).val, (j 3).isLt⟩)

/-- The block of gate weights a point stages is its expert's. -/
theorem gate_block (c : Dev nD) (t : Fin (cfgM m hO).N) : (iblk m hO c (1 : Fin 5) t : S1x1x2048x512.Idx → Elt Ideal .f32) = gateW m c (expert m hO t) := by
  funext j
  have j0 : (j 0).val < 1 := (j 0).isLt
  have j1 : (j 1).val < 1 := (j 1).isLt
  refine congrArg (m ((c : Thread nD τ).loc main_arg2) : S4x32x2048x512.Idx → Elt Ideal .f32) (funext fun d => Fin.ext ?_)
  match d with
  | ⟨0, _⟩ => show 0 * 1 + 1 * (j 0).val = 0; omega
  | ⟨1, _⟩ => show (own (crd m hO t) (tbl m 0)).toNat * 1 + 1 * (j 1).val = (own (crd m hO t) (tbl m 0)).toNat; omega
  | ⟨2, _⟩ => show 0 * 2048 + 1 * (j 2).val = (j 2).val; omega
  | ⟨3, _⟩ => show 0 * 512 + 1 * (j 3).val = (j 3).val; omega

/-- The block of up weights a point stages is its expert's. -/
theorem up_block (c : Dev nD) (t : Fin (cfgM m hO).N) : (iblk m hO c (2 : Fin 5) t : S1x1x2048x512.Idx → Elt Ideal .f32) = upW m c (expert m hO t) := by
  funext j
  have j0 : (j 0).val < 1 := (j 0).isLt
  have j1 : (j 1).val < 1 := (j 1).isLt
  refine congrArg (m ((c : Thread nD τ).loc main_arg3) : S4x32x2048x512.Idx → Elt Ideal .f32) (funext fun d => Fin.ext ?_)
  match d with
  | ⟨0, _⟩ => show 0 * 1 + 1 * (j 0).val = 0; omega
  | ⟨1, _⟩ => show (own (crd m hO t) (tbl m 0)).toNat * 1 + 1 * (j 1).val = (own (crd m hO t) (tbl m 0)).toNat; omega
  | ⟨2, _⟩ => show 0 * 2048 + 1 * (j 2).val = (j 2).val; omega
  | ⟨3, _⟩ => show 0 * 512 + 1 * (j 3).val = (j 3).val; omega

/-- The block of down weights a point stages is its expert's. -/
theorem down_block (c : Dev nD) (t : Fin (cfgM m hO).N) : (iblk m hO c (3 : Fin 5) t : S1x1x512x2048.Idx → Elt Ideal .f32) = downW m c (expert m hO t) := by
  funext j
  have j0 : (j 0).val < 1 := (j 0).isLt
  have j1 : (j 1).val < 1 := (j 1).isLt
  refine congrArg (m ((c : Thread nD τ).loc main_arg4) : S4x32x512x2048.Idx → Elt Ideal .f32) (funext fun d => Fin.ext ?_)
  match d with
  | ⟨0, _⟩ => show 0 * 1 + 1 * (j 0).val = 0; omega
  | ⟨1, _⟩ => show (own (crd m hO t) (tbl m 0)).toNat * 1 + 1 * (j 1).val = (own (crd m hO t) (tbl m 0)).toNat; omega
  | ⟨2, _⟩ => show 0 * 512 + 1 * (j 2).val = (j 2).val; omega
  | ⟨3, _⟩ => show 0 * 2048 + 1 * (j 3).val = (j 3).val; omega

/-- The expert of the point with a given number (the first expert past the end). -/
def expertN (n : ℕ) : Fin 32 := if h : n < (cfgM m hO).N then expert m hO ⟨n, h⟩ else 0

theorem expertN_val (t : Fin (cfgM m hO).N) : expertN m hO t.val = expert m hO t := dif_pos t.isLt

/-- Where the weights are kept the expert is the one of the point before. -/
theorem expert_keep (t : Fin (cfgM m hO).N) (hc : ¬Renew (crd m hO t) (tbl m 0)) :
    t.val ≠ 0 ∧ expertN m hO (t.val - 1) = expert m hO t := by
  obtain ⟨h0, he⟩ := keep_facts _ _ hc
  have ht : ((crd m hO t) 0).val = t.val := crd_val t
  refine ⟨by rw [← ht]; exact h0, ?_⟩
  have hlt : t.val - 1 < (cfgM m hO).N := lt_of_le_of_lt (Nat.sub_le _ _) t.isLt
  have hp : ((crd m hO ⟨t.val - 1, hlt⟩) 0).val = t.val - 1 := crd_val ⟨t.val - 1, hlt⟩
  unfold expertN; rw [dif_pos hlt]
  have key : own (crd m hO ⟨t.val - 1, hlt⟩) (tbl m 0) = own (crd m hO t) (tbl m 0) := by
    refine (own_apply _ _).trans (Eq.trans ?_ ((prior_apply _ _).symm.trans he.symm))
    refine congrArg (fun n => tbl m 0 (ix1 n)) (Fin.ext ?_)
    show ((crd m hO ⟨t.val - 1, hlt⟩) 0).val = ((crd m hO t) 0).val - 1
    rw [hp, ht]
  exact Fin.ext (show (own (crd m hO ⟨t.val - 1, hlt⟩) (tbl m 0)).toNat = (own (crd m hO t) (tbl m 0)).toNat from congrArg (BitVec.toNat (w := 32)) key)

/-- The output block of a point: its rows through its expert. -/
def outBlk (c : Dev nD) (t : Fin (cfgM m hO).N) : S128x2048.Idx → Elt Ideal .f32 :=
  k0_pay4 (F := Ideal) (iblk m hO c (0 : Fin 5) t) (k0_pay1 (F := Ideal) (gateW m c (expert m hO t))) (k0_pay2 (F := Ideal) (upW m c (expert m hO t))) (k0_pay3 (F := Ideal) (downW m c (expert m hO t)))

/-! ## The proof data: what holds before each point -/

/-- Before every point but the first the three scratches hold the cast weights of the expert of the point before. -/
def Phi (c : Dev nD) (t : Fin ((cfgM m hO).N + 1)) : sProp 𝕄 :=
  iprop((∃ a, ⌜t.val ≠ 0 → scM0_0.view.read (Elt Ideal) a = k0_pay1 (F := Ideal) (gateW m c (expertN m hO (t.val - 1)))⌝ ∗ (scM0_0.view.loc (c : Thread nD τ) ↦{fullShare} a))
    ∗ (∃ a, ⌜t.val ≠ 0 → scM0_1.view.read (Elt Ideal) a = k0_pay2 (F := Ideal) (upW m c (expertN m hO (t.val - 1)))⌝ ∗ (scM0_1.view.loc (c : Thread nD τ) ↦{fullShare} a))
    ∗ (∃ a, ⌜t.val ≠ 0 → scM0_2.view.read (Elt Ideal) a = k0_pay3 (F := Ideal) (downW m c (expertN m hO (t.val - 1)))⌝ ∗ (scM0_2.view.loc (c : Thread nD τ) ↦{fullShare} a))
    ∗ (tbM0_0.view.loc (c : Thread nD τ) ↦{fullShare.right} tbl m 0))

/-- The arrays as launched, what each staging buffer holds after the body, and the invariant. -/
def dats (_ : Fin 1) (c : Dev nD) : Dat τ (Elt Ideal) Unit ℕ (UR sig nD τ) ℕ (cfgM m hO) c where
  A w := m (((cfgM m hO).win w).arr.view.loc (c : Thread nD τ))
  after w t := match w with
    | ⟨0, _⟩ => iblk m hO c (0 : Fin 5) t
    | ⟨1, _⟩ => iblk m hO c (1 : Fin 5) t
    | ⟨2, _⟩ => iblk m hO c (2 : Fin 5) t
    | ⟨3, _⟩ => iblk m hO c (3 : Fin 5) t
    | ⟨4, _⟩ => outBlk m hO c t
  Φ t := Phi m hO c t
  q _ := fullShare
  owed _ := 0

/-- After the body each input holds its block and the output its point's rows through the expert. -/
theorem after_0 (c : Dev nD) (t : Fin (cfgM m hO).N) : (dats m hO 0 c).after (0 : Fin 5) t = iblk m hO c (0 : Fin 5) t := rfl
theorem after_1 (c : Dev nD) (t : Fin (cfgM m hO).N) : (dats m hO 0 c).after (1 : Fin 5) t = iblk m hO c (1 : Fin 5) t := rfl
theorem after_2 (c : Dev nD) (t : Fin (cfgM m hO).N) : (dats m hO 0 c).after (2 : Fin 5) t = iblk m hO c (2 : Fin 5) t := rfl
theorem after_3 (c : Dev nD) (t : Fin (cfgM m hO).N) : (dats m hO 0 c).after (3 : Fin 5) t = iblk m hO c (3 : Fin 5) t := rfl
theorem after_4 (c : Dev nD) (t : Fin (cfgM m hO).N) : (dats m hO 0 c).after (4 : Fin 5) t = outBlk m hO c t := rfl

/-- Before the body each input's staging buffer holds its block, fetched at this point or earlier. -/
theorem before_0 (c : Dev nD) (t : Fin (cfgM m hO).N) (d) : (dats m hO 0 c).before (0 : Fin 5) t d = iblk m hO c (0 : Fin 5) t :=
  ((dats m hO 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfgM m hO).N) (d) : (dats m hO 0 c).before (1 : Fin 5) t d = iblk m hO c (1 : Fin 5) t :=
  ((dats m hO 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfgM m hO).N) (d) : (dats m hO 0 c).before (2 : Fin 5) t d = iblk m hO c (2 : Fin 5) t :=
  ((dats m hO 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfgM m hO).N) (d) : (dats m hO 0 c).before (3 : Fin 5) t d = iblk m hO c (3 : Fin 5) t :=
  ((dats m hO 0 c).before_in_eq_fetched (3 : Fin 5) rfl (fun _ => rfl) (fun _ _ _ => rfl) (fun t => by rw [after_3]; unfold Dat.blockOf iblk; rfl) t d).trans
    (by unfold Dat.fetched Dat.blockOf iblk; rfl)

/-! ## The body at a point -/

/-- The body on the staging memrefs of a point, as the pipeline calls it. -/
abbrev bodyAt (t : Fin (cfgM m hO).N) : Prog (TpuEff nD τ sig (Elt Ideal) Λ₀ .tc) PUnit :=
  cc0_moe_experts (crd m hO t) (Memref.whole main_arg1) (Memref.isWhole_whole _) (ms0 m hO t) (hs0 m hO t) (ms1 m hO t) (hs1 m hO t) (ms2 m hO t) (hs2 m hO t) (ms3 m hO t) (hs3 m hO t) (ms4 m hO t) (hs4 m hO t) (Memref.whole cc0_scratch0) (Memref.isWhole_whole _) (Memref.whole cc0_scratch1) (Memref.isWhole_whole _) (Memref.whole cc0_scratch2) (Memref.isWhole_whole _)

set_option maxHeartbeats 4000000 in
/-- At every point the body takes the invariant to the next point and leaves its output block: where the weights are
    renewed by the casts of the staged blocks, else by what the scratches hold. -/
theorem sound_body (c : Dev nD) (t : Fin (cfgM m hO).N) :
    iprop((dats m hO 0 c).Φ t.castSucc ∗ (dats m hO 0 c).owesAt () t.castSucc
        ∗ (∃ d, owns (c : Thread nD τ) (ms0 m hO t) fullShare ((dats m hO 0 c).before (0 : Fin 5) t d))
        ∗ (∃ d, owns (c : Thread nD τ) (ms1 m hO t) fullShare ((dats m hO 0 c).before (1 : Fin 5) t d))
        ∗ (∃ d, owns (c : Thread nD τ) (ms2 m hO t) fullShare ((dats m hO 0 c).before (2 : Fin 5) t d))
        ∗ (∃ d, owns (c : Thread nD τ) (ms3 m hO t) fullShare ((dats m hO 0 c).before (3 : Fin 5) t d))
        ∗ (∃ d, owns (c : Thread nD τ) (ms4 m hO t) fullShare ((dats m hO 0 c).before (4 : Fin 5) t d)))
      ⊢ wp frame (wpE (defs₀ (F := Ideal)) Variants.none c none) Set.univ (bodyAt m hO t) fun _ =>
          iprop((dats m hO 0 c).Φ t.succ ∗ (dats m hO 0 c).owesAt () t.succ
            ∗ owns (c : Thread nD τ) (ms0 m hO t) fullShare ((dats m hO 0 c).after (0 : Fin 5) t)
            ∗ owns (c : Thread nD τ) (ms1 m hO t) fullShare ((dats m hO 0 c).after (1 : Fin 5) t)
            ∗ owns (c : Thread nD τ) (ms2 m hO t) fullShare ((dats m hO 0 c).after (2 : Fin 5) t)
            ∗ owns (c : Thread nD τ) (ms3 m hO t) fullShare ((dats m hO 0 c).after (3 : Fin 5) t)
            ∗ owns (c : Thread nD τ) (ms4 m hO t) fullShare ((dats m hO 0 c).after (4 : Fin 5) t)) := by
  simp only [before_0, before_1, before_2, before_3, after_0, after_1, after_2, after_3, after_4]
  rewrite [show (dats m hO 0 c).Φ t.succ = Phi m hO c t.succ from rfl, show (dats m hO 0 c).Φ t.castSucc = Phi m hO c t.castSucc from rfl,
    show (dats m hO 0 c).owesAt () t.succ = (dats m hO 0 c).owesAt () t.castSucc from rfl]
  unfold Phi; simp only [Fin.val_castSucc, Fin.val_succ, Nat.add_one_sub_one, expertN_val]
  have eg := gate_block m hO c t
  have eu := up_block m hO c t
  have ed := down_block m hO c t
  by_cases hc : Renew (crd m hO t) (tbl m 0)
  · iintro ⟨⟨⟨%s0, %ha0, HS0⟩, ⟨%s1, %ha1, HS1⟩, ⟨%s2, %ha2, HS2⟩, HT0⟩, Ho, ⟨%d0, H0⟩, ⟨%d1, H1⟩, ⟨%d2, H2⟩, ⟨%d3, H3⟩, ⟨%d4, H4⟩⟩
    iapply ((kernelRun0_A c (crd m hO t) (ms0 m hO t) (hs0 m hO t) (ms1 m hO t) (hs1 m hO t) (ms2 m hO t) (hs2 m hO t) (ms3 m hO t) (hs3 m hO t) (ms4 m hO t) (hs4 m hO t) (tbl m 0) (iblk m hO c (0 : Fin 5) t) (iblk m hO c (1 : Fin 5) t) (iblk m hO c (2 : Fin 5) t) (iblk m hO c (3 : Fin 5) t) hc).2.2.2.2 s0 s1 s2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [H4]; · iexists _; iexact H4
    isplitl [HS0]; · iexact HS0
    isplitl [HS1]; · iexact HS1
    isplitl [HS2]; · iexact HS2
    iintro ⟨H0, H1, H2, H3, HT0, ⟨%e4, H4⟩, HS0, HS1, HS2⟩
    isplitl [HS0 HS1 HS2 HT0]
    · isplitl [HS0]
      · iexists _; isplitr; swap
        · iexact HS0
        · ipureintro; intro _; rw [← eg]; exact gate_renew c _ _ _ _ _ _ _ _ _ _ _ _ _ _ _ _ hc
      isplitl [HS1]
      · iexists _; isplitr; swap
        · iexact HS1
        · ipureintro; intro _; rw [← eu]; exact up_renew c _ _ _ _ _ _ _ _ _ _ _ _ _ _ _ _ hc
      isplitl [HS2]
      · iexists _; isplitr; swap
        · iexact HS2
        · ipureintro; intro _; rw [← ed]; exact down_renew c _ _ _ _ _ _ _ _ _ _ _ _ _ _ _ _ hc
      iexact HT0
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro
      unfold outBlk; rw [← eg, ← eu, ← ed]
      exact (View.read_writes_of_cover _ _ _ _ _ (cover0_A_4 c _ _ _ _ _ _ _ _ _ _ _ _ _ _ _ _ hc)).trans
        (out_renew c _ _ _ _ _ _ _ _ _ _ _ _ _ _ _ _ hc)
  · obtain ⟨ht, hk⟩ := expert_keep m hO t hc
    rw [hk]
    iintro ⟨⟨⟨%s0, %ha0, HS0⟩, ⟨%s1, %ha1, HS1⟩, ⟨%s2, %ha2, HS2⟩, HT0⟩, Ho, ⟨%d0, H0⟩, ⟨%d1, H1⟩, ⟨%d2, H2⟩, ⟨%d3, H3⟩, ⟨%d4, H4⟩⟩
    iapply ((kernelRun0_B c (crd m hO t) (ms0 m hO t) (hs0 m hO t) (ms1 m hO t) (hs1 m hO t) (ms2 m hO t) (hs2 m hO t) (ms3 m hO t) (hs3 m hO t) (ms4 m hO t) (hs4 m hO t) (tbl m 0) (iblk m hO c (0 : Fin 5) t) (iblk m hO c (1 : Fin 5) t) (iblk m hO c (2 : Fin 5) t) (iblk m hO c (3 : Fin 5) t) s0 s1 s2 hc).2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [H4]; · iexists _; iexact H4
    isplitl [HS0]; · iexact HS0
    isplitl [HS1]; · iexact HS1
    isplitl [HS2]; · iexact HS2
    iintro ⟨H0, H1, H2, H3, HT0, ⟨%e4, H4⟩, HS0, HS1, HS2⟩
    isplitl [HS0 HS1 HS2 HT0]
    · isplitl [HS0]
      · iexists _; isplitr; swap
        · iexact HS0
        · ipureintro; intro _; exact ha0 ht
      isplitl [HS1]
      · iexists _; isplitr; swap
        · iexact HS1
        · ipureintro; intro _; exact ha1 ht
      isplitl [HS2]
      · iexists _; isplitr; swap
        · iexact HS2
        · ipureintro; intro _; exact ha2 ht
      iexact HT0
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro
      unfold outBlk; rw [← ha0 ht, ← ha1 ht, ← ha2 ht]
      exact (View.read_writes_of_cover _ _ _ _ _ (cover0_B_4 c _ _ _ _ _ _ _ _ _ _ _ _ _ _ _ _ _ _ _ hc)).trans
        (out_keep c _ _ _ _ _ _ _ _ _ _ _ _ _ _ _ _ _ _ _ hc)

/-- The body table's row at a point is the body above. -/
theorem defs₀_row (t : Fin (cfgM m hO).N) :
    defs₀ (F := Ideal) .tc (cfgM m hO).body ((cfgM m hO).bodyArgs t ((cfgM m hO).slots t)) = bodyAt m hO t := by
  unfold defs₀; rw [Defs.onTc_tc]

/-- The pipeline's obligation for the body, at every point. -/
theorem body_obligation (c : Dev nD) : BodyObligation (dats m hO 0 c) (defs₀ (F := Ideal)) Variants.none () Set.univ := fun t => by
  rw [bigSep_W0, bigSep_W0, defs₀_row m hO]
  exact triple_restated (sound_body m hO c t) rfl .rfl fun _ => .rfl

/-! ## The launch -/

/-- The launch's resources for the staging cells. -/
def u₀ : UR sig nD τ :=
  initOf (Pipeline.cells (pcs m hO) ((launch0 (F := Ideal)).cellOf_inj fun _ => adm m hO))
    (Pipeline.launchToks (pcs m hO) ((launch0 (F := Ideal)).cellOf_inj fun _ => adm m hO))

/-- Every window holds its array at the full share. -/
theorem share_eq (c : Dev nD) (w : Fin (cfgM m hO).W) : (dats m hO 0 c).share w = fullShare := by unfold Dat.share; split <;> rfl

/-- The tables the launch hands over are the one table. -/
theorem prefHeld_eq (c : Dev nD) (q : Fin 1 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0)) := by
  unfold Pipeline.prefHeld
  rw [show (Finset.univ : Finset (Fin 1)) = {(0 : Fin 1)} from by decide, bigSep_singleton]
  rfl

/-- Before the first point nothing is asked of the scratches. -/
theorem phi_first (c : Dev nD) :
    iprop(BI.emp ∗ Pipeline.prefHeld pre0 c (fun _ => fullShare.right) (adm m hO).1 ∗ Pipeline.scopedRest spec0 c) ⊢ (dats m hO 0 c).Φ 0 := by
  rw [prefHeld_eq, scopedRest0_eq, show (dats m hO 0 c).Φ 0 = Phi m hO c 0 from rfl]
  unfold Phi
  iintro ⟨-, ⟨HT0⟩, ⟨%a0, HS0⟩, ⟨%a1, HS1⟩, ⟨%a2, HS2⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  iexact HT0

/-- After the last point the scratches are given back. -/
theorem phi_last (c : Dev nD) : (dats m hO 0 c).Φ (Fin.last (cfgM m hO).N) ⊢ iprop(BI.emp ∗ Pipeline.scopedRest spec0 c) := by
  rw [scopedRest0_eq, show (dats m hO 0 c).Φ (Fin.last (cfgM m hO).N) = Phi m hO c (Fin.last _) from rfl]
  unfold Phi
  iintro ⟨⟨%a0, -, HS0⟩, ⟨%a1, -, HS1⟩, ⟨%a2, -, HS2⟩, -⟩
  isplitr; · iempintro
  isplitl [HS0]
  · iexists a0; iexact HS0
  isplitl [HS1]
  · iexists a1; iexact HS1
  iexists a2; iexact HS2

/-- The memory at the end: every array at what the points wrote back, the table as it was. -/
def Post : PUnit × MemSt nD τ sig (Elt Ideal) → Prop := fun r =>
  ∀ c : Dev nD, (∀ w : Fin (cfgM m hO).W, r.2.mem (((cfgM m hO).win w).arr.view.loc (c : Thread nD τ)) = (dats m hO 0 c).arrAt w (cfgM m hO).N)
    ∧ ∀ j, r.2.mem ((c : Thread nD τ).loc (pre0.ref j)) = (adm m hO).1 j

set_option backward.isDefEq.respectTransparency.types false in
set_option maxHeartbeats 4000000 in
/-- Every execution from a memory whose table names experts ends, with that memory and with every semaphore at zero. -/
theorem run_main : θ_run (defs (F := Ideal)) (onTc (τ := τ) (main (F := Ideal))) ⟨m, fun _ => 0, ρ⟩ (fun r => Post m hO r ∧ r.2.sem = fun _ => 0) :=
  Pipeline.θ_run_region_noSem_pf_quiescent pcfgs (fun _ => adm m hO) (dats m hO) () ((launch0 (F := Ideal)).cellOf_inj fun _ => adm m hO) (0 : Fin 1)
    (launch0 (F := Ideal)).win.to₀ (launch0 (F := Ideal)).pre EP defs₀ Variants.none m ρ main
    (hbody := fun c => (body_obligation m hO c).loose) (hne := (launch0 (F := Ideal)).block_pos)
    (harr := (launch0 (F := Ideal)).arr_whole) (hstage := (launch0 (F := Ideal)).stage_whole) (howed := fun _ _ => rfl)
    (u₀ := u₀ m hO) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hO) (dats m hO) 0 (launch0 (F := Ideal)).win.arr_inj c (launch0 (F := Ideal)).arr_whole
      (share_eq m hO c) _ _ fun _ => rfl)
    (hpf := tbl_eq m)
    (X := fun _ => iprop(emp)) (Y := fun _ => iprop(emp)) (Z := fun _ => iprop(emp))
    (hX := fun c => by rw [unscopedRestP0_eq]; iintro -; isplitr <;> iempintro)
    (hin := phi_first m hO)
    (hout := phi_last m hO)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The argument arrays at the end are what they were. -/
theorem args_kept (hO : Ok m) (r : PUnit × MemSt nD τ sig (Elt Ideal)) (h : Post m hO r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 (0 : Fin 5)).trans ((dats m hO 0 c).arrAt_in (0 : Fin 5) rfl _), ((h c).2 0).trans (tbl_eq m c 0).symm,
    ((h c).1 (1 : Fin 5)).trans ((dats m hO 0 c).arrAt_in (1 : Fin 5) rfl _), ((h c).1 (2 : Fin 5)).trans ((dats m hO 0 c).arrAt_in (2 : Fin 5) rfl _),
    ((h c).1 (3 : Fin 5)).trans ((dats m hO 0 c).arrAt_in (3 : Fin 5) rfl _)⟩

/-- The frame: every execution ends, with the arguments unchanged and every semaphore at zero. -/
theorem frame (hO : Ok m) : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => args_kept m hO r h.1 c, h.2⟩) (run_main m ρ hO)

/-- Where every word of the table is below 32 every block the windows read lies in its array. -/
theorem ok_of_lt (h : ∀ i : grid0.Coords, (own i (tbl m 0)).toNat < 32) : Ok m := by
  refine ⟨fun i => ⟨fun a => ?_, .inl rfl⟩, fun i => ⟨fun a => ?_, .inl rfl⟩, fun i => ⟨fun a => ?_, .inl rfl⟩⟩
  · have hi := h i
    match a with
    | ⟨0, _⟩ => show (0 + 1) * 1 ≤ 4; omega
    | ⟨1, _⟩ => show ((own i (tbl m 0)).toNat + 1) * 1 ≤ 32; omega
    | ⟨2, _⟩ => show (0 + 1) * 2048 ≤ 2048; omega
    | ⟨3, _⟩ => show (0 + 1) * 512 ≤ 512; omega
  · have hi := h i
    match a with
    | ⟨0, _⟩ => show (0 + 1) * 1 ≤ 4; omega
    | ⟨1, _⟩ => show ((own i (tbl m 0)).toNat + 1) * 1 ≤ 32; omega
    | ⟨2, _⟩ => show (0 + 1) * 2048 ≤ 2048; omega
    | ⟨3, _⟩ => show (0 + 1) * 512 ≤ 512; omega
  · have hi := h i
    match a with
    | ⟨0, _⟩ => show (0 + 1) * 1 ≤ 4; omega
    | ⟨1, _⟩ => show ((own i (tbl m 0)).toNat + 1) * 1 ≤ 32; omega
    | ⟨2, _⟩ => show (0 + 1) * 512 ≤ 512; omega
    | ⟨3, _⟩ => show (0 + 1) * 2048 ≤ 2048; omega

/-- The precondition says that every word of the table is below 32. -/
theorem ok_of_pre [Cert.Pre_blocks_in_range.Facts] (h : ∀ c : Dev nD, Cert.Pre_blocks_in_range.fn (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) = fun _ => 1#1) : Ok m :=
  ok_of_lt m fun i => lt_of_eq_of_lt (congrArg (BitVec.toNat (w := 32)) (own_apply i (tbl m 0)))
    (Cert.MoeRefIdeal.Hand.word_range _ _ _ _ _ (h 0) ⟨(i 0).val, (i 0).isLt⟩).1

end Cert.MoeIdeal.Hand

end
-- ==== Proof.MoeAgree.lean ====
/-
  The experts of the mixture: the kernel's result is the mixture of `MoeReference`, so it is the reference's result.  The
  block written back at a point is the block of rows through its expert (`MoeRun.outBlk`); read at a row and column it
  is the mixture there (`block_apply`), with `tanh(g/2)/2 + 1/2` for the logistic function of `g`; and the 167 blocks
  make up the array (`result_eq`).
-/
module

public import proofs.«01_k».proof.Proof.MoeRun
public import proofs.«01_k».proof.Proof.MoeReference
public import Idealize.ShloMosaic.Lib.Pipeline.ValueKit.Geometry

@[expose] public section

set_option maxRecDepth 16384

noncomputable section

namespace Cert.MoeIdeal.Hand

open Cert.MoeIdeal Cert.MoeIdeal.Gen Idealize.ShloMosaic Idealize.ShloMosaic.TcCoe Idealize.SL.Sem
open Cert.MoeRefIdeal.Hand (mixture entry ofBits_half half_tanh word_range reference_eq)

/-- The body's block at a row and column: a sum over the 512 hidden features. -/
theorem payload_apply (x : S128x2048.Idx → EReal) (g u : S2048x512.Idx → EReal) (d : S512x2048.Idx → EReal) (r : Fin 128) (j : Fin 2048) :
    k0_pay4 (F := Ideal) x g u d (ix2 r j) = ∑ f : Fin 512,
      (∑ k : Fin 2048, x (ix2 r k) * g (ix2 k f)) * Ideal.logistic (∑ k : Fin 2048, x (ix2 r k) * g (ix2 k f))
        * (∑ k : Fin 2048, x (ix2 r k) * u (ix2 k f)) * d (ix2 f j) := by
  pointwise [k0_pay4]
  refine Finset.sum_congr rfl fun f _ => ?_
  simp only [ofBits_half, half_tanh]

section Result
variable (m : (ℓ : Loc nD τ sig) → Buf (Elt Ideal) ℓ) (hO : Ok m) (c : Dev nD)

/-- The cast weights of an expert, at a row and column. -/
theorem gate_cast (e : Fin 32) (k : Fin 2048) (f : Fin 512) : (k0_pay1 (F := Ideal) (gateW m c e) : S2048x512.Idx → EReal) (ix2 k f)
    = (m ((c : Thread nD τ).loc main_arg2) : S4x32x2048x512.Idx → EReal) (ix4 0 e k f) := by
  pointwise [k0_pay1]
  rfl
theorem up_cast (e : Fin 32) (k : Fin 2048) (f : Fin 512) : (k0_pay2 (F := Ideal) (upW m c e) : S2048x512.Idx → EReal) (ix2 k f)
    = (m ((c : Thread nD τ).loc main_arg3) : S4x32x2048x512.Idx → EReal) (ix4 0 e k f) := by
  pointwise [k0_pay2]
  rfl
theorem down_cast (e : Fin 32) (f : Fin 512) (j : Fin 2048) : (k0_pay3 (F := Ideal) (downW m c e) : S512x2048.Idx → EReal) (ix2 f j)
    = (m ((c : Thread nD τ).loc main_arg4) : S4x32x512x2048.Idx → EReal) (ix4 0 e f j) := by
  pointwise [k0_pay3]
  rfl

/-- The block of rows of a point is the point's number. -/
theorem index_facts : ∀ t : Fin grid0.N, (cc0_transform_0 (grid0.coords t) (0 : Fin 2)) = t.val ∧ (cc0_transform_4 (grid0.coords t) (0 : Fin 2)) = t.val := by
  decide +kernel

/-- The expert of each block. -/
def ex : Fin 167 → Fin 32 := fun b => expert m hO ⟨b.val, lt_of_lt_of_eq b.isLt N_0.symm⟩

/-- The mixture of the kernel's arguments. -/
def answer : S21376x2048.Idx → EReal :=
  mixture (m ((c : Thread nD τ).loc main_arg0)) (m ((c : Thread nD τ).loc main_arg2)) (m ((c : Thread nD τ).loc main_arg3)) (m ((c : Thread nD τ).loc main_arg4)) (ex m hO)

theorem point_lt (t : Fin (cfgM m hO).N) : t.val < 167 := lt_of_lt_of_eq t.isLt N_0

/-- The output block of a point, at a row and column, is the mixture at that row of the block. -/
theorem block_apply (t : Fin (cfgM m hO).N) (r : Fin 128) (j : Fin 2048) :
    outBlk m hO c t (ix2 r j) = answer m hO c (ix2 ⟨t.val * 128 + r.val, by have := point_lt m hO t; omega⟩ j) := by
  have hx : ∀ k : Fin 2048, (iblk m hO c (0 : Fin 5) t : S128x2048.Idx → EReal) (ix2 r k)
      = (m ((c : Thread nD τ).loc main_arg0) : S21376x2048.Idx → EReal) (ix2 ⟨t.val * 128 + r.val, by have := point_lt m hO t; omega⟩ k) := fun k => by
    refine congrArg (m ((c : Thread nD τ).loc main_arg0) : S21376x2048.Idx → EReal) (funext fun d => Fin.ext ?_)
    match d with
    | ⟨0, _⟩ => show (cc0_transform_0 (grid0.coords t) (0 : Fin 2)) * 128 + 1 * r.val = t.val * 128 + r.val; rw [(index_facts t).1]; omega
    | ⟨1, _⟩ => show 0 * 2048 + 1 * k.val = k.val; omega
  have he : ∀ h, ex m hO ⟨(t.val * 128 + r.val) / 128, h⟩ = expert m hO t := fun h => by
    unfold ex
    exact congrArg (expert m hO) (Fin.ext (by show (t.val * 128 + r.val) / 128 = t.val; omega))
  refine (payload_apply (iblk m hO c (0 : Fin 5) t) (k0_pay1 (F := Ideal) (gateW m c (expert m hO t))) (k0_pay2 (F := Ideal) (upW m c (expert m hO t)))
    (k0_pay3 (F := Ideal) (downW m c (expert m hO t))) r j).trans ?_
  simp only [hx, gate_cast, up_cast, down_cast]
  exact (congrArg (fun e => entry (m ((c : Thread nD τ).loc main_arg0)) (m ((c : Thread nD τ).loc main_arg2)) (m ((c : Thread nD τ).loc main_arg3))
    (m ((c : Thread nD τ).loc main_arg4)) e ⟨t.val * 128 + r.val, by have := point_lt m hO t; omega⟩ j) (he (by have := point_lt m hO t; omega))).symm

/-- Every point writes its block back. -/
theorem flush_all : ∀ t : Fin (cfgM m hO).N, ((cfgM m hO).win (4 : Fin 5)).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, _)

/-- Where the block of a point lies in the array. -/
theorem block_emb (t : Fin (cfgM m hO).N) (r : Fin 128) (j : Fin 2048) :
    (((cfgM m hO).win (4 : Fin 5)).blk t).view.emb (ix2 r j : S128x2048.Idx) = (ix2 ⟨t.val * 128 + r.val, by have := point_lt m hO t; omega⟩ j : S21376x2048.Idx) := by
  refine funext fun d => Fin.ext ?_
  match d with
  | ⟨0, _⟩ => show (cc0_transform_4 (grid0.coords t) (0 : Fin 2)) * 128 + 1 * r.val = t.val * 128 + r.val; rw [(index_facts t).2]; omega
  | ⟨1, _⟩ => show 0 * 2048 + 1 * j.val = j.val; omega

/-- The array after the run is the mixture. -/
theorem result_eq : (dats m hO 0 c).arrAt (4 : Fin 5) (cfgM m hO).N = answer m hO c := by
  refine (dats m hO 0 c).arrAt_eq_of_emb (4 : Fin 5) (answer m hO c) (fun t _ y => ?_) (fun i => ?_)
  · show outBlk m hO c t (y : S128x2048.Idx) = answer m hO c ((((cfgM m hO).win (4 : Fin 5)).blk t).view.emb y)
    obtain ⟨r, j, hy⟩ : ∃ (r : Fin 128) (j : Fin 2048), (y : S128x2048.Idx) = ix2 r j :=
      ⟨⟨(y (0 : Fin 2)).val, (y (0 : Fin 2)).isLt⟩, ⟨(y (1 : Fin 2)).val, (y (1 : Fin 2)).isLt⟩, funext fun d => Fin.ext (by
        match d with
        | ⟨0, _⟩ => rfl
        | ⟨1, _⟩ => rfl)⟩
    have e : (y : S128x2048.Idx) = ix2 r j := hy
    subst e
    exact (block_apply m hO c t r j).trans (congrArg (answer m hO c) (block_emb m hO t r j).symm)
  · have h0 : ((i : S21376x2048.Idx) 0).val < 21376 := ((i : S21376x2048.Idx) 0).isLt
    have hN : grid0.N = 167 := N_0
    have h1 : ((i : S21376x2048.Idx) 1).val < 2048 := ((i : S21376x2048.Idx) 1).isLt
    let t : Fin (cfgM m hO).N := ⟨((i : S21376x2048.Idx) 0).val / 128, by show _ < grid0.N; omega⟩
    let y : S128x2048.Idx := ix2 (⟨((i : S21376x2048.Idx) 0).val % 128, by omega⟩ : Fin 128) (⟨((i : S21376x2048.Idx) 1).val, h1⟩ : Fin 2048)
    have e : ((((cfgM m hO).win (4 : Fin 5)).blk t).view.emb y : S21376x2048.Idx) = i := by
      refine (block_emb m hO t _ _).trans (funext fun d => Fin.ext ?_)
      match d with
      | ⟨0, _⟩ => show ((i : S21376x2048.Idx) 0).val / 128 * 128 + ((i : S21376x2048.Idx) 0).val % 128 = ((i : S21376x2048.Idx) 0).val; omega
      | ⟨1, _⟩ => rfl
    refine ⟨t, flush_all m hO t, ?_⟩
    have hm := (((cfgM m hO).win (4 : Fin 5)).blk t).view.emb_mem_set y
    exact e ▸ hm

end Result

/-- Kernel and reference end with the same array, the mixture of the arguments, where the table names experts. -/
theorem agree [Cert.Pre_blocks_in_range.Facts] (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg)
    (h : ∀ c : Dev nD, Cert.Pre_blocks_in_range.fn (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) = fun _ => 1#1)
    (he : ∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)) :
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v64) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)) := by
  have hO : Ok m := ok_of_pre m h
  refine ⟨fun c => answer m hO c, ?_, ?_⟩
  · refine (θ_run _ _ _).mono (fun r hr c => ?_) (run_main m g hO)
    exact ⟨((hr.1 c).1 (4 : Fin 5)).trans (result_eq m hO c), args_kept m hO r hr.1 c⟩
  · refine (θ_run _ _ _).mono (fun r hr c => ?_) (Cert.MoeRefIdeal.Value.run m' g')
    refine ⟨(hr c).1.trans ?_, (hr c).2⟩
    obtain rfl : c = 0 := Subsingleton.elim _ _
    obtain ⟨e0, e1, e2, e3, e4⟩ := he 0
    rw [Cert.MoeRefIdeal.Read.val_main_v64_eq, e0, e1, e2, e3, e4]
    refine reference_eq _ _ _ _ _ (fun b => (word_range _ _ _ _ _ (h 0) b).2.1) (ex m hO) (fun b => ?_)
    refine (word_range _ _ _ _ _ (h 0) b).2.2.trans ?_
    unfold ex expert
    refine congrArg (BitVec.toNat (w := 32)) (((own_apply (crd m hO ⟨b.val, lt_of_lt_of_eq b.isLt N_0.symm⟩) (tbl m 0)).trans ?_).symm)
    exact congrArg (fun n => tbl m 0 (ix1 n)) (Fin.ext (crd_val ⟨b.val, lt_of_lt_of_eq b.isLt N_0.symm⟩))

end Cert.MoeIdeal.Hand

end
-- ==== Proof.OutShared.lean ====
/-
  What the four output projections have in common.  Each takes a row of activations, multiplies it by the output
  weight, scales it by the gate of the row's modulation and adds it to the residual row (`project`); normalizes the new
  row by its root mean square and modulates it (`modulate`); and multiplies that by the router's weight, padded to 128
  columns (`score`).  The modulation of a row is row 2 of the table for the 256 context positions of a sequence and the
  sequence's own row for its other 4096 positions (`source`).
-/
module

public import Idealize.ShloMosaic.Lib.Pointwise
public import Idealize.ShloMosaic.Lib.StableHlo.ReadAt
public import proofs.«01_k».proof.Proof.MoeAgree

@[expose] public section

noncomputable section

namespace Cert.OutShared

open Idealize.ShloMosaic

/-- The residual row plus the gated product of the activations with the weight. -/
def project {K : ℕ} (x g : Fin 2048 → EReal) (a : Fin K → EReal) (w : Fin K → Fin 2048 → EReal) (d : Fin 2048) : EReal :=
  x d + g d * ∑ k, a k * w k d

/-- The row over its root mean square, times the norm's weight, modulated. -/
def modulate (x nw sh sc : Fin 2048 → EReal) (d : Fin 2048) : EReal :=
  x d * Ideal.rsqrt (Ideal.div (∑ e, x e * x e) (Ideal.ofBits .f32 1157627904#32) + Ideal.ofBits .f32 897988541#32) * nw d
    * (1 + sc d) + sh d

/-- The weight of the router under its padding. -/
def padded (rw : Fin 2048 → Fin 32 → EReal) (d : Fin 2048) (j : Fin 128) : EReal := if h : j.val < 32 then rw d ⟨j.val, h⟩ else 0

/-- The row times the padded weight of the router. -/
def score (h : Fin 2048 → EReal) (rw : Fin 2048 → Fin 32 → EReal) (j : Fin 128) : EReal := ∑ d, h d * padded rw d j

/-- The row of the modulation table that a row of the tokens uses. -/
def source (i : Fin 8704) : Fin 16 := ⟨if i.val % 4352 < 256 then 2 else i.val / 4352, by split <;> omega⟩

section Rows
variable {K : ℕ} (act : Fin 8704 → Fin K → EReal) (w : (⟨2, ![K, 2048]⟩ : Shape).Idx → EReal)
  (x : (⟨2, ![8704, 2048]⟩ : Shape).Idx → EReal) (nw : (⟨1, ![2048]⟩ : Shape).Idx → EReal)
  (md : (⟨2, ![16, 12288]⟩ : Shape).Idx → EReal) (rw : (⟨2, ![2048, 32]⟩ : Shape).Idx → EReal)

/-- The new residual row of a token. -/
def newRow (i : Fin 8704) : Fin 2048 → EReal :=
  project (fun d => x (ix2 i d)) (fun d => md (ix2 (source i) ⟨4096 + d.val, by omega⟩)) (act i) (fun k d => w (ix2 k d))

/-- The normalized and modulated row of a token. -/
def normRow (i : Fin 8704) : Fin 2048 → EReal :=
  modulate (newRow act w x md i) (fun d => nw (ix1 d)) (fun d => md (ix2 (source i) ⟨6144 + d.val, by omega⟩))
    (fun d => md (ix2 (source i) ⟨8192 + d.val, by omega⟩))

/-- The router's products of a token. -/
def scoreRow (i : Fin 8704) : Fin 128 → EReal := score (normRow act w x nw md i) (fun d j => rw (ix2 d j))

/-- All the new residual rows. -/
def newRows : (⟨2, ![8704, 2048]⟩ : Shape).Idx → EReal := fun i => newRow act w x md ⟨(i 0).val, (i 0).isLt⟩ ⟨(i 1).val, (i 1).isLt⟩
/-- All the normalized rows. -/
def normRows : (⟨2, ![8704, 2048]⟩ : Shape).Idx → EReal := fun i => normRow act w x nw md ⟨(i 0).val, (i 0).isLt⟩ ⟨(i 1).val, (i 1).isLt⟩
/-- All the router's products. -/
def scoreRows : (⟨2, ![8704, 128]⟩ : Shape).Idx → EReal := fun i => scoreRow act w x nw md rw ⟨(i 0).val, (i 0).isLt⟩ ⟨(i 1).val, (i 1).isLt⟩

end Rows

/-! ## The table of modulations by tiles -/

section Gather
variable {α : Type}

/-- The dimension numbers of a gather of 6 rows of 2048 out of a stack of 16, one for each of 34 tiles. -/
abbrev tileDims (wf : GatherDims.WF ⟨3, ![16, 6, 2048]⟩ ⟨2, ![34, 1]⟩ ⟨3, ![34, 6, 2048]⟩ [1, 2] [0] [] [0] [] 1 ![1, 6, 2048]) :
    GatherDims ⟨3, ![16, 6, 2048]⟩ ⟨2, ![34, 1]⟩ ⟨3, ![34, 6, 2048]⟩ where
  offsetDims := [1, 2]
  collapsedSliceDims := [0]
  operandBatchingDims := []
  startIndicesBatchingDims := []
  startIndexMap := [0]
  indexVectorDim := 1
  sliceSizes := ![1, 6, 2048]
  wf := wf

/-- Such a gather reads the matrix that its start index names, at the same row and column. -/
theorem gather_tile (wf : GatherDims.WF ⟨3, ![16, 6, 2048]⟩ ⟨2, ![34, 1]⟩ ⟨3, ![34, 6, 2048]⟩ [1, 2] [0] [] [0] [] 1 ![1, 6, 2048])
    (x : (⟨3, ![16, 6, 2048]⟩ : Shape).Idx → α) (idx : IVec ⟨2, ![34, 1]⟩ 32) (t : Fin 34) (p : Fin 6) (q : Fin 2048) (e : Fin 16)
    (he : (idx (ix2 t 0)).toInt.toNat = e.val) :
    Host.gather (tileDims wf) x idx (ix3 t p q) = x (ix3 e p q) := by
  unfold Host.gather
  congr 1
  funext a
  refine Fin.ext ?_
  show (tileDims wf).start (ix3 t p q) idx a + (tileDims wf).batchCoord (ix3 t p q) a + (tileDims wf).offCoord (ix3 t p q) a = _
  rw [GatherDims.batchCoord_eq_zero _ _ _ List.not_mem_nil, Nat.add_zero]
  have hs := (tileDims wf).start_le (ix3 t p q) idx a
  match a with
  | ⟨0, _⟩ =>
    have ho : (tileDims wf).offCoord (ix3 t p q) (0 : Fin 3) = 0 := rfl
    have h1 : (tileDims wf).siIdx (ix3 t p q) ⟨List.idxOf (0 : Fin 3) (tileDims wf).startIndexMap,
        List.idxOf_lt_length_iff.2 (show (0 : Fin 3) ∈ ([0] : List (Fin 3)) by decide)⟩ = ix2 t 0 := by
      funext d; refine Fin.ext ?_
      match d with
      | ⟨0, _⟩ => rfl
      | ⟨1, _⟩ => rfl
    have hst : (tileDims wf).start (ix3 t p q) idx (0 : Fin 3) = e.val := by
      unfold GatherDims.start
      rw [dif_pos (show (0 : Fin 3) ∈ ([0] : List (Fin 3)) by decide), h1, he]
      show min e.val (16 - 1) = e.val
      omega
    exact (congrArg₂ (· + ·) hst ho).trans (Nat.add_zero _)
  | ⟨1, _⟩ =>
    have h0 : (tileDims wf).start (ix3 t p q) idx (1 : Fin 3) = 0 := by
      have : (tileDims wf).start (ix3 t p q) idx (1 : Fin 3) ≤ 6 - 6 := hs
      omega
    have ho : (tileDims wf).offCoord (ix3 t p q) (1 : Fin 3) = p.val := rfl
    exact (congrArg₂ (· + ·) h0 ho).trans (Nat.zero_add _)
  | ⟨2, _⟩ =>
    have h0 : (tileDims wf).start (ix3 t p q) idx (2 : Fin 3) = 0 := by
      have : (tileDims wf).start (ix3 t p q) idx (2 : Fin 3) ≤ 2048 - 2048 := hs
      omega
    have ho : (tileDims wf).offCoord (ix3 t p q) (2 : Fin 3) = q.val := rfl
    exact (congrArg₂ (· + ·) h0 ho).trans (Nat.zero_add _)

end Gather

/-- The row of the modulation table that a tile of 256 tokens uses. -/
def tileSource (t : Fin 34) : Fin 16 := ⟨if t.val % 17 < 1 then 2 else t.val / 17, by split <;> omega⟩

/-- A token's row of the table is its tile's. -/
theorem source_eq (t : Fin 34) (i : Fin 8704) (h : i.val / 256 = t.val) : source i = tileSource t := by
  refine Fin.ext ?_
  show (if i.val % 4352 < 256 then 2 else i.val / 4352) = if t.val % 17 < 1 then 2 else t.val / 17
  have h1 : (i.val % 4352 < 256) ↔ (t.val % 17 < 1) := by omega
  have h2 : i.val / 4352 = t.val / 17 := by omega
  simp only [h1, h2]

/-- A context position's row of the table is row 2. -/
theorem source_ctx (i : Fin 8704) (h : i.val % 4352 < 256) : source i = ⟨2, by omega⟩ := Fin.ext (if_pos h)

/-- Any other position's row of the table is its sequence's. -/
theorem source_lat (i : Fin 8704) (h : ¬i.val % 4352 < 256) : source i = ⟨i.val / 4352, by omega⟩ := Fin.ext (if_neg h)

/-- The integer zero as a float is zero. -/
theorem sitofp_zero : FloatOps.sitofp (F := Ideal) FTy.f32 (0#32) = (0 : EReal) := by
  show (((0#32 : BitVec 32).toInt : ℝ) : EReal) = 0
  simp

end Cert.OutShared

end
-- ==== Proof.AttOutAgree.lean ====
/-
  The output projection of the window attention: every one of the 34 points reads a block of 256 rows of activations and of
  the residual stream, the whole weight, and its tile's rows of the modulation table, and writes the three blocks of
  `OutShared`.
-/
module

public import proofs.«01_k».proof.Proof.Gen.AttOutIdeal.Value
public import proofs.«01_k».proof.Proof.Gen.AttOutRefIdeal.Run
public import proofs.«01_k».proof.Proof.Gen.AttOutRefIdeal.Read
public import proofs.«01_k».proof.Proof.OutShared

@[expose] public section

set_option maxRecDepth 16384

noncomputable section

namespace Cert.AttOutIdeal.Hand

open Cert.AttOutIdeal Cert.AttOutIdeal.Gen Idealize.ShloMosaic Idealize.ShloMosaic.TcCoe Idealize.SL.Sem Cert.OutShared

/-! ## The body, at an index -/

/-- The offset of a whole rank-2 rectangle. -/
theorem zeros2 : (![0, 0] : Fin 2 → Nat) = fun _ => 0 := funext fun a => by fin_cases a <;> rfl

section Body
variable (x0 : S256x2048.Idx → EReal)
  (x1 : S2048x2048.Idx → EReal) (x2 : S256x2048.Idx → EReal) (x3 : S1x2048.Idx → EReal)
  (x4 : S1x8x2048.Idx → EReal) (x5 : S2048x128.Idx → EReal)

/-- A row of the new residual block. -/
def blockRow (a : Fin 256) : Fin 2048 → EReal :=
  project (fun d => x2 (ix2 a d)) (fun d => x4 (ix3 0 2 d)) (fun k => x0 (ix2 a k)) (fun k d => x1 (ix2 k d))

/-- A row of the normalized block. -/
def blockNorm (a : Fin 256) : Fin 2048 → EReal :=
  modulate (blockRow x0 x1 x2 x4 a) (fun d => x3 (ix2 0 d)) (fun d => x4 (ix3 0 3 d)) (fun d => x4 (ix3 0 4 d))

/-- The new residual block. -/
theorem pay4_apply (r2 : S1x1x2048.Idx → EReal) (h2 : ∀ d : Fin 2048, r2 (ix3 0 0 d) = x4 (ix3 0 2 d)) (a : Fin 256) (d : Fin 2048) :
    k0_pay4 (F := Ideal) x0 x1 x2 r2 (ix2 a d) = blockRow x0 x1 x2 x4 a d := by
  pointwise [k0_pay4]
  rw [h2]
  rfl

/-- The normalized block before its shift. -/
theorem norm_apply (r2 r3 r4 : S1x1x2048.Idx → EReal) (h2 : ∀ d : Fin 2048, r2 (ix3 0 0 d) = x4 (ix3 0 2 d))
    (h3 : ∀ d : Fin 2048, r3 (ix3 0 0 d) = x4 (ix3 0 3 d)) (h4 : ∀ d : Fin 2048, r4 (ix3 0 0 d) = x4 (ix3 0 4 d)) (a : Fin 256) (d : Fin 2048) :
    k0_pay1 (F := Ideal) (k0_pay5 x0 x1 x2 r2 x3 r4) (k0_pay6 r3) (ix2 a d) = blockNorm x0 x1 x2 x3 x4 a d := by
  pointwise [k0_pay1, k0_pay5, k0_pay6]
  simp only [h3, h4, pay4_apply x0 x1 x2 x4 r2 h2]
  rfl

/-- What a point leaves in the block of the new residual stream. -/
theorem out_new_apply (a : Fin 256) (d : Fin 2048) : out0_6 (F := Ideal) x0 x1 x2 x3 x4 x5 (ix2 a d) = blockRow x0 x1 x2 x4 a d := by
  unfold_out out0_6
  rw [View.canon_unit_zero zeros2]
  simp only [View.ld_unit_zero (S := S256x2048) zeros2, View.ld_unit_zero (S := S2048x2048) zeros2]
  exact pay4_apply x0 x1 x2 x4 _ (fun d => by pointwise) a d

/-- What a point leaves in the block of normalized rows. -/
theorem out_norm_apply (a : Fin 256) (d : Fin 2048) : out0_7 (F := Ideal) x0 x1 x2 x3 x4 x5 (ix2 a d) = blockNorm x0 x1 x2 x3 x4 a d := by
  unfold_out out0_7
  rw [View.canon_unit_zero zeros2]
  simp only [View.ld_unit_zero (S := S256x2048) zeros2, View.ld_unit_zero (S := S2048x2048) zeros2, View.ld_unit_zero (S := S1x2048) zeros2]
  pointwise [k0_pay2]
  exact norm_apply x0 x1 x2 x3 x4 _ _ _ (fun d => by pointwise) (fun d => by pointwise) (fun d => by pointwise) a d

/-- What a point leaves in the block of router products. -/
theorem out_score_apply (a : Fin 256) (j : Fin 128) :
    out0_8 (F := Ideal) x0 x1 x2 x3 x4 x5 (ix2 a j) = ∑ d, blockNorm x0 x1 x2 x3 x4 a d * x5 (ix2 d j) := by
  unfold_out out0_8
  rw [View.canon_unit_zero zeros2]
  simp only [View.ld_unit_zero (S := S256x2048) zeros2, View.ld_unit_zero (S := S2048x2048) zeros2, View.ld_unit_zero (S := S1x2048) zeros2,
    View.ld_unit_zero (S := S2048x128) zeros2]
  pointwise [k0_pay3]
  refine Finset.sum_congr rfl fun d _ => congrArg (· * _) ?_
  exact norm_apply x0 x1 x2 x3 x4 _ _ _ (fun d => by pointwise) (fun d => by pointwise) (fun d => by pointwise) a d

end Body

/-! ## What the host operations leave for the region -/

section Host
variable (m : (ℓ : Loc nD τ sig) → Buf (Elt Ideal) ℓ) (c : Dev nD)

/-- The activations. -/
abbrev act : S8704x2048.Idx → EReal := m ((c : Thread nD τ).loc main_arg0)

/-- The output weight. -/
abbrev wt : S2048x2048.Idx → EReal := m ((c : Thread nD τ).loc main_arg1)
/-- The residual stream. -/
abbrev res : S8704x2048.Idx → EReal := m ((c : Thread nD τ).loc main_arg2)
/-- The norm's weight. -/
abbrev nwt : S2048.Idx → EReal := m ((c : Thread nD τ).loc main_arg3)
/-- The modulations. -/
abbrev mods : S16x12288.Idx → EReal := m ((c : Thread nD τ).loc main_arg4)
/-- The router's weight. -/
abbrev rwt : S2048x32.Idx → EReal := m ((c : Thread nD τ).loc main_arg5)

/-- The weight in its narrower type is the weight. -/
theorem w_value (k : Fin 2048) (d : Fin 2048) : (V m c main_v16 : S2048x2048.Idx → EReal) (ix2 k d) = wt m c (ix2 k d) := by
  unfold V
  simp only [List.flatten_cons, List.flatten_nil, List.append_nil, List.cons_append, List.nil_append]
  after_reads_at

/-- The norm's weight as a row. -/
theorem nw_value (d : Fin 2048) : (V m c main_v17 : S1x2048.Idx → EReal) (ix2 0 d) = nwt m c (ix1 d) := by
  unfold V
  simp only [List.flatten_cons, List.flatten_nil, List.append_nil, List.cons_append, List.nil_append]
  after_reads_at

/-- The padded weight of the router. -/
theorem rw_value (d : Fin 2048) (j : Fin 128) : (V m c main_v15 : S2048x128.Idx → EReal) (ix2 d j) = padded (fun d j => rwt m c (ix2 d j)) d j := by
  unfold V
  simp only [List.flatten_cons, List.flatten_nil, List.append_nil, List.cons_append, List.nil_append]
  after_reads_at
  exact congrArg (fun z => dite (j.val < 32) _ fun _ => z) sitofp_zero

/-- The modulations of a tile: the context's row of the table or the sequence's. -/
theorem tile_value (t : Fin 34) (p : Fin 6) (d : Fin 2048) :
    (V m c main_v14 : S34x8x2048.Idx → EReal) (ix3 t ⟨p.val, by omega⟩ d) = mods m c (ix2 (tileSource t) ⟨p.val * 2048 + d.val, by omega⟩) := by
  unfold V
  simp only [List.flatten_cons, List.flatten_nil, List.append_nil, List.cons_append, List.nil_append]
  after_reads_at
  refine (gather_tile gather_S16x6x2048_S34x1_S34x6x2048_12_0_n_n_0_1_162048_wf _ _ t p d (tileSource t) ?_).trans ?_
  · clear d p
    revert t
    decide +kernel
  · rfl

end Host

/-! ## The blocks and the results -/

section Results
variable (m : (ℓ : Loc nD τ sig) → Buf (Elt Ideal) ℓ) (c : Dev nD)

/-- Which blocks a point reads and writes. -/
theorem index_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 3) = t.val ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- The number of a point is below 34. -/
theorem pt_lt (t : Fin cfg0.N) : t.val < 34 := lt_of_lt_of_eq t.isLt (show cfg0.N = 34 from N_0)

/-- The row of the tokens that a row of a point's block is. -/
def row (t : Fin cfg0.N) (a : Fin 256) : Fin 8704 := ⟨t.val * 256 + a.val, by have := pt_lt t; omega⟩

/-- The tile of a point. -/
def tile (t : Fin cfg0.N) : Fin 34 := ⟨t.val, by have := pt_lt t; omega⟩

/-- A point's block of activations. -/
theorem act_block (t : Fin cfg0.N) (a : Fin 256) (k : Fin 2048) : (iblk m c 0 t : S256x2048.Idx → EReal) (ix2 a k) = act m c (ix2 (row t a) k) := by
  obtain ⟨⟨e0, e1⟩, -⟩ := index_facts t
  refine (congrFun (V_main_arg0 m c) (((cfg0.win 0).blk t).view.emb (ix2 a k))).trans (congrArg (act m c) (?_ : ((cfg0.win 0).blk t).view.emb (ix2 a k) = _))
  refine funext fun d => Fin.ext ?_
  match d with
  | ⟨0, _⟩ => show win0_0.index t (0 : Fin 2) * 256 + 1 * a.val = t.val * 256 + a.val; omega
  | ⟨1, _⟩ => show win0_0.index t (1 : Fin 2) * 2048 + 1 * k.val = k.val; omega

/-- A point's block of the weight: all of it. -/
theorem w_block (t : Fin cfg0.N) (k : Fin 2048) (d : Fin 2048) : (iblk m c 1 t : S2048x2048.Idx → EReal) (ix2 k d) = wt m c (ix2 k d) := by
  obtain ⟨-, ⟨e0, e1⟩, -⟩ := index_facts t
  refine Eq.trans (congrArg (V m c main_v16 : S2048x2048.Idx → EReal) (?_ : ((cfg0.win 1).blk t).view.emb (ix2 k d) = ix2 k d)) (w_value m c k d)
  refine funext fun e => Fin.ext ?_
  match e with
  | ⟨0, _⟩ => show win0_1.index t (0 : Fin 2) * 2048 + 1 * k.val = k.val; omega
  | ⟨1, _⟩ => show win0_1.index t (1 : Fin 2) * 2048 + 1 * d.val = d.val; omega

/-- A point's block of the residual stream. -/
theorem x_block (t : Fin cfg0.N) (a : Fin 256) (k : Fin 2048) : (iblk m c 2 t : S256x2048.Idx → EReal) (ix2 a k) = res m c (ix2 (row t a) k) := by
  obtain ⟨-, -, ⟨e0, e1⟩, -⟩ := index_facts t
  refine (congrFun (V_main_arg2 m c) (((cfg0.win 2).blk t).view.emb (ix2 a k))).trans (congrArg (res m c) (?_ : ((cfg0.win 2).blk t).view.emb (ix2 a k) = _))
  refine funext fun d => Fin.ext ?_
  match d with
  | ⟨0, _⟩ => show win0_2.index t (0 : Fin 2) * 256 + 1 * a.val = t.val * 256 + a.val; omega
  | ⟨1, _⟩ => show win0_2.index t (1 : Fin 2) * 2048 + 1 * k.val = k.val; omega

/-- A point's block of the norm's weight: all of it. -/
theorem nw_block (t : Fin cfg0.N) (d : Fin 2048) : (iblk m c 3 t : S1x2048.Idx → EReal) (ix2 0 d) = nwt m c (ix1 d) := by
  obtain ⟨-, -, -, ⟨e0, e1⟩, -⟩ := index_facts t
  refine Eq.trans (congrArg (V m c main_v17 : S1x2048.Idx → EReal) (?_ : ((cfg0.win 3).blk t).view.emb (ix2 0 d) = ix2 0 d)) (nw_value m c d)
  refine funext fun e => Fin.ext ?_
  match e with
  | ⟨0, _⟩ => show win0_3.index t (0 : Fin 2) * 1 + 1 * 0 = 0; omega
  | ⟨1, _⟩ => show win0_3.index t (1 : Fin 2) * 2048 + 1 * d.val = d.val; omega

/-- A point's rows of the modulation table. -/
theorem mod_block (t : Fin cfg0.N) (a : Fin 256) (p : Fin 6) (d : Fin 2048) :
    (iblk m c 4 t : S1x8x2048.Idx → EReal) (ix3 0 ⟨p.val, by omega⟩ d) = mods m c (ix2 (source (row t a)) ⟨p.val * 2048 + d.val, by omega⟩) := by
  obtain ⟨-, -, -, -, ⟨e0, e1, e2⟩, -⟩ := index_facts t
  rw [source_eq (tile t) (row t a) (show (t.val * 256 + a.val) / 256 = t.val by omega)]
  refine Eq.trans (congrArg (V m c main_v14 : S34x8x2048.Idx → EReal)
    (?_ : ((cfg0.win 4).blk t).view.emb (ix3 0 ⟨p.val, by omega⟩ d) = ix3 (tile t) ⟨p.val, by omega⟩ d)) (tile_value m c (tile t) p d)
  refine funext fun e => Fin.ext ?_
  match e with
  | ⟨0, _⟩ => show win0_4.index t (0 : Fin 3) * 1 + 1 * 0 = t.val; omega
  | ⟨1, _⟩ => show win0_4.index t (1 : Fin 3) * 8 + 1 * p.val = p.val; omega
  | ⟨2, _⟩ => show win0_4.index t (2 : Fin 3) * 2048 + 1 * d.val = d.val; omega

/-- A point's block of the router's padded weight: all of it. -/
theorem rw_block (t : Fin cfg0.N) (d : Fin 2048) (j : Fin 128) :
    (iblk m c 5 t : S2048x128.Idx → EReal) (ix2 d j) = padded (fun d j => rwt m c (ix2 d j)) d j := by
  obtain ⟨-, -, -, -, -, ⟨e0, e1⟩, -⟩ := index_facts t
  refine Eq.trans (congrArg (V m c main_v15 : S2048x128.Idx → EReal) (?_ : ((cfg0.win 5).blk t).view.emb (ix2 d j) = ix2 d j)) (rw_value m c d j)
  refine funext fun e => Fin.ext ?_
  match e with
  | ⟨0, _⟩ => show win0_5.index t (0 : Fin 2) * 2048 + 1 * d.val = d.val; omega
  | ⟨1, _⟩ => show win0_5.index t (1 : Fin 2) * 128 + 1 * j.val = j.val; omega

/-- The activations of a token. -/
def acts (i : Fin 8704) (k : Fin 2048) : EReal := act m c (ix2 i k)

/-- A row of a point's new residual block is the token's. -/
theorem row_eq (t : Fin cfg0.N) (a : Fin 256) :
    blockRow (iblk m c 0 t) (iblk m c 1 t) (iblk m c 2 t) (iblk m c 4 t) a = newRow (acts m c) (wt m c) (res m c) (mods m c) (row t a) := by
  funext d
  have h2 : (iblk m c 4 t : S1x8x2048.Idx → EReal) (ix3 0 2 d) = _ := mod_block m c t a 2 d
  unfold blockRow newRow project
  simp only [act_block, w_block, x_block]
  rw [h2]
  rfl

/-- A row of a point's normalized block is the token's. -/
theorem norm_eq (t : Fin cfg0.N) (a : Fin 256) :
    blockNorm (iblk m c 0 t) (iblk m c 1 t) (iblk m c 2 t) (iblk m c 3 t) (iblk m c 4 t) a
      = normRow (acts m c) (wt m c) (res m c) (nwt m c) (mods m c) (row t a) := by
  funext d
  have h3 : (iblk m c 4 t : S1x8x2048.Idx → EReal) (ix3 0 3 d) = _ := mod_block m c t a 3 d
  have h4 : (iblk m c 4 t : S1x8x2048.Idx → EReal) (ix3 0 4 d) = _ := mod_block m c t a 4 d
  unfold blockNorm normRow modulate
  rw [row_eq]
  simp only [nw_block]
  rw [h3, h4]
  rfl

/-- The new residual stream after the run. -/
theorem result_new : (dats m 0 c).arrAt 6 cfg0.N = newRows (acts m c) (wt m c) (res m c) (mods m c) := by
  refine (dats m 0 c).arrAt_eq_of_covers 6 _ (by decide +kernel) fun t hf y => ?_
  obtain ⟨-, -, -, -, -, -, ⟨e0, e1⟩, -⟩ := index_facts t
  blk_simp
  rw [after0_6]
  idx_vars y
  refine (out_new_apply _ _ _ _ _ _ y0 y1).trans ((congrFun (row_eq m c t y0) y1).trans ?_)
  refine congrArg₂ (newRow (acts m c) (wt m c) (res m c) (mods m c)) (Fin.ext ?_) (Fin.ext ?_)
  · show t.val * 256 + y0.val = win0_6.index t (0 : Fin 2) * 256 + 1 * y0.val; omega
  · show y1.val = win0_6.index t (1 : Fin 2) * 2048 + 1 * y1.val; omega

/-- The normalized rows after the run. -/
theorem result_norm : (dats m 0 c).arrAt 7 cfg0.N = normRows (acts m c) (wt m c) (res m c) (nwt m c) (mods m c) := by
  refine (dats m 0 c).arrAt_eq_of_covers 7 _ (by decide +kernel) fun t hf y => ?_
  obtain ⟨-, -, -, -, -, -, -, ⟨e0, e1⟩, -⟩ := index_facts t
  blk_simp
  rw [after0_7]
  idx_vars y
  refine (out_norm_apply _ _ _ _ _ _ y0 y1).trans ((congrFun (norm_eq m c t y0) y1).trans ?_)
  refine congrArg₂ (normRow (acts m c) (wt m c) (res m c) (nwt m c) (mods m c)) (Fin.ext ?_) (Fin.ext ?_)
  · show t.val * 256 + y0.val = win0_7.index t (0 : Fin 2) * 256 + 1 * y0.val; omega
  · show y1.val = win0_7.index t (1 : Fin 2) * 2048 + 1 * y1.val; omega

/-- The router's products after the run. -/
theorem result_score : (dats m 0 c).arrAt 8 cfg0.N = scoreRows (acts m c) (wt m c) (res m c) (nwt m c) (mods m c) (rwt m c) := by
  refine (dats m 0 c).arrAt_eq_of_covers 8 _ (by decide +kernel) fun t hf y => ?_
  obtain ⟨-, -, -, -, -, -, -, -, e0, e1⟩ := index_facts t
  blk_simp
  rw [after0_8]
  idx_vars y
  refine (out_score_apply _ _ _ _ _ _ y0 y1).trans ?_
  rw [norm_eq]
  simp only [rw_block]
  refine congrArg₂ (scoreRow (acts m c) (wt m c) (res m c) (nwt m c) (mods m c) (rwt m c)) (Fin.ext ?_) (Fin.ext ?_)
  · show t.val * 256 + y0.val = win0_8.index t (0 : Fin 2) * 256 + 1 * y0.val; omega
  · show y1.val = win0_8.index t (1 : Fin 2) * 128 + 1 * y1.val; omega

end Results

/-! ## The reference -/

section Reference
open Cert.AttOutRefIdeal.Read

variable (x0 : S8704x2048.Idx → EReal)
  (x1 : S2048x2048.Idx → EReal) (x2 : S8704x2048.Idx → EReal) (x3 : S2048.Idx → EReal) (x4 : S16x12288.Idx → EReal) (x5 : S2048x32.Idx → EReal)

/-- The reference's new residual rows of the context. -/
theorem ref_ctx_row (b : Fin 2) (p : Fin 256) (d : Fin 2048) :
    val_main_v25 (F := Ideal) x0 x1 x2 x4 (ix3 b p d) = newRow (fun i k => x0 (ix2 i k)) x1 x2 x4 ⟨b.val * 4352 + p.val, by omega⟩ d := by
  unfold newRow project
  rw [source_ctx _ (show (b.val * 4352 + p.val) % 4352 < 256 by omega)]
  pointwise [val_main_v25, val_main_v20, val_main_v3, val_main_v24, val_main_v23, val_main_v22, val_main_v16, val_main_v13, val_main_v12, val_main_v21, val_main_v2, val_main_v1, val_main_v0]

/-- The reference's new residual rows of the other positions. -/
theorem ref_lat_row (b : Fin 2) (p : Fin 4096) (d : Fin 2048) :
    val_main_v30 (F := Ideal) x0 x1 x2 x4 (ix3 b p d) = newRow (fun i k => x0 (ix2 i k)) x1 x2 x4 ⟨b.val * 4352 + (256 + p.val), by omega⟩ d := by
  unfold newRow project
  rw [source_lat _ (show ¬(b.val * 4352 + (256 + p.val)) % 4352 < 256 by omega)]
  pointwise [val_main_v30, val_main_v26, val_main_v3, val_main_v29, val_main_v28, val_main_v8, val_main_v5, val_main_v4, val_main_v27, val_main_v2, val_main_v1, val_main_v0]
  have hb : (⟨(b.val * 4352 + (256 + p.val)) / 4352, by omega⟩ : Fin 16) = ⟨b.val, by omega⟩ := Fin.ext (show (b.val * 4352 + (256 + p.val)) / 4352 = b.val by omega)
  rw [hb]

/-- The reference's normalized rows of the context. -/
theorem ref_ctx_norm (b : Fin 2) (p : Fin 256) (d : Fin 2048) :
    val_main_v51 (F := Ideal) x0 x1 x2 x3 x4 (ix3 b p d) = normRow (fun i k => x0 (ix2 i k)) x1 x2 x3 x4 ⟨b.val * 4352 + p.val, by omega⟩ d := by
  unfold normRow modulate
  rw [source_ctx _ (show (b.val * 4352 + p.val) % 4352 < 256 by omega)]
  pointwise [val_main_v51, val_main_v48, val_main_v43, val_main_v40, val_main_v39, val_main_v38, val_main_v37, val_main_v35, val_main_v33, val_main_v32, val_main_v31, val_main_cst, val_main_v34, val_main_cst_0, val_main_v36, val_main_cst_1, val_main_v42, val_main_v41, val_main_v47, val_main_v46, val_main_v45, val_main_v44, val_main_cst_2, val_main_v18, val_main_v13, val_main_v12, val_main_v50, val_main_v49, val_main_v17]
  simp only [ref_ctx_row]

/-- The reference's normalized rows of the other positions. -/
theorem ref_lat_norm (b : Fin 2) (p : Fin 4096) (d : Fin 2048) :
    val_main_v70 (F := Ideal) x0 x1 x2 x3 x4 (ix3 b p d) = normRow (fun i k => x0 (ix2 i k)) x1 x2 x3 x4 ⟨b.val * 4352 + (256 + p.val), by omega⟩ d := by
  unfold normRow modulate
  rw [source_lat _ (show ¬(b.val * 4352 + (256 + p.val)) % 4352 < 256 by omega)]
  pointwise [val_main_v70, val_main_v68, val_main_v64, val_main_v61, val_main_v60, val_main_v59, val_main_v58, val_main_v56, val_main_v54, val_main_v53, val_main_v52, val_main_cst_3, val_main_v55, val_main_cst_4, val_main_v57, val_main_cst_5, val_main_v63, val_main_v62, val_main_v67, val_main_v66, val_main_v65, val_main_cst_6, val_main_v10, val_main_v5, val_main_v4, val_main_v69, val_main_v9]
  have hb : (⟨(b.val * 4352 + (256 + p.val)) / 4352, by omega⟩ : Fin 16) = ⟨b.val, by omega⟩ := Fin.ext (show (b.val * 4352 + (256 + p.val)) / 4352 = b.val by omega)
  rw [hb]
  simp only [ref_lat_row]

/-- The reference's first result. -/
theorem ref_new (i : Fin 8704) (d : Fin 2048) : val_main_v75 (F := Ideal) x0 x1 x2 x4 (ix2 i d) = newRow (fun i k => x0 (ix2 i k)) x1 x2 x4 i d := by
  pointwise [val_main_v75, val_main_v74]
  rcases Nat.lt_or_ge (i.val % 4352) 256 with h | h
  · rw [dif_pos h]
    refine (ref_ctx_row x0 x1 x2 x4 ⟨i.val / 4352, by omega⟩ ⟨i.val % 4352, h⟩ d).trans ?_
    exact congrArg (fun i => newRow (fun i k => x0 (ix2 i k)) x1 x2 x4 i d) (Fin.ext (show i.val / 4352 * 4352 + i.val % 4352 = i.val by omega))
  · rw [dif_neg (by omega)]
    refine (ref_lat_row x0 x1 x2 x4 ⟨i.val / 4352, by omega⟩ ⟨i.val % 4352 - 256, by omega⟩ d).trans ?_
    exact congrArg (fun i => newRow (fun i k => x0 (ix2 i k)) x1 x2 x4 i d) (Fin.ext (show i.val / 4352 * 4352 + (256 + (i.val % 4352 - 256)) = i.val by omega))

/-- The reference's normalized rows. -/
theorem ref_norm (i : Fin 8704) (d : Fin 2048) : val_main_v72 (F := Ideal) x0 x1 x2 x3 x4 (ix2 i d) = normRow (fun i k => x0 (ix2 i k)) x1 x2 x3 x4 i d := by
  pointwise [val_main_v72, val_main_v71]
  rcases Nat.lt_or_ge (i.val % 4352) 256 with h | h
  · rw [dif_pos h]
    refine (ref_ctx_norm x0 x1 x2 x3 x4 ⟨i.val / 4352, by omega⟩ ⟨i.val % 4352, h⟩ d).trans ?_
    exact congrArg (fun i => normRow (fun i k => x0 (ix2 i k)) x1 x2 x3 x4 i d) (Fin.ext (show i.val / 4352 * 4352 + i.val % 4352 = i.val by omega))
  · rw [dif_neg (by omega)]
    refine (ref_lat_norm x0 x1 x2 x3 x4 ⟨i.val / 4352, by omega⟩ ⟨i.val % 4352 - 256, by omega⟩ d).trans ?_
    exact congrArg (fun i => normRow (fun i k => x0 (ix2 i k)) x1 x2 x3 x4 i d) (Fin.ext (show i.val / 4352 * 4352 + (256 + (i.val % 4352 - 256)) = i.val by omega))

/-- The reference's second result. -/
theorem ref_norm_cast (i : Fin 8704) (d : Fin 2048) : val_main_v76 (F := Ideal) x0 x1 x2 x3 x4 (ix2 i d) = normRow (fun i k => x0 (ix2 i k)) x1 x2 x3 x4 i d :=
  ref_norm x0 x1 x2 x3 x4 i d

/-- The reference's third result. -/
theorem ref_score (i : Fin 8704) (j : Fin 128) :
    val_main_v77 (F := Ideal) x0 x1 x2 x3 x4 x5 (ix2 i j) = scoreRow (fun i k => x0 (ix2 i k)) x1 x2 x3 x4 x5 i j := by
  unfold scoreRow score padded
  pointwise [val_main_v77, val_main_v73, val_main_call0_v0, val_main_c]
  refine Finset.sum_congr rfl fun d _ => ?_
  rw [ref_norm]
  exact congrArg (fun z => _ * dite (j.val < 32) _ fun _ => z) sitofp_zero

end Reference

/-! ## The claim -/

/-- Kernel and reference end with the same three arrays. -/
theorem agree (m : (ℓ : Loc Cert.AttOutIdeal.nD Cert.AttOutIdeal.τ Cert.AttOutIdeal.sig) → Buf (Elt Ideal) ℓ) (g : Dev Cert.AttOutIdeal.nD → PrngReg)
    (m' : (ℓ : Loc Cert.AttOutRefIdeal.nD Cert.AttOutRefIdeal.τ Cert.AttOutRefIdeal.sig) → Buf (Elt Ideal) ℓ) (g' : Dev Cert.AttOutRefIdeal.nD → PrngReg)
    (he : ∀ c : Dev Cert.AttOutIdeal.nD,
      m' ((c.tc : Thread Cert.AttOutRefIdeal.nD Cert.AttOutRefIdeal.τ).loc Cert.AttOutRefIdeal.main_arg0) = m ((c.tc : Thread Cert.AttOutIdeal.nD Cert.AttOutIdeal.τ).loc Cert.AttOutIdeal.main_arg0)
      ∧ m' ((c.tc : Thread Cert.AttOutRefIdeal.nD Cert.AttOutRefIdeal.τ).loc Cert.AttOutRefIdeal.main_arg1) = m ((c.tc : Thread Cert.AttOutIdeal.nD Cert.AttOutIdeal.τ).loc Cert.AttOutIdeal.main_arg1)
      ∧ m' ((c.tc : Thread Cert.AttOutRefIdeal.nD Cert.AttOutRefIdeal.τ).loc Cert.AttOutRefIdeal.main_arg2) = m ((c.tc : Thread Cert.AttOutIdeal.nD Cert.AttOutIdeal.τ).loc Cert.AttOutIdeal.main_arg2)
      ∧ m' ((c.tc : Thread Cert.AttOutRefIdeal.nD Cert.AttOutRefIdeal.τ).loc Cert.AttOutRefIdeal.main_arg3) = m ((c.tc : Thread Cert.AttOutIdeal.nD Cert.AttOutIdeal.τ).loc Cert.AttOutIdeal.main_arg3)
      ∧ m' ((c.tc : Thread Cert.AttOutRefIdeal.nD Cert.AttOutRefIdeal.τ).loc Cert.AttOutRefIdeal.main_arg4) = m ((c.tc : Thread Cert.AttOutIdeal.nD Cert.AttOutIdeal.τ).loc Cert.AttOutIdeal.main_arg4)
      ∧ m' ((c.tc : Thread Cert.AttOutRefIdeal.nD Cert.AttOutRefIdeal.τ).loc Cert.AttOutRefIdeal.main_arg5) = m ((c.tc : Thread Cert.AttOutIdeal.nD Cert.AttOutIdeal.τ).loc Cert.AttOutIdeal.main_arg5)) :
    ∃ (v0 : (c : Dev Cert.AttOutIdeal.nD) → Buf (Elt Ideal) ((c.tc : Thread Cert.AttOutIdeal.nD Cert.AttOutIdeal.τ).loc Cert.AttOutIdeal.main_v18_0)) (v1 : (c : Dev Cert.AttOutIdeal.nD) → Buf (Elt Ideal) ((c.tc : Thread Cert.AttOutIdeal.nD Cert.AttOutIdeal.τ).loc Cert.AttOutIdeal.main_v18_1)) (v2 : (c : Dev Cert.AttOutIdeal.nD) → Buf (Elt Ideal) ((c.tc : Thread Cert.AttOutIdeal.nD Cert.AttOutIdeal.τ).loc Cert.AttOutIdeal.main_v18_2)),
      θ_run (Cert.AttOutIdeal.defs (F := Ideal)) (onTc (τ := Cert.AttOutIdeal.τ) (Cert.AttOutIdeal.main (F := Ideal))) ⟨m, fun _ => 0, g⟩ (fun r => ∀ c : Dev Cert.AttOutIdeal.nD,
          r.2.mem ((c.tc : Thread Cert.AttOutIdeal.nD Cert.AttOutIdeal.τ).loc Cert.AttOutIdeal.main_v18_0) = v0 c
          ∧ r.2.mem ((c.tc : Thread Cert.AttOutIdeal.nD Cert.AttOutIdeal.τ).loc Cert.AttOutIdeal.main_v18_1) = v1 c
          ∧ r.2.mem ((c.tc : Thread Cert.AttOutIdeal.nD Cert.AttOutIdeal.τ).loc Cert.AttOutIdeal.main_v18_2) = v2 c
          ∧ r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
          ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
          ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2)
          ∧ r.2.mem ((c.tc : Thread Cert.AttOutIdeal.nD Cert.AttOutIdeal.τ).loc Cert.AttOutIdeal.main_arg3) = m ((c.tc : Thread Cert.AttOutIdeal.nD Cert.AttOutIdeal.τ).loc Cert.AttOutIdeal.main_arg3)
          ∧ r.2.mem ((c.tc : Thread Cert.AttOutIdeal.nD Cert.AttOutIdeal.τ).loc Cert.AttOutIdeal.main_arg4) = m ((c.tc : Thread Cert.AttOutIdeal.nD Cert.AttOutIdeal.τ).loc Cert.AttOutIdeal.main_arg4)
          ∧ r.2.mem ((c.tc : Thread Cert.AttOutIdeal.nD Cert.AttOutIdeal.τ).loc Cert.AttOutIdeal.main_arg5) = m ((c.tc : Thread Cert.AttOutIdeal.nD Cert.AttOutIdeal.τ).loc Cert.AttOutIdeal.main_arg5))
      ∧ θ_run (Cert.AttOutRefIdeal.defs (F := Ideal)) (onTc (τ := Cert.AttOutRefIdeal.τ) (Cert.AttOutRefIdeal.main (F := Ideal))) ⟨m', fun _ => 0, g'⟩ (fun r => ∀ c : Dev Cert.AttOutRefIdeal.nD,
          r.2.mem ((c.tc : Thread Cert.AttOutRefIdeal.nD Cert.AttOutRefIdeal.τ).loc Cert.AttOutRefIdeal.main_v75) = v0 c
          ∧ r.2.mem ((c.tc : Thread Cert.AttOutRefIdeal.nD Cert.AttOutRefIdeal.τ).loc Cert.AttOutRefIdeal.main_v76) = v1 c
          ∧ r.2.mem ((c.tc : Thread Cert.AttOutRefIdeal.nD Cert.AttOutRefIdeal.τ).loc Cert.AttOutRefIdeal.main_v77) = v2 c
          ∧ r.2.mem ((c.tc : Thread Cert.AttOutRefIdeal.nD Cert.AttOutRefIdeal.τ).loc Cert.AttOutRefIdeal.main_arg0) = m' ((c.tc : Thread Cert.AttOutRefIdeal.nD Cert.AttOutRefIdeal.τ).loc Cert.AttOutRefIdeal.main_arg0)
          ∧ r.2.mem ((c.tc : Thread Cert.AttOutRefIdeal.nD Cert.AttOutRefIdeal.τ).loc Cert.AttOutRefIdeal.main_arg1) = m' ((c.tc : Thread Cert.AttOutRefIdeal.nD Cert.AttOutRefIdeal.τ).loc Cert.AttOutRefIdeal.main_arg1)
          ∧ r.2.mem ((c.tc : Thread Cert.AttOutRefIdeal.nD Cert.AttOutRefIdeal.τ).loc Cert.AttOutRefIdeal.main_arg2) = m' ((c.tc : Thread Cert.AttOutRefIdeal.nD Cert.AttOutRefIdeal.τ).loc Cert.AttOutRefIdeal.main_arg2)
          ∧ r.2.mem ((c.tc : Thread Cert.AttOutRefIdeal.nD Cert.AttOutRefIdeal.τ).loc Cert.AttOutRefIdeal.main_arg3) = m' ((c.tc : Thread Cert.AttOutRefIdeal.nD Cert.AttOutRefIdeal.τ).loc Cert.AttOutRefIdeal.main_arg3)
          ∧ r.2.mem ((c.tc : Thread Cert.AttOutRefIdeal.nD Cert.AttOutRefIdeal.τ).loc Cert.AttOutRefIdeal.main_arg4) = m' ((c.tc : Thread Cert.AttOutRefIdeal.nD Cert.AttOutRefIdeal.τ).loc Cert.AttOutRefIdeal.main_arg4)
          ∧ r.2.mem ((c.tc : Thread Cert.AttOutRefIdeal.nD Cert.AttOutRefIdeal.τ).loc Cert.AttOutRefIdeal.main_arg5) = m' ((c.tc : Thread Cert.AttOutRefIdeal.nD Cert.AttOutRefIdeal.τ).loc Cert.AttOutRefIdeal.main_arg5)) := by
  refine ⟨fun c => newRows (acts m c) (wt m c) (res m c) (mods m c), fun c => normRows (acts m c) (wt m c) (res m c) (nwt m c) (mods m c),
    fun c => scoreRows (acts m c) (wt m c) (res m c) (nwt m c) (mods m c) (rwt m c), ?_, ?_⟩
  · refine (θ_run _ _ _).mono (fun r h c => ?_) (Value.run_blocks m g)
    exact ⟨(h c).1.trans (result_new m c), (h c).2.1.trans (result_norm m c), (h c).2.2.1.trans (result_score m c), (h c).2.2.2⟩
  · refine (θ_run _ _ _).mono (fun r h c => ?_) (Cert.AttOutRefIdeal.Value.run m' g')
    obtain ⟨e0, e1, e2, e3, e4, e5⟩ := he c
    have ha : (fun i k => act m c (ix2 i k)) = acts m c := rfl
    refine ⟨(h c).1.trans ?_, (h c).2.1.trans ?_, (h c).2.2.1.trans ?_, (h c).2.2.2⟩
    · rw [Cert.AttOutRefIdeal.Read.val_main_v75_eq, e0, e1, e2, e4]
      refine funext fun i => ?_
      idx_vars i
      exact (ref_new (act m c) (wt m c) (res m c) (mods m c) i0 i1).trans (congrArg (fun A => newRow A (wt m c) (res m c) (mods m c) i0 i1) ha)
    · rw [Cert.AttOutRefIdeal.Read.val_main_v76_eq, e0, e1, e2, e3, e4]
      refine funext fun i => ?_
      idx_vars i
      exact (ref_norm_cast (act m c) (wt m c) (res m c) (nwt m c) (mods m c) i0 i1).trans (congrArg (fun A => normRow A (wt m c) (res m c) (nwt m c) (mods m c) i0 i1) ha)
    · rw [Cert.AttOutRefIdeal.Read.val_main_v77_eq, e0, e1, e2, e3, e4, e5]
      refine funext fun i => ?_
      idx_vars i
      exact (ref_score (act m c) (wt m c) (res m c) (nwt m c) (mods m c) (rwt m c) i0 i1).trans (congrArg (fun A => scoreRow A (wt m c) (res m c) (nwt m c) (mods m c) (rwt m c) i0 i1) ha)

end Cert.AttOutIdeal.Hand

end
-- ==== Proof.LruOutAgree.lean ====
/-
  The output projection of the linear recurrence: every one of the 34 points gates the sum of the two directions'
  states by the Gaussian error unit of the gate columns, and projects its 256 rows as `OutShared` says.
-/
module

public import proofs.«01_k».proof.Proof.Gen.LruOutIdeal.Value
public import proofs.«01_k».proof.Proof.Gen.LruOutRefIdeal.Run
public import proofs.«01_k».proof.Proof.Gen.LruOutRefIdeal.Read
public import proofs.«01_k».proof.Proof.AttOutAgree

@[expose] public section

set_option maxRecDepth 16384

noncomputable section

namespace Cert.LruOutIdeal.Hand

open Cert.LruOutIdeal Cert.LruOutIdeal.Gen Idealize.ShloMosaic Idealize.ShloMosaic.TcCoe Idealize.SL.Sem Cert.OutShared

/-! ## The body, at an index -/

/-- The offset of a whole rank-2 rectangle. -/
theorem zeros2 : (![0, 0] : Fin 2 → Nat) = fun _ => 0 := funext fun a => by fin_cases a <;> rfl

/-- The Gaussian error unit, in the form with the hyperbolic tangent. -/
def gelu (g : EReal) : EReal :=
  g * (Ideal.ofBits .f32 1056964608#32 * (1 + Ideal.tanh (Ideal.ofBits .f32 1061962282#32 * (g + Ideal.ofBits .f32 1027024659#32 * (g * (g * g))))))

section Body
variable (x0 x1 x2 : S256x2048.Idx → EReal)
  (x3 : S2048x2048.Idx → EReal) (x4 : S256x2048.Idx → EReal) (x5 : S1x2048.Idx → EReal)
  (x6 : S1x8x2048.Idx → EReal) (x7 : S2048x128.Idx → EReal)

/-- A row of the new residual block. -/
def blockRow (a : Fin 256) : Fin 2048 → EReal :=
  project (fun d => x4 (ix2 a d)) (fun d => x6 (ix3 0 2 d)) (fun k => gelu (x0 (ix2 a k)) * (x1 (ix2 a k) + x2 (ix2 a k))) (fun k d => x3 (ix2 k d))

/-- A row of the normalized block. -/
def blockNorm (a : Fin 256) : Fin 2048 → EReal :=
  modulate (blockRow x0 x1 x2 x3 x4 x6 a) (fun d => x5 (ix2 0 d)) (fun d => x6 (ix3 0 3 d)) (fun d => x6 (ix3 0 4 d))

/-- The new residual block. -/
theorem pay4_apply (r2 : S1x1x2048.Idx → EReal) (h2 : ∀ d : Fin 2048, r2 (ix3 0 0 d) = x6 (ix3 0 2 d)) (a : Fin 256) (d : Fin 2048) :
    k0_pay4 (F := Ideal) x0 x1 x2 x3 x4 r2 (ix2 a d) = blockRow x0 x1 x2 x3 x4 x6 a d := by
  pointwise [k0_pay4]
  rw [h2]
  rfl

/-- The normalized block. -/
theorem norm_apply (r2 r3 r4 : S1x1x2048.Idx → EReal) (h2 : ∀ d : Fin 2048, r2 (ix3 0 0 d) = x6 (ix3 0 2 d))
    (h3 : ∀ d : Fin 2048, r3 (ix3 0 0 d) = x6 (ix3 0 3 d)) (h4 : ∀ d : Fin 2048, r4 (ix3 0 0 d) = x6 (ix3 0 4 d)) (a : Fin 256) (d : Fin 2048) :
    k0_pay1 (F := Ideal) (k0_pay4 x0 x1 x2 x3 x4 r2) (k0_pay5 x5) (k0_pay6 r3) r4 (ix2 a d) = blockNorm x0 x1 x2 x3 x4 x5 x6 a d := by
  pointwise [k0_pay1, k0_pay5, k0_pay6]
  simp only [h3, h4, pay4_apply x0 x1 x2 x3 x4 x6 r2 h2]
  rfl

/-- What a point leaves in the block of the new residual stream. -/
theorem out_new_apply (a : Fin 256) (d : Fin 2048) : out0_8 (F := Ideal) x0 x1 x2 x3 x4 x5 x6 x7 (ix2 a d) = blockRow x0 x1 x2 x3 x4 x6 a d := by
  unfold_out out0_8
  rw [View.canon_unit_zero zeros2]
  simp only [View.ld_unit_zero (S := S256x2048) zeros2, View.ld_unit_zero (S := S2048x2048) zeros2]
  exact pay4_apply x0 x1 x2 x3 x4 x6 _ (fun d => by pointwise) a d

/-- What a point leaves in the block of normalized rows. -/
theorem out_norm_apply (a : Fin 256) (d : Fin 2048) : out0_9 (F := Ideal) x0 x1 x2 x3 x4 x5 x6 x7 (ix2 a d) = blockNorm x0 x1 x2 x3 x4 x5 x6 a d := by
  unfold_out out0_9
  rw [View.canon_unit_zero zeros2]
  simp only [View.ld_unit_zero (S := S256x2048) zeros2, View.ld_unit_zero (S := S2048x2048) zeros2, View.ld_unit_zero (S := S1x2048) zeros2]
  pointwise [k0_pay2]
  exact norm_apply x0 x1 x2 x3 x4 x5 x6 _ _ _ (fun d => by pointwise) (fun d => by pointwise) (fun d => by pointwise) a d

/-- What a point leaves in the block of router products. -/
theorem out_score_apply (a : Fin 256) (j : Fin 128) :
    out0_10 (F := Ideal) x0 x1 x2 x3 x4 x5 x6 x7 (ix2 a j) = ∑ d, blockNorm x0 x1 x2 x3 x4 x5 x6 a d * x7 (ix2 d j) := by
  unfold_out out0_10
  rw [View.canon_unit_zero zeros2]
  simp only [View.ld_unit_zero (S := S256x2048) zeros2, View.ld_unit_zero (S := S2048x2048) zeros2, View.ld_unit_zero (S := S1x2048) zeros2,
    View.ld_unit_zero (S := S2048x128) zeros2]
  pointwise [k0_pay3]
  refine Finset.sum_congr rfl fun d _ => congrArg (· * _) ?_
  exact norm_apply x0 x1 x2 x3 x4 x5 x6 _ _ _ (fun d => by pointwise) (fun d => by pointwise) (fun d => by pointwise) a d

end Body

/-! ## What the host operations leave for the region -/

section Host
variable (m : (ℓ : Loc nD τ sig) → Buf (Elt Ideal) ℓ) (c : Dev nD)

/-- The projections, whose first 2048 columns are the gate. -/
abbrev proj : S8704x4096.Idx → EReal := m ((c : Thread nD τ).loc main_arg0)
/-- The states of the forward direction. -/
abbrev fwd : S8704x2048.Idx → EReal := m ((c : Thread nD τ).loc main_arg1)
/-- The states of the backward direction. -/
abbrev bwd : S8704x2048.Idx → EReal := m ((c : Thread nD τ).loc main_arg2)

/-- The output weight. -/
abbrev wt : S2048x2048.Idx → EReal := m ((c : Thread nD τ).loc main_arg3)
/-- The residual stream. -/
abbrev res : S8704x2048.Idx → EReal := m ((c : Thread nD τ).loc main_arg4)
/-- The norm's weight. -/
abbrev nwt : S2048.Idx → EReal := m ((c : Thread nD τ).loc main_arg5)
/-- The modulations. -/
abbrev mods : S16x12288.Idx → EReal := m ((c : Thread nD τ).loc main_arg6)
/-- The router's weight. -/
abbrev rwt : S2048x32.Idx → EReal := m ((c : Thread nD τ).loc main_arg7)

/-- The weight in its narrower type is the weight. -/
theorem w_value (k : Fin 2048) (d : Fin 2048) : (V m c main_v16 : S2048x2048.Idx → EReal) (ix2 k d) = wt m c (ix2 k d) := by
  unfold V
  simp only [List.flatten_cons, List.flatten_nil, List.append_nil, List.cons_append, List.nil_append]
  after_reads_at

/-- The norm's weight as a row. -/
theorem nw_value (d : Fin 2048) : (V m c main_v17 : S1x2048.Idx → EReal) (ix2 0 d) = nwt m c (ix1 d) := by
  unfold V
  simp only [List.flatten_cons, List.flatten_nil, List.append_nil, List.cons_append, List.nil_append]
  after_reads_at

/-- The padded weight of the router. -/
theorem rw_value (d : Fin 2048) (j : Fin 128) : (V m c main_v15 : S2048x128.Idx → EReal) (ix2 d j) = padded (fun d j => rwt m c (ix2 d j)) d j := by
  unfold V
  simp only [List.flatten_cons, List.flatten_nil, List.append_nil, List.cons_append, List.nil_append]
  after_reads_at
  exact congrArg (fun z => dite (j.val < 32) _ fun _ => z) sitofp_zero

/-- The modulations of a tile: the context's row of the table or the sequence's. -/
theorem tile_value (t : Fin 34) (p : Fin 6) (d : Fin 2048) :
    (V m c main_v14 : S34x8x2048.Idx → EReal) (ix3 t ⟨p.val, by omega⟩ d) = mods m c (ix2 (tileSource t) ⟨p.val * 2048 + d.val, by omega⟩) := by
  unfold V
  simp only [List.flatten_cons, List.flatten_nil, List.append_nil, List.cons_append, List.nil_append]
  after_reads_at
  refine (gather_tile gather_S16x6x2048_S34x1_S34x6x2048_12_0_n_n_0_1_162048_wf _ _ t p d (tileSource t) ?_).trans ?_
  · clear d p
    revert t
    decide +kernel
  · rfl

end Host

/-! ## The blocks and the results -/

section Results
variable (m : (ℓ : Loc nD τ sig) → Buf (Elt Ideal) ℓ) (c : Dev nD)

/-- Which blocks a point reads and writes. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 3) = t.val ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- The number of a point is below 34. -/
theorem pt_lt (t : Fin cfg0.N) : t.val < 34 := lt_of_lt_of_eq t.isLt (show cfg0.N = 34 from N_0)

/-- The row of the tokens that a row of a point's block is. -/
def row (t : Fin cfg0.N) (a : Fin 256) : Fin 8704 := ⟨t.val * 256 + a.val, by have := pt_lt t; omega⟩

/-- The tile of a point. -/
def tile (t : Fin cfg0.N) : Fin 34 := ⟨t.val, by have := pt_lt t; omega⟩

/-- A point's block of forward states. -/
theorem f_block (t : Fin cfg0.N) (a : Fin 256) (k : Fin 2048) : (iblk m c 1 t : S256x2048.Idx → EReal) (ix2 a k) = fwd m c (ix2 (row t a) k) := by
  obtain ⟨-, ⟨e0, e1⟩, -⟩ := index_facts t
  refine (congrFun (V_main_arg1 m c) (((cfg0.win 1).blk t).view.emb (ix2 a k))).trans (congrArg (fwd m c) (?_ : ((cfg0.win 1).blk t).view.emb (ix2 a k) = _))
  refine funext fun d => Fin.ext ?_
  match d with
  | ⟨0, _⟩ => show win0_1.index t (0 : Fin 2) * 256 + 1 * a.val = t.val * 256 + a.val; omega
  | ⟨1, _⟩ => show win0_1.index t (1 : Fin 2) * 2048 + 1 * k.val = k.val; omega

/-- A point's block of backward states. -/
theorem b_block (t : Fin cfg0.N) (a : Fin 256) (k : Fin 2048) : (iblk m c 2 t : S256x2048.Idx → EReal) (ix2 a k) = bwd m c (ix2 (row t a) k) := by
  obtain ⟨-, -, ⟨e0, e1⟩, -⟩ := index_facts t
  refine (congrFun (V_main_arg2 m c) (((cfg0.win 2).blk t).view.emb (ix2 a k))).trans (congrArg (bwd m c) (?_ : ((cfg0.win 2).blk t).view.emb (ix2 a k) = _))
  refine funext fun d => Fin.ext ?_
  match d with
  | ⟨0, _⟩ => show win0_2.index t (0 : Fin 2) * 256 + 1 * a.val = t.val * 256 + a.val; omega
  | ⟨1, _⟩ => show win0_2.index t (1 : Fin 2) * 2048 + 1 * k.val = k.val; omega

/-- A point's block of the gate. -/
theorem p_block (t : Fin cfg0.N) (a : Fin 256) (k : Fin 2048) : (iblk m c 0 t : S256x2048.Idx → EReal) (ix2 a k) = proj m c (ix2 (row t a) ⟨k.val, by omega⟩) := by
  obtain ⟨⟨e0, e1⟩, -⟩ := index_facts t
  refine (congrFun (V_main_arg0 m c) (((cfg0.win 0).blk t).view.emb (ix2 a k))).trans (congrArg (proj m c) (?_ : ((cfg0.win 0).blk t).view.emb (ix2 a k) = _))
  refine funext fun d => Fin.ext ?_
  match d with
  | ⟨0, _⟩ => show win0_0.index t (0 : Fin 2) * 256 + 1 * a.val = t.val * 256 + a.val; omega
  | ⟨1, _⟩ => show win0_0.index t (1 : Fin 2) * 2048 + 1 * k.val = k.val; omega

/-- A point's block of the weight: all of it. -/
theorem w_block (t : Fin cfg0.N) (k : Fin 2048) (d : Fin 2048) : (iblk m c 3 t : S2048x2048.Idx → EReal) (ix2 k d) = wt m c (ix2 k d) := by
  obtain ⟨-, -, -, ⟨e0, e1⟩, -⟩ := index_facts t
  refine Eq.trans (congrArg (V m c main_v16 : S2048x2048.Idx → EReal) (?_ : ((cfg0.win 3).blk t).view.emb (ix2 k d) = ix2 k d)) (w_value m c k d)
  refine funext fun e => Fin.ext ?_
  match e with
  | ⟨0, _⟩ => show win0_3.index t (0 : Fin 2) * 2048 + 1 * k.val = k.val; omega
  | ⟨1, _⟩ => show win0_3.index t (1 : Fin 2) * 2048 + 1 * d.val = d.val; omega

/-- A point's block of the residual stream. -/
theorem x_block (t : Fin cfg0.N) (a : Fin 256) (k : Fin 2048) : (iblk m c 4 t : S256x2048.Idx → EReal) (ix2 a k) = res m c (ix2 (row t a) k) := by
  obtain ⟨-, -, -, -, ⟨e0, e1⟩, -⟩ := index_facts t
  refine (congrFun (V_main_arg4 m c) (((cfg0.win 4).blk t).view.emb (ix2 a k))).trans (congrArg (res m c) (?_ : ((cfg0.win 4).blk t).view.emb (ix2 a k) = _))
  refine funext fun d => Fin.ext ?_
  match d with
  | ⟨0, _⟩ => show win0_4.index t (0 : Fin 2) * 256 + 1 * a.val = t.val * 256 + a.val; omega
  | ⟨1, _⟩ => show win0_4.index t (1 : Fin 2) * 2048 + 1 * k.val = k.val; omega

/-- A point's block of the norm's weight: all of it. -/
theorem nw_block (t : Fin cfg0.N) (d : Fin 2048) : (iblk m c 5 t : S1x2048.Idx → EReal) (ix2 0 d) = nwt m c (ix1 d) := by
  obtain ⟨-, -, -, -, -, ⟨e0, e1⟩, -⟩ := index_facts t
  refine Eq.trans (congrArg (V m c main_v17 : S1x2048.Idx → EReal) (?_ : ((cfg0.win 5).blk t).view.emb (ix2 0 d) = ix2 0 d)) (nw_value m c d)
  refine funext fun e => Fin.ext ?_
  match e with
  | ⟨0, _⟩ => show win0_5.index t (0 : Fin 2) * 1 + 1 * 0 = 0; omega
  | ⟨1, _⟩ => show win0_5.index t (1 : Fin 2) * 2048 + 1 * d.val = d.val; omega

/-- A point's rows of the modulation table. -/
theorem mod_block (t : Fin cfg0.N) (a : Fin 256) (p : Fin 6) (d : Fin 2048) :
    (iblk m c 6 t : S1x8x2048.Idx → EReal) (ix3 0 ⟨p.val, by omega⟩ d) = mods m c (ix2 (source (row t a)) ⟨p.val * 2048 + d.val, by omega⟩) := by
  obtain ⟨-, -, -, -, -, -, ⟨e0, e1, e2⟩, -⟩ := index_facts t
  rw [source_eq (tile t) (row t a) (show (t.val * 256 + a.val) / 256 = t.val by omega)]
  refine Eq.trans (congrArg (V m c main_v14 : S34x8x2048.Idx → EReal)
    (?_ : ((cfg0.win 6).blk t).view.emb (ix3 0 ⟨p.val, by omega⟩ d) = ix3 (tile t) ⟨p.val, by omega⟩ d)) (tile_value m c (tile t) p d)
  refine funext fun e => Fin.ext ?_
  match e with
  | ⟨0, _⟩ => show win0_6.index t (0 : Fin 3) * 1 + 1 * 0 = t.val; omega
  | ⟨1, _⟩ => show win0_6.index t (1 : Fin 3) * 8 + 1 * p.val = p.val; omega
  | ⟨2, _⟩ => show win0_6.index t (2 : Fin 3) * 2048 + 1 * d.val = d.val; omega

/-- A point's block of the router's padded weight: all of it. -/
theorem rw_block (t : Fin cfg0.N) (d : Fin 2048) (j : Fin 128) :
    (iblk m c 7 t : S2048x128.Idx → EReal) (ix2 d j) = padded (fun d j => rwt m c (ix2 d j)) d j := by
  obtain ⟨-, -, -, -, -, -, -, ⟨e0, e1⟩, -⟩ := index_facts t
  refine Eq.trans (congrArg (V m c main_v15 : S2048x128.Idx → EReal) (?_ : ((cfg0.win 7).blk t).view.emb (ix2 d j) = ix2 d j)) (rw_value m c d j)
  refine funext fun e => Fin.ext ?_
  match e with
  | ⟨0, _⟩ => show win0_7.index t (0 : Fin 2) * 2048 + 1 * d.val = d.val; omega
  | ⟨1, _⟩ => show win0_7.index t (1 : Fin 2) * 128 + 1 * j.val = j.val; omega

/-- The activations of a token. -/
def acts (i : Fin 8704) (k : Fin 2048) : EReal := gelu (proj m c (ix2 i ⟨k.val, by omega⟩)) * (fwd m c (ix2 i k) + bwd m c (ix2 i k))

/-- A row of a point's new residual block is the token's. -/
theorem row_eq (t : Fin cfg0.N) (a : Fin 256) :
    blockRow (iblk m c 0 t) (iblk m c 1 t) (iblk m c 2 t) (iblk m c 3 t) (iblk m c 4 t) (iblk m c 6 t) a = newRow (acts m c) (wt m c) (res m c) (mods m c) (row t a) := by
  funext d
  have h2 : (iblk m c 6 t : S1x8x2048.Idx → EReal) (ix3 0 2 d) = _ := mod_block m c t a 2 d
  unfold blockRow newRow project
  simp only [p_block, f_block, b_block, w_block, x_block]
  rw [h2]
  rfl

/-- A row of a point's normalized block is the token's. -/
theorem norm_eq (t : Fin cfg0.N) (a : Fin 256) :
    blockNorm (iblk m c 0 t) (iblk m c 1 t) (iblk m c 2 t) (iblk m c 3 t) (iblk m c 4 t) (iblk m c 5 t) (iblk m c 6 t) a
      = normRow (acts m c) (wt m c) (res m c) (nwt m c) (mods m c) (row t a) := by
  funext d
  have h3 : (iblk m c 6 t : S1x8x2048.Idx → EReal) (ix3 0 3 d) = _ := mod_block m c t a 3 d
  have h4 : (iblk m c 6 t : S1x8x2048.Idx → EReal) (ix3 0 4 d) = _ := mod_block m c t a 4 d
  unfold blockNorm normRow modulate
  rw [row_eq]
  simp only [nw_block]
  rw [h3, h4]
  rfl

/-- The new residual stream after the run. -/
theorem result_new : (dats m 0 c).arrAt 8 cfg0.N = newRows (acts m c) (wt m c) (res m c) (mods m c) := by
  refine (dats m 0 c).arrAt_eq_of_covers 8 _ (by decide +kernel) fun t hf y => ?_
  obtain ⟨-, -, -, -, -, -, -, -, ⟨e0, e1⟩, -⟩ := index_facts t
  blk_simp
  rw [after0_8]
  idx_vars y
  refine (out_new_apply _ _ _ _ _ _ _ _ y0 y1).trans ((congrFun (row_eq m c t y0) y1).trans ?_)
  refine congrArg₂ (newRow (acts m c) (wt m c) (res m c) (mods m c)) (Fin.ext ?_) (Fin.ext ?_)
  · show t.val * 256 + y0.val = win0_8.index t (0 : Fin 2) * 256 + 1 * y0.val; omega
  · show y1.val = win0_8.index t (1 : Fin 2) * 2048 + 1 * y1.val; omega

/-- The normalized rows after the run. -/
theorem result_norm : (dats m 0 c).arrAt 9 cfg0.N = normRows (acts m c) (wt m c) (res m c) (nwt m c) (mods m c) := by
  refine (dats m 0 c).arrAt_eq_of_covers 9 _ (by decide +kernel) fun t hf y => ?_
  obtain ⟨-, -, -, -, -, -, -, -, -, ⟨e0, e1⟩, -⟩ := index_facts t
  blk_simp
  rw [after0_9]
  idx_vars y
  refine (out_norm_apply _ _ _ _ _ _ _ _ y0 y1).trans ((congrFun (norm_eq m c t y0) y1).trans ?_)
  refine congrArg₂ (normRow (acts m c) (wt m c) (res m c) (nwt m c) (mods m c)) (Fin.ext ?_) (Fin.ext ?_)
  · show t.val * 256 + y0.val = win0_9.index t (0 : Fin 2) * 256 + 1 * y0.val; omega
  · show y1.val = win0_9.index t (1 : Fin 2) * 2048 + 1 * y1.val; omega

/-- The router's products after the run. -/
theorem result_score : (dats m 0 c).arrAt 10 cfg0.N = scoreRows (acts m c) (wt m c) (res m c) (nwt m c) (mods m c) (rwt m c) := by
  refine (dats m 0 c).arrAt_eq_of_covers 10 _ (by decide +kernel) fun t hf y => ?_
  obtain ⟨-, -, -, -, -, -, -, -, -, -, e0, e1⟩ := index_facts t
  blk_simp
  rw [after0_10]
  idx_vars y
  refine (out_score_apply _ _ _ _ _ _ _ _ y0 y1).trans ?_
  rw [norm_eq]
  simp only [rw_block]
  refine congrArg₂ (scoreRow (acts m c) (wt m c) (res m c) (nwt m c) (mods m c) (rwt m c)) (Fin.ext ?_) (Fin.ext ?_)
  · show t.val * 256 + y0.val = win0_10.index t (0 : Fin 2) * 256 + 1 * y0.val; omega
  · show y1.val = win0_10.index t (1 : Fin 2) * 128 + 1 * y1.val; omega

end Results

/-! ## The reference -/

section Reference
open Cert.LruOutRefIdeal.Read

variable (x0 : S8704x4096.Idx → EReal) (x1 x2 : S8704x2048.Idx → EReal)
  (x3 : S2048x2048.Idx → EReal) (x4 : S8704x2048.Idx → EReal) (x5 : S2048.Idx → EReal) (x6 : S16x12288.Idx → EReal) (x7 : S2048x32.Idx → EReal)

/-- The reference's activations. -/
theorem ref_act (i : Fin 8704) (k : Fin 2048) :
    val_main_v15 (F := Ideal) x0 x1 x2 (ix2 i k) = gelu (x0 (ix2 i ⟨k.val, by omega⟩)) * (x1 (ix2 i k) + x2 (ix2 i k)) := by
  unfold gelu
  rw [mul_comm (x0 _) (x0 _ * x0 _)]
  pointwise [val_main_v15, val_main_v13, val_main_v0, val_main_v12, val_main_v11, val_main_cst_2, val_main_v10, val_main_v9, val_main_cst_1, val_main_v8, val_main_v7, val_main_v6, val_main_cst_0, val_main_v5, val_main_v4, val_main_v3, val_main_cst, val_main_v2, val_main_v1, val_main_v14]

/-- The reference's new residual rows of the context. -/
theorem ref_ctx_row (b : Fin 2) (p : Fin 256) (d : Fin 2048) :
    val_main_v40 (F := Ideal) x0 x1 x2 x3 x4 x6 (ix3 b p d) = newRow (fun i k => val_main_v15 (F := Ideal) x0 x1 x2 (ix2 i k)) x3 x4 x6 ⟨b.val * 4352 + p.val, by omega⟩ d := by
  unfold newRow project
  rw [source_ctx _ (show (b.val * 4352 + p.val) % 4352 < 256 by omega)]
  pointwise [val_main_v40, val_main_v35, val_main_v18, val_main_v39, val_main_v38, val_main_v37, val_main_v31, val_main_v28, val_main_v27, val_main_v36, val_main_v17, val_main_v16]

/-- The reference's new residual rows of the other positions. -/
theorem ref_lat_row (b : Fin 2) (p : Fin 4096) (d : Fin 2048) :
    val_main_v45 (F := Ideal) x0 x1 x2 x3 x4 x6 (ix3 b p d) = newRow (fun i k => val_main_v15 (F := Ideal) x0 x1 x2 (ix2 i k)) x3 x4 x6 ⟨b.val * 4352 + (256 + p.val), by omega⟩ d := by
  unfold newRow project
  rw [source_lat _ (show ¬(b.val * 4352 + (256 + p.val)) % 4352 < 256 by omega)]
  pointwise [val_main_v45, val_main_v41, val_main_v18, val_main_v44, val_main_v43, val_main_v23, val_main_v20, val_main_v19, val_main_v42, val_main_v17, val_main_v16]
  have hb : (⟨(b.val * 4352 + (256 + p.val)) / 4352, by omega⟩ : Fin 16) = ⟨b.val, by omega⟩ := Fin.ext (show (b.val * 4352 + (256 + p.val)) / 4352 = b.val by omega)
  rw [hb]

/-- The reference's normalized rows of the context. -/
theorem ref_ctx_norm (b : Fin 2) (p : Fin 256) (d : Fin 2048) :
    val_main_v66 (F := Ideal) x0 x1 x2 x3 x4 x5 x6 (ix3 b p d) = normRow (fun i k => val_main_v15 (F := Ideal) x0 x1 x2 (ix2 i k)) x3 x4 x5 x6 ⟨b.val * 4352 + p.val, by omega⟩ d := by
  unfold normRow modulate
  rw [source_ctx _ (show (b.val * 4352 + p.val) % 4352 < 256 by omega)]
  pointwise [val_main_v66, val_main_v63, val_main_v58, val_main_v55, val_main_v54, val_main_v53, val_main_v52, val_main_v50, val_main_v48, val_main_v47, val_main_v46, val_main_cst_3, val_main_v49, val_main_cst_4, val_main_v51, val_main_cst_5, val_main_v57, val_main_v56, val_main_v62, val_main_v61, val_main_v60, val_main_v59, val_main_cst_6, val_main_v33, val_main_v28, val_main_v27, val_main_v65, val_main_v64, val_main_v32]
  simp only [ref_ctx_row]

/-- The reference's normalized rows of the other positions. -/
theorem ref_lat_norm (b : Fin 2) (p : Fin 4096) (d : Fin 2048) :
    val_main_v85 (F := Ideal) x0 x1 x2 x3 x4 x5 x6 (ix3 b p d) = normRow (fun i k => val_main_v15 (F := Ideal) x0 x1 x2 (ix2 i k)) x3 x4 x5 x6 ⟨b.val * 4352 + (256 + p.val), by omega⟩ d := by
  unfold normRow modulate
  rw [source_lat _ (show ¬(b.val * 4352 + (256 + p.val)) % 4352 < 256 by omega)]
  pointwise [val_main_v85, val_main_v83, val_main_v79, val_main_v76, val_main_v75, val_main_v74, val_main_v73, val_main_v71, val_main_v69, val_main_v68, val_main_v67, val_main_cst_7, val_main_v70, val_main_cst_8, val_main_v72, val_main_cst_9, val_main_v78, val_main_v77, val_main_v82, val_main_v81, val_main_v80, val_main_cst_10, val_main_v25, val_main_v20, val_main_v19, val_main_v84, val_main_v24]
  have hb : (⟨(b.val * 4352 + (256 + p.val)) / 4352, by omega⟩ : Fin 16) = ⟨b.val, by omega⟩ := Fin.ext (show (b.val * 4352 + (256 + p.val)) / 4352 = b.val by omega)
  rw [hb]
  simp only [ref_lat_row]

/-- The reference's first result. -/
theorem ref_new (i : Fin 8704) (d : Fin 2048) : val_main_v90 (F := Ideal) x0 x1 x2 x3 x4 x6 (ix2 i d) = newRow (fun i k => val_main_v15 (F := Ideal) x0 x1 x2 (ix2 i k)) x3 x4 x6 i d := by
  pointwise [val_main_v90, val_main_v89]
  rcases Nat.lt_or_ge (i.val % 4352) 256 with h | h
  · rw [dif_pos h]
    refine (ref_ctx_row x0 x1 x2 x3 x4 x6 ⟨i.val / 4352, by omega⟩ ⟨i.val % 4352, h⟩ d).trans ?_
    exact congrArg (fun i => newRow (fun i k => val_main_v15 (F := Ideal) x0 x1 x2 (ix2 i k)) x3 x4 x6 i d) (Fin.ext (show i.val / 4352 * 4352 + i.val % 4352 = i.val by omega))
  · rw [dif_neg (by omega)]
    refine (ref_lat_row x0 x1 x2 x3 x4 x6 ⟨i.val / 4352, by omega⟩ ⟨i.val % 4352 - 256, by omega⟩ d).trans ?_
    exact congrArg (fun i => newRow (fun i k => val_main_v15 (F := Ideal) x0 x1 x2 (ix2 i k)) x3 x4 x6 i d) (Fin.ext (show i.val / 4352 * 4352 + (256 + (i.val % 4352 - 256)) = i.val by omega))

/-- The reference's normalized rows. -/
theorem ref_norm (i : Fin 8704) (d : Fin 2048) : val_main_v87 (F := Ideal) x0 x1 x2 x3 x4 x5 x6 (ix2 i d) = normRow (fun i k => val_main_v15 (F := Ideal) x0 x1 x2 (ix2 i k)) x3 x4 x5 x6 i d := by
  pointwise [val_main_v87, val_main_v86]
  rcases Nat.lt_or_ge (i.val % 4352) 256 with h | h
  · rw [dif_pos h]
    refine (ref_ctx_norm x0 x1 x2 x3 x4 x5 x6 ⟨i.val / 4352, by omega⟩ ⟨i.val % 4352, h⟩ d).trans ?_
    exact congrArg (fun i => normRow (fun i k => val_main_v15 (F := Ideal) x0 x1 x2 (ix2 i k)) x3 x4 x5 x6 i d) (Fin.ext (show i.val / 4352 * 4352 + i.val % 4352 = i.val by omega))
  · rw [dif_neg (by omega)]
    refine (ref_lat_norm x0 x1 x2 x3 x4 x5 x6 ⟨i.val / 4352, by omega⟩ ⟨i.val % 4352 - 256, by omega⟩ d).trans ?_
    exact congrArg (fun i => normRow (fun i k => val_main_v15 (F := Ideal) x0 x1 x2 (ix2 i k)) x3 x4 x5 x6 i d) (Fin.ext (show i.val / 4352 * 4352 + (256 + (i.val % 4352 - 256)) = i.val by omega))

/-- The reference's second result. -/
theorem ref_norm_cast (i : Fin 8704) (d : Fin 2048) : val_main_v91 (F := Ideal) x0 x1 x2 x3 x4 x5 x6 (ix2 i d) = normRow (fun i k => val_main_v15 (F := Ideal) x0 x1 x2 (ix2 i k)) x3 x4 x5 x6 i d :=
  ref_norm x0 x1 x2 x3 x4 x5 x6 i d

/-- The reference's third result. -/
theorem ref_score (i : Fin 8704) (j : Fin 128) :
    val_main_v92 (F := Ideal) x0 x1 x2 x3 x4 x5 x6 x7 (ix2 i j) = scoreRow (fun i k => val_main_v15 (F := Ideal) x0 x1 x2 (ix2 i k)) x3 x4 x5 x6 x7 i j := by
  unfold scoreRow score padded
  pointwise [val_main_v92, val_main_v88, val_main_call0_v0, val_main_c]
  refine Finset.sum_congr rfl fun d _ => ?_
  rw [ref_norm]
  exact congrArg (fun z => _ * dite (j.val < 32) _ fun _ => z) sitofp_zero

end Reference

/-! ## The claim -/

/-- Kernel and reference end with the same three arrays. -/
theorem agree (m : (ℓ : Loc Cert.LruOutIdeal.nD Cert.LruOutIdeal.τ Cert.LruOutIdeal.sig) → Buf (Elt Ideal) ℓ) (g : Dev Cert.LruOutIdeal.nD → PrngReg)
    (m' : (ℓ : Loc Cert.LruOutRefIdeal.nD Cert.LruOutRefIdeal.τ Cert.LruOutRefIdeal.sig) → Buf (Elt Ideal) ℓ) (g' : Dev Cert.LruOutRefIdeal.nD → PrngReg)
    (he : ∀ c : Dev Cert.LruOutIdeal.nD,
      m' ((c.tc : Thread Cert.LruOutRefIdeal.nD Cert.LruOutRefIdeal.τ).loc Cert.LruOutRefIdeal.main_arg0) = m ((c.tc : Thread Cert.LruOutIdeal.nD Cert.LruOutIdeal.τ).loc Cert.LruOutIdeal.main_arg0)
      ∧ m' ((c.tc : Thread Cert.LruOutRefIdeal.nD Cert.LruOutRefIdeal.τ).loc Cert.LruOutRefIdeal.main_arg1) = m ((c.tc : Thread Cert.LruOutIdeal.nD Cert.LruOutIdeal.τ).loc Cert.LruOutIdeal.main_arg1)
      ∧ m' ((c.tc : Thread Cert.LruOutRefIdeal.nD Cert.LruOutRefIdeal.τ).loc Cert.LruOutRefIdeal.main_arg2) = m ((c.tc : Thread Cert.LruOutIdeal.nD Cert.LruOutIdeal.τ).loc Cert.LruOutIdeal.main_arg2)
      ∧ m' ((c.tc : Thread Cert.LruOutRefIdeal.nD Cert.LruOutRefIdeal.τ).loc Cert.LruOutRefIdeal.main_arg3) = m ((c.tc : Thread Cert.LruOutIdeal.nD Cert.LruOutIdeal.τ).loc Cert.LruOutIdeal.main_arg3)
      ∧ m' ((c.tc : Thread Cert.LruOutRefIdeal.nD Cert.LruOutRefIdeal.τ).loc Cert.LruOutRefIdeal.main_arg4) = m ((c.tc : Thread Cert.LruOutIdeal.nD Cert.LruOutIdeal.τ).loc Cert.LruOutIdeal.main_arg4)
      ∧ m' ((c.tc : Thread Cert.LruOutRefIdeal.nD Cert.LruOutRefIdeal.τ).loc Cert.LruOutRefIdeal.main_arg5) = m ((c.tc : Thread Cert.LruOutIdeal.nD Cert.LruOutIdeal.τ).loc Cert.LruOutIdeal.main_arg5)
      ∧ m' ((c.tc : Thread Cert.LruOutRefIdeal.nD Cert.LruOutRefIdeal.τ).loc Cert.LruOutRefIdeal.main_arg6) = m ((c.tc : Thread Cert.LruOutIdeal.nD Cert.LruOutIdeal.τ).loc Cert.LruOutIdeal.main_arg6)
      ∧ m' ((c.tc : Thread Cert.LruOutRefIdeal.nD Cert.LruOutRefIdeal.τ).loc Cert.LruOutRefIdeal.main_arg7) = m ((c.tc : Thread Cert.LruOutIdeal.nD Cert.LruOutIdeal.τ).loc Cert.LruOutIdeal.main_arg7)) :
    ∃ (v0 : (c : Dev Cert.LruOutIdeal.nD) → Buf (Elt Ideal) ((c.tc : Thread Cert.LruOutIdeal.nD Cert.LruOutIdeal.τ).loc Cert.LruOutIdeal.main_v18_0)) (v1 : (c : Dev Cert.LruOutIdeal.nD) → Buf (Elt Ideal) ((c.tc : Thread Cert.LruOutIdeal.nD Cert.LruOutIdeal.τ).loc Cert.LruOutIdeal.main_v18_1)) (v2 : (c : Dev Cert.LruOutIdeal.nD) → Buf (Elt Ideal) ((c.tc : Thread Cert.LruOutIdeal.nD Cert.LruOutIdeal.τ).loc Cert.LruOutIdeal.main_v18_2)),
      θ_run (Cert.LruOutIdeal.defs (F := Ideal)) (onTc (τ := Cert.LruOutIdeal.τ) (Cert.LruOutIdeal.main (F := Ideal))) ⟨m, fun _ => 0, g⟩ (fun r => ∀ c : Dev Cert.LruOutIdeal.nD,
          r.2.mem ((c.tc : Thread Cert.LruOutIdeal.nD Cert.LruOutIdeal.τ).loc Cert.LruOutIdeal.main_v18_0) = v0 c
          ∧ r.2.mem ((c.tc : Thread Cert.LruOutIdeal.nD Cert.LruOutIdeal.τ).loc Cert.LruOutIdeal.main_v18_1) = v1 c
          ∧ r.2.mem ((c.tc : Thread Cert.LruOutIdeal.nD Cert.LruOutIdeal.τ).loc Cert.LruOutIdeal.main_v18_2) = v2 c
          ∧ r.2.mem ((c.tc : Thread Cert.LruOutIdeal.nD Cert.LruOutIdeal.τ).loc Cert.LruOutIdeal.main_arg0) = m ((c.tc : Thread Cert.LruOutIdeal.nD Cert.LruOutIdeal.τ).loc Cert.LruOutIdeal.main_arg0)
          ∧ r.2.mem ((c.tc : Thread Cert.LruOutIdeal.nD Cert.LruOutIdeal.τ).loc Cert.LruOutIdeal.main_arg1) = m ((c.tc : Thread Cert.LruOutIdeal.nD Cert.LruOutIdeal.τ).loc Cert.LruOutIdeal.main_arg1)
          ∧ r.2.mem ((c.tc : Thread Cert.LruOutIdeal.nD Cert.LruOutIdeal.τ).loc Cert.LruOutIdeal.main_arg2) = m ((c.tc : Thread Cert.LruOutIdeal.nD Cert.LruOutIdeal.τ).loc Cert.LruOutIdeal.main_arg2)
          ∧ r.2.mem ((c.tc : Thread Cert.LruOutIdeal.nD Cert.LruOutIdeal.τ).loc Cert.LruOutIdeal.main_arg3) = m ((c.tc : Thread Cert.LruOutIdeal.nD Cert.LruOutIdeal.τ).loc Cert.LruOutIdeal.main_arg3)
          ∧ r.2.mem ((c.tc : Thread Cert.LruOutIdeal.nD Cert.LruOutIdeal.τ).loc Cert.LruOutIdeal.main_arg4) = m ((c.tc : Thread Cert.LruOutIdeal.nD Cert.LruOutIdeal.τ).loc Cert.LruOutIdeal.main_arg4)
          ∧ r.2.mem ((c.tc : Thread Cert.LruOutIdeal.nD Cert.LruOutIdeal.τ).loc Cert.LruOutIdeal.main_arg5) = m ((c.tc : Thread Cert.LruOutIdeal.nD Cert.LruOutIdeal.τ).loc Cert.LruOutIdeal.main_arg5)
          ∧ r.2.mem ((c.tc : Thread Cert.LruOutIdeal.nD Cert.LruOutIdeal.τ).loc Cert.LruOutIdeal.main_arg6) = m ((c.tc : Thread Cert.LruOutIdeal.nD Cert.LruOutIdeal.τ).loc Cert.LruOutIdeal.main_arg6)
          ∧ r.2.mem ((c.tc : Thread Cert.LruOutIdeal.nD Cert.LruOutIdeal.τ).loc Cert.LruOutIdeal.main_arg7) = m ((c.tc : Thread Cert.LruOutIdeal.nD Cert.LruOutIdeal.τ).loc Cert.LruOutIdeal.main_arg7))
      ∧ θ_run (Cert.LruOutRefIdeal.defs (F := Ideal)) (onTc (τ := Cert.LruOutRefIdeal.τ) (Cert.LruOutRefIdeal.main (F := Ideal))) ⟨m', fun _ => 0, g'⟩ (fun r => ∀ c : Dev Cert.LruOutRefIdeal.nD,
          r.2.mem ((c.tc : Thread Cert.LruOutRefIdeal.nD Cert.LruOutRefIdeal.τ).loc Cert.LruOutRefIdeal.main_v90) = v0 c
          ∧ r.2.mem ((c.tc : Thread Cert.LruOutRefIdeal.nD Cert.LruOutRefIdeal.τ).loc Cert.LruOutRefIdeal.main_v91) = v1 c
          ∧ r.2.mem ((c.tc : Thread Cert.LruOutRefIdeal.nD Cert.LruOutRefIdeal.τ).loc Cert.LruOutRefIdeal.main_v92) = v2 c
          ∧ r.2.mem ((c.tc : Thread Cert.LruOutRefIdeal.nD Cert.LruOutRefIdeal.τ).loc Cert.LruOutRefIdeal.main_arg0) = m' ((c.tc : Thread Cert.LruOutRefIdeal.nD Cert.LruOutRefIdeal.τ).loc Cert.LruOutRefIdeal.main_arg0)
          ∧ r.2.mem ((c.tc : Thread Cert.LruOutRefIdeal.nD Cert.LruOutRefIdeal.τ).loc Cert.LruOutRefIdeal.main_arg1) = m' ((c.tc : Thread Cert.LruOutRefIdeal.nD Cert.LruOutRefIdeal.τ).loc Cert.LruOutRefIdeal.main_arg1)
          ∧ r.2.mem ((c.tc : Thread Cert.LruOutRefIdeal.nD Cert.LruOutRefIdeal.τ).loc Cert.LruOutRefIdeal.main_arg2) = m' ((c.tc : Thread Cert.LruOutRefIdeal.nD Cert.LruOutRefIdeal.τ).loc Cert.LruOutRefIdeal.main_arg2)
          ∧ r.2.mem ((c.tc : Thread Cert.LruOutRefIdeal.nD Cert.LruOutRefIdeal.τ).loc Cert.LruOutRefIdeal.main_arg3) = m' ((c.tc : Thread Cert.LruOutRefIdeal.nD Cert.LruOutRefIdeal.τ).loc Cert.LruOutRefIdeal.main_arg3)
          ∧ r.2.mem ((c.tc : Thread Cert.LruOutRefIdeal.nD Cert.LruOutRefIdeal.τ).loc Cert.LruOutRefIdeal.main_arg4) = m' ((c.tc : Thread Cert.LruOutRefIdeal.nD Cert.LruOutRefIdeal.τ).loc Cert.LruOutRefIdeal.main_arg4)
          ∧ r.2.mem ((c.tc : Thread Cert.LruOutRefIdeal.nD Cert.LruOutRefIdeal.τ).loc Cert.LruOutRefIdeal.main_arg5) = m' ((c.tc : Thread Cert.LruOutRefIdeal.nD Cert.LruOutRefIdeal.τ).loc Cert.LruOutRefIdeal.main_arg5)
          ∧ r.2.mem ((c.tc : Thread Cert.LruOutRefIdeal.nD Cert.LruOutRefIdeal.τ).loc Cert.LruOutRefIdeal.main_arg6) = m' ((c.tc : Thread Cert.LruOutRefIdeal.nD Cert.LruOutRefIdeal.τ).loc Cert.LruOutRefIdeal.main_arg6)
          ∧ r.2.mem ((c.tc : Thread Cert.LruOutRefIdeal.nD Cert.LruOutRefIdeal.τ).loc Cert.LruOutRefIdeal.main_arg7) = m' ((c.tc : Thread Cert.LruOutRefIdeal.nD Cert.LruOutRefIdeal.τ).loc Cert.LruOutRefIdeal.main_arg7)) := by
  refine ⟨fun c => newRows (acts m c) (wt m c) (res m c) (mods m c), fun c => normRows (acts m c) (wt m c) (res m c) (nwt m c) (mods m c),
    fun c => scoreRows (acts m c) (wt m c) (res m c) (nwt m c) (mods m c) (rwt m c), ?_, ?_⟩
  · refine (θ_run _ _ _).mono (fun r h c => ?_) (Value.run_blocks m g)
    exact ⟨(h c).1.trans (result_new m c), (h c).2.1.trans (result_norm m c), (h c).2.2.1.trans (result_score m c), (h c).2.2.2⟩
  · refine (θ_run _ _ _).mono (fun r h c => ?_) (Cert.LruOutRefIdeal.Value.run m' g')
    obtain ⟨e0, e1, e2, e3, e4, e5, e6, e7⟩ := he c
    have ha : (fun i k => Cert.LruOutRefIdeal.Read.val_main_v15 (F := Ideal) (proj m c) (fwd m c) (bwd m c) (ix2 i k)) = acts m c := funext fun i => funext fun k => ref_act (proj m c) (fwd m c) (bwd m c) i k
    refine ⟨(h c).1.trans ?_, (h c).2.1.trans ?_, (h c).2.2.1.trans ?_, (h c).2.2.2⟩
    · rw [Cert.LruOutRefIdeal.Read.val_main_v90_eq, e0, e1, e2, e3, e4, e6]
      refine funext fun i => ?_
      idx_vars i
      exact (ref_new (proj m c) (fwd m c) (bwd m c) (wt m c) (res m c) (mods m c) i0 i1).trans (congrArg (fun A => newRow A (wt m c) (res m c) (mods m c) i0 i1) ha)
    · rw [Cert.LruOutRefIdeal.Read.val_main_v91_eq, e0, e1, e2, e3, e4, e5, e6]
      refine funext fun i => ?_
      idx_vars i
      exact (ref_norm_cast (proj m c) (fwd m c) (bwd m c) (wt m c) (res m c) (nwt m c) (mods m c) i0 i1).trans (congrArg (fun A => normRow A (wt m c) (res m c) (nwt m c) (mods m c) i0 i1) ha)
    · rw [Cert.LruOutRefIdeal.Read.val_main_v92_eq, e0, e1, e2, e3, e4, e5, e6, e7]
      refine funext fun i => ?_
      idx_vars i
      exact (ref_score (proj m c) (fwd m c) (bwd m c) (wt m c) (res m c) (nwt m c) (mods m c) (rwt m c) i0 i1).trans (congrArg (fun A => scoreRow A (wt m c) (res m c) (nwt m c) (mods m c) (rwt m c) i0 i1) ha)

end Cert.LruOutIdeal.Hand

end
-- ==== Proof.OutHeads.lean ====
/-
  The gate of the output projections of the retention and of the delta rule.  The kernel writes the sigmoid through a
  hyperbolic tangent of half the argument, the reference through an exponential; the two gates are equal (`silu_half`).
-/
module

public import proofs.«01_k».proof.Proof.LruOutAgree

@[expose] public section

noncomputable section

namespace Cert.OutShared

open Idealize.ShloMosaic

/-- A gate times its sigmoid. -/
def silu (g : EReal) : EReal := g * Ideal.div 1 (1 + Ideal.exp (-g))

/-- The gate in the form with a hyperbolic tangent of half the argument. -/
theorem silu_half (g : EReal) :
    g * (Ideal.ofBits .f32 1056964608#32 * Ideal.tanh (Ideal.ofBits .f32 1056964608#32 * g) + Ideal.ofBits .f32 1056964608#32) = silu g := by
  rw [Cert.MoeRefIdeal.Hand.ofBits_half, Cert.MoeRefIdeal.Hand.half_tanh]
  rfl

end Cert.OutShared

end
-- ==== Proof.RetOutAgree.lean ====
/-
  The output projection of the retention: every one of the 68 points adds the two directions' results for its 128 rows,
  divides each head of 512 by its root mean square, weighs and gates it, and projects the rows as `OutShared` says.
-/
module

public import proofs.«01_k».proof.Proof.Gen.RetOutIdeal.Value
public import proofs.«01_k».proof.Proof.Gen.RetOutRefIdeal.Run
public import proofs.«01_k».proof.Proof.Gen.RetOutRefIdeal.Read
public import proofs.«01_k».proof.Proof.OutHeads

@[expose] public section

set_option maxRecDepth 16384

noncomputable section

namespace Cert.RetOutIdeal.Hand

open Cert.RetOutIdeal Cert.RetOutIdeal.Gen Idealize.ShloMosaic Idealize.ShloMosaic.TcCoe Idealize.SL.Sem Cert.OutShared

/-! ## The body, at an index -/

/-- The offset of a whole rank-2 rectangle. -/
theorem zeros2 : (![0, 0] : Fin 2 → Nat) = fun _ => 0 := funext fun a => by fin_cases a <;> rfl

/-- An entry of a row over the root mean square of its head of 512 entries. -/
def heads (s : Fin 4096 → EReal) (k : Fin 4096) : EReal :=
  s k * Ideal.rsqrt (Ideal.div (∑ e : Fin 512, s ⟨k.val / 512 * 512 + e.val, by omega⟩ * s ⟨k.val / 512 * 512 + e.val, by omega⟩)
    (Ideal.ofBits .f32 1140850688#32) + Ideal.ofBits .f32 897988541#32)

/-- The same, of the head `h`. -/
def part (s : Fin 4096 → EReal) (h : Fin 8) (j : Fin 512) : EReal :=
  s ⟨h.val * 512 + j.val, by omega⟩ * Ideal.rsqrt (Ideal.div (∑ e : Fin 512, s ⟨h.val * 512 + e.val, by omega⟩ * s ⟨h.val * 512 + e.val, by omega⟩)
    (Ideal.ofBits .f32 1140850688#32) + Ideal.ofBits .f32 897988541#32)

/-- An entry's head is the quotient of its place by 512. -/
theorem part_eq (s : Fin 4096 → EReal) (k : Fin 4096) (h : Fin 8) (j : Fin 512) (hk : k.val = h.val * 512 + j.val) : part s h j = heads s k := by
  have e1 : k.val / 512 = h.val := by omega
  have e2 : k = ⟨h.val * 512 + j.val, by omega⟩ := Fin.ext hk
  unfold part heads
  simp only [e1]
  rw [← e2]

section Body
variable (x0 x1 x2 : S128x4096.Idx → EReal) (x3 : S1x4096.Idx → EReal)
  (x4 : S4096x2048.Idx → EReal) (x5 : S128x2048.Idx → EReal) (x6 : S1x2048.Idx → EReal)
  (x7 : S1x8x2048.Idx → EReal) (x8 : S2048x128.Idx → EReal)

/-- A row of the new residual block. -/
def blockRow (a : Fin 128) : Fin 2048 → EReal :=
  project (fun d => x5 (ix2 a d)) (fun d => x7 (ix3 0 2 d)) (fun k => heads (fun k => x1 (ix2 a k) + x2 (ix2 a k)) k * x3 (ix2 0 k) * silu (x0 (ix2 a k))) (fun k d => x4 (ix2 k d))

/-- A row of the normalized block. -/
def blockNorm (a : Fin 128) : Fin 2048 → EReal :=
  modulate (blockRow x0 x1 x2 x3 x4 x5 x7 a) (fun d => x6 (ix2 0 d)) (fun d => x7 (ix3 0 3 d)) (fun d => x7 (ix3 0 4 d))

/-- The head 0 of a row, over its root mean square. -/
theorem head0 (a : Fin 128) (j : Fin 512) : k0_pay6 (F := Ideal) x1 x2 (ix2 a j) = part (fun k => x1 (ix2 a k) + x2 (ix2 a k)) 0 j := by
  pointwise [k0_pay6, k0_pay4]
  unfold part
  simp only [show ∀ n, (0 : Fin 8).val * 512 + n = n from fun n => by simp]

/-- The head 1 of a row, over its root mean square. -/
theorem head1 (a : Fin 128) (j : Fin 512) : k0_pay7 (F := Ideal) x1 x2 (ix2 a j) = part (fun k => x1 (ix2 a k) + x2 (ix2 a k)) 1 j := by
  pointwise [k0_pay7, k0_pay4]
  rfl

/-- The head 2 of a row, over its root mean square. -/
theorem head2 (a : Fin 128) (j : Fin 512) : k0_pay8 (F := Ideal) x1 x2 (ix2 a j) = part (fun k => x1 (ix2 a k) + x2 (ix2 a k)) 2 j := by
  pointwise [k0_pay8, k0_pay4]
  rfl

/-- The head 3 of a row, over its root mean square. -/
theorem head3 (a : Fin 128) (j : Fin 512) : k0_pay11 (F := Ideal) (k0_pay9 x1 x2) (k0_pay10 x1 x2) (Scalar.ofBits .f32 0x44000000#32) (ix2 a j) = part (fun k => x1 (ix2 a k) + x2 (ix2 a k)) 3 j := by
  pointwise [k0_pay11, k0_pay9, k0_pay10, k0_pay4]
  rfl

/-- The head 4 of a row, over its root mean square. -/
theorem head4 (a : Fin 128) (j : Fin 512) : k0_pay12 (F := Ideal) (k0_pay4 x1 x2) (ix2 a j) = part (fun k => x1 (ix2 a k) + x2 (ix2 a k)) 4 j := by
  pointwise [k0_pay12, k0_pay4]
  rfl

/-- The head 5 of a row, over its root mean square. -/
theorem head5 (a : Fin 128) (j : Fin 512) : k0_pay13 (F := Ideal) (k0_pay4 x1 x2) (ix2 a j) = part (fun k => x1 (ix2 a k) + x2 (ix2 a k)) 5 j := by
  pointwise [k0_pay13, k0_pay4]
  rfl

/-- The head 6 of a row, over its root mean square. -/
theorem head6 (a : Fin 128) (j : Fin 512) : k0_pay14 (F := Ideal) (k0_pay4 x1 x2) (ix2 a j) = part (fun k => x1 (ix2 a k) + x2 (ix2 a k)) 6 j := by
  pointwise [k0_pay14, k0_pay4]
  rfl

/-- The head 7 of a row, over its root mean square. -/
theorem head7 (a : Fin 128) (j : Fin 512) :
    k0_pay15 (F := Ideal) (k0_pay4 x1 x2) (ix2 a j) * Ideal.rsqrt (k0_pay16 (F := Ideal) (k0_pay4 x1 x2) (ix2 a 0) + k0_pay17 (F := Ideal) (ix2 a 0)) = part (fun k => x1 (ix2 a k) + x2 (ix2 a k)) 7 j := by
  pointwise [k0_pay15, k0_pay16, k0_pay17, k0_pay4]
  rfl

/-- The new residual block. -/
theorem new_apply (r2 : S1x1x2048.Idx → EReal) (h2 : ∀ d : Fin 2048, r2 (ix3 0 0 d) = x7 (ix3 0 2 d)) (a : Fin 128) (d : Fin 2048) :
    k0_pay18 (F := Ideal) (k0_pay5 x3) (k0_pay6 x1 x2) (k0_pay7 x1 x2) (k0_pay8 x1 x2) (k0_pay11 (k0_pay9 x1 x2) (k0_pay10 x1 x2) (Scalar.ofBits .f32 0x44000000#32)) (k0_pay12 (k0_pay4 x1 x2)) (k0_pay13 (k0_pay4 x1 x2)) (k0_pay14 (k0_pay4 x1 x2)) (k0_pay15 (k0_pay4 x1 x2)) (k0_pay16 (k0_pay4 x1 x2)) k0_pay17 x0 x4 x5 r2 (ix2 a d) = blockRow x0 x1 x2 x3 x4 x5 x7 a d := by
  pointwise [k0_pay18, k0_pay5]
  rw [h2]
  unfold blockRow project
  refine congrArg (fun z => x5 (ix2 a d) + x7 (ix3 0 2 d) * z) (Finset.sum_congr rfl fun x _ => ?_)
  rw [silu_half]
  refine congrArg (fun z => z * x3 (ix2 0 x) * silu (x0 (ix2 a x)) * x4 (ix2 x d)) ?_
  by_cases c0 : x.val < 512
  · rw [dif_pos c0]
    exact (head0 x1 x2 a ⟨x.val, by omega⟩).trans (part_eq (fun k => x1 (ix2 a k) + x2 (ix2 a k)) x 0 ⟨x.val, by omega⟩ (show x.val = 0 * 512 + (x.val) by omega))
  rw [dif_neg c0]
  by_cases c1 : x.val - 512 < 512
  · rw [dif_pos c1]
    exact (head1 x1 x2 a ⟨x.val - 512, by omega⟩).trans (part_eq (fun k => x1 (ix2 a k) + x2 (ix2 a k)) x 1 ⟨x.val - 512, by omega⟩ (show x.val = 1 * 512 + (x.val - 512) by omega))
  rw [dif_neg c1]
  by_cases c2 : x.val - 512 - 512 < 512
  · rw [dif_pos c2]
    exact (head2 x1 x2 a ⟨x.val - 512 - 512, by omega⟩).trans (part_eq (fun k => x1 (ix2 a k) + x2 (ix2 a k)) x 2 ⟨x.val - 512 - 512, by omega⟩ (show x.val = 2 * 512 + (x.val - 512 - 512) by omega))
  rw [dif_neg c2]
  by_cases c3 : x.val - 512 - 512 - 512 < 512
  · rw [dif_pos c3]
    exact (head3 x1 x2 a ⟨x.val - 512 - 512 - 512, by omega⟩).trans (part_eq (fun k => x1 (ix2 a k) + x2 (ix2 a k)) x 3 ⟨x.val - 512 - 512 - 512, by omega⟩ (show x.val = 3 * 512 + (x.val - 512 - 512 - 512) by omega))
  rw [dif_neg c3]
  by_cases c4 : x.val - 512 - 512 - 512 - 512 < 512
  · rw [dif_pos c4]
    exact (head4 x1 x2 a ⟨x.val - 512 - 512 - 512 - 512, by omega⟩).trans (part_eq (fun k => x1 (ix2 a k) + x2 (ix2 a k)) x 4 ⟨x.val - 512 - 512 - 512 - 512, by omega⟩ (show x.val = 4 * 512 + (x.val - 512 - 512 - 512 - 512) by omega))
  rw [dif_neg c4]
  by_cases c5 : x.val - 512 - 512 - 512 - 512 - 512 < 512
  · rw [dif_pos c5]
    exact (head5 x1 x2 a ⟨x.val - 512 - 512 - 512 - 512 - 512, by omega⟩).trans (part_eq (fun k => x1 (ix2 a k) + x2 (ix2 a k)) x 5 ⟨x.val - 512 - 512 - 512 - 512 - 512, by omega⟩ (show x.val = 5 * 512 + (x.val - 512 - 512 - 512 - 512 - 512) by omega))
  rw [dif_neg c5]
  by_cases c6 : x.val - 512 - 512 - 512 - 512 - 512 - 512 < 512
  · rw [dif_pos c6]
    exact (head6 x1 x2 a ⟨x.val - 512 - 512 - 512 - 512 - 512 - 512, by omega⟩).trans (part_eq (fun k => x1 (ix2 a k) + x2 (ix2 a k)) x 6 ⟨x.val - 512 - 512 - 512 - 512 - 512 - 512, by omega⟩ (show x.val = 6 * 512 + (x.val - 512 - 512 - 512 - 512 - 512 - 512) by omega))
  rw [dif_neg c6]
  exact (head7 x1 x2 a ⟨x.val - 512 - 512 - 512 - 512 - 512 - 512 - 512, by omega⟩).trans (part_eq (fun k => x1 (ix2 a k) + x2 (ix2 a k)) x 7 ⟨x.val - 512 - 512 - 512 - 512 - 512 - 512 - 512, by omega⟩ (show x.val = 7 * 512 + (x.val - 512 - 512 - 512 - 512 - 512 - 512 - 512) by omega))

/-- The normalized block. -/
theorem norm_apply (r2 r3 r4 : S1x1x2048.Idx → EReal) (h2 : ∀ d : Fin 2048, r2 (ix3 0 0 d) = x7 (ix3 0 2 d))
    (h3 : ∀ d : Fin 2048, r3 (ix3 0 0 d) = x7 (ix3 0 3 d)) (h4 : ∀ d : Fin 2048, r4 (ix3 0 0 d) = x7 (ix3 0 4 d)) (a : Fin 128) (d : Fin 2048) :
    k0_pay1 (F := Ideal) (k0_pay18 (k0_pay5 x3) (k0_pay6 x1 x2) (k0_pay7 x1 x2) (k0_pay8 x1 x2) (k0_pay11 (k0_pay9 x1 x2) (k0_pay10 x1 x2) (Scalar.ofBits .f32 0x44000000#32)) (k0_pay12 (k0_pay4 x1 x2)) (k0_pay13 (k0_pay4 x1 x2)) (k0_pay14 (k0_pay4 x1 x2)) (k0_pay15 (k0_pay4 x1 x2)) (k0_pay16 (k0_pay4 x1 x2)) k0_pay17 x0 x4 x5 r2) (k0_pay19 x6) (k0_pay20 r3) (k0_pay21 r4)
      (k0_pay22 (k0_pay5 x3) (k0_pay6 x1 x2) (k0_pay7 x1 x2) (k0_pay8 x1 x2) (k0_pay11 (k0_pay9 x1 x2) (k0_pay10 x1 x2) (Scalar.ofBits .f32 0x44000000#32)) (k0_pay12 (k0_pay4 x1 x2)) (k0_pay13 (k0_pay4 x1 x2)) (k0_pay14 (k0_pay4 x1 x2)) (k0_pay15 (k0_pay4 x1 x2)) (k0_pay16 (k0_pay4 x1 x2)) k0_pay17 x0 x4 x5 r2) (ix2 a d)
      = blockNorm x0 x1 x2 x3 x4 x5 x6 x7 a d := by
  pointwise [k0_pay1, k0_pay19, k0_pay20, k0_pay21, k0_pay22]
  have hn : ∀ (a : Fin 128) (d : Fin 2048), k0_pay18 (F := Ideal) (k0_pay5 x3) (k0_pay6 x1 x2) (k0_pay7 x1 x2) (k0_pay8 x1 x2) (k0_pay11 (k0_pay9 x1 x2) (k0_pay10 x1 x2) (Ideal.ofBits .f32 1140850688#32)) (k0_pay12 (k0_pay4 x1 x2)) (k0_pay13 (k0_pay4 x1 x2)) (k0_pay14 (k0_pay4 x1 x2)) (k0_pay15 (k0_pay4 x1 x2)) (k0_pay16 (k0_pay4 x1 x2)) k0_pay17 x0 x4 x5 r2 (ix2 a d) = blockRow x0 x1 x2 x3 x4 x5 x7 a d :=
    new_apply x0 x1 x2 x3 x4 x5 x7 r2 h2
  simp only [h3, h4, hn]
  rfl

/-- What a point leaves in the block of the new residual stream. -/
theorem out_new_apply (a : Fin 128) (d : Fin 2048) : out0_9 (F := Ideal) x0 x1 x2 x3 x4 x5 x6 x7 x8 (ix2 a d) = blockRow x0 x1 x2 x3 x4 x5 x7 a d := by
  unfold_out out0_9
  rw [View.canon_unit_zero zeros2]
  simp only [View.ld_unit_zero (S := S128x4096) zeros2, View.ld_unit_zero (S := S4096x2048) zeros2, View.ld_unit_zero (S := S1x4096) zeros2, View.ld_unit_zero (S := S128x2048) zeros2]
  exact new_apply x0 x1 x2 x3 x4 x5 x7 _ (fun d => by pointwise) a d

/-- What a point leaves in the block of normalized rows. -/
theorem out_norm_apply (a : Fin 128) (d : Fin 2048) : out0_10 (F := Ideal) x0 x1 x2 x3 x4 x5 x6 x7 x8 (ix2 a d) = blockNorm x0 x1 x2 x3 x4 x5 x6 x7 a d := by
  unfold_out out0_10
  rw [View.canon_unit_zero zeros2]
  simp only [View.ld_unit_zero (S := S128x4096) zeros2, View.ld_unit_zero (S := S4096x2048) zeros2, View.ld_unit_zero (S := S1x4096) zeros2, View.ld_unit_zero (S := S128x2048) zeros2, View.ld_unit_zero (S := S1x2048) zeros2]
  pointwise [k0_pay2]
  exact norm_apply x0 x1 x2 x3 x4 x5 x6 x7 _ _ _ (fun d => by pointwise) (fun d => by pointwise) (fun d => by pointwise) a d

/-- What a point leaves in the block of router products. -/
theorem out_score_apply (a : Fin 128) (j : Fin 128) :
    out0_11 (F := Ideal) x0 x1 x2 x3 x4 x5 x6 x7 x8 (ix2 a j) = ∑ d, blockNorm x0 x1 x2 x3 x4 x5 x6 x7 a d * x8 (ix2 d j) := by
  unfold_out out0_11
  rw [View.canon_unit_zero zeros2]
  simp only [View.ld_unit_zero (S := S128x4096) zeros2, View.ld_unit_zero (S := S4096x2048) zeros2, View.ld_unit_zero (S := S1x4096) zeros2, View.ld_unit_zero (S := S128x2048) zeros2, View.ld_unit_zero (S := S1x2048) zeros2, View.ld_unit_zero (S := S2048x128) zeros2]
  pointwise [k0_pay3]
  refine Finset.sum_congr rfl fun d _ => congrArg (· * _) ?_
  exact norm_apply x0 x1 x2 x3 x4 x5 x6 x7 _ _ _ (fun d => by pointwise) (fun d => by pointwise) (fun d => by pointwise) a d

end Body

/-! ## What the host operations leave for the region -/

section Host
variable (m : (ℓ : Loc nD τ sig) → Buf (Elt Ideal) ℓ) (c : Dev nD)

/-- The projections, whose last 4096 columns are the gate. -/
abbrev proj : S8704x12288.Idx → EReal := m ((c : Thread nD τ).loc main_arg0)
/-- The results of the forward direction. -/
abbrev fwd : S8704x4096.Idx → EReal := m ((c : Thread nD τ).loc main_arg1)
/-- The results of the backward direction. -/
abbrev bwd : S8704x4096.Idx → EReal := m ((c : Thread nD τ).loc main_arg2)
/-- The weight of the norm of the heads. -/
abbrev hwt : S4096.Idx → EReal := m ((c : Thread nD τ).loc main_arg3)

/-- The output weight. -/
abbrev wt : S4096x2048.Idx → EReal := m ((c : Thread nD τ).loc main_arg4)
/-- The residual stream. -/
abbrev res : S8704x2048.Idx → EReal := m ((c : Thread nD τ).loc main_arg5)
/-- The norm's weight. -/
abbrev nwt : S2048.Idx → EReal := m ((c : Thread nD τ).loc main_arg6)
/-- The modulations. -/
abbrev mods : S16x12288.Idx → EReal := m ((c : Thread nD τ).loc main_arg7)
/-- The router's weight. -/
abbrev rwt : S2048x32.Idx → EReal := m ((c : Thread nD τ).loc main_arg8)

/-- The weight in its narrower type is the weight. -/
theorem w_value (k : Fin 4096) (d : Fin 2048) : (V m c main_v17 : S4096x2048.Idx → EReal) (ix2 k d) = wt m c (ix2 k d) := by
  unfold V
  simp only [List.flatten_cons, List.flatten_nil, List.append_nil, List.cons_append, List.nil_append]
  after_reads_at

/-- The norm's weight as a row. -/
theorem nw_value (d : Fin 2048) : (V m c main_v18 : S1x2048.Idx → EReal) (ix2 0 d) = nwt m c (ix1 d) := by
  unfold V
  simp only [List.flatten_cons, List.flatten_nil, List.append_nil, List.cons_append, List.nil_append]
  after_reads_at

/-- The padded weight of the router. -/
theorem rw_value (d : Fin 2048) (j : Fin 128) : (V m c main_v16 : S2048x128.Idx → EReal) (ix2 d j) = padded (fun d j => rwt m c (ix2 d j)) d j := by
  unfold V
  simp only [List.flatten_cons, List.flatten_nil, List.append_nil, List.cons_append, List.nil_append]
  after_reads_at
  exact congrArg (fun z => dite (j.val < 32) _ fun _ => z) sitofp_zero

/-- The modulations of a tile: the context's row of the table or the sequence's. -/
theorem tile_value (t : Fin 34) (p : Fin 6) (d : Fin 2048) :
    (V m c main_v15 : S34x8x2048.Idx → EReal) (ix3 t ⟨p.val, by omega⟩ d) = mods m c (ix2 (tileSource t) ⟨p.val * 2048 + d.val, by omega⟩) := by
  unfold V
  simp only [List.flatten_cons, List.flatten_nil, List.append_nil, List.cons_append, List.nil_append]
  after_reads_at
  refine (gather_tile gather_S16x6x2048_S34x1_S34x6x2048_12_0_n_n_0_1_162048_wf _ _ t p d (tileSource t) ?_).trans ?_
  · clear d p
    revert t
    decide +kernel
  · rfl

/-- The weight of the norm of the heads as a row. -/
theorem hw_value (k : Fin 4096) : (V m c main_v0 : S1x4096.Idx → EReal) (ix2 0 k) = hwt m c (ix1 k) := by
  unfold V
  simp only [List.flatten_cons, List.flatten_nil, List.append_nil, List.cons_append, List.nil_append]
  after_reads_at

end Host

/-! ## The blocks and the results -/

section Results
variable (m : (ℓ : Loc nD τ sig) → Buf (Elt Ideal) ℓ) (c : Dev nD)

/-- Which blocks a point reads and writes. -/
theorem index_facts : ∀ t : Fin cfg0.N,
    (win0_0.index t (0 : Fin 2) = t.val ∧ win0_0.index t (1 : Fin 2) = 2)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 3) = t.val / 2 ∧ win0_7.index t (1 : Fin 3) = 0 ∧ win0_7.index t (2 : Fin 3) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- The number of a point is below 68. -/
theorem pt_lt (t : Fin cfg0.N) : t.val < 68 := lt_of_lt_of_eq t.isLt (show cfg0.N = 68 from N_0)

/-- The row of the tokens that a row of a point's block is. -/
def row (t : Fin cfg0.N) (a : Fin 128) : Fin 8704 := ⟨t.val * 128 + a.val, by have := pt_lt t; omega⟩

/-- The tile of a point. -/
def tile (t : Fin cfg0.N) : Fin 34 := ⟨t.val / 2, by have := pt_lt t; omega⟩

/-- A point's block of the gate. -/
theorem p_block (t : Fin cfg0.N) (a : Fin 128) (k : Fin 4096) : (iblk m c 0 t : S128x4096.Idx → EReal) (ix2 a k) = proj m c (ix2 (row t a) ⟨8192 + k.val, by omega⟩) := by
  obtain ⟨⟨e0, e1⟩, -⟩ := index_facts t
  refine (congrFun (V_main_arg0 m c) (((cfg0.win 0).blk t).view.emb (ix2 a k))).trans (congrArg (proj m c) (?_ : ((cfg0.win 0).blk t).view.emb (ix2 a k) = _))
  refine funext fun d => Fin.ext ?_
  match d with
  | ⟨0, _⟩ => show win0_0.index t (0 : Fin 2) * 128 + 1 * a.val = t.val * 128 + a.val; omega
  | ⟨1, _⟩ => show win0_0.index t (1 : Fin 2) * 4096 + 1 * k.val = 8192 + k.val; omega

/-- A point's block of forward results. -/
theorem f_block (t : Fin cfg0.N) (a : Fin 128) (k : Fin 4096) : (iblk m c 1 t : S128x4096.Idx → EReal) (ix2 a k) = fwd m c (ix2 (row t a) k) := by
  obtain ⟨-, ⟨e0, e1⟩, -⟩ := index_facts t
  refine (congrFun (V_main_arg1 m c) (((cfg0.win 1).blk t).view.emb (ix2 a k))).trans (congrArg (fwd m c) (?_ : ((cfg0.win 1).blk t).view.emb (ix2 a k) = _))
  refine funext fun d => Fin.ext ?_
  match d with
  | ⟨0, _⟩ => show win0_1.index t (0 : Fin 2) * 128 + 1 * a.val = t.val * 128 + a.val; omega
  | ⟨1, _⟩ => show win0_1.index t (1 : Fin 2) * 4096 + 1 * k.val = k.val; omega

/-- A point's block of backward results. -/
theorem b_block (t : Fin cfg0.N) (a : Fin 128) (k : Fin 4096) : (iblk m c 2 t : S128x4096.Idx → EReal) (ix2 a k) = bwd m c (ix2 (row t a) k) := by
  obtain ⟨-, -, ⟨e0, e1⟩, -⟩ := index_facts t
  refine (congrFun (V_main_arg2 m c) (((cfg0.win 2).blk t).view.emb (ix2 a k))).trans (congrArg (bwd m c) (?_ : ((cfg0.win 2).blk t).view.emb (ix2 a k) = _))
  refine funext fun d => Fin.ext ?_
  match d with
  | ⟨0, _⟩ => show win0_2.index t (0 : Fin 2) * 128 + 1 * a.val = t.val * 128 + a.val; omega
  | ⟨1, _⟩ => show win0_2.index t (1 : Fin 2) * 4096 + 1 * k.val = k.val; omega

/-- A point's block of the weight of the heads' norm: all of it. -/
theorem hw_block (t : Fin cfg0.N) (k : Fin 4096) : (iblk m c 3 t : S1x4096.Idx → EReal) (ix2 0 k) = hwt m c (ix1 k) := by
  obtain ⟨-, -, -, ⟨e0, e1⟩, -⟩ := index_facts t
  refine Eq.trans (congrArg (V m c main_v0 : S1x4096.Idx → EReal) (?_ : ((cfg0.win 3).blk t).view.emb (ix2 0 k) = ix2 0 k)) (hw_value m c k)
  refine funext fun e => Fin.ext ?_
  match e with
  | ⟨0, _⟩ => show win0_3.index t (0 : Fin 2) * 1 + 1 * 0 = 0; omega
  | ⟨1, _⟩ => show win0_3.index t (1 : Fin 2) * 4096 + 1 * k.val = k.val; omega

/-- A point's block of the weight: all of it. -/
theorem w_block (t : Fin cfg0.N) (k : Fin 4096) (d : Fin 2048) : (iblk m c 4 t : S4096x2048.Idx → EReal) (ix2 k d) = wt m c (ix2 k d) := by
  obtain ⟨-, -, -, -, ⟨e0, e1⟩, -⟩ := index_facts t
  refine Eq.trans (congrArg (V m c main_v17 : S4096x2048.Idx → EReal) (?_ : ((cfg0.win 4).blk t).view.emb (ix2 k d) = ix2 k d)) (w_value m c k d)
  refine funext fun e => Fin.ext ?_
  match e with
  | ⟨0, _⟩ => show win0_4.index t (0 : Fin 2) * 4096 + 1 * k.val = k.val; omega
  | ⟨1, _⟩ => show win0_4.index t (1 : Fin 2) * 2048 + 1 * d.val = d.val; omega

/-- A point's block of the residual stream. -/
theorem x_block (t : Fin cfg0.N) (a : Fin 128) (k : Fin 2048) : (iblk m c 5 t : S128x2048.Idx → EReal) (ix2 a k) = res m c (ix2 (row t a) k) := by
  obtain ⟨-, -, -, -, -, ⟨e0, e1⟩, -⟩ := index_facts t
  refine (congrFun (V_main_arg5 m c) (((cfg0.win 5).blk t).view.emb (ix2 a k))).trans (congrArg (res m c) (?_ : ((cfg0.win 5).blk t).view.emb (ix2 a k) = _))
  refine funext fun d => Fin.ext ?_
  match d with
  | ⟨0, _⟩ => show win0_5.index t (0 : Fin 2) * 128 + 1 * a.val = t.val * 128 + a.val; omega
  | ⟨1, _⟩ => show win0_5.index t (1 : Fin 2) * 2048 + 1 * k.val = k.val; omega

/-- A point's block of the norm's weight: all of it. -/
theorem nw_block (t : Fin cfg0.N) (d : Fin 2048) : (iblk m c 6 t : S1x2048.Idx → EReal) (ix2 0 d) = nwt m c (ix1 d) := by
  obtain ⟨-, -, -, -, -, -, ⟨e0, e1⟩, -⟩ := index_facts t
  refine Eq.trans (congrArg (V m c main_v18 : S1x2048.Idx → EReal) (?_ : ((cfg0.win 6).blk t).view.emb (ix2 0 d) = ix2 0 d)) (nw_value m c d)
  refine funext fun e => Fin.ext ?_
  match e with
  | ⟨0, _⟩ => show win0_6.index t (0 : Fin 2) * 1 + 1 * 0 = 0; omega
  | ⟨1, _⟩ => show win0_6.index t (1 : Fin 2) * 2048 + 1 * d.val = d.val; omega

/-- A point's rows of the modulation table. -/
theorem mod_block (t : Fin cfg0.N) (a : Fin 128) (p : Fin 6) (d : Fin 2048) :
    (iblk m c 7 t : S1x8x2048.Idx → EReal) (ix3 0 ⟨p.val, by omega⟩ d) = mods m c (ix2 (source (row t a)) ⟨p.val * 2048 + d.val, by omega⟩) := by
  obtain ⟨-, -, -, -, -, -, -, ⟨e0, e1, e2⟩, -⟩ := index_facts t
  rw [source_eq (tile t) (row t a) (show (t.val * 128 + a.val) / 256 = t.val / 2 by omega)]
  refine Eq.trans (congrArg (V m c main_v15 : S34x8x2048.Idx → EReal)
    (?_ : ((cfg0.win 7).blk t).view.emb (ix3 0 ⟨p.val, by omega⟩ d) = ix3 (tile t) ⟨p.val, by omega⟩ d)) (tile_value m c (tile t) p d)
  refine funext fun e => Fin.ext ?_
  match e with
  | ⟨0, _⟩ => show win0_7.index t (0 : Fin 3) * 1 + 1 * 0 = t.val / 2; omega
  | ⟨1, _⟩ => show win0_7.index t (1 : Fin 3) * 8 + 1 * p.val = p.val; omega
  | ⟨2, _⟩ => show win0_7.index t (2 : Fin 3) * 2048 + 1 * d.val = d.val; omega

/-- A point's block of the router's padded weight: all of it. -/
theorem rw_block (t : Fin cfg0.N) (d : Fin 2048) (j : Fin 128) :
    (iblk m c 8 t : S2048x128.Idx → EReal) (ix2 d j) = padded (fun d j => rwt m c (ix2 d j)) d j := by
  obtain ⟨-, -, -, -, -, -, -, -, ⟨e0, e1⟩, -⟩ := index_facts t
  refine Eq.trans (congrArg (V m c main_v16 : S2048x128.Idx → EReal) (?_ : ((cfg0.win 8).blk t).view.emb (ix2 d j) = ix2 d j)) (rw_value m c d j)
  refine funext fun e => Fin.ext ?_
  match e with
  | ⟨0, _⟩ => show win0_8.index t (0 : Fin 2) * 2048 + 1 * d.val = d.val; omega
  | ⟨1, _⟩ => show win0_8.index t (1 : Fin 2) * 128 + 1 * j.val = j.val; omega

/-- The activations of a token. -/
def acts (i : Fin 8704) (k : Fin 4096) : EReal :=
  heads (fun k => fwd m c (ix2 i k) + bwd m c (ix2 i k)) k * hwt m c (ix1 k) * silu (proj m c (ix2 i ⟨8192 + k.val, by omega⟩))

/-- A row of a point's new residual block is the token's. -/
theorem row_eq (t : Fin cfg0.N) (a : Fin 128) :
    blockRow (iblk m c 0 t) (iblk m c 1 t) (iblk m c 2 t) (iblk m c 3 t) (iblk m c 4 t) (iblk m c 5 t) (iblk m c 7 t) a = newRow (acts m c) (wt m c) (res m c) (mods m c) (row t a) := by
  funext d
  have h2 : (iblk m c 7 t : S1x8x2048.Idx → EReal) (ix3 0 2 d) = _ := mod_block m c t a 2 d
  unfold blockRow newRow project
  simp only [p_block, f_block, b_block, hw_block, w_block, x_block]
  rw [h2]
  rfl

/-- A row of a point's normalized block is the token's. -/
theorem norm_eq (t : Fin cfg0.N) (a : Fin 128) :
    blockNorm (iblk m c 0 t) (iblk m c 1 t) (iblk m c 2 t) (iblk m c 3 t) (iblk m c 4 t) (iblk m c 5 t) (iblk m c 6 t) (iblk m c 7 t) a
      = normRow (acts m c) (wt m c) (res m c) (nwt m c) (mods m c) (row t a) := by
  funext d
  have h3 : (iblk m c 7 t : S1x8x2048.Idx → EReal) (ix3 0 3 d) = _ := mod_block m c t a 3 d
  have h4 : (iblk m c 7 t : S1x8x2048.Idx → EReal) (ix3 0 4 d) = _ := mod_block m c t a 4 d
  unfold blockNorm normRow modulate
  rw [row_eq]
  simp only [nw_block]
  rw [h3, h4]
  rfl

/-- The new residual stream after the run. -/
theorem result_new : (dats m 0 c).arrAt 9 cfg0.N = newRows (acts m c) (wt m c) (res m c) (mods m c) := by
  refine (dats m 0 c).arrAt_eq_of_covers 9 _ (by decide +kernel) fun t hf y => ?_
  obtain ⟨-, -, -, -, -, -, -, -, -, ⟨e0, e1⟩, -⟩ := index_facts t
  blk_simp
  rw [after0_9]
  idx_vars y
  refine (out_new_apply _ _ _ _ _ _ _ _ _ y0 y1).trans ((congrFun (row_eq m c t y0) y1).trans ?_)
  refine congrArg₂ (newRow (acts m c) (wt m c) (res m c) (mods m c)) (Fin.ext ?_) (Fin.ext ?_)
  · show t.val * 128 + y0.val = win0_9.index t (0 : Fin 2) * 128 + 1 * y0.val; omega
  · show y1.val = win0_9.index t (1 : Fin 2) * 2048 + 1 * y1.val; omega

/-- The normalized rows after the run. -/
theorem result_norm : (dats m 0 c).arrAt 10 cfg0.N = normRows (acts m c) (wt m c) (res m c) (nwt m c) (mods m c) := by
  refine (dats m 0 c).arrAt_eq_of_covers 10 _ (by decide +kernel) fun t hf y => ?_
  obtain ⟨-, -, -, -, -, -, -, -, -, -, ⟨e0, e1⟩, -⟩ := index_facts t
  blk_simp
  rw [after0_10]
  idx_vars y
  refine (out_norm_apply _ _ _ _ _ _ _ _ _ y0 y1).trans ((congrFun (norm_eq m c t y0) y1).trans ?_)
  refine congrArg₂ (normRow (acts m c) (wt m c) (res m c) (nwt m c) (mods m c)) (Fin.ext ?_) (Fin.ext ?_)
  · show t.val * 128 + y0.val = win0_10.index t (0 : Fin 2) * 128 + 1 * y0.val; omega
  · show y1.val = win0_10.index t (1 : Fin 2) * 2048 + 1 * y1.val; omega

/-- The router's products after the run. -/
theorem result_score : (dats m 0 c).arrAt 11 cfg0.N = scoreRows (acts m c) (wt m c) (res m c) (nwt m c) (mods m c) (rwt m c) := by
  refine (dats m 0 c).arrAt_eq_of_covers 11 _ (by decide +kernel) fun t hf y => ?_
  obtain ⟨-, -, -, -, -, -, -, -, -, -, -, e0, e1⟩ := index_facts t
  blk_simp
  rw [after0_11]
  idx_vars y
  refine (out_score_apply _ _ _ _ _ _ _ _ _ y0 y1).trans ?_
  rw [norm_eq]
  simp only [rw_block]
  refine congrArg₂ (scoreRow (acts m c) (wt m c) (res m c) (nwt m c) (mods m c) (rwt m c)) (Fin.ext ?_) (Fin.ext ?_)
  · show t.val * 128 + y0.val = win0_11.index t (0 : Fin 2) * 128 + 1 * y0.val; omega
  · show y1.val = win0_11.index t (1 : Fin 2) * 128 + 1 * y1.val; omega

end Results

/-! ## The reference -/

section Reference
open Cert.RetOutRefIdeal.Read

variable (x0 : S8704x12288.Idx → EReal) (x1 x2 : S8704x4096.Idx → EReal) (x3 : S4096.Idx → EReal)
  (x4 : S4096x2048.Idx → EReal) (x5 : S8704x2048.Idx → EReal) (x6 : S2048.Idx → EReal) (x7 : S16x12288.Idx → EReal) (x8 : S2048x32.Idx → EReal)

/-- The reference's activations. -/
theorem ref_act (i : Fin 8704) (k : Fin 4096) :
    val_main_v19 (F := Ideal) x0 x1 x2 x3 (ix2 i k)
      = heads (fun k => x1 (ix2 i k) + x2 (ix2 i k)) k * x3 (ix1 k) * silu (x0 (ix2 i ⟨8192 + k.val, by omega⟩)) := by
  unfold heads silu
  pointwise [val_main_v19, val_main_v16, val_main_v15, val_main_v12, val_main_v1, val_main_v0, val_main_v11, val_main_v10, val_main_v9, val_main_v7, val_main_v5, val_main_v4, val_main_v3, val_main_cst, val_main_v6, val_main_cst_0, val_main_v8, val_main_cst_1, val_main_v14, val_main_v13, val_main_v2, val_main_v18, val_main_v17, val_main_call0_v5, val_main_call0_v4, val_main_call0_cst_0, val_main_call0_v3, val_main_call0_v2, val_main_call0_cst, val_main_call0_v1, val_main_call0_v0]

/-- The reference's new residual rows of the context. -/
theorem ref_ctx_row (b : Fin 2) (p : Fin 256) (d : Fin 2048) :
    val_main_v44 (F := Ideal) x0 x1 x2 x3 x4 x5 x7 (ix3 b p d) = newRow (fun i k => val_main_v19 (F := Ideal) x0 x1 x2 x3 (ix2 i k)) x4 x5 x7 ⟨b.val * 4352 + p.val, by omega⟩ d := by
  unfold newRow project
  rw [source_ctx _ (show (b.val * 4352 + p.val) % 4352 < 256 by omega)]
  pointwise [val_main_v44, val_main_v39, val_main_v22, val_main_v43, val_main_v42, val_main_v41, val_main_v35, val_main_v32, val_main_v31, val_main_v40, val_main_v21, val_main_v20]

/-- The reference's new residual rows of the other positions. -/
theorem ref_lat_row (b : Fin 2) (p : Fin 4096) (d : Fin 2048) :
    val_main_v49 (F := Ideal) x0 x1 x2 x3 x4 x5 x7 (ix3 b p d) = newRow (fun i k => val_main_v19 (F := Ideal) x0 x1 x2 x3 (ix2 i k)) x4 x5 x7 ⟨b.val * 4352 + (256 + p.val), by omega⟩ d := by
  unfold newRow project
  rw [source_lat _ (show ¬(b.val * 4352 + (256 + p.val)) % 4352 < 256 by omega)]
  pointwise [val_main_v49, val_main_v45, val_main_v22, val_main_v48, val_main_v47, val_main_v27, val_main_v24, val_main_v23, val_main_v46, val_main_v21, val_main_v20]
  have hb : (⟨(b.val * 4352 + (256 + p.val)) / 4352, by omega⟩ : Fin 16) = ⟨b.val, by omega⟩ := Fin.ext (show (b.val * 4352 + (256 + p.val)) / 4352 = b.val by omega)
  rw [hb]

/-- The reference's normalized rows of the context. -/
theorem ref_ctx_norm (b : Fin 2) (p : Fin 256) (d : Fin 2048) :
    val_main_v70 (F := Ideal) x0 x1 x2 x3 x4 x5 x6 x7 (ix3 b p d) = normRow (fun i k => val_main_v19 (F := Ideal) x0 x1 x2 x3 (ix2 i k)) x4 x5 x6 x7 ⟨b.val * 4352 + p.val, by omega⟩ d := by
  unfold normRow modulate
  rw [source_ctx _ (show (b.val * 4352 + p.val) % 4352 < 256 by omega)]
  pointwise [val_main_v70, val_main_v67, val_main_v62, val_main_v59, val_main_v58, val_main_v57, val_main_v56, val_main_v54, val_main_v52, val_main_v51, val_main_v50, val_main_cst_2, val_main_v53, val_main_cst_3, val_main_v55, val_main_cst_4, val_main_v61, val_main_v60, val_main_v66, val_main_v65, val_main_v64, val_main_v63, val_main_cst_5, val_main_v37, val_main_v32, val_main_v31, val_main_v69, val_main_v68, val_main_v36]
  simp only [ref_ctx_row]

/-- The reference's normalized rows of the other positions. -/
theorem ref_lat_norm (b : Fin 2) (p : Fin 4096) (d : Fin 2048) :
    val_main_v89 (F := Ideal) x0 x1 x2 x3 x4 x5 x6 x7 (ix3 b p d) = normRow (fun i k => val_main_v19 (F := Ideal) x0 x1 x2 x3 (ix2 i k)) x4 x5 x6 x7 ⟨b.val * 4352 + (256 + p.val), by omega⟩ d := by
  unfold normRow modulate
  rw [source_lat _ (show ¬(b.val * 4352 + (256 + p.val)) % 4352 < 256 by omega)]
  pointwise [val_main_v89, val_main_v87, val_main_v83, val_main_v80, val_main_v79, val_main_v78, val_main_v77, val_main_v75, val_main_v73, val_main_v72, val_main_v71, val_main_cst_6, val_main_v74, val_main_cst_7, val_main_v76, val_main_cst_8, val_main_v82, val_main_v81, val_main_v86, val_main_v85, val_main_v84, val_main_cst_9, val_main_v29, val_main_v24, val_main_v23, val_main_v88, val_main_v28]
  have hb : (⟨(b.val * 4352 + (256 + p.val)) / 4352, by omega⟩ : Fin 16) = ⟨b.val, by omega⟩ := Fin.ext (show (b.val * 4352 + (256 + p.val)) / 4352 = b.val by omega)
  rw [hb]
  simp only [ref_lat_row]

/-- The reference's first result. -/
theorem ref_new (i : Fin 8704) (d : Fin 2048) : val_main_v94 (F := Ideal) x0 x1 x2 x3 x4 x5 x7 (ix2 i d) = newRow (fun i k => val_main_v19 (F := Ideal) x0 x1 x2 x3 (ix2 i k)) x4 x5 x7 i d := by
  pointwise [val_main_v94, val_main_v93]
  rcases Nat.lt_or_ge (i.val % 4352) 256 with h | h
  · rw [dif_pos h]
    refine (ref_ctx_row x0 x1 x2 x3 x4 x5 x7 ⟨i.val / 4352, by omega⟩ ⟨i.val % 4352, h⟩ d).trans ?_
    exact congrArg (fun i => newRow (fun i k => val_main_v19 (F := Ideal) x0 x1 x2 x3 (ix2 i k)) x4 x5 x7 i d) (Fin.ext (show i.val / 4352 * 4352 + i.val % 4352 = i.val by omega))
  · rw [dif_neg (by omega)]
    refine (ref_lat_row x0 x1 x2 x3 x4 x5 x7 ⟨i.val / 4352, by omega⟩ ⟨i.val % 4352 - 256, by omega⟩ d).trans ?_
    exact congrArg (fun i => newRow (fun i k => val_main_v19 (F := Ideal) x0 x1 x2 x3 (ix2 i k)) x4 x5 x7 i d) (Fin.ext (show i.val / 4352 * 4352 + (256 + (i.val % 4352 - 256)) = i.val by omega))

/-- The reference's normalized rows. -/
theorem ref_norm (i : Fin 8704) (d : Fin 2048) : val_main_v91 (F := Ideal) x0 x1 x2 x3 x4 x5 x6 x7 (ix2 i d) = normRow (fun i k => val_main_v19 (F := Ideal) x0 x1 x2 x3 (ix2 i k)) x4 x5 x6 x7 i d := by
  pointwise [val_main_v91, val_main_v90]
  rcases Nat.lt_or_ge (i.val % 4352) 256 with h | h
  · rw [dif_pos h]
    refine (ref_ctx_norm x0 x1 x2 x3 x4 x5 x6 x7 ⟨i.val / 4352, by omega⟩ ⟨i.val % 4352, h⟩ d).trans ?_
    exact congrArg (fun i => normRow (fun i k => val_main_v19 (F := Ideal) x0 x1 x2 x3 (ix2 i k)) x4 x5 x6 x7 i d) (Fin.ext (show i.val / 4352 * 4352 + i.val % 4352 = i.val by omega))
  · rw [dif_neg (by omega)]
    refine (ref_lat_norm x0 x1 x2 x3 x4 x5 x6 x7 ⟨i.val / 4352, by omega⟩ ⟨i.val % 4352 - 256, by omega⟩ d).trans ?_
    exact congrArg (fun i => normRow (fun i k => val_main_v19 (F := Ideal) x0 x1 x2 x3 (ix2 i k)) x4 x5 x6 x7 i d) (Fin.ext (show i.val / 4352 * 4352 + (256 + (i.val % 4352 - 256)) = i.val by omega))

/-- The reference's second result. -/
theorem ref_norm_cast (i : Fin 8704) (d : Fin 2048) : val_main_v95 (F := Ideal) x0 x1 x2 x3 x4 x5 x6 x7 (ix2 i d) = normRow (fun i k => val_main_v19 (F := Ideal) x0 x1 x2 x3 (ix2 i k)) x4 x5 x6 x7 i d :=
  ref_norm x0 x1 x2 x3 x4 x5 x6 x7 i d

/-- The reference's third result. -/
theorem ref_score (i : Fin 8704) (j : Fin 128) :
    val_main_v96 (F := Ideal) x0 x1 x2 x3 x4 x5 x6 x7 x8 (ix2 i j) = scoreRow (fun i k => val_main_v19 (F := Ideal) x0 x1 x2 x3 (ix2 i k)) x4 x5 x6 x7 x8 i j := by
  unfold scoreRow score padded
  pointwise [val_main_v96, val_main_v92, val_main_call1_v0, val_main_c]
  refine Finset.sum_congr rfl fun d _ => ?_
  rw [ref_norm]
  exact congrArg (fun z => _ * dite (j.val < 32) _ fun _ => z) sitofp_zero

end Reference

/-! ## The claim -/

/-- Kernel and reference end with the same three arrays. -/
theorem agree (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutRefIdeal.nD Cert.RetOutRefIdeal.τ Cert.RetOutRefIdeal.sig) → Buf (Elt Ideal) ℓ) (g' : Dev Cert.RetOutRefIdeal.nD → PrngReg)
    (he : ∀ c : Dev Cert.RetOutIdeal.nD,
      m' ((c.tc : Thread Cert.RetOutRefIdeal.nD Cert.RetOutRefIdeal.τ).loc Cert.RetOutRefIdeal.main_arg0) = m ((c.tc : Thread Cert.RetOutIdeal.nD Cert.RetOutIdeal.τ).loc Cert.RetOutIdeal.main_arg0)
      ∧ m' ((c.tc : Thread Cert.RetOutRefIdeal.nD Cert.RetOutRefIdeal.τ).loc Cert.RetOutRefIdeal.main_arg1) = m ((c.tc : Thread Cert.RetOutIdeal.nD Cert.RetOutIdeal.τ).loc Cert.RetOutIdeal.main_arg1)
      ∧ m' ((c.tc : Thread Cert.RetOutRefIdeal.nD Cert.RetOutRefIdeal.τ).loc Cert.RetOutRefIdeal.main_arg2) = m ((c.tc : Thread Cert.RetOutIdeal.nD Cert.RetOutIdeal.τ).loc Cert.RetOutIdeal.main_arg2)
      ∧ m' ((c.tc : Thread Cert.RetOutRefIdeal.nD Cert.RetOutRefIdeal.τ).loc Cert.RetOutRefIdeal.main_arg3) = m ((c.tc : Thread Cert.RetOutIdeal.nD Cert.RetOutIdeal.τ).loc Cert.RetOutIdeal.main_arg3)
      ∧ m' ((c.tc : Thread Cert.RetOutRefIdeal.nD Cert.RetOutRefIdeal.τ).loc Cert.RetOutRefIdeal.main_arg4) = m ((c.tc : Thread Cert.RetOutIdeal.nD Cert.RetOutIdeal.τ).loc Cert.RetOutIdeal.main_arg4)
      ∧ m' ((c.tc : Thread Cert.RetOutRefIdeal.nD Cert.RetOutRefIdeal.τ).loc Cert.RetOutRefIdeal.main_arg5) = m ((c.tc : Thread Cert.RetOutIdeal.nD Cert.RetOutIdeal.τ).loc Cert.RetOutIdeal.main_arg5)
      ∧ m' ((c.tc : Thread Cert.RetOutRefIdeal.nD Cert.RetOutRefIdeal.τ).loc Cert.RetOutRefIdeal.main_arg6) = m ((c.tc : Thread Cert.RetOutIdeal.nD Cert.RetOutIdeal.τ).loc Cert.RetOutIdeal.main_arg6)
      ∧ m' ((c.tc : Thread Cert.RetOutRefIdeal.nD Cert.RetOutRefIdeal.τ).loc Cert.RetOutRefIdeal.main_arg7) = m ((c.tc : Thread Cert.RetOutIdeal.nD Cert.RetOutIdeal.τ).loc Cert.RetOutIdeal.main_arg7)
      ∧ m' ((c.tc : Thread Cert.RetOutRefIdeal.nD Cert.RetOutRefIdeal.τ).loc Cert.RetOutRefIdeal.main_arg8) = m ((c.tc : Thread Cert.RetOutIdeal.nD Cert.RetOutIdeal.τ).loc Cert.RetOutIdeal.main_arg8)) :
    ∃ (v0 : (c : Dev Cert.RetOutIdeal.nD) → Buf (Elt Ideal) ((c.tc : Thread Cert.RetOutIdeal.nD Cert.RetOutIdeal.τ).loc Cert.RetOutIdeal.main_v19_0)) (v1 : (c : Dev Cert.RetOutIdeal.nD) → Buf (Elt Ideal) ((c.tc : Thread Cert.RetOutIdeal.nD Cert.RetOutIdeal.τ).loc Cert.RetOutIdeal.main_v19_1)) (v2 : (c : Dev Cert.RetOutIdeal.nD) → Buf (Elt Ideal) ((c.tc : Thread Cert.RetOutIdeal.nD Cert.RetOutIdeal.τ).loc Cert.RetOutIdeal.main_v19_2)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v19_0) = v0 c
          ∧ r.2.mem ((c.tc : Thread Cert.RetOutIdeal.nD Cert.RetOutIdeal.τ).loc Cert.RetOutIdeal.main_v19_1) = v1 c
          ∧ r.2.mem ((c.tc : Thread Cert.RetOutIdeal.nD Cert.RetOutIdeal.τ).loc Cert.RetOutIdeal.main_v19_2) = v2 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
          ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3)
          ∧ r.2.mem ((c.tc : Thread Cert.RetOutIdeal.nD Cert.RetOutIdeal.τ).loc Cert.RetOutIdeal.main_arg4) = m ((c.tc : Thread Cert.RetOutIdeal.nD Cert.RetOutIdeal.τ).loc Cert.RetOutIdeal.main_arg4)
          ∧ r.2.mem ((c.tc : Thread Cert.RetOutIdeal.nD Cert.RetOutIdeal.τ).loc Cert.RetOutIdeal.main_arg5) = m ((c.tc : Thread Cert.RetOutIdeal.nD Cert.RetOutIdeal.τ).loc Cert.RetOutIdeal.main_arg5)
          ∧ r.2.mem ((c.tc : Thread Cert.RetOutIdeal.nD Cert.RetOutIdeal.τ).loc Cert.RetOutIdeal.main_arg6) = m ((c.tc : Thread Cert.RetOutIdeal.nD Cert.RetOutIdeal.τ).loc Cert.RetOutIdeal.main_arg6)
          ∧ r.2.mem ((c.tc : Thread Cert.RetOutIdeal.nD Cert.RetOutIdeal.τ).loc Cert.RetOutIdeal.main_arg7) = m ((c.tc : Thread Cert.RetOutIdeal.nD Cert.RetOutIdeal.τ).loc Cert.RetOutIdeal.main_arg7)
          ∧ r.2.mem ((c.tc : Thread Cert.RetOutIdeal.nD Cert.RetOutIdeal.τ).loc Cert.RetOutIdeal.main_arg8) = m ((c.tc : Thread Cert.RetOutIdeal.nD Cert.RetOutIdeal.τ).loc Cert.RetOutIdeal.main_arg8))
      ∧ θ_run (Cert.RetOutRefIdeal.defs (F := Ideal)) (onTc (τ := Cert.RetOutRefIdeal.τ) (Cert.RetOutRefIdeal.main (F := Ideal))) ⟨m', fun _ => 0, g'⟩ (fun r => ∀ c : Dev Cert.RetOutRefIdeal.nD,
          r.2.mem ((c.tc : Thread Cert.RetOutRefIdeal.nD Cert.RetOutRefIdeal.τ).loc Cert.RetOutRefIdeal.main_v94) = v0 c
          ∧ r.2.mem ((c.tc : Thread Cert.RetOutRefIdeal.nD Cert.RetOutRefIdeal.τ).loc Cert.RetOutRefIdeal.main_v95) = v1 c
          ∧ r.2.mem ((c.tc : Thread Cert.RetOutRefIdeal.nD Cert.RetOutRefIdeal.τ).loc Cert.RetOutRefIdeal.main_v96) = v2 c
          ∧ r.2.mem ((c.tc : Thread Cert.RetOutRefIdeal.nD Cert.RetOutRefIdeal.τ).loc Cert.RetOutRefIdeal.main_arg0) = m' ((c.tc : Thread Cert.RetOutRefIdeal.nD Cert.RetOutRefIdeal.τ).loc Cert.RetOutRefIdeal.main_arg0)
          ∧ r.2.mem ((c.tc : Thread Cert.RetOutRefIdeal.nD Cert.RetOutRefIdeal.τ).loc Cert.RetOutRefIdeal.main_arg1) = m' ((c.tc : Thread Cert.RetOutRefIdeal.nD Cert.RetOutRefIdeal.τ).loc Cert.RetOutRefIdeal.main_arg1)
          ∧ r.2.mem ((c.tc : Thread Cert.RetOutRefIdeal.nD Cert.RetOutRefIdeal.τ).loc Cert.RetOutRefIdeal.main_arg2) = m' ((c.tc : Thread Cert.RetOutRefIdeal.nD Cert.RetOutRefIdeal.τ).loc Cert.RetOutRefIdeal.main_arg2)
          ∧ r.2.mem ((c.tc : Thread Cert.RetOutRefIdeal.nD Cert.RetOutRefIdeal.τ).loc Cert.RetOutRefIdeal.main_arg3) = m' ((c.tc : Thread Cert.RetOutRefIdeal.nD Cert.RetOutRefIdeal.τ).loc Cert.RetOutRefIdeal.main_arg3)
          ∧ r.2.mem ((c.tc : Thread Cert.RetOutRefIdeal.nD Cert.RetOutRefIdeal.τ).loc Cert.RetOutRefIdeal.main_arg4) = m' ((c.tc : Thread Cert.RetOutRefIdeal.nD Cert.RetOutRefIdeal.τ).loc Cert.RetOutRefIdeal.main_arg4)
          ∧ r.2.mem ((c.tc : Thread Cert.RetOutRefIdeal.nD Cert.RetOutRefIdeal.τ).loc Cert.RetOutRefIdeal.main_arg5) = m' ((c.tc : Thread Cert.RetOutRefIdeal.nD Cert.RetOutRefIdeal.τ).loc Cert.RetOutRefIdeal.main_arg5)
          ∧ r.2.mem ((c.tc : Thread Cert.RetOutRefIdeal.nD Cert.RetOutRefIdeal.τ).loc Cert.RetOutRefIdeal.main_arg6) = m' ((c.tc : Thread Cert.RetOutRefIdeal.nD Cert.RetOutRefIdeal.τ).loc Cert.RetOutRefIdeal.main_arg6)
          ∧ r.2.mem ((c.tc : Thread Cert.RetOutRefIdeal.nD Cert.RetOutRefIdeal.τ).loc Cert.RetOutRefIdeal.main_arg7) = m' ((c.tc : Thread Cert.RetOutRefIdeal.nD Cert.RetOutRefIdeal.τ).loc Cert.RetOutRefIdeal.main_arg7)
          ∧ r.2.mem ((c.tc : Thread Cert.RetOutRefIdeal.nD Cert.RetOutRefIdeal.τ).loc Cert.RetOutRefIdeal.main_arg8) = m' ((c.tc : Thread Cert.RetOutRefIdeal.nD Cert.RetOutRefIdeal.τ).loc Cert.RetOutRefIdeal.main_arg8)) := by
  refine ⟨fun c => newRows (acts m c) (wt m c) (res m c) (mods m c), fun c => normRows (acts m c) (wt m c) (res m c) (nwt m c) (mods m c),
    fun c => scoreRows (acts m c) (wt m c) (res m c) (nwt m c) (mods m c) (rwt m c), ?_, ?_⟩
  · refine (θ_run _ _ _).mono (fun r h c => ?_) (Value.run_blocks m g)
    exact ⟨(h c).1.trans (result_new m c), (h c).2.1.trans (result_norm m c), (h c).2.2.1.trans (result_score m c), (h c).2.2.2⟩
  · refine (θ_run _ _ _).mono (fun r h c => ?_) (Cert.RetOutRefIdeal.Value.run m' g')
    obtain ⟨e0, e1, e2, e3, e4, e5, e6, e7, e8⟩ := he c
    have ha : (fun i k => Cert.RetOutRefIdeal.Read.val_main_v19 (F := Ideal) (proj m c) (fwd m c) (bwd m c) (hwt m c) (ix2 i k)) = acts m c := funext fun i => funext fun k => ref_act (proj m c) (fwd m c) (bwd m c) (hwt m c) i k
    refine ⟨(h c).1.trans ?_, (h c).2.1.trans ?_, (h c).2.2.1.trans ?_, (h c).2.2.2⟩
    · rw [Cert.RetOutRefIdeal.Read.val_main_v94_eq, e0, e1, e2, e3, e4, e5, e7]
      refine funext fun i => ?_
      idx_vars i
      exact (ref_new (proj m c) (fwd m c) (bwd m c) (hwt m c) (wt m c) (res m c) (mods m c) i0 i1).trans (congrArg (fun A => newRow A (wt m c) (res m c) (mods m c) i0 i1) ha)
    · rw [Cert.RetOutRefIdeal.Read.val_main_v95_eq, e0, e1, e2, e3, e4, e5, e6, e7]
      refine funext fun i => ?_
      idx_vars i
      exact (ref_norm_cast (proj m c) (fwd m c) (bwd m c) (hwt m c) (wt m c) (res m c) (nwt m c) (mods m c) i0 i1).trans (congrArg (fun A => normRow A (wt m c) (res m c) (nwt m c) (mods m c) i0 i1) ha)
    · rw [Cert.RetOutRefIdeal.Read.val_main_v96_eq, e0, e1, e2, e3, e4, e5, e6, e7, e8]
      refine funext fun i => ?_
      idx_vars i
      exact (ref_score (proj m c) (fwd m c) (bwd m c) (hwt m c) (wt m c) (res m c) (nwt m c) (mods m c) (rwt m c) i0 i1).trans (congrArg (fun A => scoreRow A (wt m c) (res m c) (nwt m c) (mods m c) (rwt m c) i0 i1) ha)

end Cert.RetOutIdeal.Hand

end
-- ==== Proof.DnOutAgree.lean ====
/-
  The output projection of the delta rule: every one of the 34 points adds the two directions' results for its 256 rows,
  divides each head of 128 by its root mean square, weighs and gates it, and projects the rows as `OutShared` says.
-/
module

public import proofs.«01_k».proof.Proof.Gen.DnOutIdeal.Value
public import proofs.«01_k».proof.Proof.Gen.DnOutRefIdeal.Run
public import proofs.«01_k».proof.Proof.Gen.DnOutRefIdeal.Read
public import proofs.«01_k».proof.Proof.RetOutAgree

@[expose] public section

set_option maxRecDepth 16384

noncomputable section

namespace Cert.DnOutIdeal.Hand

open Cert.DnOutIdeal Cert.DnOutIdeal.Gen Idealize.ShloMosaic Idealize.ShloMosaic.TcCoe Idealize.SL.Sem Cert.OutShared

/-! ## The body, at an index -/

/-- The offset of a whole rank-2 rectangle. -/
theorem zeros2 : (![0, 0] : Fin 2 → Nat) = fun _ => 0 := funext fun a => by fin_cases a <;> rfl

/-- An entry of a row over the root mean square of its head of 128 entries. -/
def heads (s : Fin 2048 → EReal) (k : Fin 2048) : EReal :=
  s k * Ideal.rsqrt (Ideal.div (∑ e : Fin 128, s ⟨k.val / 128 * 128 + e.val, by omega⟩ * s ⟨k.val / 128 * 128 + e.val, by omega⟩)
    (Ideal.ofBits .f32 1124073472#32) + Ideal.ofBits .f32 897988541#32)

/-- The same, of the head `h`. -/
def part (s : Fin 2048 → EReal) (h : Fin 16) (j : Fin 128) : EReal :=
  s ⟨h.val * 128 + j.val, by omega⟩ * Ideal.rsqrt (Ideal.div (∑ e : Fin 128, s ⟨h.val * 128 + e.val, by omega⟩ * s ⟨h.val * 128 + e.val, by omega⟩)
    (Ideal.ofBits .f32 1124073472#32) + Ideal.ofBits .f32 897988541#32)

/-- An entry's head is the quotient of its place by 128. -/
theorem part_eq (s : Fin 2048 → EReal) (k : Fin 2048) (h : Fin 16) (j : Fin 128) (hk : k.val = h.val * 128 + j.val) : part s h j = heads s k := by
  have e1 : k.val / 128 = h.val := by omega
  have e2 : k = ⟨h.val * 128 + j.val, by omega⟩ := Fin.ext hk
  unfold part heads
  simp only [e1]
  rw [← e2]

section Body
variable (x0 x1 x2 : S256x2048.Idx → EReal) (x3 : S1x2048.Idx → EReal)
  (x4 : S2048x2048.Idx → EReal) (x5 : S256x2048.Idx → EReal) (x6 : S1x2048.Idx → EReal)
  (x7 : S1x8x2048.Idx → EReal) (x8 : S2048x128.Idx → EReal)

/-- A row of the new residual block. -/
def blockRow (a : Fin 256) : Fin 2048 → EReal :=
  project (fun d => x5 (ix2 a d)) (fun d => x7 (ix3 0 2 d)) (fun k => heads (fun k => x1 (ix2 a k) + x2 (ix2 a k)) k * x3 (ix2 0 k) * silu (x0 (ix2 a k))) (fun k d => x4 (ix2 k d))

/-- A row of the normalized block. -/
def blockNorm (a : Fin 256) : Fin 2048 → EReal :=
  modulate (blockRow x0 x1 x2 x3 x4 x5 x7 a) (fun d => x6 (ix2 0 d)) (fun d => x7 (ix3 0 3 d)) (fun d => x7 (ix3 0 4 d))

/-- The head 0 of a row, over its root mean square. -/
theorem head0 (a : Fin 256) (j : Fin 128) : k0_pay6 (F := Ideal) x1 x2 (ix2 a j) = part (fun k => x1 (ix2 a k) + x2 (ix2 a k)) 0 j := by
  pointwise [k0_pay6, k0_pay4]
  unfold part
  simp only [show ∀ n, (0 : Fin 16).val * 128 + n = n from fun n => by simp]

/-- The head 1 of a row, over its root mean square. -/
theorem head1 (a : Fin 256) (j : Fin 128) : k0_pay7 (F := Ideal) x1 x2 (ix2 a j) = part (fun k => x1 (ix2 a k) + x2 (ix2 a k)) 1 j := by
  pointwise [k0_pay7, k0_pay4]
  rfl

/-- The head 2 of a row, over its root mean square. -/
theorem head2 (a : Fin 256) (j : Fin 128) : k0_pay8 (F := Ideal) x1 x2 (ix2 a j) = part (fun k => x1 (ix2 a k) + x2 (ix2 a k)) 2 j := by
  pointwise [k0_pay8, k0_pay4]
  rfl

/-- The head 3 of a row, over its root mean square. -/
theorem head3 (a : Fin 256) (j : Fin 128) : k0_pay11 (F := Ideal) (k0_pay9 x1 x2) (k0_pay10 x1 x2) (Scalar.ofBits .f32 0x43000000#32) (ix2 a j) = part (fun k => x1 (ix2 a k) + x2 (ix2 a k)) 3 j := by
  pointwise [k0_pay11, k0_pay9, k0_pay10, k0_pay4]
  rfl

/-- The head 4 of a row, over its root mean square. -/
theorem head4 (a : Fin 256) (j : Fin 128) : k0_pay12 (F := Ideal) (k0_pay4 x1 x2) (ix2 a j) = part (fun k => x1 (ix2 a k) + x2 (ix2 a k)) 4 j := by
  pointwise [k0_pay12, k0_pay4]
  rfl

/-- The head 5 of a row, over its root mean square. -/
theorem head5 (a : Fin 256) (j : Fin 128) : k0_pay13 (F := Ideal) (k0_pay4 x1 x2) (ix2 a j) = part (fun k => x1 (ix2 a k) + x2 (ix2 a k)) 5 j := by
  pointwise [k0_pay13, k0_pay4]
  rfl

/-- The head 6 of a row, over its root mean square. -/
theorem head6 (a : Fin 256) (j : Fin 128) : k0_pay14 (F := Ideal) (k0_pay4 x1 x2) (ix2 a j) = part (fun k => x1 (ix2 a k) + x2 (ix2 a k)) 6 j := by
  pointwise [k0_pay14, k0_pay4]
  rfl

/-- The head 7 of a row, over its root mean square. -/
theorem head7 (a : Fin 256) (j : Fin 128) : k0_pay18 (F := Ideal) (k0_pay15 (k0_pay4 x1 x2)) (k0_pay16 (k0_pay4 x1 x2)) (k0_pay17 (F := Ideal)) (ix2 a j) = part (fun k => x1 (ix2 a k) + x2 (ix2 a k)) 7 j := by
  pointwise [k0_pay18, k0_pay15, k0_pay16, k0_pay17, k0_pay4]
  rfl

/-- The head 8 of a row, over its root mean square. -/
theorem head8 (a : Fin 256) (j : Fin 128) : k0_pay19 (F := Ideal) (k0_pay4 x1 x2) (ix2 a j) = part (fun k => x1 (ix2 a k) + x2 (ix2 a k)) 8 j := by
  pointwise [k0_pay19, k0_pay4]
  rfl

/-- The head 9 of a row, over its root mean square. -/
theorem head9 (a : Fin 256) (j : Fin 128) : k0_pay20 (F := Ideal) (k0_pay4 x1 x2) (ix2 a j) = part (fun k => x1 (ix2 a k) + x2 (ix2 a k)) 9 j := by
  pointwise [k0_pay20, k0_pay4]
  rfl

/-- The head 10 of a row, over its root mean square. -/
theorem head10 (a : Fin 256) (j : Fin 128) : k0_pay21 (F := Ideal) (k0_pay4 x1 x2) (ix2 a j) = part (fun k => x1 (ix2 a k) + x2 (ix2 a k)) 10 j := by
  pointwise [k0_pay21, k0_pay4]
  rfl

/-- The head 11 of a row, over its root mean square. -/
theorem head11 (a : Fin 256) (j : Fin 128) : k0_pay22 (F := Ideal) (k0_pay4 x1 x2) (ix2 a j) = part (fun k => x1 (ix2 a k) + x2 (ix2 a k)) 11 j := by
  pointwise [k0_pay22, k0_pay4]
  rfl

/-- The heads side by side, as one concatenation over a family, weighed. -/
def sideBySide (f : Fin 16 → FVec Ideal S256x128 .f32) (w : FVec Ideal S1x2048 .f32) : FVec Ideal S256x2048 .f32 :=
  mulf (concatenate S256x2048 1 (List.ofFn fun n : Fin 16 => (⟨S256x128, f n⟩ : (s : Shape) × (s.Idx → EReal)))
    concatenates_S256x128_S256x128_S256x128_S256x128_S256x128_S256x128_S256x128_S256x128_S256x128_S256x128_S256x128_S256x128_S256x128_S256x128_S256x128_S256x128_S256x2048_d1) (broadcastTo S256x2048 w broadcasts_S1x2048_S256x2048)

/-- A head over its root mean square, as the kernel writes it. -/
def overRms (q : FVec Ideal S256x128 .f32) : FVec Ideal S256x128 .f32 :=
  mulf q (broadcastTo S256x128 (rsqrt (addf (divf (shapeCast S256x1 (multiReduction .add [1] S256 (mulf q q) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128)

/-- The weighing of sixteen heads, of which the last four are divided by their root mean squares at that place. -/
theorem weigh_eq (v : FVec Ideal S256x2048 .f32) (w : FVec Ideal S1x2048 .f32) (p0 p1 p2 p3 p4 p5 p6 p7 p8 p9 p10 p11 : FVec Ideal S256x128 .f32) :
    k0_pay23 (F := Ideal) v w p0 p1 p2 p3 p4 p5 p6 p7 p8 p9 p10 p11
      = sideBySide ![p0, p1, p2, p3, p4, p5, p6, p7, p8, p9, p10, p11, overRms (extractStridedSlice S256x128 ![0, 1536] v slices_S256x2048_o0_1536_S256x128), overRms (extractStridedSlice S256x128 ![0, 1664] v slices_S256x2048_o0_1664_S256x128), overRms (extractStridedSlice S256x128 ![0, 1792] v slices_S256x2048_o0_1792_S256x128), overRms (extractStridedSlice S256x128 ![0, 1920] v slices_S256x2048_o0_1920_S256x128)] w := rfl

/-- If every member of the family is a head of a row, the heads side by side are the row's. -/
theorem sideBySide_apply (f : Fin 16 → FVec Ideal S256x128 .f32) (w : FVec Ideal S1x2048 .f32) (s : Fin 2048 → EReal) (a : Fin 256)
    (hf : ∀ (n : Fin 16) (j : Fin 128), f n (ix2 a j) = part s n j) (x : Fin 2048) : sideBySide f w (ix2 a x) = heads s x * w (ix2 0 x) := by
  have e1 := concatenate_ofFn_apply (t := S256x2048) (s₁ := S256x128) 1 f concatenates_S256x128_S256x128_S256x128_S256x128_S256x128_S256x128_S256x128_S256x128_S256x128_S256x128_S256x128_S256x128_S256x128_S256x128_S256x128_S256x128_S256x2048_d1
    rfl 128 rfl (ix2 a x) ⟨x.val / 128, by omega⟩ rfl (ix2 a ⟨x.val % 128, by omega⟩) rfl (fun b hb => by
      match b with
      | ⟨0, _⟩ => rfl
      | ⟨1, _⟩ => exact absurd rfl hb)
  have e2 : broadcastTo S256x2048 w broadcasts_S1x2048_S256x2048 (ix2 a x) = w (ix2 0 x) := by pointwise
  refine (congrArg₂ (fun y z : EReal => y * z) e1 e2).trans ?_
  rw [hf]
  exact congrArg (fun z => z * w (ix2 0 x)) (part_eq s x ⟨x.val / 128, by omega⟩ ⟨x.val % 128, by omega⟩ (by show x.val = x.val / 128 * 128 + x.val % 128; omega))

/-- The head 12 of a row, over its root mean square. -/
theorem head12 (a : Fin 256) (j : Fin 128) : overRms (extractStridedSlice S256x128 ![0, 1536] (k0_pay4 (F := Ideal) x1 x2) slices_S256x2048_o0_1536_S256x128) (ix2 a j) = part (fun k => x1 (ix2 a k) + x2 (ix2 a k)) 12 j := by
  pointwise [overRms, k0_pay4]
  rfl

/-- The head 13 of a row, over its root mean square. -/
theorem head13 (a : Fin 256) (j : Fin 128) : overRms (extractStridedSlice S256x128 ![0, 1664] (k0_pay4 (F := Ideal) x1 x2) slices_S256x2048_o0_1664_S256x128) (ix2 a j) = part (fun k => x1 (ix2 a k) + x2 (ix2 a k)) 13 j := by
  pointwise [overRms, k0_pay4]
  rfl

/-- The head 14 of a row, over its root mean square. -/
theorem head14 (a : Fin 256) (j : Fin 128) : overRms (extractStridedSlice S256x128 ![0, 1792] (k0_pay4 (F := Ideal) x1 x2) slices_S256x2048_o0_1792_S256x128) (ix2 a j) = part (fun k => x1 (ix2 a k) + x2 (ix2 a k)) 14 j := by
  pointwise [overRms, k0_pay4]
  rfl

/-- The head 15 of a row, over its root mean square. -/
theorem head15 (a : Fin 256) (j : Fin 128) : overRms (extractStridedSlice S256x128 ![0, 1920] (k0_pay4 (F := Ideal) x1 x2) slices_S256x2048_o0_1920_S256x128) (ix2 a j) = part (fun k => x1 (ix2 a k) + x2 (ix2 a k)) 15 j := by
  pointwise [overRms, k0_pay4]
  rfl

/-- The activations before the gate: the kernel's sixteen heads side by side. -/
abbrev weighed : FVec Ideal S256x2048 .f32 :=
  k0_pay23 (F := Ideal) (k0_pay4 x1 x2) (k0_pay5 x3) (k0_pay6 (F := Ideal) x1 x2) (k0_pay7 (F := Ideal) x1 x2) (k0_pay8 (F := Ideal) x1 x2) (k0_pay11 (F := Ideal) (k0_pay9 x1 x2) (k0_pay10 x1 x2) (Scalar.ofBits .f32 0x43000000#32)) (k0_pay12 (F := Ideal) (k0_pay4 x1 x2)) (k0_pay13 (F := Ideal) (k0_pay4 x1 x2)) (k0_pay14 (F := Ideal) (k0_pay4 x1 x2)) (k0_pay18 (F := Ideal) (k0_pay15 (k0_pay4 x1 x2)) (k0_pay16 (k0_pay4 x1 x2)) (k0_pay17 (F := Ideal))) (k0_pay19 (F := Ideal) (k0_pay4 x1 x2)) (k0_pay20 (F := Ideal) (k0_pay4 x1 x2)) (k0_pay21 (F := Ideal) (k0_pay4 x1 x2)) (k0_pay22 (F := Ideal) (k0_pay4 x1 x2))

/-- They are the weighed heads of a row. -/
theorem weighed_apply (a : Fin 256) (x : Fin 2048) : weighed x1 x2 x3 (ix2 a x) = heads (fun k => x1 (ix2 a k) + x2 (ix2 a k)) x * x3 (ix2 0 x) := by
  unfold weighed
  rw [weigh_eq]
  refine (sideBySide_apply _ _ (fun k => x1 (ix2 a k) + x2 (ix2 a k)) a (fun n j => ?_) x).trans (by pointwise [k0_pay5])
  match n with
  | ⟨0, _⟩ => exact head0 x1 x2 a j
  | ⟨1, _⟩ => exact head1 x1 x2 a j
  | ⟨2, _⟩ => exact head2 x1 x2 a j
  | ⟨3, _⟩ => exact head3 x1 x2 a j
  | ⟨4, _⟩ => exact head4 x1 x2 a j
  | ⟨5, _⟩ => exact head5 x1 x2 a j
  | ⟨6, _⟩ => exact head6 x1 x2 a j
  | ⟨7, _⟩ => exact head7 x1 x2 a j
  | ⟨8, _⟩ => exact head8 x1 x2 a j
  | ⟨9, _⟩ => exact head9 x1 x2 a j
  | ⟨10, _⟩ => exact head10 x1 x2 a j
  | ⟨11, _⟩ => exact head11 x1 x2 a j
  | ⟨12, _⟩ => exact head12 x1 x2 a j
  | ⟨13, _⟩ => exact head13 x1 x2 a j
  | ⟨14, _⟩ => exact head14 x1 x2 a j
  | ⟨15, _⟩ => exact head15 x1 x2 a j
  | ⟨n + 16, h⟩ => exact absurd h (by omega)

/-- The new residual block. -/
theorem new_apply (r2 : S1x1x2048.Idx → EReal) (h2 : ∀ d : Fin 2048, r2 (ix3 0 0 d) = x7 (ix3 0 2 d)) (a : Fin 256) (d : Fin 2048) :
    k0_pay24 (F := Ideal) (weighed x1 x2 x3) x0 x4 x5 r2 (ix2 a d) = blockRow x0 x1 x2 x3 x4 x5 x7 a d := by
  have hw := weighed_apply x1 x2 x3 a
  revert hw
  generalize weighed x1 x2 x3 = w
  intro hw
  pointwise [k0_pay24]
  rw [h2]
  unfold blockRow project
  refine congrArg (fun z => x5 (ix2 a d) + x7 (ix3 0 2 d) * z) (Finset.sum_congr rfl fun x _ => ?_)
  rw [silu_half, hw]

/-- The normalized block. -/
theorem norm_apply (r2 r3 r4 : S1x1x2048.Idx → EReal) (h2 : ∀ d : Fin 2048, r2 (ix3 0 0 d) = x7 (ix3 0 2 d))
    (h3 : ∀ d : Fin 2048, r3 (ix3 0 0 d) = x7 (ix3 0 3 d)) (h4 : ∀ d : Fin 2048, r4 (ix3 0 0 d) = x7 (ix3 0 4 d)) (a : Fin 256) (d : Fin 2048) :
    k0_pay1 (F := Ideal) (k0_pay24 (weighed x1 x2 x3) x0 x4 x5 r2) (k0_pay25 x6) (k0_pay26 r3) (k0_pay27 r4)
      (k0_pay28 (weighed x1 x2 x3) x0 x4 x5 r2) (ix2 a d)
      = blockNorm x0 x1 x2 x3 x4 x5 x6 x7 a d := by
  have hn := new_apply x0 x1 x2 x3 x4 x5 x7 r2 h2
  revert hn
  generalize weighed x1 x2 x3 = w
  intro hn
  pointwise [k0_pay1, k0_pay25, k0_pay26, k0_pay27, k0_pay28]
  simp only [h3, h4, hn]
  rfl

/-- What a point leaves in the block of the new residual stream. -/
theorem out_new_apply (a : Fin 256) (d : Fin 2048) : out0_9 (F := Ideal) x0 x1 x2 x3 x4 x5 x6 x7 x8 (ix2 a d) = blockRow x0 x1 x2 x3 x4 x5 x7 a d := by
  unfold_out out0_9
  rw [View.canon_unit_zero zeros2]
  simp only [View.ld_unit_zero (S := S256x2048) zeros2, View.ld_unit_zero (S := S2048x2048) zeros2, View.ld_unit_zero (S := S1x2048) zeros2]
  exact new_apply x0 x1 x2 x3 x4 x5 x7 _ (fun d => by pointwise) a d

/-- What a point leaves in the block of normalized rows. -/
theorem out_norm_apply (a : Fin 256) (d : Fin 2048) : out0_10 (F := Ideal) x0 x1 x2 x3 x4 x5 x6 x7 x8 (ix2 a d) = blockNorm x0 x1 x2 x3 x4 x5 x6 x7 a d := by
  unfold_out out0_10
  rw [View.canon_unit_zero zeros2]
  simp only [View.ld_unit_zero (S := S256x2048) zeros2, View.ld_unit_zero (S := S2048x2048) zeros2, View.ld_unit_zero (S := S1x2048) zeros2]
  pointwise [k0_pay2]
  exact norm_apply x0 x1 x2 x3 x4 x5 x6 x7 _ _ _ (fun d => by pointwise) (fun d => by pointwise) (fun d => by pointwise) a d

/-- What a point leaves in the block of router products. -/
theorem out_score_apply (a : Fin 256) (j : Fin 128) :
    out0_11 (F := Ideal) x0 x1 x2 x3 x4 x5 x6 x7 x8 (ix2 a j) = ∑ d, blockNorm x0 x1 x2 x3 x4 x5 x6 x7 a d * x8 (ix2 d j) := by
  unfold_out out0_11
  rw [View.canon_unit_zero zeros2]
  simp only [View.ld_unit_zero (S := S256x2048) zeros2, View.ld_unit_zero (S := S2048x2048) zeros2, View.ld_unit_zero (S := S1x2048) zeros2, View.ld_unit_zero (S := S2048x128) zeros2]
  pointwise [k0_pay3]
  refine Finset.sum_congr rfl fun d _ => congrArg (· * _) ?_
  exact norm_apply x0 x1 x2 x3 x4 x5 x6 x7 _ _ _ (fun d => by pointwise) (fun d => by pointwise) (fun d => by pointwise) a d

end Body

/-! ## What the host operations leave for the region -/

section Host
variable (m : (ℓ : Loc nD τ sig) → Buf (Elt Ideal) ℓ) (c : Dev nD)

/-- The projections, whose last 2048 columns are the gate. -/
abbrev proj : S8704x8192.Idx → EReal := m ((c : Thread nD τ).loc main_arg0)
/-- The results of the forward direction. -/
abbrev fwd : S8704x2048.Idx → EReal := m ((c : Thread nD τ).loc main_arg1)
/-- The results of the backward direction. -/
abbrev bwd : S8704x2048.Idx → EReal := m ((c : Thread nD τ).loc main_arg2)
/-- The weight of the norm of the heads. -/
abbrev hwt : S128.Idx → EReal := m ((c : Thread nD τ).loc main_arg3)

/-- The output weight. -/
abbrev wt : S2048x2048.Idx → EReal := m ((c : Thread nD τ).loc main_arg4)
/-- The residual stream. -/
abbrev res : S8704x2048.Idx → EReal := m ((c : Thread nD τ).loc main_arg5)
/-- The norm's weight. -/
abbrev nwt : S2048.Idx → EReal := m ((c : Thread nD τ).loc main_arg6)
/-- The modulations. -/
abbrev mods : S16x12288.Idx → EReal := m ((c : Thread nD τ).loc main_arg7)
/-- The router's weight. -/
abbrev rwt : S2048x32.Idx → EReal := m ((c : Thread nD τ).loc main_arg8)

/-- The weight in its narrower type is the weight. -/
theorem w_value (k : Fin 2048) (d : Fin 2048) : (V m c main_v20 : S2048x2048.Idx → EReal) (ix2 k d) = wt m c (ix2 k d) := by
  unfold V
  simp only [List.flatten_cons, List.flatten_nil, List.append_nil, List.cons_append, List.nil_append]
  after_reads_at

/-- The norm's weight as a row. -/
theorem nw_value (d : Fin 2048) : (V m c main_v21 : S1x2048.Idx → EReal) (ix2 0 d) = nwt m c (ix1 d) := by
  unfold V
  simp only [List.flatten_cons, List.flatten_nil, List.append_nil, List.cons_append, List.nil_append]
  after_reads_at

/-- The padded weight of the router. -/
theorem rw_value (d : Fin 2048) (j : Fin 128) : (V m c main_v19 : S2048x128.Idx → EReal) (ix2 d j) = padded (fun d j => rwt m c (ix2 d j)) d j := by
  unfold V
  simp only [List.flatten_cons, List.flatten_nil, List.append_nil, List.cons_append, List.nil_append]
  after_reads_at
  exact congrArg (fun z => dite (j.val < 32) _ fun _ => z) sitofp_zero

/-- The modulations of a tile: the context's row of the table or the sequence's. -/
theorem tile_value (t : Fin 34) (p : Fin 6) (d : Fin 2048) :
    (V m c main_v18 : S34x8x2048.Idx → EReal) (ix3 t ⟨p.val, by omega⟩ d) = mods m c (ix2 (tileSource t) ⟨p.val * 2048 + d.val, by omega⟩) := by
  unfold V
  simp only [List.flatten_cons, List.flatten_nil, List.append_nil, List.cons_append, List.nil_append]
  after_reads_at
  refine (gather_tile gather_S16x6x2048_S34x1_S34x6x2048_12_0_n_n_0_1_162048_wf _ _ t p d (tileSource t) ?_).trans ?_
  · clear d p
    revert t
    decide +kernel
  · rfl

/-- The weight of the norm of the heads as a row. -/
theorem hw_value (k : Fin 2048) : (V m c main_v3 : S1x2048.Idx → EReal) (ix2 0 k) = hwt m c (ix1 ⟨k.val % 128, by omega⟩) := by
  unfold V
  simp only [List.flatten_cons, List.flatten_nil, List.append_nil, List.cons_append, List.nil_append]
  after_reads_at

end Host

/-! ## The blocks and the results -/

section Results
variable (m : (ℓ : Loc nD τ sig) → Buf (Elt Ideal) ℓ) (c : Dev nD)

/-- Which blocks a point reads and writes. -/
theorem index_facts : ∀ t : Fin cfg0.N,
    (win0_0.index t (0 : Fin 2) = t.val ∧ win0_0.index t (1 : Fin 2) = 3)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 3) = t.val ∧ win0_7.index t (1 : Fin 3) = 0 ∧ win0_7.index t (2 : Fin 3) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- The number of a point is below 34. -/
theorem pt_lt (t : Fin cfg0.N) : t.val < 34 := lt_of_lt_of_eq t.isLt (show cfg0.N = 34 from N_0)

/-- The row of the tokens that a row of a point's block is. -/
def row (t : Fin cfg0.N) (a : Fin 256) : Fin 8704 := ⟨t.val * 256 + a.val, by have := pt_lt t; omega⟩

/-- The tile of a point. -/
def tile (t : Fin cfg0.N) : Fin 34 := ⟨t.val, by have := pt_lt t; omega⟩

/-- A point's block of the gate. -/
theorem p_block (t : Fin cfg0.N) (a : Fin 256) (k : Fin 2048) : (iblk m c 0 t : S256x2048.Idx → EReal) (ix2 a k) = proj m c (ix2 (row t a) ⟨6144 + k.val, by omega⟩) := by
  obtain ⟨⟨e0, e1⟩, -⟩ := index_facts t
  refine (congrFun (V_main_arg0 m c) (((cfg0.win 0).blk t).view.emb (ix2 a k))).trans (congrArg (proj m c) (?_ : ((cfg0.win 0).blk t).view.emb (ix2 a k) = _))
  refine funext fun d => Fin.ext ?_
  match d with
  | ⟨0, _⟩ => show win0_0.index t (0 : Fin 2) * 256 + 1 * a.val = t.val * 256 + a.val; omega
  | ⟨1, _⟩ => show win0_0.index t (1 : Fin 2) * 2048 + 1 * k.val = 6144 + k.val; omega

/-- A point's block of forward results. -/
theorem f_block (t : Fin cfg0.N) (a : Fin 256) (k : Fin 2048) : (iblk m c 1 t : S256x2048.Idx → EReal) (ix2 a k) = fwd m c (ix2 (row t a) k) := by
  obtain ⟨-, ⟨e0, e1⟩, -⟩ := index_facts t
  refine (congrFun (V_main_arg1 m c) (((cfg0.win 1).blk t).view.emb (ix2 a k))).trans (congrArg (fwd m c) (?_ : ((cfg0.win 1).blk t).view.emb (ix2 a k) = _))
  refine funext fun d => Fin.ext ?_
  match d with
  | ⟨0, _⟩ => show win0_1.index t (0 : Fin 2) * 256 + 1 * a.val = t.val * 256 + a.val; omega
  | ⟨1, _⟩ => show win0_1.index t (1 : Fin 2) * 2048 + 1 * k.val = k.val; omega

/-- A point's block of backward results. -/
theorem b_block (t : Fin cfg0.N) (a : Fin 256) (k : Fin 2048) : (iblk m c 2 t : S256x2048.Idx → EReal) (ix2 a k) = bwd m c (ix2 (row t a) k) := by
  obtain ⟨-, -, ⟨e0, e1⟩, -⟩ := index_facts t
  refine (congrFun (V_main_arg2 m c) (((cfg0.win 2).blk t).view.emb (ix2 a k))).trans (congrArg (bwd m c) (?_ : ((cfg0.win 2).blk t).view.emb (ix2 a k) = _))
  refine funext fun d => Fin.ext ?_
  match d with
  | ⟨0, _⟩ => show win0_2.index t (0 : Fin 2) * 256 + 1 * a.val = t.val * 256 + a.val; omega
  | ⟨1, _⟩ => show win0_2.index t (1 : Fin 2) * 2048 + 1 * k.val = k.val; omega

/-- A point's block of the weight of the heads' norm: all of it. -/
theorem hw_block (t : Fin cfg0.N) (k : Fin 2048) : (iblk m c 3 t : S1x2048.Idx → EReal) (ix2 0 k) = hwt m c (ix1 ⟨k.val % 128, by omega⟩) := by
  obtain ⟨-, -, -, ⟨e0, e1⟩, -⟩ := index_facts t
  refine Eq.trans (congrArg (V m c main_v3 : S1x2048.Idx → EReal) (?_ : ((cfg0.win 3).blk t).view.emb (ix2 0 k) = ix2 0 k)) (hw_value m c k)
  refine funext fun e => Fin.ext ?_
  match e with
  | ⟨0, _⟩ => show win0_3.index t (0 : Fin 2) * 1 + 1 * 0 = 0; omega
  | ⟨1, _⟩ => show win0_3.index t (1 : Fin 2) * 2048 + 1 * k.val = k.val; omega

/-- A point's block of the weight: all of it. -/
theorem w_block (t : Fin cfg0.N) (k : Fin 2048) (d : Fin 2048) : (iblk m c 4 t : S2048x2048.Idx → EReal) (ix2 k d) = wt m c (ix2 k d) := by
  obtain ⟨-, -, -, -, ⟨e0, e1⟩, -⟩ := index_facts t
  refine Eq.trans (congrArg (V m c main_v20 : S2048x2048.Idx → EReal) (?_ : ((cfg0.win 4).blk t).view.emb (ix2 k d) = ix2 k d)) (w_value m c k d)
  refine funext fun e => Fin.ext ?_
  match e with
  | ⟨0, _⟩ => show win0_4.index t (0 : Fin 2) * 2048 + 1 * k.val = k.val; omega
  | ⟨1, _⟩ => show win0_4.index t (1 : Fin 2) * 2048 + 1 * d.val = d.val; omega

/-- A point's block of the residual stream. -/
theorem x_block (t : Fin cfg0.N) (a : Fin 256) (k : Fin 2048) : (iblk m c 5 t : S256x2048.Idx → EReal) (ix2 a k) = res m c (ix2 (row t a) k) := by
  obtain ⟨-, -, -, -, -, ⟨e0, e1⟩, -⟩ := index_facts t
  refine (congrFun (V_main_arg5 m c) (((cfg0.win 5).blk t).view.emb (ix2 a k))).trans (congrArg (res m c) (?_ : ((cfg0.win 5).blk t).view.emb (ix2 a k) = _))
  refine funext fun d => Fin.ext ?_
  match d with
  | ⟨0, _⟩ => show win0_5.index t (0 : Fin 2) * 256 + 1 * a.val = t.val * 256 + a.val; omega
  | ⟨1, _⟩ => show win0_5.index t (1 : Fin 2) * 2048 + 1 * k.val = k.val; omega

/-- A point's block of the norm's weight: all of it. -/
theorem nw_block (t : Fin cfg0.N) (d : Fin 2048) : (iblk m c 6 t : S1x2048.Idx → EReal) (ix2 0 d) = nwt m c (ix1 d) := by
  obtain ⟨-, -, -, -, -, -, ⟨e0, e1⟩, -⟩ := index_facts t
  refine Eq.trans (congrArg (V m c main_v21 : S1x2048.Idx → EReal) (?_ : ((cfg0.win 6).blk t).view.emb (ix2 0 d) = ix2 0 d)) (nw_value m c d)
  refine funext fun e => Fin.ext ?_
  match e with
  | ⟨0, _⟩ => show win0_6.index t (0 : Fin 2) * 1 + 1 * 0 = 0; omega
  | ⟨1, _⟩ => show win0_6.index t (1 : Fin 2) * 2048 + 1 * d.val = d.val; omega

/-- A point's rows of the modulation table. -/
theorem mod_block (t : Fin cfg0.N) (a : Fin 256) (p : Fin 6) (d : Fin 2048) :
    (iblk m c 7 t : S1x8x2048.Idx → EReal) (ix3 0 ⟨p.val, by omega⟩ d) = mods m c (ix2 (source (row t a)) ⟨p.val * 2048 + d.val, by omega⟩) := by
  obtain ⟨-, -, -, -, -, -, -, ⟨e0, e1, e2⟩, -⟩ := index_facts t
  rw [source_eq (tile t) (row t a) (show (t.val * 256 + a.val) / 256 = t.val by omega)]
  refine Eq.trans (congrArg (V m c main_v18 : S34x8x2048.Idx → EReal)
    (?_ : ((cfg0.win 7).blk t).view.emb (ix3 0 ⟨p.val, by omega⟩ d) = ix3 (tile t) ⟨p.val, by omega⟩ d)) (tile_value m c (tile t) p d)
  refine funext fun e => Fin.ext ?_
  match e with
  | ⟨0, _⟩ => show win0_7.index t (0 : Fin 3) * 1 + 1 * 0 = t.val; omega
  | ⟨1, _⟩ => show win0_7.index t (1 : Fin 3) * 8 + 1 * p.val = p.val; omega
  | ⟨2, _⟩ => show win0_7.index t (2 : Fin 3) * 2048 + 1 * d.val = d.val; omega

/-- A point's block of the router's padded weight: all of it. -/
theorem rw_block (t : Fin cfg0.N) (d : Fin 2048) (j : Fin 128) :
    (iblk m c 8 t : S2048x128.Idx → EReal) (ix2 d j) = padded (fun d j => rwt m c (ix2 d j)) d j := by
  obtain ⟨-, -, -, -, -, -, -, -, ⟨e0, e1⟩, -⟩ := index_facts t
  refine Eq.trans (congrArg (V m c main_v19 : S2048x128.Idx → EReal) (?_ : ((cfg0.win 8).blk t).view.emb (ix2 d j) = ix2 d j)) (rw_value m c d j)
  refine funext fun e => Fin.ext ?_
  match e with
  | ⟨0, _⟩ => show win0_8.index t (0 : Fin 2) * 2048 + 1 * d.val = d.val; omega
  | ⟨1, _⟩ => show win0_8.index t (1 : Fin 2) * 128 + 1 * j.val = j.val; omega

/-- The activations of a token. -/
def acts (i : Fin 8704) (k : Fin 2048) : EReal :=
  heads (fun k => fwd m c (ix2 i k) + bwd m c (ix2 i k)) k * hwt m c (ix1 ⟨k.val % 128, by omega⟩) * silu (proj m c (ix2 i ⟨6144 + k.val, by omega⟩))

/-- A row of a point's new residual block is the token's. -/
theorem row_eq (t : Fin cfg0.N) (a : Fin 256) :
    blockRow (iblk m c 0 t) (iblk m c 1 t) (iblk m c 2 t) (iblk m c 3 t) (iblk m c 4 t) (iblk m c 5 t) (iblk m c 7 t) a = newRow (acts m c) (wt m c) (res m c) (mods m c) (row t a) := by
  funext d
  have h2 : (iblk m c 7 t : S1x8x2048.Idx → EReal) (ix3 0 2 d) = _ := mod_block m c t a 2 d
  unfold blockRow newRow project
  simp only [p_block, f_block, b_block, hw_block, w_block, x_block]
  rw [h2]
  rfl

/-- A row of a point's normalized block is the token's. -/
theorem norm_eq (t : Fin cfg0.N) (a : Fin 256) :
    blockNorm (iblk m c 0 t) (iblk m c 1 t) (iblk m c 2 t) (iblk m c 3 t) (iblk m c 4 t) (iblk m c 5 t) (iblk m c 6 t) (iblk m c 7 t) a
      = normRow (acts m c) (wt m c) (res m c) (nwt m c) (mods m c) (row t a) := by
  funext d
  have h3 : (iblk m c 7 t : S1x8x2048.Idx → EReal) (ix3 0 3 d) = _ := mod_block m c t a 3 d
  have h4 : (iblk m c 7 t : S1x8x2048.Idx → EReal) (ix3 0 4 d) = _ := mod_block m c t a 4 d
  unfold blockNorm normRow modulate
  rw [row_eq]
  simp only [nw_block]
  rw [h3, h4]
  rfl

/-- The new residual stream after the run. -/
theorem result_new : (dats m 0 c).arrAt 9 cfg0.N = newRows (acts m c) (wt m c) (res m c) (mods m c) := by
  refine (dats m 0 c).arrAt_eq_of_covers 9 _ (by decide +kernel) fun t hf y => ?_
  obtain ⟨-, -, -, -, -, -, -, -, -, ⟨e0, e1⟩, -⟩ := index_facts t
  blk_simp
  rw [after0_9]
  idx_vars y
  refine (out_new_apply _ _ _ _ _ _ _ _ _ y0 y1).trans ((congrFun (row_eq m c t y0) y1).trans ?_)
  refine congrArg₂ (newRow (acts m c) (wt m c) (res m c) (mods m c)) (Fin.ext ?_) (Fin.ext ?_)
  · show t.val * 256 + y0.val = win0_9.index t (0 : Fin 2) * 256 + 1 * y0.val; omega
  · show y1.val = win0_9.index t (1 : Fin 2) * 2048 + 1 * y1.val; omega

/-- The normalized rows after the run. -/
theorem result_norm : (dats m 0 c).arrAt 10 cfg0.N = normRows (acts m c) (wt m c) (res m c) (nwt m c) (mods m c) := by
  refine (dats m 0 c).arrAt_eq_of_covers 10 _ (by decide +kernel) fun t hf y => ?_
  obtain ⟨-, -, -, -, -, -, -, -, -, -, ⟨e0, e1⟩, -⟩ := index_facts t
  blk_simp
  rw [after0_10]
  idx_vars y
  refine (out_norm_apply _ _ _ _ _ _ _ _ _ y0 y1).trans ((congrFun (norm_eq m c t y0) y1).trans ?_)
  refine congrArg₂ (normRow (acts m c) (wt m c) (res m c) (nwt m c) (mods m c)) (Fin.ext ?_) (Fin.ext ?_)
  · show t.val * 256 + y0.val = win0_10.index t (0 : Fin 2) * 256 + 1 * y0.val; omega
  · show y1.val = win0_10.index t (1 : Fin 2) * 2048 + 1 * y1.val; omega

/-- The router's products after the run. -/
theorem result_score : (dats m 0 c).arrAt 11 cfg0.N = scoreRows (acts m c) (wt m c) (res m c) (nwt m c) (mods m c) (rwt m c) := by
  refine (dats m 0 c).arrAt_eq_of_covers 11 _ (by decide +kernel) fun t hf y => ?_
  obtain ⟨-, -, -, -, -, -, -, -, -, -, -, e0, e1⟩ := index_facts t
  blk_simp
  rw [after0_11]
  idx_vars y
  refine (out_score_apply _ _ _ _ _ _ _ _ _ y0 y1).trans ?_
  rw [norm_eq]
  simp only [rw_block]
  refine congrArg₂ (scoreRow (acts m c) (wt m c) (res m c) (nwt m c) (mods m c) (rwt m c)) (Fin.ext ?_) (Fin.ext ?_)
  · show t.val * 256 + y0.val = win0_11.index t (0 : Fin 2) * 256 + 1 * y0.val; omega
  · show y1.val = win0_11.index t (1 : Fin 2) * 128 + 1 * y1.val; omega

end Results

/-! ## The reference -/

section Reference
open Cert.DnOutRefIdeal.Read

variable (x0 : S8704x8192.Idx → EReal) (x1 x2 : S8704x2048.Idx → EReal) (x3 : S128.Idx → EReal)
  (x4 : S2048x2048.Idx → EReal) (x5 : S8704x2048.Idx → EReal) (x6 : S2048.Idx → EReal) (x7 : S16x12288.Idx → EReal) (x8 : S2048x32.Idx → EReal)

/-- The reference's activations. -/
theorem ref_act (i : Fin 8704) (k : Fin 2048) :
    val_main_v19 (F := Ideal) x0 x1 x2 x3 (ix2 i k)
      = heads (fun k => x1 (ix2 i k) + x2 (ix2 i k)) k * x3 (ix1 ⟨k.val % 128, by omega⟩) * silu (x0 (ix2 i ⟨6144 + k.val, by omega⟩)) := by
  unfold heads silu
  pointwise [val_main_v19, val_main_v18, val_main_v15, val_main_v12, val_main_v2, val_main_v1, val_main_v11, val_main_v10, val_main_v9, val_main_v7, val_main_v5, val_main_v4, val_main_v3, val_main_cst, val_main_v6, val_main_cst_0, val_main_v8, val_main_cst_1, val_main_v14, val_main_v13, val_main_v17, val_main_v16, val_main_v0, val_main_call0_v5, val_main_call0_v4, val_main_call0_cst_0, val_main_call0_v3, val_main_call0_v2, val_main_call0_cst, val_main_call0_v1, val_main_call0_v0]

/-- The reference's new residual rows of the context. -/
theorem ref_ctx_row (b : Fin 2) (p : Fin 256) (d : Fin 2048) :
    val_main_v44 (F := Ideal) x0 x1 x2 x3 x4 x5 x7 (ix3 b p d) = newRow (fun i k => val_main_v19 (F := Ideal) x0 x1 x2 x3 (ix2 i k)) x4 x5 x7 ⟨b.val * 4352 + p.val, by omega⟩ d := by
  unfold newRow project
  rw [source_ctx _ (show (b.val * 4352 + p.val) % 4352 < 256 by omega)]
  pointwise [val_main_v44, val_main_v39, val_main_v22, val_main_v43, val_main_v42, val_main_v41, val_main_v35, val_main_v32, val_main_v31, val_main_v40, val_main_v21, val_main_v20]

/-- The reference's new residual rows of the other positions. -/
theorem ref_lat_row (b : Fin 2) (p : Fin 4096) (d : Fin 2048) :
    val_main_v49 (F := Ideal) x0 x1 x2 x3 x4 x5 x7 (ix3 b p d) = newRow (fun i k => val_main_v19 (F := Ideal) x0 x1 x2 x3 (ix2 i k)) x4 x5 x7 ⟨b.val * 4352 + (256 + p.val), by omega⟩ d := by
  unfold newRow project
  rw [source_lat _ (show ¬(b.val * 4352 + (256 + p.val)) % 4352 < 256 by omega)]
  pointwise [val_main_v49, val_main_v45, val_main_v22, val_main_v48, val_main_v47, val_main_v27, val_main_v24, val_main_v23, val_main_v46, val_main_v21, val_main_v20]
  have hb : (⟨(b.val * 4352 + (256 + p.val)) / 4352, by omega⟩ : Fin 16) = ⟨b.val, by omega⟩ := Fin.ext (show (b.val * 4352 + (256 + p.val)) / 4352 = b.val by omega)
  rw [hb]

/-- The reference's normalized rows of the context. -/
theorem ref_ctx_norm (b : Fin 2) (p : Fin 256) (d : Fin 2048) :
    val_main_v70 (F := Ideal) x0 x1 x2 x3 x4 x5 x6 x7 (ix3 b p d) = normRow (fun i k => val_main_v19 (F := Ideal) x0 x1 x2 x3 (ix2 i k)) x4 x5 x6 x7 ⟨b.val * 4352 + p.val, by omega⟩ d := by
  unfold normRow modulate
  rw [source_ctx _ (show (b.val * 4352 + p.val) % 4352 < 256 by omega)]
  pointwise [val_main_v70, val_main_v67, val_main_v62, val_main_v59, val_main_v58, val_main_v57, val_main_v56, val_main_v54, val_main_v52, val_main_v51, val_main_v50, val_main_cst_2, val_main_v53, val_main_cst_3, val_main_v55, val_main_cst_4, val_main_v61, val_main_v60, val_main_v66, val_main_v65, val_main_v64, val_main_v63, val_main_cst_5, val_main_v37, val_main_v32, val_main_v31, val_main_v69, val_main_v68, val_main_v36]
  simp only [ref_ctx_row]

/-- The reference's normalized rows of the other positions. -/
theorem ref_lat_norm (b : Fin 2) (p : Fin 4096) (d : Fin 2048) :
    val_main_v89 (F := Ideal) x0 x1 x2 x3 x4 x5 x6 x7 (ix3 b p d) = normRow (fun i k => val_main_v19 (F := Ideal) x0 x1 x2 x3 (ix2 i k)) x4 x5 x6 x7 ⟨b.val * 4352 + (256 + p.val), by omega⟩ d := by
  unfold normRow modulate
  rw [source_lat _ (show ¬(b.val * 4352 + (256 + p.val)) % 4352 < 256 by omega)]
  pointwise [val_main_v89, val_main_v87, val_main_v83, val_main_v80, val_main_v79, val_main_v78, val_main_v77, val_main_v75, val_main_v73, val_main_v72, val_main_v71, val_main_cst_6, val_main_v74, val_main_cst_7, val_main_v76, val_main_cst_8, val_main_v82, val_main_v81, val_main_v86, val_main_v85, val_main_v84, val_main_cst_9, val_main_v29, val_main_v24, val_main_v23, val_main_v88, val_main_v28]
  have hb : (⟨(b.val * 4352 + (256 + p.val)) / 4352, by omega⟩ : Fin 16) = ⟨b.val, by omega⟩ := Fin.ext (show (b.val * 4352 + (256 + p.val)) / 4352 = b.val by omega)
  rw [hb]
  simp only [ref_lat_row]

/-- The reference's first result. -/
theorem ref_new (i : Fin 8704) (d : Fin 2048) : val_main_v94 (F := Ideal) x0 x1 x2 x3 x4 x5 x7 (ix2 i d) = newRow (fun i k => val_main_v19 (F := Ideal) x0 x1 x2 x3 (ix2 i k)) x4 x5 x7 i d := by
  pointwise [val_main_v94, val_main_v93]
  rcases Nat.lt_or_ge (i.val % 4352) 256 with h | h
  · rw [dif_pos h]
    refine (ref_ctx_row x0 x1 x2 x3 x4 x5 x7 ⟨i.val / 4352, by omega⟩ ⟨i.val % 4352, h⟩ d).trans ?_
    exact congrArg (fun i => newRow (fun i k => val_main_v19 (F := Ideal) x0 x1 x2 x3 (ix2 i k)) x4 x5 x7 i d) (Fin.ext (show i.val / 4352 * 4352 + i.val % 4352 = i.val by omega))
  · rw [dif_neg (by omega)]
    refine (ref_lat_row x0 x1 x2 x3 x4 x5 x7 ⟨i.val / 4352, by omega⟩ ⟨i.val % 4352 - 256, by omega⟩ d).trans ?_
    exact congrArg (fun i => newRow (fun i k => val_main_v19 (F := Ideal) x0 x1 x2 x3 (ix2 i k)) x4 x5 x7 i d) (Fin.ext (show i.val / 4352 * 4352 + (256 + (i.val % 4352 - 256)) = i.val by omega))

/-- The reference's normalized rows. -/
theorem ref_norm (i : Fin 8704) (d : Fin 2048) : val_main_v91 (F := Ideal) x0 x1 x2 x3 x4 x5 x6 x7 (ix2 i d) = normRow (fun i k => val_main_v19 (F := Ideal) x0 x1 x2 x3 (ix2 i k)) x4 x5 x6 x7 i d := by
  pointwise [val_main_v91, val_main_v90]
  rcases Nat.lt_or_ge (i.val % 4352) 256 with h | h
  · rw [dif_pos h]
    refine (ref_ctx_norm x0 x1 x2 x3 x4 x5 x6 x7 ⟨i.val / 4352, by omega⟩ ⟨i.val % 4352, h⟩ d).trans ?_
    exact congrArg (fun i => normRow (fun i k => val_main_v19 (F := Ideal) x0 x1 x2 x3 (ix2 i k)) x4 x5 x6 x7 i d) (Fin.ext (show i.val / 4352 * 4352 + i.val % 4352 = i.val by omega))
  · rw [dif_neg (by omega)]
    refine (ref_lat_norm x0 x1 x2 x3 x4 x5 x6 x7 ⟨i.val / 4352, by omega⟩ ⟨i.val % 4352 - 256, by omega⟩ d).trans ?_
    exact congrArg (fun i => normRow (fun i k => val_main_v19 (F := Ideal) x0 x1 x2 x3 (ix2 i k)) x4 x5 x6 x7 i d) (Fin.ext (show i.val / 4352 * 4352 + (256 + (i.val % 4352 - 256)) = i.val by omega))

/-- The reference's second result. -/
theorem ref_norm_cast (i : Fin 8704) (d : Fin 2048) : val_main_v95 (F := Ideal) x0 x1 x2 x3 x4 x5 x6 x7 (ix2 i d) = normRow (fun i k => val_main_v19 (F := Ideal) x0 x1 x2 x3 (ix2 i k)) x4 x5 x6 x7 i d :=
  ref_norm x0 x1 x2 x3 x4 x5 x6 x7 i d

/-- The reference's third result. -/
theorem ref_score (i : Fin 8704) (j : Fin 128) :
    val_main_v96 (F := Ideal) x0 x1 x2 x3 x4 x5 x6 x7 x8 (ix2 i j) = scoreRow (fun i k => val_main_v19 (F := Ideal) x0 x1 x2 x3 (ix2 i k)) x4 x5 x6 x7 x8 i j := by
  unfold scoreRow score padded
  pointwise [val_main_v96, val_main_v92, val_main_call1_v0, val_main_c]
  refine Finset.sum_congr rfl fun d _ => ?_
  rw [ref_norm]
  exact congrArg (fun z => _ * dite (j.val < 32) _ fun _ => z) sitofp_zero

end Reference

/-! ## The claim -/

/-- Kernel and reference end with the same three arrays. -/
theorem agree (m : (ℓ : Loc Cert.DnOutIdeal.nD Cert.DnOutIdeal.τ Cert.DnOutIdeal.sig) → Buf (Elt Ideal) ℓ) (g : Dev Cert.DnOutIdeal.nD → PrngReg)
    (m' : (ℓ : Loc Cert.DnOutRefIdeal.nD Cert.DnOutRefIdeal.τ Cert.DnOutRefIdeal.sig) → Buf (Elt Ideal) ℓ) (g' : Dev Cert.DnOutRefIdeal.nD → PrngReg)
    (he : ∀ c : Dev Cert.DnOutIdeal.nD,
      m' ((c.tc : Thread Cert.DnOutRefIdeal.nD Cert.DnOutRefIdeal.τ).loc Cert.DnOutRefIdeal.main_arg0) = m ((c.tc : Thread Cert.DnOutIdeal.nD Cert.DnOutIdeal.τ).loc Cert.DnOutIdeal.main_arg0)
      ∧ m' ((c.tc : Thread Cert.DnOutRefIdeal.nD Cert.DnOutRefIdeal.τ).loc Cert.DnOutRefIdeal.main_arg1) = m ((c.tc : Thread Cert.DnOutIdeal.nD Cert.DnOutIdeal.τ).loc Cert.DnOutIdeal.main_arg1)
      ∧ m' ((c.tc : Thread Cert.DnOutRefIdeal.nD Cert.DnOutRefIdeal.τ).loc Cert.DnOutRefIdeal.main_arg2) = m ((c.tc : Thread Cert.DnOutIdeal.nD Cert.DnOutIdeal.τ).loc Cert.DnOutIdeal.main_arg2)
      ∧ m' ((c.tc : Thread Cert.DnOutRefIdeal.nD Cert.DnOutRefIdeal.τ).loc Cert.DnOutRefIdeal.main_arg3) = m ((c.tc : Thread Cert.DnOutIdeal.nD Cert.DnOutIdeal.τ).loc Cert.DnOutIdeal.main_arg3)
      ∧ m' ((c.tc : Thread Cert.DnOutRefIdeal.nD Cert.DnOutRefIdeal.τ).loc Cert.DnOutRefIdeal.main_arg4) = m ((c.tc : Thread Cert.DnOutIdeal.nD Cert.DnOutIdeal.τ).loc Cert.DnOutIdeal.main_arg4)
      ∧ m' ((c.tc : Thread Cert.DnOutRefIdeal.nD Cert.DnOutRefIdeal.τ).loc Cert.DnOutRefIdeal.main_arg5) = m ((c.tc : Thread Cert.DnOutIdeal.nD Cert.DnOutIdeal.τ).loc Cert.DnOutIdeal.main_arg5)
      ∧ m' ((c.tc : Thread Cert.DnOutRefIdeal.nD Cert.DnOutRefIdeal.τ).loc Cert.DnOutRefIdeal.main_arg6) = m ((c.tc : Thread Cert.DnOutIdeal.nD Cert.DnOutIdeal.τ).loc Cert.DnOutIdeal.main_arg6)
      ∧ m' ((c.tc : Thread Cert.DnOutRefIdeal.nD Cert.DnOutRefIdeal.τ).loc Cert.DnOutRefIdeal.main_arg7) = m ((c.tc : Thread Cert.DnOutIdeal.nD Cert.DnOutIdeal.τ).loc Cert.DnOutIdeal.main_arg7)
      ∧ m' ((c.tc : Thread Cert.DnOutRefIdeal.nD Cert.DnOutRefIdeal.τ).loc Cert.DnOutRefIdeal.main_arg8) = m ((c.tc : Thread Cert.DnOutIdeal.nD Cert.DnOutIdeal.τ).loc Cert.DnOutIdeal.main_arg8)) :
    ∃ (v0 : (c : Dev Cert.DnOutIdeal.nD) → Buf (Elt Ideal) ((c.tc : Thread Cert.DnOutIdeal.nD Cert.DnOutIdeal.τ).loc Cert.DnOutIdeal.main_v22_0)) (v1 : (c : Dev Cert.DnOutIdeal.nD) → Buf (Elt Ideal) ((c.tc : Thread Cert.DnOutIdeal.nD Cert.DnOutIdeal.τ).loc Cert.DnOutIdeal.main_v22_1)) (v2 : (c : Dev Cert.DnOutIdeal.nD) → Buf (Elt Ideal) ((c.tc : Thread Cert.DnOutIdeal.nD Cert.DnOutIdeal.τ).loc Cert.DnOutIdeal.main_v22_2)),
      θ_run (Cert.DnOutIdeal.defs (F := Ideal)) (onTc (τ := Cert.DnOutIdeal.τ) (Cert.DnOutIdeal.main (F := Ideal))) ⟨m, fun _ => 0, g⟩ (fun r => ∀ c : Dev Cert.DnOutIdeal.nD,
          r.2.mem ((c.tc : Thread Cert.DnOutIdeal.nD Cert.DnOutIdeal.τ).loc Cert.DnOutIdeal.main_v22_0) = v0 c
          ∧ r.2.mem ((c.tc : Thread Cert.DnOutIdeal.nD Cert.DnOutIdeal.τ).loc Cert.DnOutIdeal.main_v22_1) = v1 c
          ∧ r.2.mem ((c.tc : Thread Cert.DnOutIdeal.nD Cert.DnOutIdeal.τ).loc Cert.DnOutIdeal.main_v22_2) = v2 c
          ∧ r.2.mem ((c.tc : Thread Cert.DnOutIdeal.nD Cert.DnOutIdeal.τ).loc Cert.DnOutIdeal.main_arg0) = m ((c.tc : Thread Cert.DnOutIdeal.nD Cert.DnOutIdeal.τ).loc Cert.DnOutIdeal.main_arg0)
          ∧ r.2.mem ((c.tc : Thread Cert.DnOutIdeal.nD Cert.DnOutIdeal.τ).loc Cert.DnOutIdeal.main_arg1) = m ((c.tc : Thread Cert.DnOutIdeal.nD Cert.DnOutIdeal.τ).loc Cert.DnOutIdeal.main_arg1)
          ∧ r.2.mem ((c.tc : Thread Cert.DnOutIdeal.nD Cert.DnOutIdeal.τ).loc Cert.DnOutIdeal.main_arg2) = m ((c.tc : Thread Cert.DnOutIdeal.nD Cert.DnOutIdeal.τ).loc Cert.DnOutIdeal.main_arg2)
          ∧ r.2.mem ((c.tc : Thread Cert.DnOutIdeal.nD Cert.DnOutIdeal.τ).loc Cert.DnOutIdeal.main_arg3) = m ((c.tc : Thread Cert.DnOutIdeal.nD Cert.DnOutIdeal.τ).loc Cert.DnOutIdeal.main_arg3)
          ∧ r.2.mem ((c.tc : Thread Cert.DnOutIdeal.nD Cert.DnOutIdeal.τ).loc Cert.DnOutIdeal.main_arg4) = m ((c.tc : Thread Cert.DnOutIdeal.nD Cert.DnOutIdeal.τ).loc Cert.DnOutIdeal.main_arg4)
          ∧ r.2.mem ((c.tc : Thread Cert.DnOutIdeal.nD Cert.DnOutIdeal.τ).loc Cert.DnOutIdeal.main_arg5) = m ((c.tc : Thread Cert.DnOutIdeal.nD Cert.DnOutIdeal.τ).loc Cert.DnOutIdeal.main_arg5)
          ∧ r.2.mem ((c.tc : Thread Cert.DnOutIdeal.nD Cert.DnOutIdeal.τ).loc Cert.DnOutIdeal.main_arg6) = m ((c.tc : Thread Cert.DnOutIdeal.nD Cert.DnOutIdeal.τ).loc Cert.DnOutIdeal.main_arg6)
          ∧ r.2.mem ((c.tc : Thread Cert.DnOutIdeal.nD Cert.DnOutIdeal.τ).loc Cert.DnOutIdeal.main_arg7) = m ((c.tc : Thread Cert.DnOutIdeal.nD Cert.DnOutIdeal.τ).loc Cert.DnOutIdeal.main_arg7)
          ∧ r.2.mem ((c.tc : Thread Cert.DnOutIdeal.nD Cert.DnOutIdeal.τ).loc Cert.DnOutIdeal.main_arg8) = m ((c.tc : Thread Cert.DnOutIdeal.nD Cert.DnOutIdeal.τ).loc Cert.DnOutIdeal.main_arg8))
      ∧ θ_run (Cert.DnOutRefIdeal.defs (F := Ideal)) (onTc (τ := Cert.DnOutRefIdeal.τ) (Cert.DnOutRefIdeal.main (F := Ideal))) ⟨m', fun _ => 0, g'⟩ (fun r => ∀ c : Dev Cert.DnOutRefIdeal.nD,
          r.2.mem ((c.tc : Thread Cert.DnOutRefIdeal.nD Cert.DnOutRefIdeal.τ).loc Cert.DnOutRefIdeal.main_v94) = v0 c
          ∧ r.2.mem ((c.tc : Thread Cert.DnOutRefIdeal.nD Cert.DnOutRefIdeal.τ).loc Cert.DnOutRefIdeal.main_v95) = v1 c
          ∧ r.2.mem ((c.tc : Thread Cert.DnOutRefIdeal.nD Cert.DnOutRefIdeal.τ).loc Cert.DnOutRefIdeal.main_v96) = v2 c
          ∧ r.2.mem ((c.tc : Thread Cert.DnOutRefIdeal.nD Cert.DnOutRefIdeal.τ).loc Cert.DnOutRefIdeal.main_arg0) = m' ((c.tc : Thread Cert.DnOutRefIdeal.nD Cert.DnOutRefIdeal.τ).loc Cert.DnOutRefIdeal.main_arg0)
          ∧ r.2.mem ((c.tc : Thread Cert.DnOutRefIdeal.nD Cert.DnOutRefIdeal.τ).loc Cert.DnOutRefIdeal.main_arg1) = m' ((c.tc : Thread Cert.DnOutRefIdeal.nD Cert.DnOutRefIdeal.τ).loc Cert.DnOutRefIdeal.main_arg1)
          ∧ r.2.mem ((c.tc : Thread Cert.DnOutRefIdeal.nD Cert.DnOutRefIdeal.τ).loc Cert.DnOutRefIdeal.main_arg2) = m' ((c.tc : Thread Cert.DnOutRefIdeal.nD Cert.DnOutRefIdeal.τ).loc Cert.DnOutRefIdeal.main_arg2)
          ∧ r.2.mem ((c.tc : Thread Cert.DnOutRefIdeal.nD Cert.DnOutRefIdeal.τ).loc Cert.DnOutRefIdeal.main_arg3) = m' ((c.tc : Thread Cert.DnOutRefIdeal.nD Cert.DnOutRefIdeal.τ).loc Cert.DnOutRefIdeal.main_arg3)
          ∧ r.2.mem ((c.tc : Thread Cert.DnOutRefIdeal.nD Cert.DnOutRefIdeal.τ).loc Cert.DnOutRefIdeal.main_arg4) = m' ((c.tc : Thread Cert.DnOutRefIdeal.nD Cert.DnOutRefIdeal.τ).loc Cert.DnOutRefIdeal.main_arg4)
          ∧ r.2.mem ((c.tc : Thread Cert.DnOutRefIdeal.nD Cert.DnOutRefIdeal.τ).loc Cert.DnOutRefIdeal.main_arg5) = m' ((c.tc : Thread Cert.DnOutRefIdeal.nD Cert.DnOutRefIdeal.τ).loc Cert.DnOutRefIdeal.main_arg5)
          ∧ r.2.mem ((c.tc : Thread Cert.DnOutRefIdeal.nD Cert.DnOutRefIdeal.τ).loc Cert.DnOutRefIdeal.main_arg6) = m' ((c.tc : Thread Cert.DnOutRefIdeal.nD Cert.DnOutRefIdeal.τ).loc Cert.DnOutRefIdeal.main_arg6)
          ∧ r.2.mem ((c.tc : Thread Cert.DnOutRefIdeal.nD Cert.DnOutRefIdeal.τ).loc Cert.DnOutRefIdeal.main_arg7) = m' ((c.tc : Thread Cert.DnOutRefIdeal.nD Cert.DnOutRefIdeal.τ).loc Cert.DnOutRefIdeal.main_arg7)
          ∧ r.2.mem ((c.tc : Thread Cert.DnOutRefIdeal.nD Cert.DnOutRefIdeal.τ).loc Cert.DnOutRefIdeal.main_arg8) = m' ((c.tc : Thread Cert.DnOutRefIdeal.nD Cert.DnOutRefIdeal.τ).loc Cert.DnOutRefIdeal.main_arg8)) := by
  refine ⟨fun c => newRows (acts m c) (wt m c) (res m c) (mods m c), fun c => normRows (acts m c) (wt m c) (res m c) (nwt m c) (mods m c),
    fun c => scoreRows (acts m c) (wt m c) (res m c) (nwt m c) (mods m c) (rwt m c), ?_, ?_⟩
  · refine (θ_run _ _ _).mono (fun r h c => ?_) (Value.run_blocks m g)
    exact ⟨(h c).1.trans (result_new m c), (h c).2.1.trans (result_norm m c), (h c).2.2.1.trans (result_score m c), (h c).2.2.2⟩
  · refine (θ_run _ _ _).mono (fun r h c => ?_) (Cert.DnOutRefIdeal.Value.run m' g')
    obtain ⟨e0, e1, e2, e3, e4, e5, e6, e7, e8⟩ := he c
    have ha : (fun i k => Cert.DnOutRefIdeal.Read.val_main_v19 (F := Ideal) (proj m c) (fwd m c) (bwd m c) (hwt m c) (ix2 i k)) = acts m c := funext fun i => funext fun k => ref_act (proj m c) (fwd m c) (bwd m c) (hwt m c) i k
    refine ⟨(h c).1.trans ?_, (h c).2.1.trans ?_, (h c).2.2.1.trans ?_, (h c).2.2.2⟩
    · rw [Cert.DnOutRefIdeal.Read.val_main_v94_eq, e0, e1, e2, e3, e4, e5, e7]
      refine funext fun i => ?_
      idx_vars i
      exact (ref_new (proj m c) (fwd m c) (bwd m c) (hwt m c) (wt m c) (res m c) (mods m c) i0 i1).trans (congrArg (fun A => newRow A (wt m c) (res m c) (mods m c) i0 i1) ha)
    · rw [Cert.DnOutRefIdeal.Read.val_main_v95_eq, e0, e1, e2, e3, e4, e5, e6, e7]
      refine funext fun i => ?_
      idx_vars i
      exact (ref_norm_cast (proj m c) (fwd m c) (bwd m c) (hwt m c) (wt m c) (res m c) (nwt m c) (mods m c) i0 i1).trans (congrArg (fun A => normRow A (wt m c) (res m c) (nwt m c) (mods m c) i0 i1) ha)
    · rw [Cert.DnOutRefIdeal.Read.val_main_v96_eq, e0, e1, e2, e3, e4, e5, e6, e7, e8]
      refine funext fun i => ?_
      idx_vars i
      exact (ref_score (proj m c) (fwd m c) (bwd m c) (hwt m c) (wt m c) (res m c) (nwt m c) (mods m c) (rwt m c) i0 i1).trans (congrArg (fun A => scoreRow A (wt m c) (res m c) (nwt m c) (mods m c) (rwt m c) i0 i1) ha)

end Cert.DnOutIdeal.Hand

end
-- ==== Proof.ResidAgree.lean ====
/-
  The last call: every one of the 34 points adds to its 256 rows of the residual stream the rows of their two experts, each
  times its weight, scaled by the gate of the row's modulation.
-/
module

public import proofs.«01_k».proof.Proof.Gen.ResidIdeal.Value
public import proofs.«01_k».proof.Proof.Gen.ResidRefIdeal.Run
public import proofs.«01_k».proof.Proof.Gen.ResidRefIdeal.Read
public import proofs.«01_k».proof.Proof.DnOutAgree

@[expose] public section

set_option maxRecDepth 16384

noncomputable section

namespace Cert.ResidIdeal.Hand

open Cert.ResidIdeal Cert.ResidIdeal.Gen Idealize.ShloMosaic Idealize.ShloMosaic.TcCoe Idealize.SL.Sem Cert.OutShared

/-! ## What is computed -/

/-- A token's residual row plus the gated sum of its two experts' weighed rows. -/
def combineRow (x : S8704x2048.Idx → EReal) (ys : S17408x2048.Idx → EReal) (wts : S8704x2.Idx → EReal) (md : S16x12288.Idx → EReal)
    (i : Fin 8704) (d : Fin 2048) : EReal :=
  x (ix2 i d) + md (ix2 (source i) ⟨10240 + d.val, by omega⟩)
    * (ys (ix2 ⟨i.val * 2, by omega⟩ d) * wts (ix2 i 0) + ys (ix2 ⟨i.val * 2 + 1, by omega⟩ d) * wts (ix2 i 1))

/-- All such rows. -/
def combineRows (x : S8704x2048.Idx → EReal) (ys : S17408x2048.Idx → EReal) (wts : S8704x2.Idx → EReal) (md : S16x12288.Idx → EReal) :
    S8704x2048.Idx → EReal := fun i => combineRow x ys wts md ⟨(i 0).val, (i 0).isLt⟩ ⟨(i 1).val, (i 1).isLt⟩

/-- The offset of a whole rank-2 rectangle. -/
theorem zeros2 : (![0, 0] : Fin 2 → Nat) = fun _ => 0 := funext fun a => by fin_cases a <;> rfl

/-- What a point leaves in its block. -/
theorem out_apply (x0 : S256x2048.Idx → EReal) (x1 : S256x4096.Idx → EReal) (x2 : S256x128.Idx → EReal) (x3 : S1x8x2048.Idx → EReal)
    (a : Fin 256) (d : Fin 2048) :
    out0_4 (F := Ideal) x0 x1 x2 x3 (ix2 a d)
      = x0 (ix2 a d) + x3 (ix3 0 5 d) * (x1 (ix2 a ⟨d.val, by omega⟩) * x2 (ix2 a 0) + x1 (ix2 a ⟨2048 + d.val, by omega⟩) * x2 (ix2 a 1)) := by
  unfold out0_4
  rw [View.canon_unit_zero zeros2]
  simp only [View.ld_unit_zero (S := S256x2048) zeros2]
  pointwise [k0_pay1]

/-! ## What the host operations leave for the region -/

section Host
variable (m : (ℓ : Loc nD τ sig) → Buf (Elt Ideal) ℓ) (c : Dev nD)

/-- The residual stream. -/
abbrev res : S8704x2048.Idx → EReal := m ((c : Thread nD τ).loc main_arg0)
/-- The experts' rows, two for each token. -/
abbrev rows : S17408x2048.Idx → EReal := m ((c : Thread nD τ).loc main_arg1)
/-- The weights of the experts. -/
abbrev wts : S8704x2.Idx → EReal := m ((c : Thread nD τ).loc main_arg2)
/-- The modulations. -/
abbrev mods : S16x12288.Idx → EReal := m ((c : Thread nD τ).loc main_arg3)

/-- The row of a token's first expert. -/
theorem first_value (i : Fin 8704) (d : Fin 2048) : (V m c main_v0 : S8704x4096.Idx → EReal) (ix2 i ⟨d.val, by omega⟩) = rows m c (ix2 ⟨i.val * 2, by omega⟩ d) := by
  unfold V
  simp only [List.flatten_cons, List.flatten_nil, List.append_nil, List.cons_append, List.nil_append]
  after_reads_at
  exact congrArg (rows m c) (congrArg₂ ix2 (Fin.ext (by simp <;> omega)) (Fin.ext (by simp <;> omega)))

/-- The row of a token's second expert. -/
theorem second_value (i : Fin 8704) (d : Fin 2048) :
    (V m c main_v0 : S8704x4096.Idx → EReal) (ix2 i ⟨2048 + d.val, by omega⟩) = rows m c (ix2 ⟨i.val * 2 + 1, by omega⟩ d) := by
  unfold V
  simp only [List.flatten_cons, List.flatten_nil, List.append_nil, List.cons_append, List.nil_append]
  after_reads_at
  exact congrArg (rows m c) (congrArg₂ ix2 (Fin.ext (by simp <;> omega)) (Fin.ext (by simp <;> omega)))

/-- The weights under their padding. -/
theorem w_value (i : Fin 8704) (k : Fin 2) : (V m c main_v1 : S8704x128.Idx → EReal) (ix2 i ⟨k.val, by omega⟩) = wts m c (ix2 i k) := by
  unfold V
  simp only [List.flatten_cons, List.flatten_nil, List.append_nil, List.cons_append, List.nil_append]
  after_reads_at

/-- The modulations of a tile: the context's row of the table or the sequence's. -/
theorem tile_value (t : Fin 34) (p : Fin 6) (d : Fin 2048) :
    (V m c main_v16 : S34x8x2048.Idx → EReal) (ix3 t ⟨p.val, by omega⟩ d) = mods m c (ix2 (tileSource t) ⟨p.val * 2048 + d.val, by omega⟩) := by
  unfold V
  simp only [List.flatten_cons, List.flatten_nil, List.append_nil, List.cons_append, List.nil_append]
  after_reads_at
  refine (gather_tile gather_S16x6x2048_S34x1_S34x6x2048_12_0_n_n_0_1_162048_wf _ _ t p d (tileSource t) ?_).trans ?_
  · clear d p
    revert t
    decide +kernel
  · rfl

end Host

/-! ## The blocks and the result -/

section Results
variable (m : (ℓ : Loc nD τ sig) → Buf (Elt Ideal) ℓ) (c : Dev nD)

/-- Which blocks a point reads and writes. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 3) = t.val ∧ win0_3.index t (1 : Fin 3) = 0 ∧ win0_3.index t (2 : Fin 3) = 0)
    ∧ (win0_4.index t (0 : Fin 2) = t.val ∧ win0_4.index t (1 : Fin 2) = 0) :=
  (by decide +kernel : ∀ t : Fin grid0.N, _)

/-- The number of a point is below 34. -/
theorem pt_lt (t : Fin cfg0.N) : t.val < 34 := lt_of_lt_of_eq t.isLt (show cfg0.N = 34 from N_0)

/-- The row of the tokens that a row of a point's block is. -/
def row (t : Fin cfg0.N) (a : Fin 256) : Fin 8704 := ⟨t.val * 256 + a.val, by have := pt_lt t; omega⟩

/-- The tile of a point. -/
def tile (t : Fin cfg0.N) : Fin 34 := ⟨t.val, by have := pt_lt t; omega⟩

/-- A point's block of the residual stream. -/
theorem x_block (t : Fin cfg0.N) (a : Fin 256) (k : Fin 2048) : (iblk m c 0 t : S256x2048.Idx → EReal) (ix2 a k) = res m c (ix2 (row t a) k) := by
  obtain ⟨⟨e0, e1⟩, -⟩ := index_facts t
  refine (congrFun (V_main_arg0 m c) (((cfg0.win 0).blk t).view.emb (ix2 a k))).trans (congrArg (res m c) (?_ : ((cfg0.win 0).blk t).view.emb (ix2 a k) = _))
  refine funext fun d => Fin.ext ?_
  match d with
  | ⟨0, _⟩ => show win0_0.index t (0 : Fin 2) * 256 + 1 * a.val = t.val * 256 + a.val; omega
  | ⟨1, _⟩ => show win0_0.index t (1 : Fin 2) * 2048 + 1 * k.val = k.val; omega

/-- A point's block of the experts' rows, two side by side. -/
theorem y_block (t : Fin cfg0.N) (a : Fin 256) (k : Fin 4096) :
    (iblk m c 1 t : S256x4096.Idx → EReal) (ix2 a k) = (V m c main_v0 : S8704x4096.Idx → EReal) (ix2 (row t a) k) := by
  obtain ⟨-, ⟨e0, e1⟩, -⟩ := index_facts t
  refine congrArg (V m c main_v0 : S8704x4096.Idx → EReal) (?_ : ((cfg0.win 1).blk t).view.emb (ix2 a k) = ix2 (row t a) k)
  refine funext fun e => Fin.ext ?_
  match e with
  | ⟨0, _⟩ => show win0_1.index t (0 : Fin 2) * 256 + 1 * a.val = t.val * 256 + a.val; omega
  | ⟨1, _⟩ => show win0_1.index t (1 : Fin 2) * 4096 + 1 * k.val = k.val; omega

/-- A point's block of the weights. -/
theorem w_block (t : Fin cfg0.N) (a : Fin 256) (k : Fin 2) : (iblk m c 2 t : S256x128.Idx → EReal) (ix2 a ⟨k.val, by omega⟩) = wts m c (ix2 (row t a) k) := by
  obtain ⟨-, -, ⟨e0, e1⟩, -⟩ := index_facts t
  refine Eq.trans (congrArg (V m c main_v1 : S8704x128.Idx → EReal)
    (?_ : ((cfg0.win 2).blk t).view.emb (ix2 a ⟨k.val, by omega⟩) = ix2 (row t a) ⟨k.val, by omega⟩)) (w_value m c (row t a) k)
  refine funext fun e => Fin.ext ?_
  match e with
  | ⟨0, _⟩ => show win0_2.index t (0 : Fin 2) * 256 + 1 * a.val = t.val * 256 + a.val; omega
  | ⟨1, _⟩ => show win0_2.index t (1 : Fin 2) * 128 + 1 * k.val = k.val; omega

/-- A point's rows of the modulation table. -/
theorem mod_block (t : Fin cfg0.N) (a : Fin 256) (p : Fin 6) (d : Fin 2048) :
    (iblk m c 3 t : S1x8x2048.Idx → EReal) (ix3 0 ⟨p.val, by omega⟩ d) = mods m c (ix2 (source (row t a)) ⟨p.val * 2048 + d.val, by omega⟩) := by
  obtain ⟨-, -, -, ⟨e0, e1, e2⟩, -⟩ := index_facts t
  rw [source_eq (tile t) (row t a) (show (t.val * 256 + a.val) / 256 = t.val by omega)]
  refine Eq.trans (congrArg (V m c main_v16 : S34x8x2048.Idx → EReal)
    (?_ : ((cfg0.win 3).blk t).view.emb (ix3 0 ⟨p.val, by omega⟩ d) = ix3 (tile t) ⟨p.val, by omega⟩ d)) (tile_value m c (tile t) p d)
  refine funext fun e => Fin.ext ?_
  match e with
  | ⟨0, _⟩ => show win0_3.index t (0 : Fin 3) * 1 + 1 * 0 = t.val; omega
  | ⟨1, _⟩ => show win0_3.index t (1 : Fin 3) * 8 + 1 * p.val = p.val; omega
  | ⟨2, _⟩ => show win0_3.index t (2 : Fin 3) * 2048 + 1 * d.val = d.val; omega

/-- What a point leaves in its block, in terms of the arguments. -/
theorem block_eq (t : Fin cfg0.N) (a : Fin 256) (d : Fin 2048) :
    out0_4 (F := Ideal) (iblk m c 0 t) (iblk m c 1 t) (iblk m c 2 t) (iblk m c 3 t) (ix2 a d) = combineRow (res m c) (rows m c) (wts m c) (mods m c) (row t a) d := by
  have h5 : (iblk m c 3 t : S1x8x2048.Idx → EReal) (ix3 0 5 d) = _ := mod_block m c t a 5 d
  have w0 : (iblk m c 2 t : S256x128.Idx → EReal) (ix2 a 0) = _ := w_block m c t a 0
  have w1 : (iblk m c 2 t : S256x128.Idx → EReal) (ix2 a 1) = _ := w_block m c t a 1
  refine (out_apply _ _ _ _ a d).trans ?_
  rw [x_block, y_block, y_block, first_value, second_value, h5, w0, w1]
  rfl

/-- The result after the run. -/
theorem result : (dats m 0 c).arrAt 4 cfg0.N = combineRows (res m c) (rows m c) (wts m c) (mods m c) := by
  refine (dats m 0 c).arrAt_eq_of_covers 4 _ (by decide +kernel) fun t hf y => ?_
  obtain ⟨-, -, -, -, e0, e1⟩ := index_facts t
  blk_simp
  rw [after0_4]
  idx_vars y
  refine (block_eq m c t y0 y1).trans ?_
  refine congrArg₂ (combineRow (res m c) (rows m c) (wts m c) (mods m c)) (Fin.ext ?_) (Fin.ext ?_)
  · show t.val * 256 + y0.val = win0_4.index t (0 : Fin 2) * 256 + 1 * y0.val; omega
  · show y1.val = win0_4.index t (1 : Fin 2) * 2048 + 1 * y1.val; omega

end Results

/-! ## The reference -/

section Reference
open Cert.ResidRefIdeal.Read

variable (x0 : S8704x2048.Idx → EReal) (x1 : S17408x2048.Idx → EReal) (x2 : S8704x2.Idx → EReal) (x3 : S16x12288.Idx → EReal)

/-- The reference's sum of a token's two weighed rows. -/
theorem ref_sum (b : Fin 2) (p : Fin 4352) (d : Fin 2048) :
    val_main_v5 (F := Ideal) x1 x2 (ix3 b p d)
      = x1 (ix2 ⟨(b.val * 4352 + p.val) * 2, by omega⟩ d) * x2 (ix2 ⟨b.val * 4352 + p.val, by omega⟩ 0) + x1 (ix2 ⟨(b.val * 4352 + p.val) * 2 + 1, by omega⟩ d) * x2 (ix2 ⟨b.val * 4352 + p.val, by omega⟩ 1) := by
  pointwise [val_main_v5, val_main_v4, val_main_v3, val_main_v2, val_main_v1, val_main_v0, val_main_cst]
  rw [Fin.sum_univ_two]
  congr 2
  all_goals first
    | exact congrArg x1 (congrArg₂ ix2 (Fin.ext (by simp <;> omega)) (Fin.ext (by simp <;> omega)))
    | exact congrArg x2 (congrArg₂ ix2 (Fin.ext (by simp <;> omega)) (Fin.ext (by simp <;> omega)))

/-- The reference's rows of the context. -/
theorem ref_ctx (b : Fin 2) (p : Fin 256) (d : Fin 2048) :
    val_main_v28 (F := Ideal) x0 x1 x2 x3 (ix3 b p d) = combineRow x0 x1 x2 x3 ⟨b.val * 4352 + p.val, by omega⟩ d := by
  unfold combineRow
  rw [source_ctx _ (show (b.val * 4352 + p.val) % 4352 < 256 by omega)]
  pointwise [val_main_v28, val_main_v27, val_main_v26, val_main_v25, val_main_v24, val_main_v23, val_main_v22, val_main_v16, val_main_v15, val_main_v6]
  rw [ref_sum x1 x2 b ⟨p.val, by omega⟩ d]

/-- The reference's rows of the other positions. -/
theorem ref_lat (b : Fin 2) (p : Fin 4096) (d : Fin 2048) :
    val_main_v33 (F := Ideal) x0 x1 x2 x3 (ix3 b p d) = combineRow x0 x1 x2 x3 ⟨b.val * 4352 + (256 + p.val), by omega⟩ d := by
  unfold combineRow
  rw [source_lat _ (show ¬(b.val * 4352 + (256 + p.val)) % 4352 < 256 by omega)]
  have hb : (⟨(b.val * 4352 + (256 + p.val)) / 4352, by omega⟩ : Fin 16) = ⟨b.val, by omega⟩ := Fin.ext (show (b.val * 4352 + (256 + p.val)) / 4352 = b.val by omega)
  rw [hb]
  pointwise [val_main_v33, val_main_v32, val_main_v31, val_main_v30, val_main_v29, val_main_v14, val_main_v8, val_main_v7, val_main_v6]
  rw [ref_sum x1 x2 b ⟨256 + p.val, by omega⟩ d]

/-- The reference's result. -/
theorem ref_result (i : Fin 8704) (d : Fin 2048) : val_main_v35 (F := Ideal) x0 x1 x2 x3 (ix2 i d) = combineRow x0 x1 x2 x3 i d := by
  pointwise [val_main_v35, val_main_v34]
  rcases Nat.lt_or_ge (i.val % 4352) 256 with h | h
  · rw [dif_pos h]
    refine (ref_ctx x0 x1 x2 x3 ⟨i.val / 4352, by omega⟩ ⟨i.val % 4352, h⟩ d).trans ?_
    exact congrArg (fun i => combineRow x0 x1 x2 x3 i d) (Fin.ext (show i.val / 4352 * 4352 + i.val % 4352 = i.val by omega))
  · rw [dif_neg (by omega)]
    refine (ref_lat x0 x1 x2 x3 ⟨i.val / 4352, by omega⟩ ⟨i.val % 4352 - 256, by omega⟩ d).trans ?_
    exact congrArg (fun i => combineRow x0 x1 x2 x3 i d) (Fin.ext (show i.val / 4352 * 4352 + (256 + (i.val % 4352 - 256)) = i.val by omega))

end Reference

/-! ## The claim -/

/-- Kernel and reference end with the same array. -/
theorem agree (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg)
    (he : ∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)
      ∧ m' ((c.tc : Thread Cert.ResidRefIdeal.nD Cert.ResidRefIdeal.τ).loc Cert.ResidRefIdeal.main_arg3) = m ((c.tc : Thread Cert.ResidIdeal.nD Cert.ResidIdeal.τ).loc Cert.ResidIdeal.main_arg3)) :
    ∃ v0 : (c : Dev Cert.ResidIdeal.nD) → Buf (Elt Ideal) ((c.tc : Thread Cert.ResidIdeal.nD Cert.ResidIdeal.τ).loc Cert.ResidIdeal.main_v17),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v17) = v0 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v35) = v0 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2)
          ∧ r.2.mem ((c.tc : Thread Cert.ResidRefIdeal.nD Cert.ResidRefIdeal.τ).loc Cert.ResidRefIdeal.main_arg3) = m' ((c.tc : Thread Cert.ResidRefIdeal.nD Cert.ResidRefIdeal.τ).loc Cert.ResidRefIdeal.main_arg3)) := by
  refine ⟨fun c => combineRows (res m c) (rows m c) (wts m c) (mods m c), ?_, ?_⟩
  · refine (θ_run _ _ _).mono (fun r h c => ?_) (Value.run_blocks m g)
    exact ⟨(h c).1.trans (result m c), (h c).2⟩
  · refine (θ_run _ _ _).mono (fun r h c => ?_) (Cert.ResidRefIdeal.Value.run m' g')
    obtain ⟨e0, e1, e2, e3⟩ := he c
    refine ⟨(h c).1.trans ?_, (h c).2⟩
    rw [Cert.ResidRefIdeal.Read.val_main_v35_eq, e0, e1, e2, e3]
    refine funext fun i => ?_
    idx_vars i
    exact ref_result (res m c) (rows m c) (wts m c) (mods m c) i0 i1

end Cert.ResidIdeal.Hand

end
-- ==== Proof.lean ====
/-
  The certificate: every claim of Defs.lean, put together from the frames and from the value proofs of the calls.
-/
module

public import proofs.«01_k».proof.Defs
public import Idealize.ShloMosaic.Lib.Quiescent
public import proofs.«01_k».proof.Proof.Gen.LruIn.Frame
public import proofs.«01_k».proof.Proof.Gen.LruInIdeal.Frame
public import proofs.«01_k».proof.Proof.Gen.DnIn.Frame
public import proofs.«01_k».proof.Proof.Gen.DnInIdeal.Frame
public import proofs.«01_k».proof.Proof.Gen.RetIn.Frame
public import proofs.«01_k».proof.Proof.Gen.RetInIdeal.Frame
public import proofs.«01_k».proof.Proof.Gen.AttIn.Frame
public import proofs.«01_k».proof.Proof.Gen.AttInIdeal.Frame
public import proofs.«01_k».proof.Proof.Gen.LruOut.Frame
public import proofs.«01_k».proof.Proof.Gen.LruOutIdeal.Frame
public import proofs.«01_k».proof.Proof.Gen.DnOut.Frame
public import proofs.«01_k».proof.Proof.Gen.DnOutIdeal.Frame
public import proofs.«01_k».proof.Proof.Gen.RetOut.Frame
public import proofs.«01_k».proof.Proof.Gen.RetOutIdeal.Frame
public import proofs.«01_k».proof.Proof.Gen.AttOut.Frame
public import proofs.«01_k».proof.Proof.Gen.AttOutIdeal.Frame
public import proofs.«01_k».proof.Proof.Gen.Resid.Frame
public import proofs.«01_k».proof.Proof.Gen.ResidIdeal.Frame
public import proofs.«01_k».proof.Proof.Gen.MoeRefIdeal
public import proofs.«01_k».proof.Proof.Gen.LruInRefIdeal
public import proofs.«01_k».proof.Proof.Gen.DnInRefIdeal
public import proofs.«01_k».proof.Proof.Gen.RetInRefIdeal
public import proofs.«01_k».proof.Proof.Gen.AttInRefIdeal
public import proofs.«01_k».proof.Proof.Gen.LruOutRefIdeal
public import proofs.«01_k».proof.Proof.Gen.DnOutRefIdeal
public import proofs.«01_k».proof.Proof.Gen.RetOutRefIdeal
public import proofs.«01_k».proof.Proof.Gen.AttOutRefIdeal
public import proofs.«01_k».proof.Proof.Gen.ResidRefIdeal
public import proofs.«01_k».proof.Proof.MoeAgree
public import proofs.«01_k».proof.Proof.LruInProduct
public import proofs.«01_k».proof.Proof.DnInProduct
public import proofs.«01_k».proof.Proof.RetInProduct
public import proofs.«01_k».proof.Proof.AttInProduct
public import proofs.«01_k».proof.Proof.LruOutAgree
public import proofs.«01_k».proof.Proof.DnOutAgree
public import proofs.«01_k».proof.Proof.RetOutAgree
public import proofs.«01_k».proof.Proof.AttOutAgree
public import proofs.«01_k».proof.Proof.ResidAgree

@[expose] public section

noncomputable section

namespace Cert.Proof

open Idealize.ShloMosaic Idealize.SL.Sem

/-- All the claims: the frames first, then for each call `preserves` and the equality with its reference. -/
theorem claim : Cert.Claim :=
  ⟨Cert.Moe.Gen.facts, Cert.MoeIdeal.Gen.facts, Cert.MoeRefIdeal.Gen.facts, Cert.LruIn.Gen.facts, Cert.LruInIdeal.Gen.facts, Cert.LruInRefIdeal.Gen.facts, Cert.DnIn.Gen.facts, Cert.DnInIdeal.Gen.facts, Cert.DnInRefIdeal.Gen.facts, Cert.RetIn.Gen.facts, Cert.RetInIdeal.Gen.facts, Cert.RetInRefIdeal.Gen.facts, Cert.AttIn.Gen.facts, Cert.AttInIdeal.Gen.facts, Cert.AttInRefIdeal.Gen.facts, Cert.LruOut.Gen.facts, Cert.LruOutIdeal.Gen.facts, Cert.LruOutRefIdeal.Gen.facts, Cert.DnOut.Gen.facts, Cert.DnOutIdeal.Gen.facts, Cert.DnOutRefIdeal.Gen.facts, Cert.RetOut.Gen.facts, Cert.RetOutIdeal.Gen.facts, Cert.RetOutRefIdeal.Gen.facts, Cert.AttOut.Gen.facts, Cert.AttOutIdeal.Gen.facts, Cert.AttOutRefIdeal.Gen.facts, Cert.Resid.Gen.facts, Cert.ResidIdeal.Gen.facts, Cert.ResidRefIdeal.Gen.facts, Cert.Pre_blocks_in_range.Gen.facts,
    fun m ρ h => Cert.Moe.Hand.frame m ρ (Cert.Moe.Hand.ok_of_pre m h),
    fun m ρ h => Cert.MoeIdeal.Hand.frame m ρ (Cert.MoeIdeal.Hand.ok_of_pre m h),
    fun m ρ _ => (θ_run _ _ _).mono (fun r h => ⟨fun c => (h c).2, sem_eq_zero_of_no_sems (by decide) r.2⟩) (Cert.MoeRefIdeal.Value.run m ρ),
    fun m ρ _ => Cert.LruIn.Gen.frame m ρ,
    fun m ρ _ => Cert.LruInIdeal.Gen.frame m ρ,
    fun m ρ _ => (θ_run _ _ _).mono (fun r h => ⟨fun c => (h c).2, sem_eq_zero_of_no_sems (by decide) r.2⟩) (Cert.LruInRefIdeal.Value.run m ρ),
    fun m ρ _ => Cert.DnIn.Gen.frame m ρ,
    fun m ρ _ => Cert.DnInIdeal.Gen.frame m ρ,
    fun m ρ _ => (θ_run _ _ _).mono (fun r h => ⟨fun c => (h c).2, sem_eq_zero_of_no_sems (by decide) r.2⟩) (Cert.DnInRefIdeal.Value.run m ρ),
    fun m ρ _ => Cert.RetIn.Gen.frame m ρ,
    fun m ρ _ => Cert.RetInIdeal.Gen.frame m ρ,
    fun m ρ _ => (θ_run _ _ _).mono (fun r h => ⟨fun c => (h c).2, sem_eq_zero_of_no_sems (by decide) r.2⟩) (Cert.RetInRefIdeal.Value.run m ρ),
    fun m ρ _ => Cert.AttIn.Gen.frame m ρ,
    fun m ρ _ => Cert.AttInIdeal.Gen.frame m ρ,
    fun m ρ _ => (θ_run _ _ _).mono (fun r h => ⟨fun c => (h c).2, sem_eq_zero_of_no_sems (by decide) r.2⟩) (Cert.AttInRefIdeal.Value.run m ρ),
    fun m ρ _ => Cert.LruOut.Gen.frame m ρ,
    fun m ρ _ => Cert.LruOutIdeal.Gen.frame m ρ,
    fun m ρ _ => (θ_run _ _ _).mono (fun r h => ⟨fun c => (h c).2.2.2, sem_eq_zero_of_no_sems (by decide) r.2⟩) (Cert.LruOutRefIdeal.Value.run m ρ),
    fun m ρ _ => Cert.DnOut.Gen.frame m ρ,
    fun m ρ _ => Cert.DnOutIdeal.Gen.frame m ρ,
    fun m ρ _ => (θ_run _ _ _).mono (fun r h => ⟨fun c => (h c).2.2.2, sem_eq_zero_of_no_sems (by decide) r.2⟩) (Cert.DnOutRefIdeal.Value.run m ρ),
    fun m ρ _ => Cert.RetOut.Gen.frame m ρ,
    fun m ρ _ => Cert.RetOutIdeal.Gen.frame m ρ,
    fun m ρ _ => (θ_run _ _ _).mono (fun r h => ⟨fun c => (h c).2.2.2, sem_eq_zero_of_no_sems (by decide) r.2⟩) (Cert.RetOutRefIdeal.Value.run m ρ),
    fun m ρ _ => Cert.AttOut.Gen.frame m ρ,
    fun m ρ _ => Cert.AttOutIdeal.Gen.frame m ρ,
    fun m ρ _ => (θ_run _ _ _).mono (fun r h => ⟨fun c => (h c).2.2.2, sem_eq_zero_of_no_sems (by decide) r.2⟩) (Cert.AttOutRefIdeal.Value.run m ρ),
    fun m ρ _ => Cert.Resid.Gen.frame m ρ,
    fun m ρ _ => Cert.ResidIdeal.Gen.frame m ρ,
    fun m ρ _ => (θ_run _ _ _).mono (fun r h => ⟨fun c => (h c).2, sem_eq_zero_of_no_sems (by decide) r.2⟩) (Cert.ResidRefIdeal.Value.run m ρ),
    trivial, fun m g m' g' h he => Cert.MoeIdeal.Hand.agree m g m' g' h he,
    trivial, fun m g m' g' _ he => Cert.LruInIdeal.Product.agree m g m' g' he,
    trivial, fun m g m' g' _ he => Cert.DnInIdeal.Product.agree m g m' g' he,
    trivial, fun m g m' g' _ he => Cert.RetInIdeal.Product.agree m g m' g' he,
    trivial, fun m g m' g' _ he => Cert.AttInIdeal.Product.agree m g m' g' he,
    trivial, fun m g m' g' _ he => Cert.LruOutIdeal.Hand.agree m g m' g' he,
    trivial, fun m g m' g' _ he => Cert.DnOutIdeal.Hand.agree m g m' g' he,
    trivial, fun m g m' g' _ he => Cert.RetOutIdeal.Hand.agree m g m' g' he,
    trivial, fun m g m' g' _ he => Cert.AttOutIdeal.Hand.agree m g m' g' he,
    trivial, fun m g m' g' _ he => Cert.ResidIdeal.Hand.agree m g m' g' he⟩

end Cert.Proof

end
